-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_augmented [hPre_finite_and_augmented : Cert.Pre_finite_and_augmented.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_and_augmented.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_augmented [hPre_finite_and_augmented : Cert.Pre_finite_and_augmented.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_and_augmented.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_augmented [hKernelIdeal : Cert.KernelIdeal.Facts] [hPre_finite_and_augmented : Cert.Pre_finite_and_augmented.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_augmented m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_augmented [hReferenceIdeal : Cert.ReferenceIdeal.Facts] [hPre_finite_and_augmented : Cert.Pre_finite_and_augmented.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_augmented m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4)
      ∧ r.2.mem ((c.tc : Thread Cert.Quant.nD Cert.Quant.τ).loc Cert.Quant.main_arg5) = m ((c.tc : Thread Cert.Quant.nD Cert.Quant.τ).loc Cert.Quant.main_arg5))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
      ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
      ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2)
      ∧ r.2.mem ((c.tc : Thread Cert.QuantReferenceIdeal.nD Cert.QuantReferenceIdeal.τ).loc Cert.QuantReferenceIdeal.main_arg3) = m ((c.tc : Thread Cert.QuantReferenceIdeal.nD Cert.QuantReferenceIdeal.τ).loc Cert.QuantReferenceIdeal.main_arg3)
      ∧ r.2.mem ((c.tc : Thread Cert.QuantReferenceIdeal.nD Cert.QuantReferenceIdeal.τ).loc Cert.QuantReferenceIdeal.main_arg4) = m ((c.tc : Thread Cert.QuantReferenceIdeal.nD Cert.QuantReferenceIdeal.τ).loc Cert.QuantReferenceIdeal.main_arg4)
      ∧ r.2.mem ((c.tc : Thread Cert.QuantReferenceIdeal.nD Cert.QuantReferenceIdeal.τ).loc Cert.QuantReferenceIdeal.main_arg5) = m ((c.tc : Thread Cert.QuantReferenceIdeal.nD Cert.QuantReferenceIdeal.τ).loc Cert.QuantReferenceIdeal.main_arg5))
      ∧ r.2.sem = fun _ => 0)

def preserves_Kernel_KernelIdeal : Prop :=
  IdealRules.named_const.Statement Cert.KernelIdeal.κ "exp2_scale" .f32 0x3E16C740#32 (((Real.sqrt 96)⁻¹ * (Real.log 2)⁻¹ : ℝ) : EReal)
  ∧ IdealRules.named_const.Statement Cert.KernelIdeal.κ "score_scale" .f32 0x3DD105EC#32 (((Real.sqrt 96)⁻¹ : ℝ) : EReal)

def algebraic_KernelIdeal_ReferenceIdeal_pre_finite_and_augmented [hKernelIdeal : Cert.KernelIdeal.Facts] [hReferenceIdeal : Cert.ReferenceIdeal.Facts] [hPre_finite_and_augmented : Cert.Pre_finite_and_augmented.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_augmented m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_v92) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)) (v6 : (c : Dev Cert.PrepIdeal.nD) → Buf (Elt Ideal) ((c.tc : Thread Cert.PrepIdeal.nD Cert.PrepIdeal.τ).loc Cert.PrepIdeal.main_v0_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_v0_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v51) = v0 c
          ∧ r.2.mem ((c.tc : Thread Cert.PrepReferenceIdeal.nD Cert.PrepReferenceIdeal.τ).loc Cert.PrepReferenceIdeal.main_v19) = v1 c
          ∧ r.2.mem ((c.tc : Thread Cert.PrepReferenceIdeal.nD Cert.PrepReferenceIdeal.τ).loc Cert.PrepReferenceIdeal.main_v20) = v2 c
          ∧ r.2.mem ((c.tc : Thread Cert.PrepReferenceIdeal.nD Cert.PrepReferenceIdeal.τ).loc Cert.PrepReferenceIdeal.main_v52) = v3 c
          ∧ r.2.mem ((c.tc : Thread Cert.PrepReferenceIdeal.nD Cert.PrepReferenceIdeal.τ).loc Cert.PrepReferenceIdeal.main_v53) = v4 c
          ∧ r.2.mem ((c.tc : Thread Cert.PrepReferenceIdeal.nD Cert.PrepReferenceIdeal.τ).loc Cert.PrepReferenceIdeal.main_v58) = v5 c
          ∧ r.2.mem ((c.tc : Thread Cert.PrepReferenceIdeal.nD Cert.PrepReferenceIdeal.τ).loc Cert.PrepReferenceIdeal.main_v63) = v6 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Quant_QuantIdeal : Prop :=
  IdealRules.named_const.Statement Cert.QuantIdeal.κ "fp8_step" .f32 0x3B124925#32 ((448⁻¹ : ℝ) : EReal)

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)
      ∧ m' ((c.tc : Thread Cert.QuantReferenceIdeal.nD Cert.QuantReferenceIdeal.τ).loc Cert.QuantReferenceIdeal.main_arg3) = m ((c.tc : Thread Cert.QuantIdeal.nD Cert.QuantIdeal.τ).loc Cert.QuantIdeal.main_arg3)
      ∧ m' ((c.tc : Thread Cert.QuantReferenceIdeal.nD Cert.QuantReferenceIdeal.τ).loc Cert.QuantReferenceIdeal.main_arg4) = m ((c.tc : Thread Cert.QuantIdeal.nD Cert.QuantIdeal.τ).loc Cert.QuantIdeal.main_arg4)
      ∧ m' ((c.tc : Thread Cert.QuantReferenceIdeal.nD Cert.QuantReferenceIdeal.τ).loc Cert.QuantReferenceIdeal.main_arg5) = m ((c.tc : Thread Cert.QuantIdeal.nD Cert.QuantIdeal.τ).loc Cert.QuantIdeal.main_arg5)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
          ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
          ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v51) = v0 c
          ∧ r.2.mem ((c.tc : Thread Cert.QuantReferenceIdeal.nD Cert.QuantReferenceIdeal.τ).loc Cert.QuantReferenceIdeal.main_v53) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2)
          ∧ r.2.mem ((c.tc : Thread Cert.QuantReferenceIdeal.nD Cert.QuantReferenceIdeal.τ).loc Cert.QuantReferenceIdeal.main_arg3) = m' ((c.tc : Thread Cert.QuantReferenceIdeal.nD Cert.QuantReferenceIdeal.τ).loc Cert.QuantReferenceIdeal.main_arg3)
          ∧ r.2.mem ((c.tc : Thread Cert.QuantReferenceIdeal.nD Cert.QuantReferenceIdeal.τ).loc Cert.QuantReferenceIdeal.main_arg4) = m' ((c.tc : Thread Cert.QuantReferenceIdeal.nD Cert.QuantReferenceIdeal.τ).loc Cert.QuantReferenceIdeal.main_arg4)
          ∧ r.2.mem ((c.tc : Thread Cert.QuantReferenceIdeal.nD Cert.QuantReferenceIdeal.τ).loc Cert.QuantReferenceIdeal.main_arg5) = m' ((c.tc : Thread Cert.QuantReferenceIdeal.nD Cert.QuantReferenceIdeal.τ).loc Cert.QuantReferenceIdeal.main_arg5))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hQuant : Cert.Quant.Facts) (hQuantIdeal : Cert.QuantIdeal.Facts) (hQuantReferenceIdeal : Cert.QuantReferenceIdeal.Facts) (hPre_finite_and_augmented : Cert.Pre_finite_and_augmented.Facts),
    quiescent_Kernel (hKernel := hKernel)
    ∧ quiescent_KernelIdeal (hKernelIdeal := hKernelIdeal)
    ∧ quiescent_KernelIdeal_pre_finite_and_augmented (hKernelIdeal := hKernelIdeal) (hPre_finite_and_augmented := hPre_finite_and_augmented)
    ∧ quiescent_ReferenceIdeal (hReferenceIdeal := hReferenceIdeal)
    ∧ quiescent_ReferenceIdeal_pre_finite_and_augmented (hReferenceIdeal := hReferenceIdeal) (hPre_finite_and_augmented := hPre_finite_and_augmented)
    ∧ quiescent_Prep (hPrep := hPrep)
    ∧ quiescent_PrepIdeal (hPrepIdeal := hPrepIdeal)
    ∧ quiescent_PrepReferenceIdeal (hPrepReferenceIdeal := hPrepReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal_pre_finite_and_augmented (hKernelIdeal := hKernelIdeal) (hReferenceIdeal := hReferenceIdeal) (hPre_finite_and_augmented := hPre_finite_and_augmented)
    ∧ preserves_Prep_PrepIdeal
    ∧ algebraic_PrepIdeal_PrepReferenceIdeal (hPrepIdeal := hPrepIdeal) (hPrepReferenceIdeal := hPrepReferenceIdeal)
    ∧ preserves_Quant_QuantIdeal
    ∧ algebraic_QuantIdeal_QuantReferenceIdeal (hQuantIdeal := hQuantIdeal) (hQuantReferenceIdeal := hQuantReferenceIdeal)
-- ==== Pre_finite_and_augmented.lean ====
abbrev S2 : Shape := ⟨1, ![2]⟩
abbrev S2x12x96x28672 : Shape := ⟨4, ![2, 12, 96, 28672]⟩
abbrev S2x48x28672 : Shape := ⟨3, ![2, 48, 28672]⟩
abbrev S2x4x28672x128 : Shape := ⟨4, ![2, 4, 28672, 128]⟩
abbrev S2x4x96x28672 : Shape := ⟨4, ![2, 4, 96, 28672]⟩
abbrev S_ : Shape := ⟨0, ![]⟩
abbrev S2x4x28672x32 : Shape := ⟨4, ![2, 4, 28672, 32]⟩

class Facts : Prop where
  bitsLt_bf16_f32 : FTy.bits .bf16 < FTy.bits .f32
  bcast_S_S2x12x96x28672 : S_.BroadcastsInDim S2x12x96x28672 (![] : Fin 0 → Fin S2x12x96x28672.rank)
  bcast_S_S2x48x28672 : S_.BroadcastsInDim S2x48x28672 (![] : Fin 0 → Fin S2x48x28672.rank)
  bcast_S_S2x4x28672x128 : S_.BroadcastsInDim S2x4x28672x128 (![] : Fin 0 → Fin S2x4x28672x128.rank)
  bcast_S_S2x4x96x28672 : S_.BroadcastsInDim S2x4x96x28672 (![] : Fin 0 → Fin S2x4x96x28672.rank)
  slices_S2x4x28672x128_S2x4x28672x32_0_0_0_96 : S2x4x28672x128.Slices ![0, 0, 0, 96] S2x4x28672x32
  bcast_S_S2x4x28672x32 : S_.BroadcastsInDim S2x4x28672x32 (![] : Fin 0 → Fin S2x4x28672x32.rank)

variable [Facts]

def fn_where {F : FTy → Type} [FloatOps F] (arg0 : IVec S2x4x28672x32 1) (arg1 : FVec F S_ .f32) (arg2 : FVec F S_ .f32) : FVec F S2x4x28672x32 .f32 :=
  let v0 : FVec F S2x4x28672x32 .f32 := broadcastInDim S2x4x28672x32 ![] bcast_S_S2x4x28672x32 arg1
  let v1 : FVec F S2x4x28672x32 .f32 := broadcastInDim S2x4x28672x32 ![] bcast_S_S2x4x28672x32 arg2
  let v2 : FVec F S2x4x28672x32 .f32 := select arg0 v0 v1
  v2

def fn_part1 {F : FTy → Type} [FloatOps F] (main_v3 : IVec S2x12x96x28672 1) (main_v6 : IVec S2x48x28672 1) (main_v9 : IVec S2x48x28672 1) (main_v13 : IVec S2x4x28672x128 1) (main_v17 : IVec S2x4x96x28672 1) (main_v18 : FVec F S2x4x28672x32 .bf16) : IVec S2x12x96x28672 1 × IVec S2x48x28672 1 × IVec S2x48x28672 1 × IVec S2x4x28672x128 1 × IVec S2x4x96x28672 1 × IVec S2x4x28672x32 1 :=
  let main_v19 : FVec F S2x4x28672x32 .f32 := (extf .f32 · bitsLt_bf16_f32) main_v18
  let main_v20 : IVec S2x4x28672x32 32 := iotaInDim S2x4x28672x32 32 3
  let main_c : IVec S_ 32 := constantI S_ 32 3#32
  let main_v21 : IVec S2x4x28672x32 32 := broadcastInDim S2x4x28672x32 ![] bcast_S_S2x4x28672x32 main_c
  let main_v22 : IVec S2x4x28672x32 1 := cmpi .slt main_v20 main_v21
  let main_cst_4 : FVec F S_ .f32 := constant S_ .f32 0x3F800000#32
  let main_cst_5 : FVec F S_ .f32 := constant S_ .f32 0x00000000#32
  let main_v23 : FVec F S2x4x28672x32 .f32 := fn_where (F := F) main_v22 main_cst_4 main_cst_5
  let main_v24 : FVec F S2x4x28672x32 .f32 := id main_v23
  let main_v25 : IVec S2x4x28672x32 1 := cmpf .oeq main_v19 main_v24
  (main_v3, main_v6, main_v9, main_v13, main_v17, main_v25)

def fn {F : FTy → Type} [FloatOps F] (main_arg0 : IVec S2 32) (main_arg1 : FVec F S2x12x96x28672 .bf16) (main_arg2 : FVec F S2x48x28672 .f32) (main_arg3 : FVec F S2x48x28672 .f32) (main_arg4 : FVec F S2x4x28672x128 .bf16) (main_arg5 : FVec F S2x4x96x28672 .bf16) : IVec S2x12x96x28672 1 × IVec S2x48x28672 1 × IVec S2x48x28672 1 × IVec S2x4x28672x128 1 × IVec S2x4x96x28672 1 × IVec S2x4x28672x32 1 :=
  let main_v0 : FVec F S2x12x96x28672 .f32 := (extf .f32 · bitsLt_bf16_f32) main_arg1
  let main_v1 : FVec F S2x12x96x28672 .f32 := Host.absf main_v0
  let main_cst : FVec F S_ .f32 := constant S_ .f32 0x7F800000#32
  let main_v2 : FVec F S2x12x96x28672 .f32 := broadcastInDim S2x12x96x28672 ![] bcast_S_S2x12x96x28672 main_cst
  let main_v3 : IVec S2x12x96x28672 1 := cmpf .olt main_v1 main_v2
  let main_v4 : FVec F S2x48x28672 .f32 := Host.absf main_arg2
  let main_cst_0 : FVec F S_ .f32 := constant S_ .f32 0x7F800000#32
  let main_v5 : FVec F S2x48x28672 .f32 := broadcastInDim S2x48x28672 ![] bcast_S_S2x48x28672 main_cst_0
  let main_v6 : IVec S2x48x28672 1 := cmpf .olt main_v4 main_v5
  let main_v7 : FVec F S2x48x28672 .f32 := Host.absf main_arg3
  let main_cst_1 : FVec F S_ .f32 := constant S_ .f32 0x7F800000#32
  let main_v8 : FVec F S2x48x28672 .f32 := broadcastInDim S2x48x28672 ![] bcast_S_S2x48x28672 main_cst_1
  let main_v9 : IVec S2x48x28672 1 := cmpf .olt main_v7 main_v8
  let main_v10 : FVec F S2x4x28672x128 .f32 := (extf .f32 · bitsLt_bf16_f32) main_arg4
  let main_v11 : FVec F S2x4x28672x128 .f32 := Host.absf main_v10
  let main_cst_2 : FVec F S_ .f32 := constant S_ .f32 0x7F800000#32
  let main_v12 : FVec F S2x4x28672x128 .f32 := broadcastInDim S2x4x28672x128 ![] bcast_S_S2x4x28672x128 main_cst_2
  let main_v13 : IVec S2x4x28672x128 1 := cmpf .olt main_v11 main_v12
  let main_v14 : FVec F S2x4x96x28672 .f32 := (extf .f32 · bitsLt_bf16_f32) main_arg5
  let main_v15 : FVec F S2x4x96x28672 .f32 := Host.absf main_v14
  let main_cst_3 : FVec F S_ .f32 := constant S_ .f32 0x7F800000#32
  let main_v16 : FVec F S2x4x96x28672 .f32 := broadcastInDim S2x4x96x28672 ![] bcast_S_S2x4x96x28672 main_cst_3
  let main_v17 : IVec S2x4x96x28672 1 := cmpf .olt main_v15 main_v16
  let main_v18 : FVec F S2x4x28672x32 .bf16 := (extractStridedSlice S2x4x28672x32 ![0, 0, 0, 96] · slices_S2x4x28672x128_S2x4x28672x32_0_0_0_96) main_arg4
  fn_part1 (F := F) main_v3 main_v6 main_v9 main_v13 main_v17 main_v18
-- ==== Kernel.lean ====
abbrev S2 : Shape := ⟨1, ![2]⟩
abbrev S2x12x96x28672 : Shape := ⟨4, ![2, 12, 96, 28672]⟩
abbrev S2x48x28672 : Shape := ⟨3, ![2, 48, 28672]⟩
abbrev S2x4x28672x128 : Shape := ⟨4, ![2, 4, 28672, 128]⟩
abbrev S2x4x96x28672 : Shape := ⟨4, ![2, 4, 96, 28672]⟩
abbrev S2x12x1x28672 : Shape := ⟨4, ![2, 12, 1, 28672]⟩
abbrev S16x128 : Shape := ⟨2, ![16, 128]⟩
abbrev S1x1x96x512 : Shape := ⟨4, ![1, 1, 96, 512]⟩
abbrev S1x48x512 : Shape := ⟨3, ![1, 48, 512]⟩
abbrev S1x1x28672x128 : Shape := ⟨4, ![1, 1, 28672, 128]⟩
abbrev S1x1x96x28672 : Shape := ⟨4, ![1, 1, 96, 28672]⟩
abbrev S1x1x1x512 : Shape := ⟨4, ![1, 1, 1, 512]⟩
abbrev S128x512 : Shape := ⟨2, ![128, 512]⟩
abbrev S96x512 : Shape := ⟨2, ![96, 512]⟩
abbrev S8x512 : Shape := ⟨2, ![8, 512]⟩
abbrev S1x512 : Shape := ⟨2, ![1, 512]⟩
abbrev S1 : Shape := ⟨1, ![1]⟩
abbrev S48x512 : Shape := ⟨2, ![48, 512]⟩
abbrev S512 : Shape := ⟨1, ![512]⟩
abbrev S1x128 : Shape := ⟨2, ![1, 128]⟩
abbrev S32x512 : Shape := ⟨2, ![32, 512]⟩
abbrev S1x1x512x128 : Shape := ⟨4, ![1, 1, 512, 128]⟩
abbrev S512x128 : Shape := ⟨2, ![512, 128]⟩
abbrev S512x512 : Shape := ⟨2, ![512, 512]⟩
abbrev S64x8x512 : Shape := ⟨3, ![64, 8, 512]⟩
abbrev S1x1x512 : Shape := ⟨3, ![1, 1, 512]⟩
abbrev S1x1x1 : Shape := ⟨3, ![1, 1, 1]⟩

abbrev nBuf : Space → Nat
  | .hbm => 13
  | .vmem => 27
  | .smem => 1
  | _ => 0

abbrev bufTy : (tb : Table) → Fin (tcTables nBuf tb) → BufTy
  | .hbm, ⟨0, _⟩ => ⟨S2, .i32⟩
  | .hbm, ⟨1, _⟩ => ⟨S2x12x96x28672, .bf16⟩
  | .hbm, ⟨2, _⟩ => ⟨S2x48x28672, .f32⟩
  | .hbm, ⟨3, _⟩ => ⟨S2x48x28672, .f32⟩
  | .hbm, ⟨4, _⟩ => ⟨S2x4x28672x128, .bf16⟩
  | .hbm, ⟨5, _⟩ => ⟨S2x4x96x28672, .bf16⟩
  | .hbm, ⟨6, _⟩ => ⟨S2x12x96x28672, .f32⟩
  | .hbm, ⟨7, _⟩ => ⟨S2x12x1x28672, .f32⟩
  | .hbm, ⟨8, _⟩ => ⟨S2x12x1x28672, .f32⟩
  | .hbm, ⟨9, _⟩ => ⟨S2x12x1x28672, .f32⟩
  | .hbm, ⟨10, _⟩ => ⟨S16x128, .f32⟩
  | .hbm, ⟨11, _⟩ => ⟨S16x128, .f32⟩
  | .hbm, ⟨12, _⟩ => ⟨S16x128, .f32⟩
  | .local _ .vmem, ⟨0, _⟩ => ⟨S1x1x96x512, .bf16⟩
  | .local _ .vmem, ⟨1, _⟩ => ⟨S1x1x96x512, .bf16⟩
  | .local _ .vmem, ⟨2, _⟩ => ⟨S1x48x512, .f32⟩
  | .local _ .vmem, ⟨3, _⟩ => ⟨S1x48x512, .f32⟩
  | .local _ .vmem, ⟨4, _⟩ => ⟨S1x48x512, .f32⟩
  | .local _ .vmem, ⟨5, _⟩ => ⟨S1x48x512, .f32⟩
  | .local _ .vmem, ⟨6, _⟩ => ⟨S1x1x28672x128, .bf16⟩
  | .local _ .vmem, ⟨7, _⟩ => ⟨S1x1x28672x128, .bf16⟩
  | .local _ .vmem, ⟨8, _⟩ => ⟨S1x1x96x28672, .bf16⟩
  | .local _ .vmem, ⟨9, _⟩ => ⟨S1x1x96x28672, .bf16⟩
  | .local _ .vmem, ⟨10, _⟩ => ⟨S1x1x96x512, .f32⟩
  | .local _ .vmem, ⟨11, _⟩ => ⟨S1x1x96x512, .f32⟩
  | .local _ .vmem, ⟨12, _⟩ => ⟨S1x1x1x512, .f32⟩
  | .local _ .vmem, ⟨13, _⟩ => ⟨S1x1x1x512, .f32⟩
  | .local _ .vmem, ⟨14, _⟩ => ⟨S1x1x1x512, .f32⟩
  | .local _ .vmem, ⟨15, _⟩ => ⟨S1x1x1x512, .f32⟩
  | .local _ .vmem, ⟨16, _⟩ => ⟨S1x1x1x512, .f32⟩
  | .local _ .vmem, ⟨17, _⟩ => ⟨S1x1x1x512, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S128x512, .bf16⟩
  | .local _ .vmem, ⟨22, _⟩ => ⟨S96x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S1x512, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨3, ![2, 12, 56], ![false, false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg1 : BitVec 32 := BitVec.ofNat 32 (i 1).val
  let v49 : Index := Scalar.indexCast arg1
  let c0_19 : Index := 0#32
  ![v49.toNat, 0]
@[reducible] def k0_t1_loop : Scf.Loop 32 :=
  let c0_i32_53 : BitVec 32 := 0#32
  let c2_i32_54 : BitVec 32 := 2#32
  let v153 : BitVec 32 := Scalar.addi c0_i32_53 c2_i32_54
  let c1_i32_55 : BitVec 32 := 1#32
  ⟨c0_i32_53, v153, c1_i32_55⟩
@[reducible] def k0_t2_loop (i : grid0.Coords) : Scf.Loop 32 :=
  let c0_i32_105 : BitVec 32 := 0#32
  let arg2 : BitVec 32 := BitVec.ofNat 32 (i 2).val
  let v239 : BitVec 32 := Scalar.subi arg2 c0_i32_105
  let c1_i32_106 : BitVec 32 := 1#32
  let v241 : BitVec 32 := Scalar.divsi v239 c1_i32_106
  let v242 : BitVec 32 := Scalar.muli v241 c1_i32_106
  let v243 : BitVec 32 := Scalar.addi c0_i32_105 v242
  let c1_i32_107 : BitVec 32 := 1#32
  ⟨c0_i32_105, v243, c1_i32_107⟩
def k0_off3 (i : grid0.Coords) (k0_t2 : Fin (k0_t2_loop i).trips) : Fin 4 → Nat :=
  let c0_150 : Index := 0#32
  let c0_151 : Index := 0#32
  let c0_i32_105 : BitVec 32 := 0#32
  let c1_i32_107 : BitVec 32 := 1#32
  let arg24 : BitVec 32 := Scf.iv c0_i32_105 c1_i32_107 k0_t2
  let c512_i32_149 : BitVec 32 := 512#32
  let v304 : BitVec 32 := Scalar.muli arg24 c512_i32_149
  let v305 : Index := Scalar.indexCast v304
  let c0_152 : Index := 0#32
  ![0, 0, v305.toNat, 0]
def k0_off4 (i : grid0.Coords) (k0_t2 : Fin (k0_t2_loop i).trips) : Fin 4 → Nat :=
  let c0_174 : Index := 0#32
  let c0_175 : Index := 0#32
  let c0_176 : Index := 0#32
  let c0_i32_105 : BitVec 32 := 0#32
  let c1_i32_107 : BitVec 32 := 1#32
  let arg24 : BitVec 32 := Scf.iv c0_i32_105 c1_i32_107 k0_t2
  let c512_i32_149 : BitVec 32 := 512#32
  let v304 : BitVec 32 := Scalar.muli arg24 c512_i32_149
  let v335 : Index := Scalar.indexCast v304
  ![0, 0, 0, v335.toNat]
@[reducible] def k0_t3_loop (i : grid0.Coords) : Scf.Loop 32 :=
  let c0_i32_105 : BitVec 32 := 0#32
  let arg2 : BitVec 32 := BitVec.ofNat 32 (i 2).val
  let v239 : BitVec 32 := Scalar.subi arg2 c0_i32_105
  let c1_i32_106 : BitVec 32 := 1#32
  let v241 : BitVec 32 := Scalar.divsi v239 c1_i32_106
  let v242 : BitVec 32 := Scalar.muli v241 c1_i32_106
  let v243 : BitVec 32 := Scalar.addi c0_i32_105 v242
  let v240 : BitVec 32 := Scalar.addi c0_i32_105 v239
  let c1_i32_108 : BitVec 32 := 1#32
  ⟨v243, v240, c1_i32_108⟩
def k0_off5 (i : grid0.Coords) (k0_t3 : Fin (k0_t3_loop i).trips) : Fin 4 → Nat :=
  let c0_150 : Index := 0#32
  let c0_151 : Index := 0#32
  let c0_i32_105 : BitVec 32 := 0#32
  let arg2 : BitVec 32 := BitVec.ofNat 32 (i 2).val
  let v239 : BitVec 32 := Scalar.subi arg2 c0_i32_105
  let c1_i32_106 : BitVec 32 := 1#32
  let v241 : BitVec 32 := Scalar.divsi v239 c1_i32_106
  let v242 : BitVec 32 := Scalar.muli v241 c1_i32_106
  let v243 : BitVec 32 := Scalar.addi c0_i32_105 v242
  let c1_i32_108 : BitVec 32 := 1#32
  let arg24 : BitVec 32 := Scf.iv v243 c1_i32_108 k0_t3
  let c512_i32_149 : BitVec 32 := 512#32
  let v304 : BitVec 32 := Scalar.muli arg24 c512_i32_149
  let v305 : Index := Scalar.indexCast v304
  let c0_152 : Index := 0#32
  ![0, 0, v305.toNat, 0]
def k0_off6 (i : grid0.Coords) (k0_t3 : Fin (k0_t3_loop i).trips) : Fin 4 → Nat :=
  let c0_174 : Index := 0#32
  let c0_175 : Index := 0#32
  let c0_176 : Index := 0#32
  let c0_i32_105 : BitVec 32 := 0#32
  let arg2 : BitVec 32 := BitVec.ofNat 32 (i 2).val
  let v239 : BitVec 32 := Scalar.subi arg2 c0_i32_105
  let c1_i32_106 : BitVec 32 := 1#32
  let v241 : BitVec 32 := Scalar.divsi v239 c1_i32_106
  let v242 : BitVec 32 := Scalar.muli v241 c1_i32_106
  let v243 : BitVec 32 := Scalar.addi c0_i32_105 v242
  let c1_i32_108 : BitVec 32 := 1#32
  let arg24 : BitVec 32 := Scf.iv v243 c1_i32_108 k0_t3
  let c512_i32_149 : BitVec 32 := 512#32
  let v304 : BitVec 32 := Scalar.muli arg24 c512_i32_149
  let v335 : Index := Scalar.indexCast v304
  ![0, 0, 0, v335.toNat]
def k0_off7 (i : grid0.Coords) : Fin 4 → Nat :=
  let c0_109 : Index := 0#32
  let c0_110 : Index := 0#32
  let arg2 : BitVec 32 := BitVec.ofNat 32 (i 2).val
  let c512_i32 : BitVec 32 := 512#32
  let v2 : BitVec 32 := Scalar.muli arg2 c512_i32
  let v244 : Index := Scalar.indexCast v2
  let c0_111 : Index := 0#32
  ![0, 0, v244.toNat, 0]
def k0_off8 (i : grid0.Coords) : Fin 4 → Nat :=
  let c0_135 : Index := 0#32
  let c0_136 : Index := 0#32
  let c0_137 : Index := 0#32
  let arg2 : BitVec 32 := BitVec.ofNat 32 (i 2).val
  let c512_i32 : BitVec 32 := 512#32
  let v2 : BitVec 32 := Scalar.muli arg2 c512_i32
  let v281 : Index := Scalar.indexCast v2
  ![0, 0, 0, v281.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x96x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x28672x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x96x28672 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x96x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== KernelIdeal.lean ====
variable {F : FTy → Type} [FloatOps F] [Named F]
def κ : String → Option EReal := fun
  | "exp2_scale" => some (((Real.sqrt 96)⁻¹ * (Real.log 2)⁻¹ : ℝ) : EReal)
  | "score_scale" => some (((Real.sqrt 96)⁻¹ : ℝ) : EReal)
  | _ => none
-- ==== ReferenceIdeal.lean ====
abbrev S2 : Shape := ⟨1, ![2]⟩
abbrev S2x12x96x28672 : Shape := ⟨4, ![2, 12, 96, 28672]⟩
abbrev S2x48x28672 : Shape := ⟨3, ![2, 48, 28672]⟩
abbrev S2x4x28672x128 : Shape := ⟨4, ![2, 4, 28672, 128]⟩
abbrev S2x4x96x28672 : Shape := ⟨4, ![2, 4, 96, 28672]⟩
abbrev S28672 : Shape := ⟨1, ![28672]⟩
abbrev S1x28672 : Shape := ⟨2, ![1, 28672]⟩
abbrev S2x1 : Shape := ⟨2, ![2, 1]⟩
abbrev S2x28672 : Shape := ⟨2, ![2, 28672]⟩
abbrev S2x1x28672 : Shape := ⟨3, ![2, 1, 28672]⟩
abbrev S2x12x48x28672 : Shape := ⟨4, ![2, 12, 48, 28672]⟩
abbrev S2x1x48x28672 : Shape := ⟨4, ![2, 1, 48, 28672]⟩
abbrev S_ : Shape := ⟨0, ![]⟩
abbrev S2x12x28672 : Shape := ⟨3, ![2, 12, 28672]⟩
abbrev S2x4x28672x96 : Shape := ⟨4, ![2, 4, 28672, 96]⟩
abbrev S2x4x3x96x28672 : Shape := ⟨5, ![2, 4, 3, 96, 28672]⟩
abbrev S2x4x3x28672x28672 : Shape := ⟨5, ![2, 4, 3, 28672, 28672]⟩
abbrev S28672x1 : Shape := ⟨2, ![28672, 1]⟩
abbrev S28672x28672 : Shape := ⟨2, ![28672, 28672]⟩
abbrev S1x28672x28672 : Shape := ⟨3, ![1, 28672, 28672]⟩
abbrev S2x28672x28672 : Shape := ⟨3, ![2, 28672, 28672]⟩
abbrev S2x1x1x28672x28672 : Shape := ⟨5, ![2, 1, 1, 28672, 28672]⟩
abbrev S2x4x3x28672 : Shape := ⟨4, ![2, 4, 3, 28672]⟩
abbrev S2x4x3x28672x1 : Shape := ⟨5, ![2, 4, 3, 28672, 1]⟩
abbrev S2x4x96x3x28672 : Shape := ⟨5, ![2, 4, 96, 3, 28672]⟩
abbrev S2x1x1x28672 : Shape := ⟨4, ![2, 1, 1, 28672]⟩
abbrev S2x12x1x28672 : Shape := ⟨4, ![2, 12, 1, 28672]⟩
abbrev S2x12x224x128 : Shape := ⟨4, ![2, 12, 224, 128]⟩
abbrev S2x12x128 : Shape := ⟨3, ![2, 12, 128]⟩
abbrev S12x128 : Shape := ⟨2, ![12, 128]⟩
abbrev S4x128 : Shape := ⟨2, ![4, 128]⟩
abbrev S16x128 : Shape := ⟨2, ![16, 128]⟩

abbrev nBuf : Space → Nat
  | .hbm => 138
  | .vmem => 0
  | .smem => 0
  | _ => 0

abbrev hbmTy0_0 (i : Nat) : BufTy := match i % 128 with
  | 0 => ⟨S2, .i32⟩
  | 1 => ⟨S2x12x96x28672, .bf16⟩
  | 2 => ⟨S2x48x28672, .f32⟩
  | 3 => ⟨S2x48x28672, .f32⟩
  | 4 => ⟨S2x4x28672x128, .bf16⟩
  | 5 => ⟨S2x4x96x28672, .bf16⟩
  | 6 => ⟨S28672, .i32⟩
  | 7 => ⟨S1x28672, .i32⟩
  | 8 => ⟨S2x1, .i32⟩
  | 9 => ⟨S2x28672, .i32⟩
  | 10 => ⟨S2x28672, .i32⟩
  | 11 => ⟨S2x28672, .i1⟩
  | 12 => ⟨S2x1x28672, .i1⟩
  | 13 => ⟨S2x12x48x28672, .bf16⟩
  | 14 => ⟨S2x12x48x28672, .f32⟩
  | 15 => ⟨S2x12x48x28672, .bf16⟩
  | 16 => ⟨S2x12x48x28672, .f32⟩
  | 17 => ⟨S2x1x48x28672, .f32⟩
  | 18 => ⟨S2x1x48x28672, .f32⟩
  | 19 => ⟨S2x12x48x28672, .f32⟩
  | 20 => ⟨S2x12x48x28672, .f32⟩
  | 21 => ⟨S2x12x48x28672, .f32⟩
  | 22 => ⟨S2x12x48x28672, .f32⟩
  | 23 => ⟨S2x12x48x28672, .f32⟩
  | 24 => ⟨S2x12x48x28672, .f32⟩
  | 25 => ⟨S2x12x48x28672, .f32⟩
  | 26 => ⟨S2x12x48x28672, .f32⟩
  | 27 => ⟨S2x12x48x28672, .f32⟩
  | 28 => ⟨S2x12x48x28672, .f32⟩
  | 29 => ⟨S2x12x96x28672, .f32⟩
  | 30 => ⟨S2x12x96x28672, .bf16⟩
  | 31 => ⟨S2x12x96x28672, .bf16⟩
  | 32 => ⟨S_, .bf16⟩
  | 33 => ⟨S2x12x28672, .bf16⟩
  | 34 => ⟨S2x12x28672, .f32⟩
  | 35 => ⟨S_, .f32⟩
  | 36 => ⟨S_, .f32⟩
  | 37 => ⟨S2x12x28672, .i1⟩
  | 38 => ⟨S2x12x28672, .f32⟩
  | 39 => ⟨S2x12x28672, .f32⟩
  | 40 => ⟨S2x4x28672x96, .bf16⟩
  | 41 => ⟨S2x4x3x96x28672, .bf16⟩
  | 42 => ⟨S2x4x3x28672x28672, .f32⟩
  | 43 => ⟨S_, .f32⟩
  | 44 => ⟨S_, .f32⟩
  | 45 => ⟨S2x4x3x28672x28672, .f32⟩
  | 46 => ⟨S2x4x3x28672x28672, .f32⟩
  | 47 => ⟨S1x28672, .i32⟩
  | 48 => ⟨S28672x1, .i32⟩
  | 49 => ⟨S28672x28672, .i32⟩
  | 50 => ⟨S28672x28672, .i32⟩
  | 51 => ⟨S28672x28672, .i1⟩
  | 52 => ⟨S1x28672x28672, .i1⟩
  | 53 => ⟨S1x28672, .i32⟩
  | 54 => ⟨S2x1, .i32⟩
  | 55 => ⟨S2x28672, .i32⟩
  | 56 => ⟨S2x28672, .i32⟩
  | 57 => ⟨S2x28672, .i1⟩
  | 58 => ⟨S2x1x28672, .i1⟩
  | 59 => ⟨S2x28672x28672, .i1⟩
  | 60 => ⟨S2x28672x28672, .i1⟩
  | 61 => ⟨S2x28672x28672, .i1⟩
  | 62 => ⟨S2x1x1x28672x28672, .i1⟩
  | 63 => ⟨S_, .f32⟩
  | 64 => ⟨S_, .f32⟩
  | 65 => ⟨S2x4x3x28672x28672, .i1⟩
  | 66 => ⟨S2x4x3x28672x28672, .f32⟩
  | 67 => ⟨S2x4x3x28672x28672, .f32⟩
  | 68 => ⟨S_, .f32⟩
  | 69 => ⟨S2x4x3x28672, .f32⟩
  | 70 => ⟨S2x4x3x28672x1, .f32⟩
  | 71 => ⟨S2x4x3x28672x28672, .f32⟩
  | 72 => ⟨S_, .f32⟩
  | 73 => ⟨S_, .f32⟩
  | 74 => ⟨S2x4x3x28672x28672, .i1⟩
  | 75 => ⟨S2x4x3x28672x28672, .f32⟩
  | 76 => ⟨S2x4x3x28672x28672, .f32⟩
  | 77 => ⟨S_, .f32⟩
  | 78 => ⟨S2x4x3x28672, .f32⟩
  | 79 => ⟨S_, .f32⟩
  | 80 => ⟨S_, .f32⟩
  | 81 => ⟨S2x4x3x28672x28672, .i1⟩
  | 82 => ⟨S2x4x3x28672x28672, .f32⟩
  | 83 => ⟨S2x4x3x28672x28672, .f32⟩
  | 84 => ⟨S2x4x3x28672x28672, .f32⟩
  | 85 => ⟨S2x4x3x28672x28672, .f32⟩
  | 86 => ⟨S2x4x3x28672x28672, .f32⟩
  | 87 => ⟨S_, .f32⟩
  | 88 => ⟨S2x4x3x28672, .f32⟩
  | 89 => ⟨S2x4x3x28672x1, .f32⟩
  | 90 => ⟨S2x4x3x28672x28672, .f32⟩
  | 91 => ⟨S2x4x3x28672x28672, .f32⟩
  | 92 => ⟨S2x4x3x28672x28672, .bf16⟩
  | 93 => ⟨S2x4x96x3x28672, .f32⟩
  | 94 => ⟨S2x4x3x96x28672, .f32⟩
  | 95 => ⟨S2x1x1x28672, .i1⟩
  | 96 => ⟨S2x12x96x28672, .f32⟩
  | 97 => ⟨S_, .f32⟩
  | 98 => ⟨S_, .f32⟩
  | 99 => ⟨S2x12x96x28672, .i1⟩
  | 100 => ⟨S2x12x96x28672, .f32⟩
  | 101 => ⟨S2x12x96x28672, .f32⟩
  | 102 => ⟨S2x12x28672, .f32⟩
  | 103 => ⟨S_, .f32⟩
  | 104 => ⟨S_, .f32⟩
  | 105 => ⟨S2x12x28672, .i1⟩
  | 106 => ⟨S2x12x28672, .f32⟩
  | 107 => ⟨S2x12x28672, .f32⟩
  | 108 => ⟨S2x12x96x28672, .f32⟩
  | 109 => ⟨S_, .f32⟩
  | 110 => ⟨S2x12x28672, .f32⟩
  | 111 => ⟨S2x12x1x28672, .f32⟩
  | 112 => ⟨S2x12x1x28672, .f32⟩
  | 113 => ⟨S2x12x1x28672, .f32⟩
  | 114 => ⟨S2x12x224x128, .f32⟩
  | 115 => ⟨S_, .f32⟩
  | 116 => ⟨S2x12x128, .f32⟩
  | 117 => ⟨S_, .f32⟩
  | 118 => ⟨S12x128, .f32⟩
  | 119 => ⟨S_, .f32⟩
  | 120 => ⟨S4x128, .f32⟩
  | 121 => ⟨S16x128, .f32⟩
  | 122 => ⟨S2x12x224x128, .f32⟩
  | 123 => ⟨S_, .f32⟩
  | 124 => ⟨S2x12x128, .f32⟩
  | 125 => ⟨S_, .f32⟩
  | 126 => ⟨S12x128, .f32⟩
  | 127 => ⟨S_, .f32⟩
  | _ => ⟨S2, .i32⟩

abbrev hbmTy0_1 (i : Nat) : BufTy := match i % 128 with
  | 0 => ⟨S4x128, .f32⟩
  | 1 => ⟨S16x128, .f32⟩
  | 2 => ⟨S2x12x224x128, .f32⟩
  | 3 => ⟨S_, .f32⟩
  | 4 => ⟨S2x12x128, .f32⟩
  | 5 => ⟨S_, .f32⟩
  | 6 => ⟨S12x128, .f32⟩
  | 7 => ⟨S_, .f32⟩
  | 8 => ⟨S4x128, .f32⟩
  | 9 => ⟨S16x128, .f32⟩
  | _ => ⟨S2, .i32⟩

abbrev hbmTy (i : Nat) : BufTy := match i / 128 with
  | 0 => hbmTy0_0 i
  | 1 => hbmTy0_1 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_cst_6 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v72 : Ref sig .tc := ⟨.hbm, 107, rfl⟩
abbrev main_v73 : Ref sig .tc := ⟨.hbm, 108, rfl⟩
abbrev main_cst_10 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩

abbrev nD : Nat := 1
abbrev τ : Topo := Topo.v7x

variable {F : FTy → Type} [FloatOps F]
-- ==== Prep.lean ====
abbrev S2 : Shape := ⟨1, ![2]⟩
abbrev S48x128 : Shape := ⟨2, ![48, 128]⟩
abbrev S2x4x96x28672 : Shape := ⟨4, ![2, 4, 96, 28672]⟩
abbrev S2x4x28672x128 : Shape := ⟨4, ![2, 4, 28672, 128]⟩
abbrev S2x48x28672 : Shape := ⟨3, ![2, 48, 28672]⟩
abbrev S2x4x1x28672 : Shape := ⟨4, ![2, 4, 1, 28672]⟩
abbrev S16x128 : Shape := ⟨2, ![16, 128]⟩
abbrev S1x1x96x1024 : Shape := ⟨4, ![1, 1, 96, 1024]⟩
abbrev S1x1x1024x128 : Shape := ⟨4, ![1, 1, 1024, 128]⟩
abbrev S1x48x1024 : Shape := ⟨3, ![1, 48, 1024]⟩
abbrev S1x1x1x1024 : Shape := ⟨4, ![1, 1, 1, 1024]⟩
abbrev S1x1024 : Shape := ⟨2, ![1, 1024]⟩
abbrev S1 : Shape := ⟨1, ![1]⟩
abbrev S48x1 : Shape := ⟨2, ![48, 1]⟩
abbrev S48x1024 : Shape := ⟨2, ![48, 1024]⟩
abbrev S96x1024 : Shape := ⟨2, ![96, 1024]⟩
abbrev S1024 : Shape := ⟨1, ![1024]⟩
abbrev S1x128 : Shape := ⟨2, ![1, 128]⟩
abbrev S32x1024 : Shape := ⟨2, ![32, 1024]⟩
abbrev S128x1024 : Shape := ⟨2, ![128, 1024]⟩
abbrev S1024x128 : Shape := ⟨2, ![1024, 128]⟩

abbrev nBuf : Space → Nat
  | .hbm => 12
  | .vmem => 17
  | .smem => 2
  | _ => 0

abbrev bufTy : (tb : Table) → Fin (tcTables nBuf tb) → BufTy
  | .hbm, ⟨0, _⟩ => ⟨S2, .i32⟩
  | .hbm, ⟨1, _⟩ => ⟨S2, .i32⟩
  | .hbm, ⟨2, _⟩ => ⟨S48x128, .f32⟩
  | .hbm, ⟨3, _⟩ => ⟨S2x4x96x28672, .bf16⟩
  | .hbm, ⟨4, _⟩ => ⟨S2x4x96x28672, .bf16⟩
  | .hbm, ⟨5, _⟩ => ⟨S2x4x28672x128, .bf16⟩
  | .hbm, ⟨6, _⟩ => ⟨S2x48x28672, .f32⟩
  | .hbm, ⟨7, _⟩ => ⟨S2x48x28672, .f32⟩
  | .hbm, ⟨8, _⟩ => ⟨S2x4x1x28672, .f32⟩
  | .hbm, ⟨9, _⟩ => ⟨S2x4x1x28672, .f32⟩
  | .hbm, ⟨10, _⟩ => ⟨S16x128, .f32⟩
  | .hbm, ⟨11, _⟩ => ⟨S16x128, .f32⟩
  | .local _ .vmem, ⟨0, _⟩ => ⟨S48x128, .f32⟩
  | .local _ .vmem, ⟨1, _⟩ => ⟨S1x1x96x1024, .bf16⟩
  | .local _ .vmem, ⟨2, _⟩ => ⟨S1x1x96x1024, .bf16⟩
  | .local _ .vmem, ⟨3, _⟩ => ⟨S1x1x96x1024, .bf16⟩
  | .local _ .vmem, ⟨4, _⟩ => ⟨S1x1x96x1024, .bf16⟩
  | .local _ .vmem, ⟨5, _⟩ => ⟨S1x1x1024x128, .bf16⟩
  | .local _ .vmem, ⟨6, _⟩ => ⟨S1x1x1024x128, .bf16⟩
  | .local _ .vmem, ⟨7, _⟩ => ⟨S1x48x1024, .f32⟩
  | .local _ .vmem, ⟨8, _⟩ => ⟨S1x48x1024, .f32⟩
  | .local _ .vmem, ⟨9, _⟩ => ⟨S1x48x1024, .f32⟩
  | .local _ .vmem, ⟨10, _⟩ => ⟨S1x48x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S16x128, .f32⟩
  | .local _ .vmem, ⟨16, _⟩ => ⟨S16x128, .f32⟩
  | .local _ .smem, ⟨0, _⟩ => ⟨S2, .i32⟩
  | .local _ .smem, ⟨1, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨3, ![2, 28, 4], ![false, false, false]⟩

def k0_cond2 (i : grid0.Coords) : BitVec 1 :=
  let arg2 : BitVec 32 := BitVec.ofNat 32 (i 2).val
  let c0_i32_3 : BitVec 32 := 0#32
  let v7 : BitVec 1 := Scalar.cmpi .eq arg2 c0_i32_3
  let v8 : BitVec 32 := Scalar.extui v7
  let c0_i32_4 : BitVec 32 := 0#32
  let v9 : BitVec 1 := Scalar.cmpi .ne v8 c0_i32_4
  v9

def k0_off1 (i : grid0.Coords) : Fin 1 → Nat :=
  let arg0 : BitVec 32 := BitVec.ofNat 32 (i 0).val
  let v115 : Index := Scalar.indexCast arg0
  ![v115.toNat]
def k0_off2 (i : grid0.Coords) : Fin 1 → Nat :=
  let arg0 : BitVec 32 := BitVec.ofNat 32 (i 0).val
  let v14 : Index := Scalar.indexCast arg0
  ![v14.toNat]
def k0_off3 (i : grid0.Coords) : Fin 2 → Nat :=
  let arg2 : BitVec 32 := BitVec.ofNat 32 (i 2).val
  let v57 : Index := Scalar.indexCast arg2
  let c0_29 : Index := 0#32
  ![v57.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x96x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x96x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x48x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x48x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== PrepReferenceIdeal.lean ====
abbrev S2 : Shape := ⟨1, ![2]⟩
abbrev S48x128 : Shape := ⟨2, ![48, 128]⟩
abbrev S2x4x96x28672 : Shape := ⟨4, ![2, 4, 96, 28672]⟩
abbrev S28672 : Shape := ⟨1, ![28672]⟩
abbrev S1x28672 : Shape := ⟨2, ![1, 28672]⟩
abbrev S2x1 : Shape := ⟨2, ![2, 1]⟩
abbrev S2x28672 : Shape := ⟨2, ![2, 28672]⟩
abbrev S2x1x28672 : Shape := ⟨3, ![2, 1, 28672]⟩
abbrev S48x1 : Shape := ⟨2, ![48, 1]⟩
abbrev S1x48x1 : Shape := ⟨3, ![1, 48, 1]⟩
abbrev S2x48x28672 : Shape := ⟨3, ![2, 48, 28672]⟩
abbrev S2x4x48x28672 : Shape := ⟨4, ![2, 4, 48, 28672]⟩
abbrev S2x1x48x28672 : Shape := ⟨4, ![2, 1, 48, 28672]⟩
abbrev S_ : Shape := ⟨0, ![]⟩
abbrev S2x4x28672 : Shape := ⟨3, ![2, 4, 28672]⟩
abbrev S2x4x28672x3 : Shape := ⟨4, ![2, 4, 28672, 3]⟩
abbrev S2x4x28672x29 : Shape := ⟨4, ![2, 4, 28672, 29]⟩
abbrev S2x4x28672x32 : Shape := ⟨4, ![2, 4, 28672, 32]⟩
abbrev S2x4x28672x96 : Shape := ⟨4, ![2, 4, 28672, 96]⟩
abbrev S2x4x28672x128 : Shape := ⟨4, ![2, 4, 28672, 128]⟩
abbrev S2x4x1x28672 : Shape := ⟨4, ![2, 4, 1, 28672]⟩
abbrev S2x4x224x128 : Shape := ⟨4, ![2, 4, 224, 128]⟩
abbrev S2x4x128 : Shape := ⟨3, ![2, 4, 128]⟩
abbrev S4x128 : Shape := ⟨2, ![4, 128]⟩
abbrev S12x128 : Shape := ⟨2, ![12, 128]⟩
abbrev S16x128 : Shape := ⟨2, ![16, 128]⟩

abbrev nBuf : Space → Nat
  | .hbm => 87
  | .vmem => 0
  | .smem => 0
  | _ => 0

abbrev bufTy : (tb : Table) → Fin (tcTables nBuf tb) → BufTy
  | .hbm, ⟨0, _⟩ => ⟨S2, .i32⟩
  | .hbm, ⟨1, _⟩ => ⟨S2, .i32⟩
  | .hbm, ⟨2, _⟩ => ⟨S48x128, .f32⟩
  | .hbm, ⟨3, _⟩ => ⟨S2x4x96x28672, .bf16⟩
  | .hbm, ⟨4, _⟩ => ⟨S2x4x96x28672, .bf16⟩
  | .hbm, ⟨5, _⟩ => ⟨S28672, .i32⟩
  | .hbm, ⟨6, _⟩ => ⟨S1x28672, .i32⟩
  | .hbm, ⟨7, _⟩ => ⟨S2x1, .i32⟩
  | .hbm, ⟨8, _⟩ => ⟨S2x28672, .i32⟩
  | .hbm, ⟨9, _⟩ => ⟨S2x28672, .i32⟩
  | .hbm, ⟨10, _⟩ => ⟨S2x28672, .i1⟩
  | .hbm, ⟨11, _⟩ => ⟨S2x1x28672, .i1⟩
  | .hbm, ⟨12, _⟩ => ⟨S2x1, .i32⟩
  | .hbm, ⟨13, _⟩ => ⟨S1x28672, .i32⟩
  | .hbm, ⟨14, _⟩ => ⟨S2x28672, .i32⟩
  | .hbm, ⟨15, _⟩ => ⟨S2x28672, .i32⟩
  | .hbm, ⟨16, _⟩ => ⟨S2x28672, .i32⟩
  | .hbm, ⟨17, _⟩ => ⟨S2x28672, .f32⟩
  | .hbm, ⟨18, _⟩ => ⟨S2x1x28672, .f32⟩
  | .hbm, ⟨19, _⟩ => ⟨S48x1, .f32⟩
  | .hbm, ⟨20, _⟩ => ⟨S1x48x1, .f32⟩
  | .hbm, ⟨21, _⟩ => ⟨S2x48x28672, .f32⟩
  | .hbm, ⟨22, _⟩ => ⟨S2x48x28672, .f32⟩
  | .hbm, ⟨23, _⟩ => ⟨S2x48x28672, .f32⟩
  | .hbm, ⟨24, _⟩ => ⟨S2x48x28672, .f32⟩
  | .hbm, ⟨25, _⟩ => ⟨S2x48x28672, .f32⟩
  | .hbm, ⟨26, _⟩ => ⟨S2x4x48x28672, .bf16⟩
  | .hbm, ⟨27, _⟩ => ⟨S2x4x48x28672, .f32⟩
  | .hbm, ⟨28, _⟩ => ⟨S2x4x48x28672, .bf16⟩
  | .hbm, ⟨29, _⟩ => ⟨S2x4x48x28672, .f32⟩
  | .hbm, ⟨30, _⟩ => ⟨S2x1x48x28672, .f32⟩
  | .hbm, ⟨31, _⟩ => ⟨S2x1x48x28672, .f32⟩
  | .hbm, ⟨32, _⟩ => ⟨S2x4x48x28672, .f32⟩
  | .hbm, ⟨33, _⟩ => ⟨S2x4x48x28672, .f32⟩
  | .hbm, ⟨34, _⟩ => ⟨S2x4x48x28672, .f32⟩
  | .hbm, ⟨35, _⟩ => ⟨S2x4x48x28672, .f32⟩
  | .hbm, ⟨36, _⟩ => ⟨S2x4x48x28672, .f32⟩
  | .hbm, ⟨37, _⟩ => ⟨S2x4x48x28672, .f32⟩
  | .hbm, ⟨38, _⟩ => ⟨S2x4x48x28672, .f32⟩
  | .hbm, ⟨39, _⟩ => ⟨S2x4x48x28672, .f32⟩
  | .hbm, ⟨40, _⟩ => ⟨S2x4x48x28672, .f32⟩
  | .hbm, ⟨41, _⟩ => ⟨S2x4x48x28672, .f32⟩
  | .hbm, ⟨42, _⟩ => ⟨S2x4x96x28672, .f32⟩
  | .hbm, ⟨43, _⟩ => ⟨S2x4x96x28672, .bf16⟩
  | .hbm, ⟨44, _⟩ => ⟨S2x4x96x28672, .bf16⟩
  | .hbm, ⟨45, _⟩ => ⟨S_, .bf16⟩
  | .hbm, ⟨46, _⟩ => ⟨S2x4x28672, .bf16⟩
  | .hbm, ⟨47, _⟩ => ⟨S2x4x28672, .f32⟩
  | .hbm, ⟨48, _⟩ => ⟨S_, .f32⟩
  | .hbm, ⟨49, _⟩ => ⟨S_, .f32⟩
  | .hbm, ⟨50, _⟩ => ⟨S2x4x28672, .i1⟩
  | .hbm, ⟨51, _⟩ => ⟨S2x4x28672, .f32⟩
  | .hbm, ⟨52, _⟩ => ⟨S2x4x28672, .f32⟩
  | .hbm, ⟨53, _⟩ => ⟨S2x4x96x28672, .bf16⟩
  | .hbm, ⟨54, _⟩ => ⟨S_, .bf16⟩
  | .hbm, ⟨55, _⟩ => ⟨S2x4x28672, .bf16⟩
  | .hbm, ⟨56, _⟩ => ⟨S2x4x28672, .f32⟩
  | .hbm, ⟨57, _⟩ => ⟨S_, .f32⟩
  | .hbm, ⟨58, _⟩ => ⟨S_, .f32⟩
  | .hbm, ⟨59, _⟩ => ⟨S2x4x28672, .i1⟩
  | .hbm, ⟨60, _⟩ => ⟨S2x4x28672, .f32⟩
  | .hbm, ⟨61, _⟩ => ⟨S2x4x28672, .f32⟩
  | .hbm, ⟨62, _⟩ => ⟨S_, .bf16⟩
  | .hbm, ⟨63, _⟩ => ⟨S2x4x28672x3, .bf16⟩
  | .hbm, ⟨64, _⟩ => ⟨S_, .bf16⟩
  | .hbm, ⟨65, _⟩ => ⟨S2x4x28672x29, .bf16⟩
  | .hbm, ⟨66, _⟩ => ⟨S2x4x28672x32, .bf16⟩
  | .hbm, ⟨67, _⟩ => ⟨S2x4x28672x96, .bf16⟩
  | .hbm, ⟨68, _⟩ => ⟨S2x4x28672x128, .bf16⟩
  | .hbm, ⟨69, _⟩ => ⟨S2x4x1x28672, .f32⟩
  | .hbm, ⟨70, _⟩ => ⟨S2x4x1x28672, .f32⟩
  | .hbm, ⟨71, _⟩ => ⟨S2x4x224x128, .f32⟩
  | .hbm, ⟨72, _⟩ => ⟨S_, .f32⟩
  | .hbm, ⟨73, _⟩ => ⟨S2x4x128, .f32⟩
  | .hbm, ⟨74, _⟩ => ⟨S_, .f32⟩
  | .hbm, ⟨75, _⟩ => ⟨S4x128, .f32⟩
  | .hbm, ⟨76, _⟩ => ⟨S_, .f32⟩
  | .hbm, ⟨77, _⟩ => ⟨S12x128, .f32⟩
  | .hbm, ⟨78, _⟩ => ⟨S16x128, .f32⟩
  | .hbm, ⟨79, _⟩ => ⟨S2x4x224x128, .f32⟩
  | .hbm, ⟨80, _⟩ => ⟨S_, .f32⟩
  | .hbm, ⟨81, _⟩ => ⟨S2x4x128, .f32⟩
  | .hbm, ⟨82, _⟩ => ⟨S_, .f32⟩
  | .hbm, ⟨83, _⟩ => ⟨S4x128, .f32⟩
  | .hbm, ⟨84, _⟩ => ⟨S_, .f32⟩
  | .hbm, ⟨85, _⟩ => ⟨S12x128, .f32⟩
  | .hbm, ⟨86, _⟩ => ⟨S16x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst : Ref sig .tc := ⟨.hbm, 45, rfl⟩
abbrev main_v40 : Ref sig .tc := ⟨.hbm, 46, rfl⟩
abbrev main_v41 : Ref sig .tc := ⟨.hbm, 47, rfl⟩
abbrev main_cst_0 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Quant.lean ====
abbrev S16x128 : Shape := ⟨2, ![16, 128]⟩
abbrev S2x12x96x28672 : Shape := ⟨4, ![2, 12, 96, 28672]⟩
abbrev S10x16x128 : Shape := ⟨3, ![10, 16, 128]⟩
abbrev S1x1x96x1024 : Shape := ⟨4, ![1, 1, 96, 1024]⟩
abbrev S16 : Shape := ⟨1, ![16]⟩
abbrev S16x1 : Shape := ⟨2, ![16, 1]⟩
abbrev S1x16x128 : Shape := ⟨3, ![1, 16, 128]⟩
abbrev S1x128 : Shape := ⟨2, ![1, 128]⟩
abbrev S1 : Shape := ⟨1, ![1]⟩
abbrev S1x1 : Shape := ⟨2, ![1, 1]⟩
abbrev S96x1024 : Shape := ⟨2, ![96, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S2x12x96x28672, .f32⟩
  | .hbm, ⟨6, _⟩ => ⟨S2x12x96x28672, .fp8e4m3⟩
  | .hbm, ⟨7, _⟩ => ⟨S10x16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S1x1x96x1024, .f32⟩
  | .local _ .vmem, ⟨6, _⟩ => ⟨S1x1x96x1024, .f32⟩
  | .local _ .vmem, ⟨7, _⟩ => ⟨S1x1x96x1024, .fp8e4m3⟩
  | .local _ .vmem, ⟨8, _⟩ => ⟨S1x1x96x1024, .fp8e4m3⟩
  | .local _ .vmem, ⟨9, _⟩ => ⟨S10x16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨3, ![2, 12, 28], ![false, false, false]⟩

def k0_off1 (i : grid0.Coords) : Fin 2 → Nat :=
  let arg1 : BitVec 32 := BitVec.ofNat 32 (i 1).val
  let v85 : Index := Scalar.indexCast arg1
  let c0_49 : Index := 0#32
  ![v85.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x96x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S10x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== QuantIdeal.lean ====
variable {F : FTy → Type} [FloatOps F] [Named F]
def κ : String → Option EReal := fun
  | "fp8_step" => some ((448⁻¹ : ℝ) : EReal)
  | _ => none
-- ==== QuantReferenceIdeal.lean ====
abbrev S16x128 : Shape := ⟨2, ![16, 128]⟩
abbrev S2x12x96x28672 : Shape := ⟨4, ![2, 12, 96, 28672]⟩
abbrev S_ : Shape := ⟨0, ![]⟩
abbrev S16 : Shape := ⟨1, ![16]⟩
abbrev S1x16 : Shape := ⟨2, ![1, 16]⟩
abbrev S10x16 : Shape := ⟨2, ![10, 16]⟩
abbrev S12 : Shape := ⟨1, ![12]⟩
abbrev S1x12x1x1 : Shape := ⟨4, ![1, 12, 1, 1]⟩
abbrev S10x16x1 : Shape := ⟨3, ![10, 16, 1]⟩
abbrev S10x16x128 : Shape := ⟨3, ![10, 16, 128]⟩

abbrev nBuf : Space → Nat
  | .hbm => 102
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S2x12x96x28672, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .i1⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .i1⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .i1⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .i1⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .i1⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S1x16, .f32⟩
  | .hbm, ⟨67, _⟩ => ⟨S1x16, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S1x16, .f32⟩
  | .hbm, ⟨72, _⟩ => ⟨S1x16, .f32⟩
  | .hbm, ⟨73, _⟩ => ⟨S1x16, .f32⟩
  | .hbm, ⟨74, _⟩ => ⟨S1x16, .f32⟩
  | .hbm, ⟨75, _⟩ => ⟨S1x16, .f32⟩
  | .hbm, ⟨76, _⟩ => ⟨S10x16, .f32⟩
  | .hbm, ⟨77, _⟩ => ⟨S_, .f32⟩
  | .hbm, ⟨78, _⟩ => ⟨S16, .f32⟩
  | .hbm, ⟨79, _⟩ => ⟨S16, .i1⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S12, .f32⟩
  | .hbm, ⟨88, _⟩ => ⟨S1x12x1x1, .f32⟩
  | .hbm, ⟨89, _⟩ => ⟨S2x12x96x28672, .f32⟩
  | .hbm, ⟨90, _⟩ => ⟨S2x12x96x28672, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2x12x96x28672, .f32⟩
  | .hbm, ⟨95, _⟩ => ⟨S2x12x96x28672, .f32⟩
  | .hbm, ⟨96, _⟩ => ⟨S_, .f32⟩
  | .hbm, ⟨97, _⟩ => ⟨S2x12x96x28672, .f32⟩
  | .hbm, ⟨98, _⟩ => ⟨S2x12x96x28672, .f32⟩
  | .hbm, ⟨99, _⟩ => ⟨S2x12x96x28672, .fp8e4m3⟩
  | .hbm, ⟨100, _⟩ => ⟨S10x16x1, .f32⟩
  | .hbm, ⟨101, _⟩ => ⟨S10x16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_v8 : Ref sig .tc := ⟨.hbm, 21, rfl⟩
abbrev main_cst_6 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_7 : Ref sig .tc := ⟨.hbm, 26, rfl⟩
abbrev main_v10 : Ref sig .tc := ⟨.hbm, 27, rfl⟩
abbrev main_v11 : Ref sig .tc := ⟨.hbm, 28, rfl⟩
abbrev main_cst_8 : Ref sig .tc := ⟨.hbm, 29, rfl⟩
abbrev main_v12 : Ref sig .tc := ⟨.hbm, 30, rfl⟩
abbrev main_v13 : Ref sig .tc := ⟨.hbm, 31, rfl⟩
abbrev main_cst_9 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_cst_10 : Ref sig .tc := ⟨.hbm, 36, rfl⟩
abbrev main_v15 : Ref sig .tc := ⟨.hbm, 37, rfl⟩
abbrev main_v16 : Ref sig .tc := ⟨.hbm, 38, rfl⟩
abbrev main_cst_11 : Ref sig .tc := ⟨.hbm, 39, rfl⟩
abbrev main_v17 : Ref sig .tc := ⟨.hbm, 40, rfl⟩
abbrev main_v18 : Ref sig .tc := ⟨.hbm, 41, rfl⟩
abbrev main_cst_12 : Ref sig .tc := ⟨.hbm, 42, rfl⟩
abbrev main_call2_v0 : Ref sig .tc := ⟨.hbm, 43, rfl⟩
abbrev main_call2_v1 : Ref sig .tc := ⟨.hbm, 44, rfl⟩
abbrev main_v19 : Ref sig .tc := ⟨.hbm, 45, rfl⟩
abbrev main_cst_13 : Ref sig .tc := ⟨.hbm, 46, rfl⟩
abbrev main_v20 : Ref sig .tc := ⟨.hbm, 47, rfl⟩
abbrev main_v21 : Ref sig .tc := ⟨.hbm, 48, rfl⟩
abbrev main_cst_14 : Ref sig .tc := ⟨.hbm, 49, rfl⟩
abbrev main_v22 : Ref sig .tc := ⟨.hbm, 50, rfl⟩
abbrev main_v23 : Ref sig .tc := ⟨.hbm, 51, rfl⟩
abbrev main_cst_15 : Ref sig .tc := ⟨.hbm, 52, rfl⟩
abbrev main_call3_v0 : Ref sig .tc := ⟨.hbm, 53, rfl⟩
abbrev main_call3_v1 : Ref sig .tc := ⟨.hbm, 54, rfl⟩
abbrev main_v24 : Ref sig .tc := ⟨.hbm, 55, rfl⟩
abbrev main_cst_16 : Ref sig .tc := ⟨.hbm, 56, rfl⟩
abbrev main_v25 : Ref sig .tc := ⟨.hbm, 57, rfl⟩
abbrev main_v26 : Ref sig .tc := ⟨.hbm, 58, rfl⟩
abbrev main_cst_17 : Ref sig .tc := ⟨.hbm, 59, rfl⟩
abbrev main_v27 : Ref sig .tc := ⟨.hbm, 60, rfl⟩
abbrev main_v28 : Ref sig .tc := ⟨.hbm, 61, rfl⟩
abbrev main_cst_18 : Ref sig .tc := ⟨.hbm, 62, rfl⟩
abbrev main_call4_v0 : Ref sig .tc := ⟨.hbm, 63, rfl⟩
abbrev main_call4_v1 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_19 : Ref sig .tc := ⟨.hbm, 77, rfl⟩
abbrev main_v41 : Ref sig .tc := ⟨.hbm, 78, rfl⟩
abbrev main_v42 : Ref sig .tc := ⟨.hbm, 79, rfl⟩
abbrev main_cst_20 : Ref sig .tc := ⟨.hbm, 80, rfl⟩
abbrev main_v43 : Ref sig .tc := ⟨.hbm, 81, rfl⟩
abbrev main_v44 : Ref sig .tc := ⟨.hbm, 82, rfl⟩
abbrev main_cst_21 : Ref sig .tc := ⟨.hbm, 83, rfl⟩
abbrev main_call5_v0 : Ref sig .tc := ⟨.hbm, 84, rfl⟩
abbrev main_call5_v1 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_22 : Ref sig .tc := ⟨.hbm, 91, rfl⟩
abbrev main_cst_23 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩

abbrev nD : Nat := 1
abbrev τ : Topo := Topo.v7x

variable {F : FTy → Type} [FloatOps F]
-- ==== Proof.KernelFun.lean ====
/-
  Hand-written. What one grid point of the attention call computes, as pure functions of the blocks it reads: the state a pass
  over the keys carries (accumulator, denominator, running maximum and minimum), one step of a pass, a whole pass.
-/
module

public import proofs.«01_k».proof.Proof.Gen.Kernel.Skeleton
public import Idealize.ShloMosaic.Lib.VecWindow

@[expose] public section

noncomputable section

namespace Cert.Kernel.Hand

open Cert.Kernel Cert.Kernel.Gen
open Idealize.ShloMosaic Idealize.ShloMosaic.TcCoe

variable {F : FTy → Type} [FloatOps F]

/-- What a pass over the keys carries: the weighted values, the weights' sum, the running maximum and minimum of the shifted
    scores (the last three folded to eight rows). -/
structure Pass (F : FTy → Type) where
  acc : Vec F S96x512 .f32
  l : Vec F S8x512 .f32
  hi : Vec F S8x512 .f32
  lo : Vec F S8x512 .f32

theorem kblk_inb (n : ℕ) (h : n < 56) : ∀ a, (![0, 0, 512 * n, 0] : Fin 4 → ℕ) a + S1x1x512x128.size a ≤ S1x1x28672x128.size a := by
  intro a; fin_cases a <;> simp [S1x1x512x128, S1x1x28672x128]; omega

theorem vblk_inb (n : ℕ) (h : n < 56) : ∀ a, (![0, 0, 0, 512 * n] : Fin 4 → ℕ) a + S1x1x96x512.size a ≤ S1x1x96x28672.size a := by
  intro a; fin_cases a <;> simp [S1x1x96x512, S1x1x96x28672]; omega

/-- Block `n` of the keys (rows `512 n` to `512 n + 511`), block 0 for an `n` out of range. -/
def kBlk (k : Vec F S1x1x28672x128 .bf16) (n : ℕ) : Vec F S1x1x512x128 .bf16 :=
  if h : n < 56 then VecWindow.window k ![0, 0, 512 * n, 0] S1x1x512x128.size (kblk_inb n h)
  else VecWindow.window k ![0, 0, 512 * 0, 0] S1x1x512x128.size (kblk_inb 0 (by omega))

/-- Block `n` of the values (columns `512 n` to `512 n + 511`), block 0 for an `n` out of range. -/
def vBlk (v : Vec F S1x1x96x28672 .bf16) (n : ℕ) : Vec F S1x1x96x512 .bf16 :=
  if h : n < 56 then VecWindow.window v ![0, 0, 0, 512 * n] S1x1x96x512.size (vblk_inb n h)
  else VecWindow.window v ![0, 0, 0, 512 * 0] S1x1x96x512.size (vblk_inb 0 (by omega))

/-- The pass before its first step. -/
def Pass.init : Pass F := ⟨k0_pay19, k0_pay20, k0_pay21, k0_pay22⟩

/-- One step over a key block every query of the tile sees whole. -/
def Pass.step (kb : Vec F S1x1x512x128 .bf16) (vb : Vec F S1x1x96x512 .bf16) (qa : Vec F S128x512 .bf16) (s : Pass F) : Pass F :=
  ⟨k0_pay23 (k0_pay12 kb qa) s.acc vb, k0_pay13 kb qa s.l, k0_pay10 kb qa s.hi, k0_pay11 kb qa s.lo⟩

/-- The steps over key blocks `0 … n - 1`. -/
def Pass.steps (k : Vec F S1x1x28672x128 .bf16) (v : Vec F S1x1x96x28672 .bf16) (qa : Vec F S128x512 .bf16) : ℕ → Pass F
  | 0 => Pass.init
  | n + 1 => Pass.step (kBlk k n) (vBlk v n) qa (Pass.steps k v qa n)

/-- The last step, over the tile's own key block, under the causal mask. -/
def Pass.diag (kb : Vec F S1x1x512x128 .bf16) (vb : Vec F S1x1x96x512 .bf16) (qa : Vec F S128x512 .bf16) (s : Pass F) : Pass F :=
  ⟨k0_pay53 (k0_pay33 (k0_pay25 kb qa) k0_pay26 k0_pay27 s.acc vb), k0_pay32 (k0_pay25 kb qa) k0_pay26 k0_pay27 s.l,
    k0_pay29 (k0_pay25 kb qa) k0_pay26 k0_pay27 s.hi, k0_pay30 (k0_pay25 kb qa) k0_pay26 s.lo⟩

/-- A whole pass of query tile `n`. -/
def Pass.whole (k : Vec F S1x1x28672x128 .bf16) (v : Vec F S1x1x96x28672 .bf16) (n : ℕ) (qa : Vec F S128x512 .bf16) : Pass F :=
  Pass.diag (kBlk k n) (vBlk v n) qa (Pass.steps k v qa n)

theorem tail_inb : ∀ a, (![96, 0] : Fin 2 → ℕ) a + S32x512.size a ≤ S128x512.size a := by
  intro a; fin_cases a <;> simp [S32x512, S128x512]

/-- What the loop over the passes carries: the query rows with their shift rows, the shift, the last pass's result, and whether a
    further pass runs. -/
structure Tile (F : FTy → Type) where
  qa : Vec F S128x512 .bf16
  m : Vec F S1x512 .f32
  s : Pass F
  flag : BitVec 32

/-- Whether pass number `r` asks for another: some shifted score passed the bound, and it was the first pass. -/
def againWord (hi : Vec F S8x512 .f32) (r : ℕ) : BitVec 1 :=
  Scalar.andi (Scalar.cmpf .ogt (k0_pay55 hi) (FloatOps.ofBits .f32 0x42000000#32)) (Scalar.cmpi .eq (Scf.iv 0#32 1#32 r) 0#32)

/-- One trip of the loop over the passes, run when the flag is set. -/
def Tile.redo (k : Vec F S1x1x28672x128 .bf16) (v : Vec F S1x1x96x28672 .bf16) (n r : ℕ) (T : Tile F) : Tile F :=
  let s := Pass.whole k v n T.qa
  if Scalar.cmpi .ne (Scalar.extui (againWord s.hi r) : BitVec 32) 0#32 = 1#1 then
    ⟨VecWindow.put T.qa ![96, 0] S32x512.size (k0_pay57 s.hi T.m), k0_pay58 s.hi T.m, s, Scalar.extui (againWord s.hi r)⟩
  else ⟨T.qa, T.m, s, Scalar.extui (againWord s.hi r)⟩

/-- One trip of the loop over the passes. -/
def Tile.trip (k : Vec F S1x1x28672x128 .bf16) (v : Vec F S1x1x96x28672 .bf16) (n r : ℕ) (T : Tile F) : Tile F :=
  if Scalar.cmpi .ne (Scalar.extui (Scalar.cmpi .ne T.flag 0#32) : BitVec 32) 0#32 = 1#1 then T.redo k v n r
  else { T with flag := 0#32 }

theorem Tile.trip_of (k : Vec F S1x1x28672x128 .bf16) (v : Vec F S1x1x96x28672 .bf16) (n r : ℕ) (T : Tile F)
    (h : Scalar.cmpi .ne (Scalar.extui (Scalar.cmpi .ne T.flag 0#32) : BitVec 32) 0#32 = 1#1) : T.trip k v n r = T.redo k v n r := if_pos h

theorem Tile.trip_of_not (k : Vec F S1x1x28672x128 .bf16) (v : Vec F S1x1x96x28672 .bf16) (n r : ℕ) (T : Tile F)
    (h : ¬ Scalar.cmpi .ne (Scalar.extui (Scalar.cmpi .ne T.flag 0#32) : BitVec 32) 0#32 = 1#1) : T.trip k v n r = { T with flag := 0#32 } := if_neg h

theorem Tile.redo_of (k : Vec F S1x1x28672x128 .bf16) (v : Vec F S1x1x96x28672 .bf16) (n r : ℕ) (T : Tile F)
    (h : Scalar.cmpi .ne (Scalar.extui (againWord (Pass.whole k v n T.qa).hi r) : BitVec 32) 0#32 = 1#1) :
    T.redo k v n r = ⟨VecWindow.put T.qa ![96, 0] S32x512.size (k0_pay57 (Pass.whole k v n T.qa).hi T.m), k0_pay58 (Pass.whole k v n T.qa).hi T.m,
      Pass.whole k v n T.qa, Scalar.extui (againWord (Pass.whole k v n T.qa).hi r)⟩ := if_pos h

theorem Tile.redo_of_not (k : Vec F S1x1x28672x128 .bf16) (v : Vec F S1x1x96x28672 .bf16) (n r : ℕ) (T : Tile F)
    (h : ¬ Scalar.cmpi .ne (Scalar.extui (againWord (Pass.whole k v n T.qa).hi r) : BitVec 32) 0#32 = 1#1) :
    T.redo k v n r = ⟨T.qa, T.m, Pass.whole k v n T.qa, Scalar.extui (againWord (Pass.whole k v n T.qa).hi r)⟩ := if_neg h

/-- The loop's state after `r` trips. -/
def Tile.after (k : Vec F S1x1x28672x128 .bf16) (v : Vec F S1x1x96x28672 .bf16) (n : ℕ) (T : Tile F) : ℕ → Tile F
  | 0 => T
  | r + 1 => Tile.trip k v n r (Tile.after k v n T r)

/-- Query rows, to be written over. -/
def qaBase : Vec F S128x512 .bf16 := fun _ => (k0_pay44 (F := F)) (fun a => ⟨0, by fin_cases a <;> decide⟩)

/-- The query tile with its shift rows, the shift being zero. -/
def qaZero (rope : FVec F S96x512 .bf16) : Vec F S128x512 .bf16 :=
  VecWindow.put (VecWindow.put qaBase ![0, 0] S96x512.size (k0_pay42 rope)) ![96, 0] S32x512.size (k0_pay44 (F := F))

/-- The rows under the two windows are all the rows. -/
theorem put_put_cover (x x' : Vec F S128x512 .bf16) (w : Vec F S96x512 .bf16) (w' : Vec F S32x512 .bf16) :
    VecWindow.put (VecWindow.put x ![0, 0] S96x512.size w) ![96, 0] S32x512.size w'
      = VecWindow.put (VecWindow.put x' ![0, 0] S96x512.size w) ![96, 0] S32x512.size w' := by
  funext y
  unfold VecWindow.put
  by_cases h : ∀ a, (![96, 0] : Fin 2 → ℕ) a ≤ (y a).val ∧ (y a).val < (![96, 0] : Fin 2 → ℕ) a + S32x512.size a
  · rw [dif_pos h, dif_pos h]
  · rw [dif_neg h, dif_neg h]
    have h0 : (y 0).val < 128 := (y 0).isLt
    have h1 : (y 1).val < 512 := (y 1).isLt
    have h' : ∀ a, (![0, 0] : Fin 2 → ℕ) a ≤ (y a).val ∧ (y a).val < (![0, 0] : Fin 2 → ℕ) a + S96x512.size a := by
      by_contra hn
      apply h
      intro a
      fin_cases a
      · refine ⟨?_, ?_⟩
        · by_contra hlt
          apply hn
          intro b
          fin_cases b
          · simp [S96x512] at hlt ⊢; omega
          · simp [S96x512]; omega
        · simp [S32x512]; omega
      · simp [S32x512]; omega
    rw [dif_pos h', dif_pos h']

/-- The tile as the loop over the passes finds it: `kb` is the first key block, `w` the tile's first position. -/
def Tile.start (kb : Vec F S1x1x512x128 .bf16) (w : BitVec 32) (rope : FVec F S96x512 .bf16) (s : Pass F) : Tile F :=
  ⟨VecWindow.put (qaZero rope) ![96, 0] S32x512.size (k0_pay51 k0_pay48 (k0_pay49 w kb (qaZero rope)) (k0_pay50 w kb (qaZero rope))),
    k0_pay52 (k0_pay46 w kb (qaZero rope)), s, 1#32⟩

theorem redo_forget (k : Vec F S1x1x28672x128 .bf16) (v : Vec F S1x1x96x28672 .bf16) (n r : ℕ) (qa : Vec F S128x512 .bf16) (m : Vec F S1x512 .f32) (s s' : Pass F)
    (g g' : BitVec 32) : Tile.redo k v n r ⟨qa, m, s, g⟩ = Tile.redo k v n r ⟨qa, m, s', g'⟩ := rfl

/-- What the pass state held before the first trip does not matter. -/
theorem after_forget (k : Vec F S1x1x28672x128 .bf16) (v : Vec F S1x1x96x28672 .bf16) (n : ℕ) (kb : Vec F S1x1x512x128 .bf16) (w : BitVec 32)
    (rope : FVec F S96x512 .bf16) (s s' : Pass F) (r : ℕ) :
    Tile.after k v n (Tile.start kb w rope s) (r + 1) = Tile.after k v n (Tile.start kb w rope s') (r + 1) := by
  induction r with
  | zero =>
    have h : Scalar.cmpi .ne (Scalar.extui (Scalar.cmpi .ne (1#32) 0#32) : BitVec 32) 0#32 = 1#1 := by decide
    exact (Tile.trip_of k v n 0 (Tile.start kb w rope s) h).trans ((redo_forget k v n 0 _ _ _ _ _ _).trans (Tile.trip_of k v n 0 (Tile.start kb w rope s') h).symm)
  | succ r ih =>
    show Tile.trip k v n (r + 1) _ = Tile.trip k v n (r + 1) _
    rw [ih]

theorem Tile.after_zero_m (k : Vec F S1x1x28672x128 .bf16) (v : Vec F S1x1x96x28672 .bf16) (n : ℕ) (kb : Vec F S1x1x512x128 .bf16) (w : BitVec 32)
    (rope : FVec F S96x512 .bf16) (s : Pass F) : (Tile.after k v n (Tile.start kb w rope s) 0).m = k0_pay52 (k0_pay46 w kb (qaZero rope)) := by
  simp only [Tile.after, Tile.start]

/-- The tile after the loop over the passes: `w` is the tile's first position. -/
def Tile.final (k : Vec F S1x1x28672x128 .bf16) (v : Vec F S1x1x96x28672 .bf16) (n : ℕ) (w : BitVec 32) (rope : FVec F S96x512 .bf16) : Tile F :=
  Tile.after k v n (Tile.start (kBlk k 0) w rope Pass.init) 2

/-- Whether a grid point is the first. -/
def first (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32))
    (Scalar.cmpi .eq (BitVec.ofNat 32 (i 2).val) 0#32)) : BitVec 32) 0#32 = 1#1

instance (i : grid0.Coords) : Decidable (first i) := by unfold first; infer_instance

/-- A table of maxima as the point's work finds it: `z` at the first point, what it held otherwise. -/
def entry (i : grid0.Coords) (z x : Vec F S16x128 .f32) : Vec F S16x128 .f32 := if first i then z else x

theorem row_inb (h : ℕ) (hh : h < 16) : ∀ a, (![h, 0] : Fin 2 → ℕ) a + S1x128.size a ≤ S16x128.size a := by
  intro a; fin_cases a <;> simp [S1x128, S16x128]; omega

/-- Row `h` of a table of maxima. -/
def rowOf (x : Vec F S16x128 .f32) (h : ℕ) : Vec F S1x128 .f32 :=
  if hh : h < 16 then VecWindow.window x ![h, 0] S1x128.size (row_inb h hh) else VecWindow.window x ![0, 0] S1x128.size (row_inb 0 (by omega))

/-- A table of maxima with row `h` replaced. -/
def rowPut (x : Vec F S16x128 .f32) (h : ℕ) (w : Vec F S1x128 .f32) : Vec F S16x128 .f32 := VecWindow.put x ![h, 0] S1x128.size w

/-- Whether a grid point's tile starts at or past the length `len`. -/
def dead (i : grid0.Coords) (len : BitVec 32) : Prop :=
  Scalar.cmpi .ne (Scalar.extui (Scalar.cmpi .sge (Scalar.muli (BitVec.ofNat 32 (i 2).val) 512#32) len) : BitVec 32) 0#32 = 1#1

instance (i : grid0.Coords) (len : BitVec 32) : Decidable (dead i len) := by unfold dead; infer_instance

/-- A comparison's word passed through an integer and tested is the comparison. -/
theorem bit_iff (b : Bool) : Scalar.cmpi .ne (Scalar.extui (BitVec.ofBool b) : BitVec 32) 0#32 = 1#1 ↔ b = true := by
  cases b <;> decide

theorem slt_eq_not_sle (x y : BitVec 32) : x.slt y = !(y.sle x) := by
  simp only [BitVec.slt, BitVec.sle]
  by_cases h : x.toInt < y.toInt
  · simp [h]
  · simp [h]; omega

theorem sge_iff (x y : BitVec 32) : Scalar.cmpi .ne (Scalar.extui (Scalar.cmpi .sge x y) : BitVec 32) 0#32 = 1#1 ↔ y.sle x = true := bit_iff _

theorem slt_iff (x y : BitVec 32) : Scalar.cmpi .ne (Scalar.extui (Scalar.cmpi .slt x y) : BitVec 32) 0#32 = 1#1 ↔ x.slt y = true := bit_iff _

theorem live_of_not_dead (i : grid0.Coords) (len : BitVec 32) (h : ¬ dead i len) :
    Scalar.cmpi .ne (Scalar.extui (Scalar.cmpi .slt (Scalar.muli (BitVec.ofNat 32 (i 2).val) 512#32) len) : BitVec 32) 0#32 = 1#1 := by
  unfold dead at h
  rw [sge_iff] at h
  rw [slt_iff]
  rw [slt_eq_not_sle]
  simpa using h

theorem not_live_of_dead (i : grid0.Coords) (len : BitVec 32) (h : dead i len) :
    ¬ Scalar.cmpi .ne (Scalar.extui (Scalar.cmpi .slt (Scalar.muli (BitVec.ofNat 32 (i 2).val) 512#32) len) : BitVec 32) 0#32 = 1#1 := by
  unfold dead at h
  rw [sge_iff] at h
  rw [slt_iff]
  rw [slt_eq_not_sle]
  simpa using h

section Point

variable (i : grid0.Coords) (len : BitVec 32) (qt : Vec F S1x1x96x512 .bf16) (cs sn : Vec F S1x48x512 .f32) (k : Vec F S1x1x28672x128 .bf16) (v : Vec F S1x1x96x28672 .bf16)

/-- The tile after the loop over the passes, at a grid point. -/
def tileAt : Tile F := Tile.final k v (i 2).val (Scalar.muli (BitVec.ofNat 32 (i 2).val) 512#32) (k0_pay35 qt cs sn)

/-- The output block a grid point writes. -/
def outO : Vec F S1x1x96x512 .f32 :=
  if dead i len then k0_pay4 else k0_pay63 (k0_pay34 (F := F) len (Scalar.muli (BitVec.ofNat 32 (i 2).val) 512#32)) (tileAt i qt cs sn k v).s.l (tileAt i qt cs sn k v).s.acc

/-- The block of query maxima a grid point writes. -/
def outQ : Vec F S1x1x1x512 .f32 := if dead i len then k0_pay5 else k0_pay37 len (Scalar.muli (BitVec.ofNat 32 (i 2).val) 512#32) qt cs sn

/-- The block of score maxima a grid point writes. -/
def outS : Vec F S1x1x1x512 .f32 :=
  if dead i len then k0_pay6 else k0_pay60 (k0_pay34 (F := F) len (Scalar.muli (BitVec.ofNat 32 (i 2).val) 512#32)) (tileAt i qt cs sn k v).m (tileAt i qt cs sn k v).s.hi (tileAt i qt cs sn k v).s.lo

/-- The block of output maxima a grid point writes. -/
def outR : Vec F S1x1x1x512 .f32 :=
  if dead i len then k0_pay7 else k0_pay65 (k0_pay34 (F := F) len (Scalar.muli (BitVec.ofNat 32 (i 2).val) 512#32)) (tileAt i qt cs sn k v).s.l (tileAt i qt cs sn k v).s.acc

/-- The table of query maxima after a grid point, from the table before. -/
def statQ (x : Vec F S16x128 .f32) : Vec F S16x128 .f32 :=
  if dead i len then entry i k0_pay1 x else rowPut (entry i k0_pay1 x) (i 1).val
    (k0_pay41 (k0_pay38 (rowOf (entry i k0_pay1 x) (i 1).val)) (k0_pay39 len (Scalar.muli (BitVec.ofNat 32 (i 2).val) 512#32) qt cs sn) (k0_pay40 len (Scalar.muli (BitVec.ofNat 32 (i 2).val) 512#32) qt cs sn))

/-- The table of score maxima after a grid point, from the table before. -/
def statS (x : Vec F S16x128 .f32) : Vec F S16x128 .f32 :=
  if dead i len then entry i k0_pay2 x else rowPut (entry i k0_pay2 x) (i 1).val
    (k0_pay61 (k0_pay59 (k0_pay34 (F := F) len (Scalar.muli (BitVec.ofNat 32 (i 2).val) 512#32)) (tileAt i qt cs sn k v).m (tileAt i qt cs sn k v).s.hi (tileAt i qt cs sn k v).s.lo) (rowOf (entry i k0_pay2 x) (i 1).val))

/-- The table of output maxima after a grid point, from the table before. -/
def statO (x : Vec F S16x128 .f32) : Vec F S16x128 .f32 :=
  if dead i len then entry i k0_pay3 x else rowPut (entry i k0_pay3 x) (i 1).val
    (k0_pay8 (k0_pay66 (rowOf (entry i k0_pay3 x) (i 1).val)) (k0_pay67 (k0_pay34 (F := F) len (Scalar.muli (BitVec.ofNat 32 (i 2).val) 512#32)) (tileAt i qt cs sn k v).s.l (tileAt i qt cs sn k v).s.acc))

end Point

end Cert.Kernel.Hand

end
-- ==== Proof.KernelBody.lean ====
/-
  Hand-written. The attention call's body run once at a symbolic grid point.
-/
module

public import proofs.«01_k».proof.Proof.KernelFun
public import Idealize.ShloMosaic.Lib.Exec
public import Idealize.ShloMosaic.Lib.LoopRemainder
public import Idealize.ShloMosaic.Lib.Tactic
public import Idealize.ShloMosaic.Lib.Pipeline.Kit

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref's buffer on core `c` held at contents that read `X`. -/
abbrev held (c : Dev nD) {sp : Space} {S : Shape} {e : EltTy} (M : Memref sig .tc sp S e) (X : S.Idx → Elt F e) : sProp 𝕄 :=
  iprop(∃ f : BufTy.Contents (Elt F) M.view.ty, pt c M f ∗ ⌜M.view.read (Elt F) f = X⌝)

/-! ## Loads of a whole buffer -/

theorem ld_S128x512 (v : View sig .tc .vmem S128x512 .bf16) (f : v.ty.Contents (Elt F)) :
    v.readAt (Elt F) (Rect.unit (s := S128x512) ![0, 0] S128x512.size inb_S128x512_S128x512_0_0).toLoadRect f = v.read (Elt F) f := View.readAt_full v f _
theorem ld_S96x512 (v : View sig .tc .vmem S96x512 .f32) (f : v.ty.Contents (Elt F)) :
    v.readAt (Elt F) (Rect.unit (s := S96x512) ![0, 0] S96x512.size inb_S96x512_S96x512_0_0).toLoadRect f = v.read (Elt F) f := View.readAt_full v f _
theorem ld_S8x512 (v : View sig .tc .vmem S8x512 .f32) (f : v.ty.Contents (Elt F)) :
    v.readAt (Elt F) (Rect.unit (s := S8x512) ![0, 0] S8x512.size inb_S8x512_S8x512_0_0).toLoadRect f = v.read (Elt F) f := View.readAt_full v f _
theorem ld_S1x512 (v : View sig .tc .vmem S1x512 .f32) (f : v.ty.Contents (Elt F)) :
    v.readAt (Elt F) (Rect.unit (s := S1x512) ![0, 0] S1x512.size inb_S1x512_S1x512_0_0).toLoadRect f = v.read (Elt F) f := View.readAt_full v f _
theorem ld_S16x128 (v : View sig .tc .vmem S16x128 .f32) (f : v.ty.Contents (Elt F)) :
    v.readAt (Elt F) (Rect.unit (s := S16x128) ![0, 0] S16x128.size inb_S16x128_S16x128_0_0).toLoadRect f = v.read (Elt F) f := View.readAt_full v f _
theorem ld_S1x1x96x512_b (v : View sig .tc .vmem S1x1x96x512 .bf16) (f : v.ty.Contents (Elt F)) :
    v.readAt (Elt F) (Rect.unit (s := S1x1x96x512) ![0, 0, 0, 0] S1x1x96x512.size inb_S1x1x96x512_S1x1x96x512_0_0_0_0).toLoadRect f = v.read (Elt F) f := View.readAt_full v f _
theorem ld_S1x1x96x512 (v : View sig .tc .vmem S1x1x96x512 .f32) (f : v.ty.Contents (Elt F)) :
    v.readAt (Elt F) (Rect.unit (s := S1x1x96x512) ![0, 0, 0, 0] S1x1x96x512.size inb_S1x1x96x512_S1x1x96x512_0_0_0_0).toLoadRect f = v.read (Elt F) f := View.readAt_full v f _
theorem ld_S1x1x1x512 (v : View sig .tc .vmem S1x1x1x512 .f32) (f : v.ty.Contents (Elt F)) :
    v.readAt (Elt F) (Rect.unit (s := S1x1x1x512) ![0, 0, 0, 0] S1x1x1x512.size inb_S1x1x1x512_S1x1x1x512_0_0_0_0).toLoadRect f = v.read (Elt F) f := View.readAt_full v f _
theorem ld_S1x48x512 (v : View sig .tc .vmem S1x48x512 .f32) (f : v.ty.Contents (Elt F)) :
    v.readAt (Elt F) (Rect.unit (s := S1x48x512) ![0, 0, 0] S1x48x512.size inb_S1x48x512_S1x48x512_0_0_0).toLoadRect f = v.read (Elt F) f := View.readAt_full v f _

/-- A load of all the query rows, after both of their windows were stored. -/
theorem cov_qa (v : View sig .tc .vmem S128x512 .bf16) (w : Vec F S96x512 .bf16) (w' : Vec F S32x512 .bf16) :
    v.readCov [⟨Rect.unit (s := S128x512) ![96, 0] S32x512.size inb_S128x512_S32x512_96_0, w'⟩, ⟨Rect.unit (s := S128x512) ![0, 0] S96x512.size inb_S128x512_S96x512_0_0, w⟩]
        (Rect.unit (s := S128x512) ![0, 0] S128x512.size inb_S128x512_S128x512_0_0).toLoadRect
      = VecWindow.put (VecWindow.put qaBase ![0, 0] S96x512.size w) ![96, 0] S32x512.size w' := by
  unfold View.readCov
  rw [ld_S128x512, View.read_writes_cons_put v _ _ _ _ rfl, View.read_writes_cons_put v _ _ _ _ rfl, put_put_cover _ qaBase]

/-- The query rows after both windows and the shift rows again were stored. -/
theorem wr_qa (v : View sig .tc .vmem S128x512 .bf16) (f : v.ty.Contents (Elt F)) (w : Vec F S96x512 .bf16) (w' w'' : Vec F S32x512 .bf16) :
    v.read (Elt F) (v.writes (Elt F) f [⟨Rect.unit (s := S128x512) ![96, 0] S32x512.size inb_S128x512_S32x512_96_0, w''⟩,
        ⟨Rect.unit (s := S128x512) ![96, 0] S32x512.size inb_S128x512_S32x512_96_0, w'⟩, ⟨Rect.unit (s := S128x512) ![0, 0] S96x512.size inb_S128x512_S96x512_0_0, w⟩])
      = VecWindow.put (VecWindow.put (VecWindow.put qaBase ![0, 0] S96x512.size w) ![96, 0] S32x512.size w') ![96, 0] S32x512.size w'' := by
  rw [View.read_writes_cons_put v _ _ _ _ rfl, View.read_writes_cons_put v _ _ _ _ rfl, View.read_writes_cons_put v _ _ _ _ rfl, put_put_cover _ qaBase]

/-- A load of one row of a table of maxima. -/
theorem ld_row (v : View sig .tc .vmem S16x128 .f32) (f : v.ty.Contents (Elt F)) (i : grid0.Coords) (x : Vec F S16x128 .f32) (e : v.read (Elt F) f = x) :
    v.readAt (Elt F) (Rect.unit (s := S16x128) (k0_off2 i) S1x128.size (k0_off2_inb i)).toLoadRect f = rowOf x (i 1).val := by
  have hh : (i 1).val < 16 := Nat.lt_trans (i 1).isLt (show grid0.bound 1 < 16 by decide)
  rw [View.readAt_unit _ _ _ (k0_off2_eq i) (row_inb _ hh), rowOf, dif_pos hh, e]

/-- A store of one row of a table of maxima. -/
theorem st_row (v : View sig .tc .vmem S16x128 .f32) (f : v.ty.Contents (Elt F)) (i : grid0.Coords) (x : Vec F S16x128 .f32) (e : v.read (Elt F) f = x)
    (w w' : Vec F S1x128 .f32) (ew : w = w') :
    v.read (Elt F) (v.writes (Elt F) f [⟨Rect.unit (s := S16x128) (k0_off2 i) S1x128.size (k0_off2_inb i), w⟩]) = rowPut x (i 1).val w' := by
  rw [View.read_writes_cons_put v _ _ _ _ (k0_off2_eq i), View.writes_nil, e, ew, rowPut]

section Args

variable (c : Dev nD) (i : grid0.Coords)
  (arg3 : Memref sig .tc .smem S2 .i32) (harg3 : arg3.IsWhole)
  (arg4 : Memref sig .tc .vmem S1x1x96x512 .bf16) (harg4 : arg4.IsWhole)
  (arg5 : Memref sig .tc .vmem S1x48x512 .f32) (harg5 : arg5.IsWhole)
  (arg6 : Memref sig .tc .vmem S1x48x512 .f32) (harg6 : arg6.IsWhole)
  (arg7 : Memref sig .tc .vmem S1x1x28672x128 .bf16) (harg7 : arg7.IsWhole)
  (arg8 : Memref sig .tc .vmem S1x1x96x28672 .bf16) (harg8 : arg8.IsWhole)
  (arg9 : Memref sig .tc .vmem S1x1x96x512 .f32) (harg9 : arg9.IsWhole)
  (arg10 : Memref sig .tc .vmem S1x1x1x512 .f32) (harg10 : arg10.IsWhole)
  (arg11 : Memref sig .tc .vmem S1x1x1x512 .f32) (harg11 : arg11.IsWhole)
  (arg12 : Memref sig .tc .vmem S1x1x1x512 .f32) (harg12 : arg12.IsWhole)
  (arg13 : Memref sig .tc .vmem S16x128 .f32) (harg13 : arg13.IsWhole)
  (arg14 : Memref sig .tc .vmem S16x128 .f32) (harg14 : arg14.IsWhole)
  (arg15 : Memref sig .tc .vmem S16x128 .f32) (harg15 : arg15.IsWhole)
  (arg16 : Memref sig .tc .vmem S128x512 .bf16) (harg16 : arg16.IsWhole)
  (arg17 : Memref sig .tc .vmem S96x512 .f32) (harg17 : arg17.IsWhole)
  (arg18 : Memref sig .tc .vmem S8x512 .f32) (harg18 : arg18.IsWhole)
  (arg19 : Memref sig .tc .vmem S8x512 .f32) (harg19 : arg19.IsWhole)
  (arg20 : Memref sig .tc .vmem S8x512 .f32) (harg20 : arg20.IsWhole)
  (arg21 : Memref sig .tc .vmem S1x512 .f32) (harg21 : arg21.IsWhole)

/-- The trips of the loop over the key blocks before the tile's own. -/
theorem trips2 : (k0_t2_loop i).trips = (i 2).val := by
  have h : ∀ n : Fin 56, Scf.trips 0#32 (Scalar.addi 0#32 (Scalar.muli (Scalar.divsi (Scalar.subi (BitVec.ofNat 32 n.val) 0#32) 1#32) 1#32)) 1#32 = n.val := by
    decide
  exact h (i 2)

/-- The buffers a pass works on: the keys, the values and the query rows at given contents, the four it writes reading `s`. -/
abbrev passInv (X7 : BufTy.Contents (Elt F) arg7.view.ty) (X8 : BufTy.Contents (Elt F) arg8.view.ty) (X16 : BufTy.Contents (Elt F) arg16.view.ty) (s : Pass F) : sProp 𝕄 :=
  iprop(pt c arg7 X7 ∗ pt c arg8 X8 ∗ pt c arg16 X16 ∗ held c arg17 s.acc ∗ held c arg18 s.l ∗ held c arg19 s.hi ∗ held c arg20 s.lo)

/-- One trip of the loop over the key blocks before the tile's own is one step of the pass. -/
theorem step2 (X7 : BufTy.Contents (Elt F) arg7.view.ty) (X8 : BufTy.Contents (Elt F) arg8.view.ty) (X16 : BufTy.Contents (Elt F) arg16.view.ty) (arg2 v2 : BitVec 32)
    (k : Fin (k0_t2_loop i).trips) (s : Pass F) (qa : Vec F S128x512 .bf16) (e16 : arg16.view.read (Elt F) X16 = qa) :
    passInv c arg7 arg8 arg16 arg17 arg18 arg19 arg20 X7 X8 X16 s
      ⊢ wp frame (wpE (defs₀ (F := F)) Variants.none (c : Thread nD τ) none) Set.univ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v2 k ())
          (fun _ => passInv c arg7 arg8 arg16 arg17 arg18 arg19 arg20 X7 X8 X16
            (s.step (kBlk (arg7.view.read (Elt F) X7) k.val) (vBlk (arg8.view.read (Elt F) X8) k.val) qa)) := by
  subst e16
  have hk : k.val < 56 := Nat.lt_trans (Nat.lt_of_lt_of_eq k.isLt (trips2 i)) (i 2).isLt
  have eK : View.readAt (Elt F) arg7.view (Rect.unit (s := S1x1x28672x128) (k0_off3 i k) S1x1x512x128.size (k0_off3_inb i k)).toLoadRect X7
      = kBlk (arg7.view.read (Elt F) X7) k.val := by
    rw [View.readAt_unit _ _ _ (k0_off3_eq i k) (kblk_inb _ hk), kBlk, dif_pos hk]
  have eV : View.readAt (Elt F) arg8.view (Rect.unit (s := S1x1x96x28672) (k0_off4 i k) S1x1x96x512.size (k0_off4_inb i k)).toLoadRect X8
      = vBlk (arg8.view.read (Elt F) X8) k.val := by
    rw [View.readAt_unit _ _ _ (k0_off4_eq i k) (vblk_inb _ hk), vBlk, dif_pos hk]
  unfold k0_t2_body
  iintro ⟨H7, H8, H16, ⟨%f17, H17, %e17⟩, ⟨%f18, H18, %e18⟩, ⟨%f19, H19, %e19⟩, ⟨%f20, H20, %e20⟩⟩
  sl_exec
  sl_step
  isplitl [H7]; · iexact H7
  isplitl [H8]; · iexact H8
  isplitl [H16]; · iexact H16
  isplitl [H17]
  · iexists _; isplitl; · iexact H17
    ipureintro
    sl_unfold_words
    rw [View.read_writes_full]
    simp only [eK, eV]; rw [ld_S128x512, ld_S96x512, e17]; rfl
  isplitl [H18]
  · iexists _; isplitl; · iexact H18
    ipureintro
    rw [View.read_writes_full]
    rw [ld_S128x512, ld_S8x512, e18]; rfl
  isplitl [H19]
  · iexists _; isplitl; · iexact H19
    ipureintro
    rw [View.read_writes_full]
    rw [ld_S128x512, ld_S8x512, e19]; rfl
  · iexists _; isplitl; · iexact H20
    ipureintro
    rw [View.read_writes_full]
    rw [ld_S128x512, ld_S8x512, e20]; rfl

/-- The buffers the loop over the passes works on, reading what `T` carries. -/
abbrev tileInv (X7 : BufTy.Contents (Elt F) arg7.view.ty) (X8 : BufTy.Contents (Elt F) arg8.view.ty) (T : Tile F) : sProp 𝕄 :=
  iprop(pt c arg7 X7 ∗ pt c arg8 X8 ∗ held c arg16 T.qa ∗ held c arg17 T.s.acc ∗ held c arg18 T.s.l ∗ held c arg19 T.s.hi ∗ held c arg20 T.s.lo ∗ held c arg21 T.m)

/-- One trip of the loop over the passes. -/
theorem trip1 (X7 : BufTy.Contents (Elt F) arg7.view.ty) (X8 : BufTy.Contents (Elt F) arg8.view.ty) (arg1 arg2 v2 : BitVec 32)
    (v20 : IVec S1x512 1) (v115 : FVec F S1x512 .f32) (v125 : IVec S32x512 1) (v127 : FVec F S1x512 .f32) (v142 : FVec F S32x512 .f32)
    (r : Fin k0_t1_loop.trips) (T : Tile F) (g : BitVec 32) :
    iprop(⌜g = T.flag⌝ ∗ tileInv c arg7 arg8 arg16 arg17 arg18 arg19 arg20 arg21 X7 X8 T)
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 arg2 v2 v20 v115 v125 v127 v142 r g)
          (fun flag => iprop(⌜flag = (T.trip (arg7.view.read (Elt F) X7) (arg8.view.read (Elt F) X8) (i 2).val r.val).flag⌝ ∗
            tileInv c arg7 arg8 arg16 arg17 arg18 arg19 arg20 arg21 X7 X8 (T.trip (arg7.view.read (Elt F) X7) (arg8.view.read (Elt F) X8) (i 2).val r.val))) := by
  have hi : (i 2).val < 56 := (i 2).isLt
  have eK : View.readAt (Elt F) arg7.view (Rect.unit (s := S1x1x28672x128) (k0_off7 i) S1x1x512x128.size (k0_off7_inb i)).toLoadRect X7
      = kBlk (arg7.view.read (Elt F) X7) (i 2).val := by
    rw [View.readAt_unit _ _ _ (k0_off7_eq i) (kblk_inb _ hi), kBlk, dif_pos hi]
  have eV : View.readAt (Elt F) arg8.view (Rect.unit (s := S1x1x96x28672) (k0_off8 i) S1x1x96x512.size (k0_off8_inb i)).toLoadRect X8
      = vBlk (arg8.view.read (Elt F) X8) (i 2).val := by
    rw [View.readAt_unit _ _ _ (k0_off8_eq i) (vblk_inb _ hi), vBlk, dif_pos hi]
  rcases T with ⟨qa, m, s, flag⟩
  by_cases hf : Scalar.cmpi .ne (Scalar.extui (Scalar.cmpi .ne flag 0#32) : BitVec 32) 0#32 = 1#1
  · unfold k0_t1_body
    iintro ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
    subst hg
    sl_exec
    sl_for (fun k _ => passInv c arg7 arg8 arg16 arg17 arg18 arg19 arg20 X7 X8 f16 (Pass.steps (arg7.view.read (Elt F) X7) (arg8.view.read (Elt F) X8) qa k)) $$ [H7 H8 H16 H17 H18 H19 H20]
    case region =>
      intro k _
      exact step2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X8 f16 arg2 v2 k _ qa e16
    · isplitl [H7]; · iexact H7
      isplitl [H8]; · iexact H8
      isplitl [H16]; · iexact H16
      isplitl [H17]
      · iexists _; isplitl; · iexact H17
        ipureintro; sl_unfold_words; rw [View.read_writes_full]; rfl
      isplitl [H18]
      · iexists _; isplitl; · iexact H18
        ipureintro; sl_unfold_words; rw [View.read_writes_full]; rfl
      isplitl [H19]
      · iexists _; isplitl; · iexact H19
        ipureintro; sl_unfold_words; rw [View.read_writes_full]; rfl
      · iexists _; isplitl; · iexact H20
        ipureintro; sl_unfold_words; rw [View.read_writes_full]; rfl
    iintro %acc ⟨H7, H8, H16, ⟨%g17, H17, %d17⟩, ⟨%g18, H18, %d18⟩, ⟨%g19, H19, %d19⟩, ⟨%g20, H20, %d20⟩⟩
    have e16' : arg16.view.read (Elt F) f16 = qa := e16
    have e21' : arg21.view.read (Elt F) f21 = m := e21
    have p17 := d17.trans (congrArg (fun n => (Pass.steps (arg7.view.read (Elt F) X7) (arg8.view.read (Elt F) X8) qa n).acc) (trips2 i))
    have p18 := d18.trans (congrArg (fun n => (Pass.steps (arg7.view.read (Elt F) X7) (arg8.view.read (Elt F) X8) qa n).l) (trips2 i))
    have p19 := d19.trans (congrArg (fun n => (Pass.steps (arg7.view.read (Elt F) X7) (arg8.view.read (Elt F) X8) qa n).hi) (trips2 i))
    have p20 := d20.trans (congrArg (fun n => (Pass.steps (arg7.view.read (Elt F) X7) (arg8.view.read (Elt F) X8) qa n).lo) (trips2 i))
    clear d17 d18 d19 d20 e16 e21
    sl_exec
    sl_step
    sl_unfold_words
    have eHi : arg19.view.readCov [⟨Rect.unit (s := S8x512) ![0, 0] S8x512.size inb_S8x512_S8x512_0_0,
          k0_pay29 (k0_pay25 (kBlk (arg7.view.read (Elt F) X7) (i 2).val) (arg16.view.readAt (Elt F) (Rect.unit (s := S128x512) ![0, 0] S128x512.size inb_S128x512_S128x512_0_0).toLoadRect f16))
            k0_pay26 k0_pay27 (arg19.view.readAt (Elt F) (Rect.unit (s := S8x512) ![0, 0] S8x512.size inb_S8x512_S8x512_0_0).toLoadRect g19)⟩]
          (Rect.unit (s := S8x512) ![0, 0] S8x512.size inb_S8x512_S8x512_0_0).toLoadRect
        = (Pass.whole (arg7.view.read (Elt F) X7) (arg8.view.read (Elt F) X8) (i 2).val qa).hi := by
      rw [View.readCov_full, ld_S128x512, ld_S8x512, e16', p19]; rfl
    rw [eHi]
    have e := Tile.trip_of (arg7.view.read (Elt F) X7) (arg8.view.read (Elt F) X8) (i 2).val r.val (⟨qa, m, s, g⟩ : Tile F) hf
    rw [e]
    by_cases hc : Scalar.cmpi .ne (Scalar.extui (againWord (Pass.whole (arg7.view.read (Elt F) X7) (arg8.view.read (Elt F) X8) (i 2).val qa).hi r.val) : BitVec 32) 0#32 = 1#1
    · have e' := Tile.redo_of (arg7.view.read (Elt F) X7) (arg8.view.read (Elt F) X8) (i 2).val r.val (⟨qa, m, s, g⟩ : Tile F) hc
      have hc' := hc
      unfold againWord at hc'
      rw [dif_pos hc', dif_pos hc', e']
      isplitl []
      · ipureintro; rfl
      isplitl [H7]; · iexact H7
      isplitl [H8]; · iexact H8
      isplitl [H16]
      · iexists _; isplitl; · iexact H16
        ipureintro
        rw [View.read_writes_cons_put arg16.view f16 _ _ [] rfl, ld_S1x512, e21', View.writes_nil, e16']
      isplitl [H17]
      · iexists _; isplitl; · iexact H17
        ipureintro
        rw [View.read_writes_full]
        simp only [eK, eV]; rw [ld_S128x512, ld_S96x512, e16', p17]; rfl
      isplitl [H18]
      · iexists _; isplitl; · iexact H18
        ipureintro
        rw [View.read_writes_full, ld_S128x512, ld_S8x512, e16', p18]; rfl
      isplitl [H19]
      · iexists _; isplitl; · iexact H19
        ipureintro
        rw [View.read_writes_full, ld_S128x512, ld_S8x512, e16', p19]; rfl
      isplitl [H20]
      · iexists _; isplitl; · iexact H20
        ipureintro
        rw [View.read_writes_full, ld_S128x512, ld_S8x512, e16', p20]; rfl
      · iexists _; isplitl; · iexact H21
        ipureintro
        rw [View.read_writes_full, ld_S1x512, e21']
    · have e' := Tile.redo_of_not (arg7.view.read (Elt F) X7) (arg8.view.read (Elt F) X8) (i 2).val r.val (⟨qa, m, s, g⟩ : Tile F) hc
      have hc' := hc
      unfold againWord at hc'
      rw [dif_neg hc', dif_neg hc', e']
      isplitl []
      · ipureintro; rfl
      isplitl [H7]; · iexact H7
      isplitl [H8]; · iexact H8
      isplitl [H16]
      · iexists _; isplitl; · iexact H16
        ipureintro; exact e16'
      isplitl [H17]
      · iexists _; isplitl; · iexact H17
        ipureintro
        rw [View.read_writes_full]
        simp only [eK, eV]; rw [ld_S128x512, ld_S96x512, e16', p17]; rfl
      isplitl [H18]
      · iexists _; isplitl; · iexact H18
        ipureintro
        rw [View.read_writes_full, ld_S128x512, ld_S8x512, e16', p18]; rfl
      isplitl [H19]
      · iexists _; isplitl; · iexact H19
        ipureintro
        rw [View.read_writes_full, ld_S128x512, ld_S8x512, e16', p19]; rfl
      isplitl [H20]
      · iexists _; isplitl; · iexact H20
        ipureintro
        rw [View.read_writes_full, ld_S128x512, ld_S8x512, e16', p20]; rfl
      · iexists _; isplitl; · iexact H21
        ipureintro; exact e21'
  · unfold k0_t1_body
    iintro ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
    subst hg
    sl_exec
    sl_step
    have e := Tile.trip_of_not (arg7.view.read (Elt F) X7) (arg8.view.read (Elt F) X8) (i 2).val r.val (⟨qa, m, s, g⟩ : Tile F) hf
    rw [e]
    isplitl []
    · ipureintro; rfl
    isplitl [H7]; · iexact H7
    isplitl [H8]; · iexact H8
    isplitl [H16]
    · iexists _; isplitl; · iexact H16
      ipureintro; exact e16
    isplitl [H17]
    · iexists _; isplitl; · iexact H17
      ipureintro; exact e17
    isplitl [H18]
    · iexists _; isplitl; · iexact H18
      ipureintro; exact e18
    isplitl [H19]
    · iexists _; isplitl; · iexact H19
      ipureintro; exact e19
    isplitl [H20]
    · iexists _; isplitl; · iexact H20
      ipureintro; exact e20
    · iexists _; isplitl; · iexact H21
      ipureintro; exact e21

theorem trips1 : k0_t1_loop.trips = 2 := by decide

/-- The batch's length as the body reads it. -/
abbrev lenAt (X3 : BufTy.Contents (Elt F) arg3.view.ty) : BitVec 32 :=
  arg3.view.readAt (Elt F) (Rect.unit (s := S2) (k0_off1 i) S1.size (k0_off1_inb i)).toLoadRect X3 (Shape.Idx.first (s := S1) (by decide))

/-- The body at a point whose tile has a position before the batch's length. -/
theorem bodyLive (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty)
    (hdead : ¬ Scalar.cmpi .ne (Scalar.extui (Scalar.cmpi .sge (Scalar.muli (BitVec.ofNat 32 (i 2).val) 512#32) (lenAt i arg3 X3)) : BitVec 32) 0#32 = 1#1)
    (hlive : Scalar.cmpi .ne (Scalar.extui (Scalar.cmpi .slt (Scalar.muli (BitVec.ofNat 32 (i 2).val) 512#32) (lenAt i arg3 X3)) : BitVec 32) 0#32 = 1#1)
    (T : Tile F) (hT : T = Tile.final (arg7.view.read (Elt F) X7) (arg8.view.read (Elt F) X8) (i 2).val (Scalar.muli (BitVec.ofNat 32 (i 2).val) 512#32) (k0_pay35 (arg4.view.read (Elt F) X4) (arg5.view.read (Elt F) X5) (arg6.view.read (Elt F) X6))) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (k0_pay63 (k0_pay34 (F := F) (lenAt i arg3 X3) (Scalar.muli (BitVec.ofNat 32 (i 2).val) 512#32)) T.s.l T.s.acc)
            ∗ held c arg10 (k0_pay37 (lenAt i arg3 X3) (Scalar.muli (BitVec.ofNat 32 (i 2).val) 512#32) (arg4.view.read (Elt F) X4) (arg5.view.read (Elt F) X5) (arg6.view.read (Elt F) X6))
            ∗ held c arg11 (k0_pay60 (k0_pay34 (F := F) (lenAt i arg3 X3) (Scalar.muli (BitVec.ofNat 32 (i 2).val) 512#32)) T.m T.s.hi T.s.lo)
            ∗ held c arg12 (k0_pay65 (k0_pay34 (F := F) (lenAt i arg3 X3) (Scalar.muli (BitVec.ofNat 32 (i 2).val) 512#32)) T.s.l T.s.acc)
            ∗ held c arg13 (rowPut (entry i k0_pay1 (arg13.view.read (Elt F) X13)) (i 1).val
                (k0_pay41 (k0_pay38 (rowOf (entry i k0_pay1 (arg13.view.read (Elt F) X13)) (i 1).val))
                  (k0_pay39 (lenAt i arg3 X3) (Scalar.muli (BitVec.ofNat 32 (i 2).val) 512#32) (arg4.view.read (Elt F) X4) (arg5.view.read (Elt F) X5) (arg6.view.read (Elt F) X6)) (k0_pay40 (lenAt i arg3 X3) (Scalar.muli (BitVec.ofNat 32 (i 2).val) 512#32) (arg4.view.read (Elt F) X4) (arg5.view.read (Elt F) X5) (arg6.view.read (Elt F) X6))))
            ∗ held c arg14 (rowPut (entry i k0_pay2 (arg14.view.read (Elt F) X14)) (i 1).val
                (k0_pay61 (k0_pay59 (k0_pay34 (F := F) (lenAt i arg3 X3) (Scalar.muli (BitVec.ofNat 32 (i 2).val) 512#32)) T.m T.s.hi T.s.lo) (rowOf (entry i k0_pay2 (arg14.view.read (Elt F) X14)) (i 1).val)))
            ∗ held c arg15 (rowPut (entry i k0_pay3 (arg15.view.read (Elt F) X15)) (i 1).val
                (k0_pay8 (k0_pay66 (rowOf (entry i k0_pay3 (arg15.view.read (Elt F) X15)) (i 1).val)) (k0_pay67 (k0_pay34 (F := F) (lenAt i arg3 X3) (Scalar.muli (BitVec.ofNat 32 (i 2).val) 512#32)) T.s.l T.s.acc)))
            ∗ (∃ f, pt c arg16 f) ∗ (∃ f, pt c arg17 f) ∗ (∃ f, pt c arg18 f) ∗ (∃ f, pt c arg19 f) ∗ (∃ f, pt c arg20 f) ∗ (∃ f, pt c arg21 f))) := by
  have eK0 : View.readAt (Elt F) arg7.view (Rect.unit (s := S1x1x28672x128) ![0, 0, 0, 0] S1x1x512x128.size inb_S1x1x28672x128_S1x1x512x128_0_0_0_0).toLoadRect X7
      = kBlk (arg7.view.read (Elt F) X7) 0 := by
    rw [View.readAt_unit _ _ _ rfl (kblk_inb 0 (by omega)), kBlk, dif_pos (by omega)]
  have e13 : arg13.view.read (Elt F) (if hc : first i then
      arg13.view.writes (Elt F) X13 [⟨Rect.unit (s := S16x128) ![0, 0] S16x128.size inb_S16x128_S16x128_0_0, k0_pay1 (F := F)⟩] else X13) = entry i k0_pay1 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay2 (F := F)⟩] else X14) = entry i k0_pay2 (arg14.view.read (Elt F) X14) := by
    by_cases hc : first i
    · rw [dif_pos hc, View.read_writes_full, entry, if_pos hc]
    · rw [dif_neg hc, entry, if_neg hc]
  have e15 : arg15.view.read (Elt F) (if hc : first i then
      arg15.view.writes (Elt F) X15 [⟨Rect.unit (s := S16x128) ![0, 0] S16x128.size inb_S16x128_S16x128_0_0, k0_pay3 (F := F)⟩] else X15) = entry i k0_pay3 (arg15.view.read (Elt F) X15) := by
    by_cases hc : first i
    · rw [dif_pos hc, View.read_writes_full, entry, if_pos hc]
    · rw [dif_neg hc, entry, if_neg hc]
  iintro ⟨H3, H4, H5, H6, H7, H8, H9, H10, H11, H12, H13, H14, H15, H16, H17, H18, H19, H20, H21⟩
  sl_exec
  sl_for (fun k (g : BitVec 32) => iprop(⌜g = (Tile.after (arg7.view.read (Elt F) X7) (arg8.view.read (Elt F) X8) (i 2).val
      (Tile.start (kBlk (arg7.view.read (Elt F) X7) 0) (Scalar.muli (BitVec.ofNat 32 (i 2).val) 512#32)
        (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩) k).flag⌝ ∗
    tileInv c arg7 arg8 arg16 arg17 arg18 arg19 arg20 arg21 X7 X8 (Tile.after (arg7.view.read (Elt F) X7) (arg8.view.read (Elt F) X8) (i 2).val
      (Tile.start (kBlk (arg7.view.read (Elt F) X7) 0) (Scalar.muli (BitVec.ofNat 32 (i 2).val) 512#32)
        (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩) k))) $$ [H7 H8 H16 H17 H18 H19 H20 H21]
  case region =>
    intro k g
    exact trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X8 _ _ _ _ _ _ _ _ k _ g
  · isplitl []
    · ipureintro; rfl
    isplitl [H7]; · iexact H7
    isplitl [H8]; · iexact H8
    isplitl [H16]
    · iexists _; isplitl; · iexact H16
      ipureintro
      sl_unfold_words
      rw [wr_qa, cov_qa, ld_S1x1x96x512_b, ld_S1x48x512, ld_S1x48x512]
      try rw [eK0]
      rfl
    isplitl [H17]
    · iexists _; isplitl; · iexact H17
      ipureintro; rfl
    isplitl [H18]
    · iexists _; isplitl; · iexact H18
      ipureintro; rfl
    isplitl [H19]
    · iexists _; isplitl; · iexact H19
      ipureintro; rfl
    isplitl [H20]
    · iexists _; isplitl; · iexact H20
      ipureintro; rfl
    · iexists _; isplitl; · iexact H21
      ipureintro
      sl_unfold_words
      rw [View.read_writes_full, cov_qa, ld_S1x1x96x512_b, ld_S1x48x512, ld_S1x48x512]
      try rw [eK0]
      rw [Tile.after_zero_m]; unfold qaZero; rfl
  iintro %g ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
  have hT' := (congrArg (Tile.after (arg7.view.read (Elt F) X7) (arg8.view.read (Elt F) X8) (i 2).val
      (Tile.start (kBlk (arg7.view.read (Elt F) X7) 0) (Scalar.muli (BitVec.ofNat 32 (i 2).val) 512#32) (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩)) trips1).trans
    ((after_forget (arg7.view.read (Elt F) X7) (arg8.view.read (Elt F) X8) (i 2).val (kBlk (arg7.view.read (Elt F) X7) 0) (Scalar.muli (BitVec.ofNat 32 (i 2).val) 512#32) (k0_pay35 (arg4.view.read (Elt F) X4) (arg5.view.read (Elt F) X5) (arg6.view.read (Elt F) X6)) _ Pass.init 1).trans hT.symm)
  have p17 := e17.trans (congrArg (fun T : Tile F => T.s.acc) hT')
  have p18 := e18.trans (congrArg (fun T : Tile F => T.s.l) hT')
  have p19 := e19.trans (congrArg (fun T : Tile F => T.s.hi) hT')
  have p20 := e20.trans (congrArg (fun T : Tile F => T.s.lo) hT')
  have p21 := e21.trans (congrArg (fun T : Tile F => T.m) hT')
  clear e16 e17 e18 e19 e20 e21 hg
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl; · iexact H9
    ipureintro
    sl_unfold_words
    rw [View.read_writes_full, ld_S8x512, ld_S96x512, p17, p18]
    rfl
  isplitl [H10]
  · iexists _; isplitl; · iexact H10
    ipureintro
    sl_unfold_words
    rw [View.read_writes_full, ld_S1x1x96x512_b, ld_S1x48x512, ld_S1x48x512]
    rfl
  isplitl [H11]
  · iexists _; isplitl; · iexact H11
    ipureintro
    sl_unfold_words
    rw [View.read_writes_full, ld_S8x512, ld_S8x512, ld_S1x512, p19, p20, p21]
    rfl
  isplitl [H12]
  · iexists _; isplitl; · iexact H12
    ipureintro
    sl_unfold_words
    rw [View.read_writes_full, ld_S8x512, ld_S96x512, p17, p18]
    rfl
  isplitl [H13]
  · iexists _; isplitl; · iexact H13
    ipureintro
    refine st_row arg13.view _ i _ e13 _ _ ?_
    sl_unfold_words
    rw [ld_S1x1x96x512_b, ld_S1x48x512, ld_S1x48x512]
    exact congrArg (fun x => k0_pay41 (k0_pay38 x) _ _) (ld_row arg13.view _ i _ e13)
  isplitl [H14]
  · iexists _; isplitl; · iexact H14
    ipureintro
    refine st_row arg14.view _ i _ e14 _ _ ?_
    sl_unfold_words
    rw [ld_S8x512, ld_S8x512, ld_S1x512, p19, p20, p21]
    exact congrArg (fun x => k0_pay61 _ x) (ld_row arg14.view _ i _ e14)
  isplitl [H15]
  · iexists _; isplitl; · iexact H15
    ipureintro
    refine st_row arg15.view _ i _ e15 _ _ ?_
    sl_unfold_words
    rw [ld_S8x512, ld_S96x512, p17, p18]
    exact congrArg (fun x => k0_pay8 (k0_pay66 x) _) (ld_row arg15.view _ i _ e15)
  isplitl [H16]; · iexists _; iexact H16
  isplitl [H17]; · iexists _; iexact H17
  isplitl [H18]; · iexists _; iexact H18
  isplitl [H19]; · iexists _; iexact H19
  isplitl [H20]; · iexists _; iexact H20
  · iexists _; iexact H21

/-- The body at a point whose tile has no position before the batch's length. -/
theorem bodyDead (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty)
    (hdead : dead i (lenAt i arg3 X3))
    (hlive : ¬ Scalar.cmpi .ne (Scalar.extui (Scalar.cmpi .slt (Scalar.muli (BitVec.ofNat 32 (i 2).val) 512#32) (lenAt i arg3 X3)) : BitVec 32) 0#32 = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (k0_pay4 (F := F)) ∗ held c arg10 (k0_pay5 (F := F)) ∗ held c arg11 (k0_pay6 (F := F)) ∗ held c arg12 (k0_pay7 (F := F))
            ∗ held c arg13 (entry i k0_pay1 (arg13.view.read (Elt F) X13)) ∗ held c arg14 (entry i k0_pay2 (arg14.view.read (Elt F) X14)) ∗ held c arg15 (entry i k0_pay3 (arg15.view.read (Elt F) X15))
            ∗ (∃ f, pt c arg16 f) ∗ (∃ f, pt c arg17 f) ∗ (∃ f, pt c arg18 f) ∗ (∃ f, pt c arg19 f) ∗ (∃ f, pt c arg20 f) ∗ (∃ f, pt c arg21 f))) := by
  have e13 : arg13.view.read (Elt F) (if hc : first i then
      arg13.view.writes (Elt F) X13 [⟨Rect.unit (s := S16x128) ![0, 0] S16x128.size inb_S16x128_S16x128_0_0, k0_pay1 (F := F)⟩] else X13) = entry i k0_pay1 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay2 (F := F)⟩] else X14) = entry i k0_pay2 (arg14.view.read (Elt F) X14) := by
    by_cases hc : first i
    · rw [dif_pos hc, View.read_writes_full, entry, if_pos hc]
    · rw [dif_neg hc, entry, if_neg hc]
  have e15 : arg15.view.read (Elt F) (if hc : first i then
      arg15.view.writes (Elt F) X15 [⟨Rect.unit (s := S16x128) ![0, 0] S16x128.size inb_S16x128_S16x128_0_0, k0_pay3 (F := F)⟩] else X15) = entry i k0_pay3 (arg15.view.read (Elt F) X15) := by
    by_cases hc : first i
    · rw [dif_pos hc, View.read_writes_full, entry, if_pos hc]
    · rw [dif_neg hc, entry, if_neg hc]
  unfold dead at hdead
  iintro ⟨H3, H4, H5, H6, H7, H8, H9, H10, H11, H12, H13, H14, H15, H16, H17, H18, H19, H20, H21⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl; · iexact H9
    ipureintro
    sl_unfold_words
    rw [View.read_writes_full]
  isplitl [H10]
  · iexists _; isplitl; · iexact H10
    ipureintro
    sl_unfold_words
    rw [View.read_writes_full]
  isplitl [H11]
  · iexists _; isplitl; · iexact H11
    ipureintro
    sl_unfold_words
    rw [View.read_writes_full]
  isplitl [H12]
  · iexists _; isplitl; · iexact H12
    ipureintro
    sl_unfold_words
    rw [View.read_writes_full]
  isplitl [H13]
  · iexists _; isplitl; · iexact H13
    ipureintro
    exact e13
  isplitl [H14]
  · iexists _; isplitl; · iexact H14
    ipureintro
    exact e14
  isplitl [H15]
  · iexists _; isplitl; · iexact H15
    ipureintro
    exact e15
  isplitl [H16]; · iexists _; iexact H16
  isplitl [H17]; · iexists _; iexact H17
  isplitl [H18]; · iexists _; iexact H18
  isplitl [H19]; · iexists _; iexact H19
  isplitl [H20]; · iexists _; iexact H20
  · iexists _; iexact H21

/-- The body at any point. -/
theorem bodyPoint (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (outO i (lenAt i arg3 X3) (arg4.view.read (Elt F) X4) (arg5.view.read (Elt F) X5) (arg6.view.read (Elt F) X6) (arg7.view.read (Elt F) X7) (arg8.view.read (Elt F) X8)) ∗ held c arg10 (outQ i (lenAt i arg3 X3) (arg4.view.read (Elt F) X4) (arg5.view.read (Elt F) X5) (arg6.view.read (Elt F) X6)) ∗ held c arg11 (outS i (lenAt i arg3 X3) (arg4.view.read (Elt F) X4) (arg5.view.read (Elt F) X5) (arg6.view.read (Elt F) X6) (arg7.view.read (Elt F) X7) (arg8.view.read (Elt F) X8)) ∗ held c arg12 (outR i (lenAt i arg3 X3) (arg4.view.read (Elt F) X4) (arg5.view.read (Elt F) X5) (arg6.view.read (Elt F) X6) (arg7.view.read (Elt F) X7) (arg8.view.read (Elt F) X8))
            ∗ held c arg13 (statQ i (lenAt i arg3 X3) (arg4.view.read (Elt F) X4) (arg5.view.read (Elt F) X5) (arg6.view.read (Elt F) X6) (arg13.view.read (Elt F) X13)) ∗ held c arg14 (statS i (lenAt i arg3 X3) (arg4.view.read (Elt F) X4) (arg5.view.read (Elt F) X5) (arg6.view.read (Elt F) X6) (arg7.view.read (Elt F) X7) (arg8.view.read (Elt F) X8) (arg14.view.read (Elt F) X14))
            ∗ held c arg15 (statO i (lenAt i arg3 X3) (arg4.view.read (Elt F) X4) (arg5.view.read (Elt F) X5) (arg6.view.read (Elt F) X6) (arg7.view.read (Elt F) X7) (arg8.view.read (Elt F) X8) (arg15.view.read (Elt F) X15))
            ∗ (∃ f, pt c arg16 f) ∗ (∃ f, pt c arg17 f) ∗ (∃ f, pt c arg18 f) ∗ (∃ f, pt c arg19 f) ∗ (∃ f, pt c arg20 f) ∗ (∃ f, pt c arg21 f))) := by
  by_cases h : dead i (lenAt i arg3 X3)
  · unfold outO outQ outS outR statQ statS statO
    rw [if_pos h, if_pos h, if_pos h, if_pos h, if_pos h, if_pos h, if_pos h]
    exact bodyDead c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X4 X5 X6 X7 X8 X9 X10 X11 X12 X13 X14 X15 X16 X17 X18 X19 X20 X21 h (not_live_of_dead i _ h)
  · unfold outO outQ outS outR statQ statS statO
    rw [if_neg h, if_neg h, if_neg h, if_neg h, if_neg h, if_neg h, if_neg h]
    exact bodyLive c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X4 X5 X6 X7 X8 X9 X10 X11 X12 X13 X14 X15 X16 X17 X18 X19 X20 X21 h (live_of_not_dead i _ h) _ rfl

end Args

end Cert.Kernel.Hand

end
-- ==== Proof.KernelFrame.lean ====
/-
  Hand-written. The attention call's pipeline: what each point leaves in the staging buffers, the body obligation, the run and the frame.
-/
module

public import proofs.«01_k».proof.Proof.KernelBody
public import proofs.«01_k».proof.Proof.Gen.Kernel.Frame
public import Idealize.ShloMosaic.Lib.Claim

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The batch's length, off the block of lengths. -/
def lenOf (i : grid0.Coords) (x : Vec F S2 .i32) : BitVec 32 :=
  View.ld x (Rect.unit (s := S2) (k0_off1 i) S1.size (k0_off1_inb i)) (Shape.Idx.first (s := S1) (by decide))

/-- The body at a grid point, on memrefs whose contents are named by what they read. -/
theorem bodyOwns (c : Dev nD) (i : grid0.Coords) (arg3 : Memref sig .tc .smem S2 .i32) (harg3 : arg3.IsWhole)
  (arg4 : Memref sig .tc .vmem S1x1x96x512 .bf16) (harg4 : arg4.IsWhole)
  (arg5 : Memref sig .tc .vmem S1x48x512 .f32) (harg5 : arg5.IsWhole)
  (arg6 : Memref sig .tc .vmem S1x48x512 .f32) (harg6 : arg6.IsWhole)
  (arg7 : Memref sig .tc .vmem S1x1x28672x128 .bf16) (harg7 : arg7.IsWhole)
  (arg8 : Memref sig .tc .vmem S1x1x96x28672 .bf16) (harg8 : arg8.IsWhole)
  (arg9 : Memref sig .tc .vmem S1x1x96x512 .f32) (harg9 : arg9.IsWhole)
  (arg10 : Memref sig .tc .vmem S1x1x1x512 .f32) (harg10 : arg10.IsWhole)
  (arg11 : Memref sig .tc .vmem S1x1x1x512 .f32) (harg11 : arg11.IsWhole)
  (arg12 : Memref sig .tc .vmem S1x1x1x512 .f32) (harg12 : arg12.IsWhole)
  (arg13 : Memref sig .tc .vmem S16x128 .f32) (harg13 : arg13.IsWhole)
  (arg14 : Memref sig .tc .vmem S16x128 .f32) (harg14 : arg14.IsWhole)
  (arg15 : Memref sig .tc .vmem S16x128 .f32) (harg15 : arg15.IsWhole)
  (arg16 : Memref sig .tc .vmem S128x512 .bf16) (harg16 : arg16.IsWhole)
  (arg17 : Memref sig .tc .vmem S96x512 .f32) (harg17 : arg17.IsWhole)
  (arg18 : Memref sig .tc .vmem S8x512 .f32) (harg18 : arg18.IsWhole)
  (arg19 : Memref sig .tc .vmem S8x512 .f32) (harg19 : arg19.IsWhole)
  (arg20 : Memref sig .tc .vmem S8x512 .f32) (harg20 : arg20.IsWhole)
  (arg21 : Memref sig .tc .vmem S1x512 .f32) (harg21 : arg21.IsWhole)
    (x3 : Vec F S2 .i32) (x4 : Vec F S1x1x96x512 .bf16) (x5 : Vec F S1x48x512 .f32) (x6 : Vec F S1x48x512 .f32) (x7 : Vec F S1x1x28672x128 .bf16) (x8 : Vec F S1x1x96x28672 .bf16) (x13 : Vec F S16x128 .f32) (x14 : Vec F S16x128 .f32) (x15 : Vec F S16x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ owns (c : Thread nD τ) arg15 fullShare x15 ∗ (∃ f, pt c arg16 f) ∗ (∃ f, pt c arg17 f) ∗ (∃ f, pt c arg18 f) ∗ (∃ f, pt c arg19 f) ∗ (∃ f, pt c arg20 f) ∗ (∃ f, pt c arg21 f)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outO i (lenOf i x3) x4 x5 x6 x7 x8) ∗ owns (c : Thread nD τ) arg10 fullShare (outQ i (lenOf i x3) x4 x5 x6) ∗ owns (c : Thread nD τ) arg11 fullShare (outS i (lenOf i x3) x4 x5 x6 x7 x8) ∗ owns (c : Thread nD τ) arg12 fullShare (outR i (lenOf i x3) x4 x5 x6 x7 x8) ∗ owns (c : Thread nD τ) arg13 fullShare (statQ i (lenOf i x3) x4 x5 x6 x13) ∗ owns (c : Thread nD τ) arg14 fullShare (statS i (lenOf i x3) x4 x5 x6 x7 x8 x14) ∗ owns (c : Thread nD τ) arg15 fullShare (statO i (lenOf i x3) x4 x5 x6 x7 x8 x15) ∗ (∃ f, pt c arg16 f) ∗ (∃ f, pt c arg17 f) ∗ (∃ f, pt c arg18 f) ∗ (∃ f, pt c arg19 f) ∗ (∃ f, pt c arg20 f) ∗ (∃ f, pt c arg21 f)) -∗ K ⟨⟩))
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, H16⟩, ⟨%f17, H17⟩, ⟨%f18, H18⟩, ⟨%f19, H19⟩, ⟨%f20, H20⟩, ⟨%f21, H21⟩, Hk⟩
  subst hf3 hf4 hf5 hf6 hf7 hf8 hf13 hf14 hf15
  iapply (wp_wand_r frame (wpE (defs₀ (F := F)) Variants.none (c : Thread nD τ) none) Set.univ)
  isplitl [H3 H4 H5 H6 H7 H8 H9 H10 H11 H12 H13 H14 H15 H16 H17 H18 H19 H20 H21]
  · iapply (bodyPoint c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 f4 f5 f6 f7 f8 f9 f10 f11 f12 f13 f14 f15 f16 f17 f18 f19 f20 f21)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro %a ⟨H3, H4, H5, H6, H7, H8, ⟨%g9, H9, %hg9⟩, ⟨%g10, H10, %hg10⟩, ⟨%g11, H11, %hg11⟩, ⟨%g12, H12, %hg12⟩, ⟨%g13, H13, %hg13⟩, ⟨%g14, H14, %hg14⟩, ⟨%g15, H15, %hg15⟩, H16, H17, H18, H19, H20, H21⟩
    iapply Hk
    isplitl [H3]; · iexists f3; isplitr; (ipureintro; rfl); iexact H3
    isplitl [H4]; · iexists f4; isplitr; (ipureintro; rfl); iexact H4
    isplitl [H5]; · iexists f5; isplitr; (ipureintro; rfl); iexact H5
    isplitl [H6]; · iexists f6; isplitr; (ipureintro; rfl); iexact H6
    isplitl [H7]; · iexists f7; isplitr; (ipureintro; rfl); iexact H7
    isplitl [H8]; · iexists f8; isplitr; (ipureintro; rfl); iexact H8
    isplitl [H9]; · iexists g9; isplitr; (ipureintro; exact hg9); iexact H9
    isplitl [H10]; · iexists g10; isplitr; (ipureintro; exact hg10); iexact H10
    isplitl [H11]; · iexists g11; isplitr; (ipureintro; exact hg11); iexact H11
    isplitl [H12]; · iexists g12; isplitr; (ipureintro; exact hg12); iexact H12
    isplitl [H13]; · iexists g13; isplitr; (ipureintro; exact hg13); iexact H13
    isplitl [H14]; · iexists g14; isplitr; (ipureintro; exact hg14); iexact H14
    isplitl [H15]; · iexists g15; isplitr; (ipureintro; exact hg15); iexact H15
    isplitl [H16]; · iexact H16
    isplitl [H17]; · iexact H17
    isplitl [H18]; · iexact H18
    isplitl [H19]; · iexact H19
    isplitl [H20]; · iexact H20
    iexact H21

variable (m : (ℓ : Loc nD τ sig) → Buf (Elt F) ℓ) (ρ : Dev nD → PrngReg)

/-! ## What the points leave -/

abbrev lensAt (c : Dev nD) (t : Fin cfg0.N) : BitVec 32 := lenOf (F := F) (grid0.coords t) (iblk m c 0 t)

/-- A table of maxima over the points before point `n`, by what one point does to it. -/
def chain (f : Fin cfg0.N → Vec F S16x128 .f32 → Vec F S16x128 .f32) (z : Vec F S16x128 .f32) : ℕ → Vec F S16x128 .f32
  | 0 => z
  | n + 1 => if h : n < cfg0.N then f ⟨n, h⟩ (chain f z n) else chain f z n

def stepQ (c : Dev nD) (t : Fin cfg0.N) (x : Vec F S16x128 .f32) : Vec F S16x128 .f32 :=
  statQ (grid0.coords t) (lensAt m c t) (iblk m c 1 t) (iblk m c 2 t) (iblk m c 3 t) x
def stepS (c : Dev nD) (t : Fin cfg0.N) (x : Vec F S16x128 .f32) : Vec F S16x128 .f32 :=
  statS (grid0.coords t) (lensAt m c t) (iblk m c 1 t) (iblk m c 2 t) (iblk m c 3 t) (iblk m c 4 t) (iblk m c 5 t) x
def stepO (c : Dev nD) (t : Fin cfg0.N) (x : Vec F S16x128 .f32) : Vec F S16x128 .f32 :=
  statO (grid0.coords t) (lensAt m c t) (iblk m c 1 t) (iblk m c 2 t) (iblk m c 3 t) (iblk m c 4 t) (iblk m c 5 t) x

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outO (grid0.coords t) (lensAt m c t) (iblk m c 1 t) (iblk m c 2 t) (iblk m c 3 t) (iblk m c 4 t) (iblk m c 5 t)
    | ⟨7, _⟩ => outQ (grid0.coords t) (lensAt m c t) (iblk m c 1 t) (iblk m c 2 t) (iblk m c 3 t)
    | ⟨8, _⟩ => outS (grid0.coords t) (lensAt m c t) (iblk m c 1 t) (iblk m c 2 t) (iblk m c 3 t) (iblk m c 4 t) (iblk m c 5 t)
    | ⟨9, _⟩ => outR (grid0.coords t) (lensAt m c t) (iblk m c 1 t) (iblk m c 2 t) (iblk m c 3 t) (iblk m c 4 t) (iblk m c 5 t)
    | ⟨10, _⟩ => chain (stepQ m c) k0_pay1 (t.val + 1)
    | ⟨11, _⟩ => chain (stepS m c) k0_pay2 (t.val + 1)
    | ⟨12, _⟩ => chain (stepO m c) k0_pay3 (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outO (grid0.coords t) (lensAt m c t) (iblk m c 1 t) (iblk m c 2 t) (iblk m c 3 t) (iblk m c 4 t) (iblk m c 5 t) := by dsimp only [dats]
theorem after0_7 (c : Dev nD) (t : Fin cfg0.N) : (dats m 0 c).after 7 t = outQ (grid0.coords t) (lensAt m c t) (iblk m c 1 t) (iblk m c 2 t) (iblk m c 3 t) := by dsimp only [dats]
theorem after0_8 (c : Dev nD) (t : Fin cfg0.N) : (dats m 0 c).after 8 t = outS (grid0.coords t) (lensAt m c t) (iblk m c 1 t) (iblk m c 2 t) (iblk m c 3 t) (iblk m c 4 t) (iblk m c 5 t) := by dsimp only [dats]
theorem after0_9 (c : Dev nD) (t : Fin cfg0.N) : (dats m 0 c).after 9 t = outR (grid0.coords t) (lensAt m c t) (iblk m c 1 t) (iblk m c 2 t) (iblk m c 3 t) (iblk m c 4 t) (iblk m c 5 t) := by dsimp only [dats]
theorem after0_10 (c : Dev nD) (t : Fin cfg0.N) : (dats m 0 c).after 10 t = chain (stepQ m c) k0_pay1 (t.val + 1) := by dsimp only [dats]
theorem after0_11 (c : Dev nD) (t : Fin cfg0.N) : (dats m 0 c).after 11 t = chain (stepS m c) k0_pay2 (t.val + 1) := by dsimp only [dats]
theorem after0_12 (c : Dev nD) (t : Fin cfg0.N) : (dats m 0 c).after 12 t = chain (stepO m c) k0_pay3 (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem first_zero (t : Fin cfg0.N) (h : t.val = 0) : first (grid0.coords t) := by
  obtain rfl : t = ⟨0, by decide⟩ := Fin.ext h
  decide +kernel

theorem chain_step (f : Fin cfg0.N → Vec F S16x128 .f32 → Vec F S16x128 .f32) (z : Vec F S16x128 .f32) (t : Fin cfg0.N) :
    chain f z (t.val + 1) = f t (chain f z t.val) := by
  rw [chain, dif_pos t.isLt]

theorem statb10 (c : Dev nD) (t : Fin cfg0.N) (d) : stepQ m c t ((dats m 0 c).before 10 t d) = chain (stepQ m c) k0_pay1 (t.val + 1) := by
  rw [chain_step]
  by_cases h : t.val = 0
  · have e := first_zero t h
    unfold stepQ statQ entry
    simp only [if_pos e]
  · have hl := t.isLt
    have hN : cfg0.N = 1344 := N_0
    rw [(dats m 0 c).before_out_kept 10 rfl t h (by
      rw [← Bool.not_eq_true, flush0_10]; simp only; omega) (fun _ => rfl) (fun _ _ => rfl) d, after0_10]
    simp only [show t.val - 1 + 1 = t.val by omega]
theorem statb11 (c : Dev nD) (t : Fin cfg0.N) (d) : stepS m c t ((dats m 0 c).before 11 t d) = chain (stepS m c) k0_pay2 (t.val + 1) := by
  rw [chain_step]
  by_cases h : t.val = 0
  · have e := first_zero t h
    unfold stepS statS entry
    simp only [if_pos e]
  · have hl := t.isLt
    have hN : cfg0.N = 1344 := N_0
    rw [(dats m 0 c).before_out_kept 11 rfl t h (by
      rw [← Bool.not_eq_true, flush0_11]; simp only; omega) (fun _ => rfl) (fun _ _ => rfl) d, after0_11]
    simp only [show t.val - 1 + 1 = t.val by omega]
theorem statb12 (c : Dev nD) (t : Fin cfg0.N) (d) : stepO m c t ((dats m 0 c).before 12 t d) = chain (stepO m c) k0_pay3 (t.val + 1) := by
  rw [chain_step]
  by_cases h : t.val = 0
  · have e := first_zero t h
    unfold stepO statO entry
    simp only [if_pos e]
  · have hl := t.isLt
    have hN : cfg0.N = 1344 := N_0
    rw [(dats m 0 c).before_out_kept 12 rfl t h (by
      rw [← Bool.not_eq_true, flush0_12]; simp only; omega) (fun _ => rfl) (fun _ _ => rfl) d, after0_12]
    simp only [show t.val - 1 + 1 = t.val by omega]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem pt_whole (c : Dev nD) (b : Ref sig .tc) (f : b.ty.Contents (Elt F)) :
    (pt c (Memref.whole b) f : sProp 𝕄) = ((c : Thread nD τ).loc b ↦{fullShare} f) := by
  unfold pt; simp only [View.set_whole, Memref.view_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12]
  unfold Pipeline.ΦA
  rw [scopedRest0_eq]
  iintro ⟨⟨⟨Z0, Z1, Z2, Z3, Z4, Z5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← statb10 m c t d10, ← statb11 m c t d11, ← statb12 m c t d12]
  unfold stepQ stepS stepO
  iapply (bodyOwns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 10 t d10) ((dats m 0 c).before 11 t d11) ((dats m 0 c).before 12 t d12) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [Z0]; · icases Z0 with ⟨%z0, Z0⟩; iexists z0; rw [pt_whole]; iexact Z0
  isplitl [Z1]; · icases Z1 with ⟨%z1, Z1⟩; iexists z1; rw [pt_whole]; iexact Z1
  isplitl [Z2]; · icases Z2 with ⟨%z2, Z2⟩; iexists z2; rw [pt_whole]; iexact Z2
  isplitl [Z3]; · icases Z3 with ⟨%z3, Z3⟩; iexists z3; rw [pt_whole]; iexact Z3
  isplitl [Z4]; · icases Z4 with ⟨%z4, Z4⟩; iexists z4; rw [pt_whole]; iexact Z4
  isplitl [Z5]; · icases Z5 with ⟨%z5, Z5⟩; iexists z5; rw [pt_whole]; iexact Z5
  iintro ⟨H0, H1, H2, H3, H4, H5, H6, H7, H8, H9, H10, H11, H12, ⟨%z0, Z0⟩, ⟨%z1, Z1⟩, ⟨%z2, Z2⟩, ⟨%z3, Z3⟩, ⟨%z4, Z4⟩, ⟨%z5, Z5⟩⟩
  isplitl [Hg Z0 Z1 Z2 Z3 Z4 Z5]
  · isplitl [Z0 Z1 Z2 Z3 Z4 Z5]
    · isplitl [Z0]; · iexists z0; rw [← pt_whole]; iexact Z0
      isplitl [Z1]; · iexists z1; rw [← pt_whole]; iexact Z1
      isplitl [Z2]; · iexists z2; rw [← pt_whole]; iexact Z2
      isplitl [Z3]; · iexists z3; rw [← pt_whole]; iexact Z3
      isplitl [Z4]; · iexists z4; rw [← pt_whole]; iexact Z4
      iexists z5; rw [← pt_whole]; iexact Z5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one
set_option backward.isDefEq.respectTransparency.types false in
/-- From any memory with zero counters every execution terminates, with every array of the pipeline at what the points leave in it,
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdealFun.lean ====
/-
  Hand-written. What one grid point of the attention call computes, as pure functions of the blocks it reads: the state a pass
  over the keys carries (accumulator, denominator, running maximum and minimum), one step of a pass, a whole pass.
-/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F] [Named F]

/-- What a pass over the keys carries: the weighted values, the weights' sum, the running maximum and minimum of the shifted
    scores (the last three folded to eight rows). -/
structure Pass (F : FTy → Type) where
  acc : Vec F S96x512 .f32
  l : Vec F S8x512 .f32
  hi : Vec F S8x512 .f32
  lo : Vec F S8x512 .f32

theorem kblk_inb (n : ℕ) (h : n < 56) : ∀ a, (![0, 0, 512 * n, 0] : Fin 4 → ℕ) a + S1x1x512x128.size a ≤ S1x1x28672x128.size a := by
  intro a; fin_cases a <;> simp [S1x1x512x128, S1x1x28672x128]; omega

theorem vblk_inb (n : ℕ) (h : n < 56) : ∀ a, (![0, 0, 0, 512 * n] : Fin 4 → ℕ) a + S1x1x96x512.size a ≤ S1x1x96x28672.size a := by
  intro a; fin_cases a <;> simp [S1x1x96x512, S1x1x96x28672]; omega

/-- Block `n` of the keys (rows `512 n` to `512 n + 511`), block 0 for an `n` out of range. -/
def kBlk (k : Vec F S1x1x28672x128 .bf16) (n : ℕ) : Vec F S1x1x512x128 .bf16 :=
  if h : n < 56 then VecWindow.window k ![0, 0, 512 * n, 0] S1x1x512x128.size (kblk_inb n h)
  else VecWindow.window k ![0, 0, 512 * 0, 0] S1x1x512x128.size (kblk_inb 0 (by omega))

/-- Block `n` of the values (columns `512 n` to `512 n + 511`), block 0 for an `n` out of range. -/
def vBlk (v : Vec F S1x1x96x28672 .bf16) (n : ℕ) : Vec F S1x1x96x512 .bf16 :=
  if h : n < 56 then VecWindow.window v ![0, 0, 0, 512 * n] S1x1x96x512.size (vblk_inb n h)
  else VecWindow.window v ![0, 0, 0, 512 * 0] S1x1x96x512.size (vblk_inb 0 (by omega))

/-- The pass before its first step. -/
def Pass.init : Pass F := ⟨k0_pay19, k0_pay20, k0_pay21, k0_pay22⟩

/-- One step over a key block every query of the tile sees whole. -/
def Pass.step (kb : Vec F S1x1x512x128 .bf16) (vb : Vec F S1x1x96x512 .bf16) (qa : Vec F S128x512 .bf16) (s : Pass F) : Pass F :=
  ⟨k0_pay23 (k0_pay12 kb qa) s.acc vb, k0_pay13 kb qa s.l, k0_pay10 kb qa s.hi, k0_pay11 kb qa s.lo⟩

/-- The steps over key blocks `0 … n - 1`. -/
def Pass.steps (k : Vec F S1x1x28672x128 .bf16) (v : Vec F S1x1x96x28672 .bf16) (qa : Vec F S128x512 .bf16) : ℕ → Pass F
  | 0 => Pass.init
  | n + 1 => Pass.step (kBlk k n) (vBlk v n) qa (Pass.steps k v qa n)

/-- The last step, over the tile's own key block, under the causal mask. -/
def Pass.diag (kb : Vec F S1x1x512x128 .bf16) (vb : Vec F S1x1x96x512 .bf16) (qa : Vec F S128x512 .bf16) (s : Pass F) : Pass F :=
  ⟨k0_pay53 (k0_pay33 (k0_pay25 kb qa) k0_pay26 k0_pay27 s.acc vb), k0_pay32 (k0_pay25 kb qa) k0_pay26 k0_pay27 s.l,
    k0_pay29 (k0_pay25 kb qa) k0_pay26 k0_pay27 s.hi, k0_pay30 (k0_pay25 kb qa) k0_pay26 s.lo⟩

/-- A whole pass of query tile `n`. -/
def Pass.whole (k : Vec F S1x1x28672x128 .bf16) (v : Vec F S1x1x96x28672 .bf16) (n : ℕ) (qa : Vec F S128x512 .bf16) : Pass F :=
  Pass.diag (kBlk k n) (vBlk v n) qa (Pass.steps k v qa n)

theorem tail_inb : ∀ a, (![96, 0] : Fin 2 → ℕ) a + S32x512.size a ≤ S128x512.size a := by
  intro a; fin_cases a <;> simp [S32x512, S128x512]

/-- What the loop over the passes carries: the query rows with their shift rows, the shift, the last pass's result, and whether a
    further pass runs. -/
structure Tile (F : FTy → Type) where
  qa : Vec F S128x512 .bf16
  m : Vec F S1x512 .f32
  s : Pass F
  flag : BitVec 32

/-- Whether pass number `r` asks for another: some shifted score passed the bound, and it was the first pass. -/
def againWord (hi : Vec F S8x512 .f32) (r : ℕ) : BitVec 1 :=
  Scalar.andi (Scalar.cmpf .ogt (k0_pay55 hi) (FloatOps.ofBits .f32 0x42000000#32)) (Scalar.cmpi .eq (Scf.iv 0#32 1#32 r) 0#32)

/-- One trip of the loop over the passes, run when the flag is set. -/
def Tile.redo (k : Vec F S1x1x28672x128 .bf16) (v : Vec F S1x1x96x28672 .bf16) (n r : ℕ) (T : Tile F) : Tile F :=
  let s := Pass.whole k v n T.qa
  if Scalar.cmpi .ne (Scalar.extui (againWord s.hi r) : BitVec 32) 0#32 = 1#1 then
    ⟨VecWindow.put T.qa ![96, 0] S32x512.size (k0_pay57 s.hi T.m), k0_pay58 s.hi T.m, s, Scalar.extui (againWord s.hi r)⟩
  else ⟨T.qa, T.m, s, Scalar.extui (againWord s.hi r)⟩

/-- One trip of the loop over the passes. -/
def Tile.trip (k : Vec F S1x1x28672x128 .bf16) (v : Vec F S1x1x96x28672 .bf16) (n r : ℕ) (T : Tile F) : Tile F :=
  if Scalar.cmpi .ne (Scalar.extui (Scalar.cmpi .ne T.flag 0#32) : BitVec 32) 0#32 = 1#1 then T.redo k v n r
  else { T with flag := 0#32 }

theorem Tile.trip_of (k : Vec F S1x1x28672x128 .bf16) (v : Vec F S1x1x96x28672 .bf16) (n r : ℕ) (T : Tile F)
    (h : Scalar.cmpi .ne (Scalar.extui (Scalar.cmpi .ne T.flag 0#32) : BitVec 32) 0#32 = 1#1) : T.trip k v n r = T.redo k v n r := if_pos h

theorem Tile.trip_of_not (k : Vec F S1x1x28672x128 .bf16) (v : Vec F S1x1x96x28672 .bf16) (n r : ℕ) (T : Tile F)
    (h : ¬ Scalar.cmpi .ne (Scalar.extui (Scalar.cmpi .ne T.flag 0#32) : BitVec 32) 0#32 = 1#1) : T.trip k v n r = { T with flag := 0#32 } := if_neg h

theorem Tile.redo_of (k : Vec F S1x1x28672x128 .bf16) (v : Vec F S1x1x96x28672 .bf16) (n r : ℕ) (T : Tile F)
    (h : Scalar.cmpi .ne (Scalar.extui (againWord (Pass.whole k v n T.qa).hi r) : BitVec 32) 0#32 = 1#1) :
    T.redo k v n r = ⟨VecWindow.put T.qa ![96, 0] S32x512.size (k0_pay57 (Pass.whole k v n T.qa).hi T.m), k0_pay58 (Pass.whole k v n T.qa).hi T.m,
      Pass.whole k v n T.qa, Scalar.extui (againWord (Pass.whole k v n T.qa).hi r)⟩ := if_pos h

theorem Tile.redo_of_not (k : Vec F S1x1x28672x128 .bf16) (v : Vec F S1x1x96x28672 .bf16) (n r : ℕ) (T : Tile F)
    (h : ¬ Scalar.cmpi .ne (Scalar.extui (againWord (Pass.whole k v n T.qa).hi r) : BitVec 32) 0#32 = 1#1) :
    T.redo k v n r = ⟨T.qa, T.m, Pass.whole k v n T.qa, Scalar.extui (againWord (Pass.whole k v n T.qa).hi r)⟩ := if_neg h

/-- The loop's state after `r` trips. -/
def Tile.after (k : Vec F S1x1x28672x128 .bf16) (v : Vec F S1x1x96x28672 .bf16) (n : ℕ) (T : Tile F) : ℕ → Tile F
  | 0 => T
  | r + 1 => Tile.trip k v n r (Tile.after k v n T r)

/-- Query rows, to be written over. -/
def qaBase : Vec F S128x512 .bf16 := fun _ => (k0_pay44 (F := F)) (fun a => ⟨0, by fin_cases a <;> decide⟩)

/-- The query tile with its shift rows, the shift being zero. -/
def qaZero (rope : FVec F S96x512 .bf16) : Vec F S128x512 .bf16 :=
  VecWindow.put (VecWindow.put qaBase ![0, 0] S96x512.size (k0_pay42 rope)) ![96, 0] S32x512.size (k0_pay44 (F := F))

/-- The rows under the two windows are all the rows. -/
theorem put_put_cover (x x' : Vec F S128x512 .bf16) (w : Vec F S96x512 .bf16) (w' : Vec F S32x512 .bf16) :
    VecWindow.put (VecWindow.put x ![0, 0] S96x512.size w) ![96, 0] S32x512.size w'
      = VecWindow.put (VecWindow.put x' ![0, 0] S96x512.size w) ![96, 0] S32x512.size w' := by
  funext y
  unfold VecWindow.put
  by_cases h : ∀ a, (![96, 0] : Fin 2 → ℕ) a ≤ (y a).val ∧ (y a).val < (![96, 0] : Fin 2 → ℕ) a + S32x512.size a
  · rw [dif_pos h, dif_pos h]
  · rw [dif_neg h, dif_neg h]
    have h0 : (y 0).val < 128 := (y 0).isLt
    have h1 : (y 1).val < 512 := (y 1).isLt
    have h' : ∀ a, (![0, 0] : Fin 2 → ℕ) a ≤ (y a).val ∧ (y a).val < (![0, 0] : Fin 2 → ℕ) a + S96x512.size a := by
      by_contra hn
      apply h
      intro a
      fin_cases a
      · refine ⟨?_, ?_⟩
        · by_contra hlt
          apply hn
          intro b
          fin_cases b
          · simp [S96x512] at hlt ⊢; omega
          · simp [S96x512]; omega
        · simp [S32x512]; omega
      · simp [S32x512]; omega
    rw [dif_pos h', dif_pos h']

/-- The tile as the loop over the passes finds it: `kb` is the first key block, `w` the tile's first position. -/
def Tile.start (kb : Vec F S1x1x512x128 .bf16) (w : BitVec 32) (rope : FVec F S96x512 .bf16) (s : Pass F) : Tile F :=
  ⟨VecWindow.put (qaZero rope) ![96, 0] S32x512.size (k0_pay51 k0_pay48 (k0_pay49 w kb (qaZero rope)) (k0_pay50 w kb (qaZero rope))),
    k0_pay52 (k0_pay46 w kb (qaZero rope)), s, 1#32⟩

theorem redo_forget (k : Vec F S1x1x28672x128 .bf16) (v : Vec F S1x1x96x28672 .bf16) (n r : ℕ) (qa : Vec F S128x512 .bf16) (m : Vec F S1x512 .f32) (s s' : Pass F)
    (g g' : BitVec 32) : Tile.redo k v n r ⟨qa, m, s, g⟩ = Tile.redo k v n r ⟨qa, m, s', g'⟩ := rfl

/-- What the pass state held before the first trip does not matter. -/
theorem after_forget (k : Vec F S1x1x28672x128 .bf16) (v : Vec F S1x1x96x28672 .bf16) (n : ℕ) (kb : Vec F S1x1x512x128 .bf16) (w : BitVec 32)
    (rope : FVec F S96x512 .bf16) (s s' : Pass F) (r : ℕ) :
    Tile.after k v n (Tile.start kb w rope s) (r + 1) = Tile.after k v n (Tile.start kb w rope s') (r + 1) := by
  induction r with
  | zero =>
    have h : Scalar.cmpi .ne (Scalar.extui (Scalar.cmpi .ne (1#32) 0#32) : BitVec 32) 0#32 = 1#1 := by decide
    exact (Tile.trip_of k v n 0 (Tile.start kb w rope s) h).trans ((redo_forget k v n 0 _ _ _ _ _ _).trans (Tile.trip_of k v n 0 (Tile.start kb w rope s') h).symm)
  | succ r ih =>
    show Tile.trip k v n (r + 1) _ = Tile.trip k v n (r + 1) _
    rw [ih]

theorem Tile.after_zero_m (k : Vec F S1x1x28672x128 .bf16) (v : Vec F S1x1x96x28672 .bf16) (n : ℕ) (kb : Vec F S1x1x512x128 .bf16) (w : BitVec 32)
    (rope : FVec F S96x512 .bf16) (s : Pass F) : (Tile.after k v n (Tile.start kb w rope s) 0).m = k0_pay52 (k0_pay46 w kb (qaZero rope)) := by
  simp only [Tile.after, Tile.start]

/-- The tile after the loop over the passes: `w` is the tile's first position. -/
def Tile.final (k : Vec F S1x1x28672x128 .bf16) (v : Vec F S1x1x96x28672 .bf16) (n : ℕ) (w : BitVec 32) (rope : FVec F S96x512 .bf16) : Tile F :=
  Tile.after k v n (Tile.start (kBlk k 0) w rope Pass.init) 2

/-- Whether a grid point is the first. -/
def first (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32))
    (Scalar.cmpi .eq (BitVec.ofNat 32 (i 2).val) 0#32)) : BitVec 32) 0#32 = 1#1

instance (i : grid0.Coords) : Decidable (first i) := by unfold first; infer_instance

/-- A table of maxima as the point's work finds it: `z` at the first point, what it held otherwise. -/
def entry (i : grid0.Coords) (z x : Vec F S16x128 .f32) : Vec F S16x128 .f32 := if first i then z else x

theorem row_inb (h : ℕ) (hh : h < 16) : ∀ a, (![h, 0] : Fin 2 → ℕ) a + S1x128.size a ≤ S16x128.size a := by
  intro a; fin_cases a <;> simp [S1x128, S16x128]; omega

/-- Row `h` of a table of maxima. -/
def rowOf (x : Vec F S16x128 .f32) (h : ℕ) : Vec F S1x128 .f32 :=
  if hh : h < 16 then VecWindow.window x ![h, 0] S1x128.size (row_inb h hh) else VecWindow.window x ![0, 0] S1x128.size (row_inb 0 (by omega))

/-- A table of maxima with row `h` replaced. -/
def rowPut (x : Vec F S16x128 .f32) (h : ℕ) (w : Vec F S1x128 .f32) : Vec F S16x128 .f32 := VecWindow.put x ![h, 0] S1x128.size w

/-- Whether a grid point's tile starts at or past the length `len`. -/
def dead (i : grid0.Coords) (len : BitVec 32) : Prop :=
  Scalar.cmpi .ne (Scalar.extui (Scalar.cmpi .sge (Scalar.muli (BitVec.ofNat 32 (i 2).val) 512#32) len) : BitVec 32) 0#32 = 1#1

instance (i : grid0.Coords) (len : BitVec 32) : Decidable (dead i len) := by unfold dead; infer_instance

/-- A comparison's word passed through an integer and tested is the comparison. -/
theorem bit_iff (b : Bool) : Scalar.cmpi .ne (Scalar.extui (BitVec.ofBool b) : BitVec 32) 0#32 = 1#1 ↔ b = true := by
  cases b <;> decide

theorem slt_eq_not_sle (x y : BitVec 32) : x.slt y = !(y.sle x) := by
  simp only [BitVec.slt, BitVec.sle]
  by_cases h : x.toInt < y.toInt
  · simp [h]
  · simp [h]; omega

theorem sge_iff (x y : BitVec 32) : Scalar.cmpi .ne (Scalar.extui (Scalar.cmpi .sge x y) : BitVec 32) 0#32 = 1#1 ↔ y.sle x = true := bit_iff _

theorem slt_iff (x y : BitVec 32) : Scalar.cmpi .ne (Scalar.extui (Scalar.cmpi .slt x y) : BitVec 32) 0#32 = 1#1 ↔ x.slt y = true := bit_iff _

theorem live_of_not_dead (i : grid0.Coords) (len : BitVec 32) (h : ¬ dead i len) :
    Scalar.cmpi .ne (Scalar.extui (Scalar.cmpi .slt (Scalar.muli (BitVec.ofNat 32 (i 2).val) 512#32) len) : BitVec 32) 0#32 = 1#1 := by
  unfold dead at h
  rw [sge_iff] at h
  rw [slt_iff]
  rw [slt_eq_not_sle]
  simpa using h

theorem not_live_of_dead (i : grid0.Coords) (len : BitVec 32) (h : dead i len) :
    ¬ Scalar.cmpi .ne (Scalar.extui (Scalar.cmpi .slt (Scalar.muli (BitVec.ofNat 32 (i 2).val) 512#32) len) : BitVec 32) 0#32 = 1#1 := by
  unfold dead at h
  rw [sge_iff] at h
  rw [slt_iff]
  rw [slt_eq_not_sle]
  simpa using h

section Point

variable (i : grid0.Coords) (len : BitVec 32) (qt : Vec F S1x1x96x512 .bf16) (cs sn : Vec F S1x48x512 .f32) (k : Vec F S1x1x28672x128 .bf16) (v : Vec F S1x1x96x28672 .bf16)

/-- The tile after the loop over the passes, at a grid point. -/
def tileAt : Tile F := Tile.final k v (i 2).val (Scalar.muli (BitVec.ofNat 32 (i 2).val) 512#32) (k0_pay35 qt cs sn)

/-- The output block a grid point writes. -/
def outO : Vec F S1x1x96x512 .f32 :=
  if dead i len then k0_pay4 else k0_pay63 (k0_pay34 (F := F) len (Scalar.muli (BitVec.ofNat 32 (i 2).val) 512#32)) (tileAt i qt cs sn k v).s.l (tileAt i qt cs sn k v).s.acc

/-- The block of query maxima a grid point writes. -/
def outQ : Vec F S1x1x1x512 .f32 := if dead i len then k0_pay5 else k0_pay37 len (Scalar.muli (BitVec.ofNat 32 (i 2).val) 512#32) qt cs sn

/-- The block of score maxima a grid point writes. -/
def outS : Vec F S1x1x1x512 .f32 :=
  if dead i len then k0_pay6 else k0_pay60 (k0_pay34 (F := F) len (Scalar.muli (BitVec.ofNat 32 (i 2).val) 512#32)) (tileAt i qt cs sn k v).m (tileAt i qt cs sn k v).s.hi (tileAt i qt cs sn k v).s.lo

/-- The block of output maxima a grid point writes. -/
def outR : Vec F S1x1x1x512 .f32 :=
  if dead i len then k0_pay7 else k0_pay65 (k0_pay34 (F := F) len (Scalar.muli (BitVec.ofNat 32 (i 2).val) 512#32)) (tileAt i qt cs sn k v).s.l (tileAt i qt cs sn k v).s.acc

/-- The table of query maxima after a grid point, from the table before. -/
def statQ (x : Vec F S16x128 .f32) : Vec F S16x128 .f32 :=
  if dead i len then entry i k0_pay1 x else rowPut (entry i k0_pay1 x) (i 1).val
    (k0_pay41 (k0_pay38 (rowOf (entry i k0_pay1 x) (i 1).val)) (k0_pay39 len (Scalar.muli (BitVec.ofNat 32 (i 2).val) 512#32) qt cs sn) (k0_pay40 len (Scalar.muli (BitVec.ofNat 32 (i 2).val) 512#32) qt cs sn))

/-- The table of score maxima after a grid point, from the table before. -/
def statS (x : Vec F S16x128 .f32) : Vec F S16x128 .f32 :=
  if dead i len then entry i k0_pay2 x else rowPut (entry i k0_pay2 x) (i 1).val
    (k0_pay61 (k0_pay59 (k0_pay34 (F := F) len (Scalar.muli (BitVec.ofNat 32 (i 2).val) 512#32)) (tileAt i qt cs sn k v).m (tileAt i qt cs sn k v).s.hi (tileAt i qt cs sn k v).s.lo) (rowOf (entry i k0_pay2 x) (i 1).val))

/-- The table of output maxima after a grid point, from the table before. -/
def statO (x : Vec F S16x128 .f32) : Vec F S16x128 .f32 :=
  if dead i len then entry i k0_pay3 x else rowPut (entry i k0_pay3 x) (i 1).val
    (k0_pay8 (k0_pay66 (rowOf (entry i k0_pay3 x) (i 1).val)) (k0_pay67 (k0_pay34 (F := F) len (Scalar.muli (BitVec.ofNat 32 (i 2).val) 512#32)) (tileAt i qt cs sn k v).s.l (tileAt i qt cs sn k v).s.acc))

end Point

end Cert.KernelIdeal.Hand

end
-- ==== Proof.IdealFold.lean ====
/-
  Hand-written. Sums, greatest and least values over key positions: a block of 512 split into 64 groups of eight, a prefix
  lengthened by a block, a block cut at the diagonal.
-/
module

public import Mathlib.Data.EReal.Operations
public import Mathlib.Algebra.BigOperators.Fin
public import Mathlib.Data.Finset.Lattice.Fold

@[expose] public section

namespace Cert.Fold

/-- Position `8 k + r` of 512. -/
def row (k : Fin 64) (r : Fin 8) : Fin 512 := ⟨k.val * 8 + r.val, by omega⟩

theorem exists_row (i : Fin 512) : ∃ k r, row k r = i :=
  ⟨⟨i.val / 8, by omega⟩, ⟨i.val % 8, by omega⟩, by apply Fin.ext; simp only [row]; omega⟩

def rowEquiv : Fin 8 × Fin 64 ≃ Fin 512 where
  toFun p := row p.2 p.1
  invFun i := (⟨i.val % 8, by omega⟩, ⟨i.val / 8, by omega⟩)
  left_inv p := by
    rcases p with ⟨r, k⟩
    refine Prod.ext (Fin.ext ?_) (Fin.ext ?_) <;> simp only [row] <;> omega
  right_inv i := by apply Fin.ext; simp only [row]; omega

theorem sum_rows (f : Fin 512 → EReal) : ∑ r : Fin 8, ∑ k : Fin 64, f (row k r) = ∑ i, f i := by
  rw [← Fintype.sum_prod_type' (f := fun (r : Fin 8) (k : Fin 64) => f (row k r))]
  exact Equiv.sum_comp rowEquiv f

theorem sup_rows (f : Fin 512 → EReal) : (Finset.univ.sup fun r : Fin 8 => Finset.univ.sup fun k : Fin 64 => f (row k r)) = Finset.univ.sup f := by
  apply le_antisymm
  · exact Finset.sup_le fun r _ => Finset.sup_le fun k _ => Finset.le_sup (f := f) (Finset.mem_univ _)
  · refine Finset.sup_le fun i _ => ?_
    obtain ⟨k, r, rfl⟩ := exists_row i
    exact le_trans (Finset.le_sup (f := fun k : Fin 64 => f (row k r)) (Finset.mem_univ k))
      (Finset.le_sup (f := fun r : Fin 8 => Finset.univ.sup fun k : Fin 64 => f (row k r)) (Finset.mem_univ r))

theorem inf_rows (f : Fin 512 → EReal) : (Finset.univ.inf fun r : Fin 8 => Finset.univ.inf fun k : Fin 64 => f (row k r)) = Finset.univ.inf f := by
  apply le_antisymm
  · refine Finset.le_inf fun i _ => ?_
    obtain ⟨k, r, rfl⟩ := exists_row i
    exact le_trans (Finset.inf_le (f := fun r : Fin 8 => Finset.univ.inf fun k : Fin 64 => f (row k r)) (Finset.mem_univ r))
      (Finset.inf_le (f := fun k : Fin 64 => f (row k r)) (Finset.mem_univ k))
  · exact Finset.le_inf fun r _ => Finset.le_inf fun k _ => Finset.inf_le (f := f) (Finset.mem_univ _)

theorem sup_add (f : ℕ → EReal) (N M : ℕ) : (Finset.range (N + M)).sup f = (Finset.range N).sup f ⊔ (Finset.range M).sup fun i => f (N + i) := by
  apply le_antisymm
  · refine Finset.sup_le fun i hi => ?_
    rw [Finset.mem_range] at hi
    by_cases h : i < N
    · exact le_sup_of_le_left (Finset.le_sup (f := f) (Finset.mem_range.2 h))
    · obtain ⟨j, rfl⟩ := Nat.exists_eq_add_of_le (not_lt.1 h)
      exact le_sup_of_le_right (Finset.le_sup (f := fun i => f (N + i)) (Finset.mem_range.2 (by omega)))
  · refine sup_le (Finset.sup_le fun i hi => ?_) (Finset.sup_le fun i hi => ?_)
    · exact Finset.le_sup (f := f) (Finset.mem_range.2 (by rw [Finset.mem_range] at hi; omega))
    · exact Finset.le_sup (f := f) (Finset.mem_range.2 (by rw [Finset.mem_range] at hi; omega))

theorem inf_add (f : ℕ → EReal) (N M : ℕ) : (Finset.range (N + M)).inf f = (Finset.range N).inf f ⊓ (Finset.range M).inf fun i => f (N + i) := by
  apply le_antisymm
  · refine le_inf (Finset.le_inf fun i hi => ?_) (Finset.le_inf fun i hi => ?_)
    · exact Finset.inf_le (f := f) (Finset.mem_range.2 (by rw [Finset.mem_range] at hi; omega))
    · exact Finset.inf_le (f := f) (Finset.mem_range.2 (by rw [Finset.mem_range] at hi; omega))
  · refine Finset.le_inf fun i hi => ?_
    rw [Finset.mem_range] at hi
    by_cases h : i < N
    · exact inf_le_of_left_le (Finset.inf_le (f := f) (Finset.mem_range.2 h))
    · obtain ⟨j, rfl⟩ := Nat.exists_eq_add_of_le (not_lt.1 h)
      exact inf_le_of_right_le (Finset.inf_le (f := fun i => f (N + i)) (Finset.mem_range.2 (by omega)))

/-- A sum whose terms past position `c` vanish. -/
theorem sum_cut (n : ℕ) (c : ℕ) (hc : c < n) (f : ℕ → EReal) : ∑ i : Fin n, (if i.val ≤ c then f i.val else 0) = ∑ i ∈ Finset.range (c + 1), f i := by
  rw [← Finset.sum_range (fun i => if i ≤ c then f i else 0), ← Finset.sum_filter]
  refine Finset.sum_congr ?_ fun _ _ => rfl
  ext i
  simp only [Finset.mem_filter, Finset.mem_range]
  omega

theorem sup_cut (n : ℕ) (c : ℕ) (hc : c < n) (f : ℕ → EReal) : (Finset.univ.sup fun i : Fin n => if i.val ≤ c then f i.val else ⊥) = (Finset.range (c + 1)).sup f := by
  apply le_antisymm
  · refine Finset.sup_le fun i _ => ?_
    by_cases h : i.val ≤ c
    · rw [if_pos h]; exact Finset.le_sup (f := f) (Finset.mem_range.2 (by omega))
    · rw [if_neg h]; exact bot_le
  · refine Finset.sup_le fun i hi => ?_
    rw [Finset.mem_range] at hi
    have := Finset.le_sup (f := fun i : Fin n => if i.val ≤ c then f i.val else ⊥) (Finset.mem_univ (⟨i, by omega⟩ : Fin n))
    simpa [show i ≤ c by omega] using this

theorem inf_cut (n : ℕ) (c : ℕ) (hc : c < n) (f : ℕ → EReal) : (Finset.univ.inf fun i : Fin n => if i.val ≤ c then f i.val else ⊤) = (Finset.range (c + 1)).inf f := by
  apply le_antisymm
  · refine Finset.le_inf fun i hi => ?_
    rw [Finset.mem_range] at hi
    have := Finset.inf_le (f := fun i : Fin n => if i.val ≤ c then f i.val else ⊤) (Finset.mem_univ (⟨i, by omega⟩ : Fin n))
    simpa [show i ≤ c by omega] using this
  · refine Finset.le_inf fun i _ => ?_
    by_cases h : i.val ≤ c
    · rw [if_pos h]; exact Finset.inf_le (f := f) (Finset.mem_range.2 (by omega))
    · rw [if_neg h]; exact le_top

theorem sup_fin (n : ℕ) (f : ℕ → EReal) : (Finset.univ.sup fun i : Fin n => f i.val) = (Finset.range n).sup f := by
  apply le_antisymm
  · exact Finset.sup_le fun i _ => Finset.le_sup (f := f) (Finset.mem_range.2 i.isLt)
  · exact Finset.sup_le fun i hi => Finset.le_sup (f := fun i : Fin n => f i.val) (Finset.mem_univ (⟨i, Finset.mem_range.1 hi⟩ : Fin n))

theorem inf_fin (n : ℕ) (f : ℕ → EReal) : (Finset.univ.inf fun i : Fin n => f i.val) = (Finset.range n).inf f := by
  apply le_antisymm
  · exact Finset.le_inf fun i hi => Finset.inf_le (f := fun i : Fin n => f i.val) (Finset.mem_univ (⟨i, Finset.mem_range.1 hi⟩ : Fin n))
  · exact Finset.le_inf fun i _ => Finset.inf_le (f := f) (Finset.mem_range.2 i.isLt)

/-- A finite sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals is one of them. -/
theorem sup_real (n : ℕ) (f : ℕ → ℝ) : ∃ x : ℝ, ((Finset.range (n + 1)).sup fun i => ((f i : ℝ) : EReal)) = (x : EReal) ∧ (∃ i ≤ n, f i = x) ∧ ∀ i ≤ n, f i ≤ x := by
  obtain ⟨i, hi, h⟩ := Finset.exists_max_image (Finset.range (n + 1)) f ⟨0, by simp⟩
  rw [Finset.mem_range] at hi
  refine ⟨f i, le_antisymm (Finset.sup_le fun j hj => EReal.coe_le_coe_iff.2 (h j hj)) ?_, ⟨i, by omega, rfl⟩, fun j hj => h j (by simp; omega)⟩
  exact Finset.le_sup (f := fun i => ((f i : ℝ) : EReal)) (Finset.mem_range.2 hi)

theorem inf_real (n : ℕ) (f : ℕ → ℝ) : ∃ x : ℝ, ((Finset.range (n + 1)).inf fun i => ((f i : ℝ) : EReal)) = (x : EReal) ∧ (∃ i ≤ n, f i = x) ∧ ∀ i ≤ n, x ≤ f i := by
  obtain ⟨i, hi, h⟩ := Finset.exists_min_image (Finset.range (n + 1)) f ⟨0, by simp⟩
  rw [Finset.mem_range] at hi
  refine ⟨f i, le_antisymm ?_ (Finset.le_inf fun j hj => EReal.coe_le_coe_iff.2 (h j hj)), ⟨i, by omega, rfl⟩, fun j hj => h j (by simp; omega)⟩
  exact Finset.inf_le (f := fun i => ((f i : ℝ) : EReal)) (Finset.mem_range.2 hi)

end Cert.Fold

end
-- ==== Proof.IdealPass.lean ====
/-
  Hand-written. The payloads of one step of a pass over the keys, read at an index over the extended reals.
-/
module

public import proofs.«01_k».proof.Proof.KernelIdealFun
public import proofs.«01_k».proof.Proof.IdealFold
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Cert.Fold (row)

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_bot16 : Ideal.ofBits .bf16 0xFF80#16 = ⊥ := by
  simp [Ideal.ofBits, Ideal.ieee]

/-- The scale under the base-two exponential: one over the root of the head's width, over the logarithm of two. -/
def c2 : ℝ := (Real.sqrt 96)⁻¹ * (Real.log 2)⁻¹

/-- The scale of the scores: one over the root of the head's width. -/
def c1 : ℝ := (Real.sqrt 96)⁻¹

theorem c1_pos : 0 < c1 := by unfold c1; positivity

theorem c2_pos : 0 < c2 := by
  unfold c2
  have := Real.log_pos (show (1 : ℝ) < 2 by norm_num)
  positivity

theorem named_c2 (b : BitVec FTy.f32.bits) : Named.named (F := Ideal) (φ := .f32) κ "exp2_scale" b = ((c2 : ℝ) : EReal) :=
  IdealRules.named_const.ideal_named_scalar _ _ _ _ rfl

theorem named_c1 (b : BitVec FTy.f32.bits) : Named.named (F := Ideal) (φ := .f32) κ "score_scale" b = ((c1 : ℝ) : EReal) :=
  IdealRules.named_const.ideal_named_scalar _ _ _ _ rfl

/-- A rank-one comparison bit chooses. -/
theorem select_ofBool {α : Type} (b : Bool) (x y : α) : Scalar.select (BitVec.ofBool b) x y = if b then x else y := by
  cases b <;> simp [Scalar.select]

/-- The weight of a shifted score. -/
def wt (t : EReal) : EReal := Ideal.exp2 (t * ((c2 : ℝ) : EReal))

theorem wt_bot : wt ⊥ = 0 := by
  unfold wt
  rw [EReal.bot_mul_coe_of_pos c2_pos]
  rfl

theorem pay9_at (kb : Vec Ideal S1x1x512x128 .bf16) (qa : Vec Ideal S128x512 .bf16) (i c : Fin 512) :
    k0_pay9 (F := Ideal) kb qa (ix2 i c) = ∑ r : Fin 128, kb (ix4 0 0 i r) * qa (ix2 r c) := by
  pointwise [k0_pay9]

theorem pay25_at (kb : Vec Ideal S1x1x512x128 .bf16) (qa : Vec Ideal S128x512 .bf16) (i c : Fin 512) :
    k0_pay25 (F := Ideal) kb qa (ix2 i c) = ∑ r : Fin 128, kb (ix4 0 0 i r) * qa (ix2 r c) := by
  pointwise [k0_pay25]

theorem pay10_at (kb : Vec Ideal S1x1x512x128 .bf16) (qa : Vec Ideal S128x512 .bf16) (x : Vec Ideal S8x512 .f32) (r : Fin 8) (c : Fin 512) :
    k0_pay10 (F := Ideal) kb qa x (ix2 r c) = x (ix2 r c) ⊔ Finset.univ.sup fun k => k0_pay9 (F := Ideal) kb qa (ix2 (row k r) c) := by
  unfold k0_pay10
  generalize k0_pay9 (F := Ideal) kb qa = y
  pointwise
  rw [ofBits_bot]
  rfl

theorem pay11_at (kb : Vec Ideal S1x1x512x128 .bf16) (qa : Vec Ideal S128x512 .bf16) (x : Vec Ideal S8x512 .f32) (r : Fin 8) (c : Fin 512) :
    k0_pay11 (F := Ideal) kb qa x (ix2 r c) = x (ix2 r c) ⊓ Finset.univ.inf fun k => k0_pay9 (F := Ideal) kb qa (ix2 (row k r) c) := by
  unfold k0_pay11
  generalize k0_pay9 (F := Ideal) kb qa = y
  pointwise
  rw [ofBits_top]
  rfl

theorem pay12_at (kb : Vec Ideal S1x1x512x128 .bf16) (qa : Vec Ideal S128x512 .bf16) (i c : Fin 512) :
    k0_pay12 (F := Ideal) kb qa (ix2 i c) = wt (k0_pay9 (F := Ideal) kb qa (ix2 i c)) := by
  unfold k0_pay12
  generalize k0_pay9 (F := Ideal) kb qa = y
  pointwise
  rw [named_c2]
  rfl

theorem pay13_at (kb : Vec Ideal S1x1x512x128 .bf16) (qa : Vec Ideal S128x512 .bf16) (x : Vec Ideal S8x512 .f32) (r : Fin 8) (c : Fin 512) :
    k0_pay13 (F := Ideal) kb qa x (ix2 r c) = x (ix2 r c) + ∑ k, k0_pay12 (F := Ideal) kb qa (ix2 (row k r) c) := by
  unfold k0_pay13
  generalize k0_pay12 (F := Ideal) kb qa = y
  pointwise
  rfl

theorem pay23_at (y : FVec Ideal S512x512 .f32) (x : Vec Ideal S96x512 .f32) (vb : Vec Ideal S1x1x96x512 .bf16) (d : Fin 96) (c : Fin 512) :
    k0_pay23 (F := Ideal) y x vb (ix2 d c) = x (ix2 d c) + ∑ i : Fin 512, vb (ix4 0 0 d i) * y (ix2 i c) := by
  pointwise [k0_pay23]

theorem pay19_at (d : Fin 96) (c : Fin 512) : k0_pay19 (F := Ideal) (ix2 d c) = 0 := by
  pointwise [k0_pay19]

theorem pay20_at (r : Fin 8) (c : Fin 512) : k0_pay20 (F := Ideal) (ix2 r c) = 0 := by
  pointwise [k0_pay20]

theorem pay21_at (r : Fin 8) (c : Fin 512) : k0_pay21 (F := Ideal) (ix2 r c) = ⊥ := by
  pointwise [k0_pay21]
  exact ofBits_bot

theorem pay22_at (r : Fin 8) (c : Fin 512) : k0_pay22 (F := Ideal) (ix2 r c) = ⊤ := by
  pointwise [k0_pay22]
  exact ofBits_top

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem sle_small (a b : ℕ) (ha : a < 2 ^ 31) (hb : b < 2 ^ 31) : (BitVec.ofNat 32 a).sle (BitVec.ofNat 32 b) = decide (a ≤ b) := by
  simp only [BitVec.sle, toInt_small a ha, toInt_small b hb, Int.ofNat_le]

theorem pay26_at (i c : Fin 512) : k0_pay26 (ix2 i c) = BitVec.ofBool (decide (i.val ≤ c.val)) := by
  pointwise [k0_pay26]
  exact congrArg BitVec.ofBool (sle_small i.val c.val (by omega) (by omega))

/-- A masked score: the score where the key is visible, else minus infinity. -/
theorem pay28_at (y : FVec Ideal S512x512 .f32) (i c : Fin 512) :
    k0_pay28 (F := Ideal) y k0_pay26 k0_pay27 (ix2 i c) = if i.val ≤ c.val then y (ix2 i c) else ⊥ := by
  unfold k0_pay28 k0_pay27
  generalize hm : k0_pay26 = b
  have hb : b (ix2 i c) = BitVec.ofBool (decide (i.val ≤ c.val)) := by rw [← hm]; exact pay26_at i c
  pointwise
  rw [hb, select_ofBool]
  simp [ofBits_bot]

theorem pay29_at (y : FVec Ideal S512x512 .f32) (x : Vec Ideal S8x512 .f32) (r : Fin 8) (c : Fin 512) :
    k0_pay29 (F := Ideal) y k0_pay26 k0_pay27 x (ix2 r c)
      = x (ix2 r c) ⊔ Finset.univ.sup fun k => k0_pay28 (F := Ideal) y k0_pay26 k0_pay27 (ix2 (row k r) c) := by
  unfold k0_pay29
  generalize k0_pay28 (F := Ideal) y k0_pay26 k0_pay27 = y
  pointwise
  rw [ofBits_bot]
  rfl

theorem pay30_at (y : FVec Ideal S512x512 .f32) (x : Vec Ideal S8x512 .f32) (r : Fin 8) (c : Fin 512) :
    k0_pay30 (F := Ideal) y k0_pay26 x (ix2 r c)
      = x (ix2 r c) ⊓ Finset.univ.inf fun k => if (row k r).val ≤ c.val then y (ix2 (row k r) c) else ⊤ := by
  unfold k0_pay30
  generalize hm : k0_pay26 = b
  have hb : ∀ i : Fin 512, b (ix2 i c) = BitVec.ofBool (decide (i.val ≤ c.val)) := by intro i; rw [← hm]; exact pay26_at i c
  pointwise
  rw [ofBits_top]
  refine congrArg₂ min rfl ?_
  refine Finset.fold_congr fun k _ => ?_
  rw [show (⟨k.val * 8 + r.val, by omega⟩ : Fin 512) = row k r from rfl, hb, select_ofBool]
  simp

theorem pay31_at (y : FVec Ideal S512x512 .f32) (i c : Fin 512) :
    k0_pay31 (F := Ideal) y k0_pay26 k0_pay27 (ix2 i c) = wt (k0_pay28 (F := Ideal) y k0_pay26 k0_pay27 (ix2 i c)) := by
  unfold k0_pay31
  generalize k0_pay28 (F := Ideal) y k0_pay26 k0_pay27 = y
  pointwise
  rw [named_c2]
  rfl

theorem pay32_at (y : FVec Ideal S512x512 .f32) (x : Vec Ideal S8x512 .f32) (r : Fin 8) (c : Fin 512) :
    k0_pay32 (F := Ideal) y k0_pay26 k0_pay27 x (ix2 r c)
      = x (ix2 r c) + ∑ k, k0_pay31 (F := Ideal) y k0_pay26 k0_pay27 (ix2 (row k r) c) := by
  unfold k0_pay32
  generalize k0_pay31 (F := Ideal) y k0_pay26 k0_pay27 = y
  pointwise
  rfl

theorem pay33_at (y : FVec Ideal S512x512 .f32) (x : Vec Ideal S96x512 .f32) (vb : Vec Ideal S1x1x96x512 .bf16) (d : Fin 96) (c : Fin 512) :
    k0_pay33 (F := Ideal) y k0_pay26 k0_pay27 x vb (ix2 d c)
      = x (ix2 d c) + ∑ i : Fin 512, vb (ix4 0 0 d i) * k0_pay31 (F := Ideal) y k0_pay26 k0_pay27 (ix2 i c) := by
  unfold k0_pay33
  generalize k0_pay31 (F := Ideal) y k0_pay26 k0_pay27 = y
  pointwise

theorem pay53_eq (x : FVec Ideal S96x512 .f32) : k0_pay53 (F := Ideal) x = x := by
  funext j
  idx_vars j
  pointwise [k0_pay53]

theorem pay42_eq (x : FVec Ideal S96x512 .bf16) : k0_pay42 (F := Ideal) x = x := by
  funext j
  idx_vars j
  pointwise [k0_pay42]

/-- The first shift: the greatest visible score of block 0. -/
theorem pay46_at (w : BitVec 32) (kb : Vec Ideal S1x1x512x128 .bf16) (qa : Vec Ideal S128x512 .bf16) (c : Fin 512) :
    k0_pay46 (F := Ideal) w kb qa (ix2 0 c)
      = Finset.univ.sup fun i : Fin 512 => if (BitVec.ofNat 32 i.val).sle (w + BitVec.ofNat 32 c.val) then ∑ r : Fin 128, kb (ix4 0 0 i r) * qa (ix2 r c) else ⊥ := by
  pointwise [k0_pay46]
  rw [ofBits_bot]
  refine Finset.fold_congr fun i _ => ?_
  exact select_ofBool _ _ _

theorem pay52_eq (x : FVec Ideal S1x512 .f32) : k0_pay52 (F := Ideal) x = x := by
  funext j
  idx_vars j
  pointwise [k0_pay52]

theorem pay54_at (x : Vec Ideal S8x512 .f32) (c : Fin 512) :
    k0_pay54 (F := Ideal) x (ix2 0 c) = Finset.univ.sup fun r : Fin 8 => x (ix2 r c) := by
  pointwise [k0_pay54]
  rw [ofBits_bot]
  rfl

theorem pay58_at (x : Vec Ideal S8x512 .f32) (m : Vec Ideal S1x512 .f32) (c : Fin 512) :
    k0_pay58 (F := Ideal) x m (ix2 0 c) = m (ix2 0 c) + Finset.univ.sup fun r : Fin 8 => x (ix2 r c) := by
  unfold k0_pay58 k0_pay56
  rw [← pay54_at]
  pointwise

theorem cmpi_eq_small (a b : ℕ) (ha : a < 2 ^ 32) (hb : b < 2 ^ 32) :
    IntOp.cmpi CmpIPredicate.eq (BitVec.ofNat 32 a) (BitVec.ofNat 32 b) = BitVec.ofBool (decide (a = b)) := by
  refine congrArg BitVec.ofBool ?_
  by_cases h : a = b
  · simp [h]
  · have : BitVec.ofNat 32 a ≠ BitVec.ofNat 32 b := by
      intro e
      have := congrArg BitVec.toNat e
      simp only [BitVec.toNat_ofNat, Nat.mod_eq_of_lt ha, Nat.mod_eq_of_lt hb] at this
      exact h this
    simp [h, this]

/-- The shift rows: the negated shift in the first, zero in the others. -/
theorem shift_rows (r : Fin 32) (μ : ℝ) :
    Scalar.select (IntOp.cmpi CmpIPredicate.eq (BitVec.ofNat 32 r.val) 0#32) ((0 : EReal) - (μ : EReal))
      (Scalar.select (IntOp.cmpi CmpIPredicate.eq (BitVec.ofNat 32 r.val) 1#32) (0 - ((μ : EReal) - μ))
        (Scalar.select (IntOp.cmpi CmpIPredicate.eq (BitVec.ofNat 32 r.val) 2#32) (0 - ((μ : EReal) - μ - ((μ : EReal) - μ))) 0))
      = if r.val = 0 then ((-μ : ℝ) : EReal) else 0 := by
  rw [cmpi_eq_small r.val 0 (by omega) (by omega), cmpi_eq_small r.val 1 (by omega) (by omega), cmpi_eq_small r.val 2 (by omega) (by omega)]
  have h1 : (μ : EReal) - μ = 0 := by rw [← EReal.coe_sub, sub_self]; rfl
  rw [h1, select_ofBool, select_ofBool, select_ofBool]
  simp

theorem pay51_at (w : BitVec 32) (kb : Vec Ideal S1x1x512x128 .bf16) (qa : Vec Ideal S128x512 .bf16) (r : Fin 32) (c : Fin 512) (μ : ℝ)
    (h : k0_pay46 (F := Ideal) w kb qa (ix2 0 c) = (μ : EReal)) :
    k0_pay51 (F := Ideal) k0_pay48 (k0_pay49 w kb qa) (k0_pay50 w kb qa) (ix2 r c) = if r.val = 0 then ((-μ : ℝ) : EReal) else 0 := by
  unfold k0_pay51 k0_pay48 k0_pay49 k0_pay50 k0_pay47
  generalize k0_pay46 (F := Ideal) w kb qa = y at h
  pointwise
  rw [h]
  exact shift_rows r μ

theorem pay57_at (x : Vec Ideal S8x512 .f32) (m : Vec Ideal S1x512 .f32) (r : Fin 32) (c : Fin 512) (μ : ℝ)
    (h : k0_pay58 (F := Ideal) x m (ix2 0 c) = (μ : EReal)) :
    k0_pay57 (F := Ideal) x m (ix2 r c) = if r.val = 0 then ((-μ : ℝ) : EReal) else 0 := by
  have h' : k0_pay56 (F := Ideal) x m (ix2 0 c) = (μ : EReal) := by
    rw [← h]
    unfold k0_pay58
    generalize k0_pay56 (F := Ideal) x m = y
    pointwise
  unfold k0_pay57
  generalize k0_pay56 (F := Ideal) x m = y at h'
  pointwise
  rw [h']
  exact shift_rows r μ

theorem pay44_at (r : Fin 32) (c : Fin 512) : k0_pay44 (F := Ideal) (ix2 r c) = 0 := by
  unfold k0_pay44 k0_pay43
  pointwise

end Cert.KernelIdeal.Hand
-- ==== Proof.Spec.lean ====
/-
  Hand-written. The mathematics both programs are compared with, on real inputs: a rotated query, its scores, the softmax mean of
  the values over the keys up to the query's own position, and the three per-query maxima.
-/
module

public import Idealize.ShloMosaic.Lib.Pointwise
public import Idealize.ShloMosaic.PureOps.Ideal.Laws

@[expose] public section

noncomputable section

namespace Cert.Spec

open Idealize.ShloMosaic

/-- The score scale, the inverse square root of the head's 96. -/
def c1 : ℝ := (Real.sqrt 96)⁻¹

theorem c1_pos : 0 < c1 := by unfold c1; positivity

/-- A query rotated by its position's angles: `x` the query, `c` and `s` the cosines and sines. -/
def rot (x : Fin 96 → ℝ) (c s : Fin 48 → ℝ) (d : Fin 96) : ℝ :=
  if h : d.val < 48 then x ⟨d.val, by omega⟩ * c ⟨d.val, h⟩ - x ⟨48 + d.val, by omega⟩ * s ⟨d.val, h⟩
  else x ⟨d.val, by omega⟩ * c ⟨d.val - 48, by omega⟩ + x ⟨d.val - 48, by omega⟩ * s ⟨d.val - 48, by omega⟩

/-- The raw score of key `j` for a query with rotated entries `q`. -/
def score (K : ℕ → Fin 96 → ℝ) (q : Fin 96 → ℝ) (j : ℕ) : ℝ := ∑ d, K j d * q d

/-- The softmax mean of the values over the keys `0 … p`. -/
def out (K : ℕ → Fin 96 → ℝ) (V : Fin 96 → ℕ → ℝ) (q : Fin 96 → ℝ) (p : ℕ) (d : Fin 96) : ℝ :=
  (∑ j ∈ Finset.range (p + 1), V d j * Real.exp (score K q j * c1)) / ∑ j ∈ Finset.range (p + 1), Real.exp (score K q j * c1)

/-- The largest scaled score magnitude over the keys `0 … p`. -/
def scoreMax (K : ℕ → Fin 96 → ℝ) (q : Fin 96 → ℝ) (p : ℕ) : EReal := (Finset.range (p + 1)).sup fun j => ((|score K q j| * c1 : ℝ) : EReal)

/-- The largest magnitude among 96 reals. -/
def mag (x : Fin 96 → ℝ) : EReal := Finset.univ.sup fun d => ((|x d| : ℝ) : EReal)

/-- The result at position `p` of a sequence of length `len`: `x` where the position is in the sequence, zero past it. -/
def masked (p : ℕ) (len : BitVec 32) (x : EReal) : EReal := if (BitVec.ofNat 32 p).slt len then x else 0

theorem weights_pos (K : ℕ → Fin 96 → ℝ) (q : Fin 96 → ℝ) (p : ℕ) (μ : ℝ) : 0 < ∑ j ∈ Finset.range (p + 1), Real.exp ((score K q j - μ) * c1) :=
  Finset.sum_pos (fun _ _ => Real.exp_pos _) ⟨0, by simp⟩

/-- Shifting every score alike leaves the softmax mean as it is. -/
theorem out_shift (K : ℕ → Fin 96 → ℝ) (V : Fin 96 → ℕ → ℝ) (q : Fin 96 → ℝ) (p : ℕ) (d : Fin 96) (μ : ℝ) :
    (∑ j ∈ Finset.range (p + 1), V d j * Real.exp ((score K q j - μ) * c1)) / (∑ j ∈ Finset.range (p + 1), Real.exp ((score K q j - μ) * c1)) = out K V q p d := by
  have e : ∀ j, Real.exp ((score K q j - μ) * c1) = Real.exp (score K q j * c1) * Real.exp (-(μ * c1)) := fun j => by
    rw [← Real.exp_add]; congr 1; ring
  simp only [e, ← mul_assoc]
  rw [← Finset.sum_mul, ← Finset.sum_mul, mul_div_mul_right _ _ (Real.exp_pos _).ne']
  rfl

/-- The arguments as reals: queries, cosines, sines, keys, values by sequence, head, position; and the lengths. -/
structure Args where
  len : Fin 2 → BitVec 32
  X : Fin 2 → Fin 12 → Fin 28672 → Fin 96 → ℝ
  C : Fin 2 → Fin 28672 → Fin 48 → ℝ
  S : Fin 2 → Fin 28672 → Fin 48 → ℝ
  K : Fin 2 → Fin 4 → ℕ → Fin 96 → ℝ
  V : Fin 2 → Fin 4 → Fin 96 → ℕ → ℝ

/-- The key head of a query head. -/
def grp (h : Fin 12) : Fin 4 := ⟨h.val / 3, by omega⟩

/-- The rotated query of a position. -/
def Args.q (A : Args) (b : Fin 2) (h : Fin 12) (p : Fin 28672) : Fin 96 → ℝ := rot (A.X b h p) (A.C b p) (A.S b p)

/-- The four results at a position. -/
def Args.resO (A : Args) (b : Fin 2) (h : Fin 12) (d : Fin 96) (p : Fin 28672) : EReal :=
  masked p.val (A.len b) ((out (A.K b (grp h)) (A.V b (grp h)) (A.q b h p) p.val d : ℝ) : EReal)
def Args.resQ (A : Args) (b : Fin 2) (h : Fin 12) (p : Fin 28672) : EReal := masked p.val (A.len b) (mag (A.q b h p))
def Args.resS (A : Args) (b : Fin 2) (h : Fin 12) (p : Fin 28672) : EReal := masked p.val (A.len b) (scoreMax (A.K b (grp h)) (A.q b h p) p.val)
def Args.resR (A : Args) (b : Fin 2) (h : Fin 12) (p : Fin 28672) : EReal :=
  masked p.val (A.len b) (mag (out (A.K b (grp h)) (A.V b (grp h)) (A.q b h p) p.val))

/-- The arrays hold the arguments: real entries, and the keys' 32 further columns three ones and then zeros. -/
structure Holds (A : Args) (x0 : (⟨1, ![2]⟩ : Shape).Idx → BitVec 32) (x1 : (⟨4, ![2, 12, 96, 28672]⟩ : Shape).Idx → EReal)
    (x2 x3 : (⟨3, ![2, 48, 28672]⟩ : Shape).Idx → EReal) (x4 : (⟨4, ![2, 4, 28672, 128]⟩ : Shape).Idx → EReal)
    (x5 : (⟨4, ![2, 4, 96, 28672]⟩ : Shape).Idx → EReal) : Prop where
  len : ∀ b : Fin 2, x0 (ix1 b) = A.len b
  x : ∀ (b : Fin 2) (h : Fin 12) (d : Fin 96) (p : Fin 28672), x1 (ix4 b h d p) = ((A.X b h p d : ℝ) : EReal)
  c : ∀ (b : Fin 2) (e : Fin 48) (p : Fin 28672), x2 (ix3 b e p) = ((A.C b p e : ℝ) : EReal)
  s : ∀ (b : Fin 2) (e : Fin 48) (p : Fin 28672), x3 (ix3 b e p) = ((A.S b p e : ℝ) : EReal)
  k : ∀ (b : Fin 2) (g : Fin 4) (j : Fin 28672) (d : Fin 96), x4 (ix4 b g j ⟨d.val, by omega⟩) = ((A.K b g j.val d : ℝ) : EReal)
  tail : ∀ (b : Fin 2) (g : Fin 4) (j : Fin 28672) (r : Fin 32), x4 (ix4 b g j ⟨96 + r.val, by omega⟩) = if r.val < 3 then 1 else 0
  v : ∀ (b : Fin 2) (g : Fin 4) (d : Fin 96) (j : Fin 28672), x5 (ix4 b g d j) = ((A.V b g d j.val : ℝ) : EReal)

end Cert.Spec

end
-- ==== Proof.IdealTile.lean ====
/-
  Hand-written. A pass over the keys and the loop over the passes, over the extended reals, on real inputs: for each query lane,
  the weights' sum, the weighted values, the greatest and the least shifted score over the keys the query sees, whatever real
  shift the tile took.
-/
module

public import proofs.«01_k».proof.Proof.IdealPass
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Cert.Fold
open Cert.Spec (score)

/-- Row `d` of the head's 96 among the 128 augmented rows. -/
def lowRow (d : Fin 96) : Fin 128 := ⟨d.val, by omega⟩

/-- Row `r` of the 32 rows past the head's 96. -/
def tailRow (r : Fin 32) : Fin 128 := ⟨96 + r.val, by omega⟩

theorem kBlk_at (k : Vec Ideal S1x1x28672x128 .bf16) (n : ℕ) (hn : n < 56) (i : Fin 512) (r : Fin 128) :
    kBlk k n (ix4 0 0 i r) = k (ix4 0 0 ⟨512 * n + i.val, by omega⟩ r) := by
  unfold kBlk
  rw [dif_pos hn]
  unfold VecWindow.window
  refine congrArg k ?_
  funext a
  apply Fin.ext
  fin_cases a <;> simp [Rect.unit, Rect.emb, ix4]

theorem vBlk_at (v : Vec Ideal S1x1x96x28672 .bf16) (n : ℕ) (hn : n < 56) (d : Fin 96) (i : Fin 512) :
    vBlk v n (ix4 0 0 d i) = v (ix4 0 0 d ⟨512 * n + i.val, by omega⟩) := by
  unfold vBlk
  rw [dif_pos hn]
  unfold VecWindow.window
  refine congrArg v ?_
  funext a
  apply Fin.ext
  fin_cases a <;> simp [Rect.unit, Rect.emb, ix4]

theorem put_low (x : Vec Ideal S128x512 .bf16) (w : Vec Ideal S32x512 .bf16) (d : Fin 96) (c : Fin 512) :
    VecWindow.put x ![96, 0] S32x512.size w (ix2 (lowRow d) c) = x (ix2 (lowRow d) c) := by
  unfold VecWindow.put
  rw [dif_neg]
  intro h
  have := (h 0).1
  simp [ix2, lowRow] at this
  omega

theorem put_tail (x : Vec Ideal S128x512 .bf16) (w : Vec Ideal S32x512 .bf16) (r : Fin 32) (c : Fin 512) :
    VecWindow.put x ![96, 0] S32x512.size w (ix2 (tailRow r) c) = w (ix2 r c) := by
  unfold VecWindow.put
  rw [dif_pos]
  · refine congrArg w ?_
    funext a
    apply Fin.ext
    fin_cases a <;> simp [Rect.unitLocal, ix2, tailRow]
  · intro a
    fin_cases a <;> simp [ix2, tailRow, S32x512] <;> omega

theorem put_head (x : Vec Ideal S128x512 .bf16) (w : Vec Ideal S96x512 .bf16) (d : Fin 96) (c : Fin 512) :
    VecWindow.put x ![0, 0] S96x512.size w (ix2 (lowRow d) c) = w (ix2 d c) := by
  unfold VecWindow.put
  rw [dif_pos]
  · refine congrArg w ?_
    funext a
    apply Fin.ext
    fin_cases a <;> simp [Rect.unitLocal, ix2, lowRow]
  · intro a
    fin_cases a <;> simp [ix2, lowRow, S96x512] <;> omega

/-- The keys and values as reals: the head's columns of the keys, the values, and the keys' three ones. -/
structure RealKV (k : Vec Ideal S1x1x28672x128 .bf16) (v : Vec Ideal S1x1x96x28672 .bf16) (K : ℕ → Fin 96 → ℝ) (V : Fin 96 → ℕ → ℝ) : Prop where
  key : ∀ (j : Fin 28672) (d : Fin 96), k (ix4 0 0 j (lowRow d)) = ((K j.val d : ℝ) : EReal)
  tail : ∀ (j : Fin 28672) (r : Fin 32), k (ix4 0 0 j (tailRow r)) = if r.val < 3 then 1 else 0
  val : ∀ (d : Fin 96) (j : Fin 28672), v (ix4 0 0 d j) = ((V d j.val : ℝ) : EReal)

/-- The tile's query rows at lane `c`: the rotated query over the shift rows of the shift `μ`. -/
structure QaAt (qa : Vec Ideal S128x512 .bf16) (c : Fin 512) (q : Fin 96 → ℝ) (μ : ℝ) : Prop where
  low : ∀ d : Fin 96, qa (ix2 (lowRow d) c) = ((q d : ℝ) : EReal)
  tail : ∀ r : Fin 32, qa (ix2 (tailRow r) c) = if r.val = 0 then ((-μ : ℝ) : EReal) else 0

theorem sum_128 (f : Fin 128 → EReal) : ∑ r, f r = ∑ d : Fin 96, f (lowRow d) + ∑ r : Fin 32, f (tailRow r) :=
  Fin.sum_univ_add (a := 96) (b := 32) f

variable {k : Vec Ideal S1x1x28672x128 .bf16} {v : Vec Ideal S1x1x96x28672 .bf16} {K : ℕ → Fin 96 → ℝ} {V : Fin 96 → ℕ → ℝ}
  {qa : Vec Ideal S128x512 .bf16} {c : Fin 512} {q : Fin 96 → ℝ} {μ : ℝ}

/-- A key's product with the augmented query: the raw score less the shift. -/
theorem dot_at (hkv : RealKV k v K V) (hq : QaAt qa c q μ) (n : ℕ) (hn : n < 56) (i : Fin 512) :
    (∑ r : Fin 128, kBlk k n (ix4 0 0 i r) * qa (ix2 r c)) = ((score K q (512 * n + i.val) - μ : ℝ) : EReal) := by
  rw [sum_128]
  have h1 : (∑ d : Fin 96, kBlk k n (ix4 0 0 i (lowRow d)) * qa (ix2 (lowRow d) c)) = ((score K q (512 * n + i.val) : ℝ) : EReal) := by
    unfold score
    rw [← coe_sum]
    refine Finset.sum_congr rfl fun d _ => ?_
    rw [kBlk_at k n hn, hkv.key, hq.low, EReal.coe_mul]
  have h2 : (∑ r : Fin 32, kBlk k n (ix4 0 0 i (tailRow r)) * qa (ix2 (tailRow r) c)) = ((-μ : ℝ) : EReal) := by
    rw [Finset.sum_eq_single (0 : Fin 32)]
    · rw [kBlk_at k n hn, hkv.tail, hq.tail]; simp
    · intro r _ hr
      rw [hq.tail, if_neg (fun h : r.val = 0 => hr (Fin.ext h)), mul_zero]
    · intro h; exact absurd (Finset.mem_univ _) h
  rw [h1, h2, ← EReal.coe_add, sub_eq_add_neg]

/-- What a pass holds at lane `c` once it has seen keys `0 … N - 1`, `T` their shifted scores. -/
structure Folded (s : Pass Ideal) (c : Fin 512) (N : ℕ) (T : ℕ → EReal) (W : Fin 96 → ℕ → EReal) : Prop where
  l : ∑ r : Fin 8, s.l (ix2 r c) = ∑ j ∈ Finset.range N, wt (T j)
  acc : ∀ d : Fin 96, s.acc (ix2 d c) = ∑ j ∈ Finset.range N, W d j * wt (T j)
  hi : (Finset.univ.sup fun r : Fin 8 => s.hi (ix2 r c)) = (Finset.range N).sup T
  lo : (Finset.univ.inf fun r : Fin 8 => s.lo (ix2 r c)) = (Finset.range N).inf T

/-- The shifted score of key `j`, as an extended real. -/
def shifted (K : ℕ → Fin 96 → ℝ) (q : Fin 96 → ℝ) (μ : ℝ) (j : ℕ) : EReal := ((score K q j - μ : ℝ) : EReal)

/-- The values as extended reals. -/
def vals (V : Fin 96 → ℕ → ℝ) (d : Fin 96) (j : ℕ) : EReal := ((V d j : ℝ) : EReal)

theorem folded_init (c : Fin 512) (T : ℕ → EReal) (W : Fin 96 → ℕ → EReal) : Folded Pass.init c 0 T W := by
  refine ⟨?_, fun d => ?_, ?_, ?_⟩
  · exact (Finset.sum_congr rfl fun r _ => pay20_at r c).trans (by simp)
  · exact (pay19_at d c).trans (by simp)
  · exact (Finset.sup_congr rfl fun r _ => pay21_at r c).trans (by simp)
  · exact (Finset.inf_congr rfl fun r _ => pay22_at r c).trans (by simp)

theorem sup_sup' (f g : Fin 8 → EReal) : (Finset.univ.sup fun r => f r ⊔ g r) = Finset.univ.sup f ⊔ Finset.univ.sup g := Finset.sup_sup

theorem inf_inf' (f g : Fin 8 → EReal) : (Finset.univ.inf fun r => f r ⊓ g r) = Finset.univ.inf f ⊓ Finset.univ.inf g := Finset.inf_inf

theorem folded_step (hkv : RealKV k v K V) (hq : QaAt qa c q μ) (n : ℕ) (hn : n < 56) (s : Pass Ideal)
    (h : Folded s c (512 * n) (shifted K q μ) (vals V)) :
    Folded (Pass.step (kBlk k n) (vBlk v n) qa s) c (512 * (n + 1)) (shifted K q μ) (vals V) := by
  have e9 : ∀ i : Fin 512, k0_pay9 (F := Ideal) (kBlk k n) qa (ix2 i c) = shifted K q μ (512 * n + i.val) := fun i => (pay9_at _ _ i c).trans (dot_at hkv hq n hn i)
  have e12 : ∀ i : Fin 512, k0_pay12 (F := Ideal) (kBlk k n) qa (ix2 i c) = wt (shifted K q μ (512 * n + i.val)) := fun i => by rw [pay12_at, e9]
  have en : 512 * (n + 1) = 512 * n + 512 := by ring
  rw [en]
  refine ⟨?_, fun d => ?_, ?_, ?_⟩
  · have e : ∀ r : Fin 8, (Pass.step (kBlk k n) (vBlk v n) qa s).l (ix2 r c) = s.l (ix2 r c) + ∑ g, wt (shifted K q μ (512 * n + (row g r).val)) := fun r =>
      (pay13_at _ _ _ r c).trans (congrArg _ (Finset.sum_congr rfl fun g _ => e12 _))
    rw [Finset.sum_congr rfl fun r _ => e r, Finset.sum_add_distrib, h.l, sum_rows (fun i => wt (shifted K q μ (512 * n + i.val))),
      Finset.sum_range_add, Finset.sum_range (fun i => wt (shifted K q μ (512 * n + i)))]
  · have e : (Pass.step (kBlk k n) (vBlk v n) qa s).acc (ix2 d c) = s.acc (ix2 d c) + ∑ i : Fin 512, vals V d (512 * n + i.val) * wt (shifted K q μ (512 * n + i.val)) :=
      (pay23_at _ _ _ d c).trans (congrArg _ (Finset.sum_congr rfl fun i _ => by rw [e12, vBlk_at v n hn, hkv.val]; rfl))
    rw [e, h.acc, Finset.sum_range_add, Finset.sum_range (fun i => vals V d (512 * n + i) * wt (shifted K q μ (512 * n + i)))]
  · have e : ∀ r : Fin 8, (Pass.step (kBlk k n) (vBlk v n) qa s).hi (ix2 r c) = s.hi (ix2 r c) ⊔ Finset.univ.sup fun g => shifted K q μ (512 * n + (row g r).val) := fun r =>
      (pay10_at _ _ _ r c).trans (congrArg _ (Finset.sup_congr rfl fun g _ => e9 _))
    rw [Finset.sup_congr rfl fun r _ => e r, sup_sup', h.hi, sup_rows (fun i => shifted K q μ (512 * n + i.val)), sup_add, sup_fin 512 (fun i => shifted K q μ (512 * n + i))]
  · have e : ∀ r : Fin 8, (Pass.step (kBlk k n) (vBlk v n) qa s).lo (ix2 r c) = s.lo (ix2 r c) ⊓ Finset.univ.inf fun g => shifted K q μ (512 * n + (row g r).val) := fun r =>
      (pay11_at _ _ _ r c).trans (congrArg _ (Finset.inf_congr rfl fun g _ => e9 _))
    rw [Finset.inf_congr rfl fun r _ => e r, inf_inf', h.lo, inf_rows (fun i => shifted K q μ (512 * n + i.val)), inf_add, inf_fin 512 (fun i => shifted K q μ (512 * n + i))]

theorem folded_steps (hkv : RealKV k v K V) (hq : QaAt qa c q μ) (n : ℕ) (hn : n ≤ 56) :
    Folded (Pass.steps k v qa n) c (512 * n) (shifted K q μ) (vals V) := by
  induction n with
  | zero => exact folded_init c _ _
  | succ n ih => exact folded_step hkv hq n (by omega) _ (ih (by omega))

theorem folded_diag (hkv : RealKV k v K V) (hq : QaAt qa c q μ) (n : ℕ) (hn : n < 56) (s : Pass Ideal)
    (h : Folded s c (512 * n) (shifted K q μ) (vals V)) :
    Folded (Pass.diag (kBlk k n) (vBlk v n) qa s) c (512 * n + (c.val + 1)) (shifted K q μ) (vals V) := by
  have e25 : ∀ i : Fin 512, k0_pay25 (F := Ideal) (kBlk k n) qa (ix2 i c) = shifted K q μ (512 * n + i.val) := fun i => (pay25_at _ _ i c).trans (dot_at hkv hq n hn i)
  have e28 : ∀ i : Fin 512, k0_pay28 (F := Ideal) (k0_pay25 (kBlk k n) qa) k0_pay26 k0_pay27 (ix2 i c) = if i.val ≤ c.val then shifted K q μ (512 * n + i.val) else ⊥ :=
    fun i => by rw [pay28_at, e25]
  have e31 : ∀ i : Fin 512, k0_pay31 (F := Ideal) (k0_pay25 (kBlk k n) qa) k0_pay26 k0_pay27 (ix2 i c) = if i.val ≤ c.val then wt (shifted K q μ (512 * n + i.val)) else 0 :=
    fun i => by
      rw [pay31_at, e28]
      by_cases hi : i.val ≤ c.val
      · rw [if_pos hi, if_pos hi]
      · rw [if_neg hi, if_neg hi, wt_bot]
  refine ⟨?_, fun d => ?_, ?_, ?_⟩
  · have e : ∀ r : Fin 8, (Pass.diag (kBlk k n) (vBlk v n) qa s).l (ix2 r c)
        = s.l (ix2 r c) + ∑ g, (fun i : Fin 512 => if i.val ≤ c.val then wt (shifted K q μ (512 * n + i.val)) else 0) (row g r) := fun r =>
      (pay32_at _ _ r c).trans (congrArg _ (Finset.sum_congr rfl fun g _ => e31 _))
    rw [Finset.sum_congr rfl fun r _ => e r, Finset.sum_add_distrib, h.l, sum_rows (fun i : Fin 512 => if i.val ≤ c.val then wt (shifted K q μ (512 * n + i.val)) else 0),
      Finset.sum_range_add, sum_cut 512 c.val c.isLt (fun i => wt (shifted K q μ (512 * n + i)))]
  · have e : (Pass.diag (kBlk k n) (vBlk v n) qa s).acc (ix2 d c)
        = s.acc (ix2 d c) + ∑ i : Fin 512, if i.val ≤ c.val then vals V d (512 * n + i.val) * wt (shifted K q μ (512 * n + i.val)) else 0 := by
      refine (congrFun (pay53_eq _) _).trans ((pay33_at _ _ _ d c).trans (congrArg _ (Finset.sum_congr rfl fun i _ => ?_)))
      rw [e31, vBlk_at v n hn, hkv.val]
      by_cases hi : i.val ≤ c.val
      · rw [if_pos hi, if_pos hi]; rfl
      · rw [if_neg hi, if_neg hi, mul_zero]
    rw [e, h.acc, Finset.sum_range_add, sum_cut 512 c.val c.isLt (fun i => vals V d (512 * n + i) * wt (shifted K q μ (512 * n + i)))]
  · have e : ∀ r : Fin 8, (Pass.diag (kBlk k n) (vBlk v n) qa s).hi (ix2 r c)
        = s.hi (ix2 r c) ⊔ Finset.univ.sup fun g => (fun i : Fin 512 => if i.val ≤ c.val then shifted K q μ (512 * n + i.val) else ⊥) (row g r) := fun r =>
      (pay29_at _ _ r c).trans (congrArg _ (Finset.sup_congr rfl fun g _ => e28 _))
    rw [Finset.sup_congr rfl fun r _ => e r, sup_sup', h.hi, sup_rows (fun i : Fin 512 => if i.val ≤ c.val then shifted K q μ (512 * n + i.val) else ⊥), sup_add, sup_cut 512 c.val c.isLt (fun i => shifted K q μ (512 * n + i))]
  · have e : ∀ r : Fin 8, (Pass.diag (kBlk k n) (vBlk v n) qa s).lo (ix2 r c)
        = s.lo (ix2 r c) ⊓ Finset.univ.inf fun g => (fun i : Fin 512 => if i.val ≤ c.val then shifted K q μ (512 * n + i.val) else ⊤) (row g r) := fun r =>
      (pay30_at _ _ r c).trans (congrArg _ (Finset.inf_congr rfl fun g _ => by rw [e25]))
    rw [Finset.inf_congr rfl fun r _ => e r, inf_inf', h.lo, inf_rows (fun i : Fin 512 => if i.val ≤ c.val then shifted K q μ (512 * n + i.val) else ⊤), inf_add, inf_cut 512 c.val c.isLt (fun i => shifted K q μ (512 * n + i))]

theorem folded_whole (hkv : RealKV k v K V) (hq : QaAt qa c q μ) (n : ℕ) (hn : n < 56) :
    Folded (Pass.whole k v n qa) c (512 * n + c.val + 1) (shifted K q μ) (vals V) :=
  folded_diag hkv hq n hn _ (folded_steps hkv hq n (by omega))

/-- A tile is good at lane `c`: its pass was made with the query rows of its own real shift. -/
def Good (k : Vec Ideal S1x1x28672x128 .bf16) (v : Vec Ideal S1x1x96x28672 .bf16) (n : ℕ) (q : Fin 512 → Fin 96 → ℝ) (T : Tile Ideal) : Prop :=
  ∃ qa : Vec Ideal S128x512 .bf16, T.s = Pass.whole k v n qa ∧ ∀ c : Fin 512, ∃ μ : ℝ, T.m (ix2 0 c) = (μ : EReal) ∧ QaAt qa c (q c) μ

theorem redo_good_of_not (n r : ℕ) (T : Tile Ideal) (q : Fin 512 → Fin 96 → ℝ)
    (hT : ∀ c : Fin 512, ∃ μ : ℝ, T.m (ix2 0 c) = (μ : EReal) ∧ QaAt T.qa c (q c) μ)
    (h : ¬ Scalar.cmpi .ne (Scalar.extui (againWord (Pass.whole k v n T.qa).hi r) : BitVec 32) 0#32 = 1#1) :
    Good k v n q (T.redo k v n r) := by
  rw [Tile.redo_of_not k v n r T h]
  exact ⟨T.qa, rfl, hT⟩

/-- After a trip that asks for another, the new query rows are those of the new shift. -/
theorem redo_shift (hkv : RealKV k v K V) (n : ℕ) (hn : n < 56) (r : ℕ) (T : Tile Ideal) (q : Fin 512 → Fin 96 → ℝ)
    (hT : ∀ c : Fin 512, ∃ μ : ℝ, T.m (ix2 0 c) = (μ : EReal) ∧ QaAt T.qa c (q c) μ)
    (h : Scalar.cmpi .ne (Scalar.extui (againWord (Pass.whole k v n T.qa).hi r) : BitVec 32) 0#32 = 1#1) :
    ∀ c : Fin 512, ∃ μ : ℝ, (T.redo k v n r).m (ix2 0 c) = (μ : EReal) ∧ QaAt (T.redo k v n r).qa c (q c) μ := by
  intro c
  obtain ⟨μ, hm, hq⟩ := hT c
  obtain ⟨x, hx, -, -⟩ := sup_real (512 * n + c.val) (fun j => score K (q c) j - μ)
  have hhi := (folded_whole hkv hq n hn).hi
  have e58 : k0_pay58 (F := Ideal) (Pass.whole k v n T.qa).hi T.m (ix2 0 c) = ((μ + x : ℝ) : EReal) := by
    rw [pay58_at, hm, hhi, EReal.coe_add]
    exact congrArg _ hx
  rw [Tile.redo_of k v n r T h]
  refine ⟨μ + x, e58, ⟨fun d => ?_, fun r => ?_⟩⟩
  · exact (put_low _ _ d c).trans (hq.low d)
  · exact (put_tail _ _ r c).trans (pay57_at _ _ r c _ e58)

theorem again_one (hi : Vec Ideal S8x512 .f32) : ¬ Scalar.cmpi .ne (Scalar.extui (againWord hi 1) : BitVec 32) 0#32 = 1#1 := by
  have e : againWord hi 1 = 0#1 := by
    unfold againWord
    rw [show Scalar.cmpi .eq (Scf.iv 0#32 1#32 1) 0#32 = 0#1 by decide]
    generalize Scalar.cmpf .ogt (k0_pay55 hi) (FloatOps.ofBits .f32 0x42000000#32) = b
    revert b
    decide
  rw [e]
  decide

theorem bit_back (b : BitVec 1) (h : ¬ Scalar.cmpi .ne (Scalar.extui b : BitVec 32) 0#32 = 1#1) :
    ¬ Scalar.cmpi .ne (Scalar.extui (Scalar.cmpi .ne (Scalar.extui b : BitVec 32) 0#32) : BitVec 32) 0#32 = 1#1 := by
  revert b
  decide

theorem bit_on (b : BitVec 1) (h : Scalar.cmpi .ne (Scalar.extui b : BitVec 32) 0#32 = 1#1) :
    Scalar.cmpi .ne (Scalar.extui (Scalar.cmpi .ne (Scalar.extui b : BitVec 32) 0#32) : BitVec 32) 0#32 = 1#1 := by
  revert b
  decide

/-- Two trips from a tile whose query rows are those of its shift end in a good tile. -/
theorem after_two_good (hkv : RealKV k v K V) (n : ℕ) (hn : n < 56) (T : Tile Ideal) (q : Fin 512 → Fin 96 → ℝ) (hf : T.flag = 1#32)
    (hT : ∀ c : Fin 512, ∃ μ : ℝ, T.m (ix2 0 c) = (μ : EReal) ∧ QaAt T.qa c (q c) μ) : Good k v n q (Tile.after k v n T 2) := by
  show Good k v n q (Tile.trip k v n 1 (Tile.trip k v n 0 T))
  have h0 : Scalar.cmpi .ne (Scalar.extui (Scalar.cmpi .ne T.flag 0#32) : BitVec 32) 0#32 = 1#1 := by rw [hf]; decide
  rw [Tile.trip_of k v n 0 T h0]
  by_cases h : Scalar.cmpi .ne (Scalar.extui (againWord (Pass.whole k v n T.qa).hi 0) : BitVec 32) 0#32 = 1#1
  · have hs := redo_shift hkv n hn 0 T q hT h
    have hflag : (T.redo k v n 0).flag = Scalar.extui (againWord (Pass.whole k v n T.qa).hi 0) := by rw [Tile.redo_of k v n 0 T h]
    generalize T.redo k v n 0 = T1 at hs hflag
    have h1 : Scalar.cmpi .ne (Scalar.extui (Scalar.cmpi .ne T1.flag 0#32) : BitVec 32) 0#32 = 1#1 := by
      rw [hflag]; exact bit_on _ h
    rw [Tile.trip_of k v n 1 T1 h1]
    exact redo_good_of_not n 1 T1 q hs (again_one _)
  · have hg := redo_good_of_not (k := k) (v := v) n 0 T q hT h
    have hflag : (T.redo k v n 0).flag = Scalar.extui (againWord (Pass.whole k v n T.qa).hi 0) := by rw [Tile.redo_of_not k v n 0 T h]
    generalize T.redo k v n 0 = T1 at hg hflag
    have h1 : ¬ Scalar.cmpi .ne (Scalar.extui (Scalar.cmpi .ne T1.flag 0#32) : BitVec 32) 0#32 = 1#1 := by
      rw [hflag]; exact bit_back _ h
    rw [Tile.trip_of_not k v n 1 T1 h1]
    exact hg

theorem start_m (kb : Vec Ideal S1x1x512x128 .bf16) (w : BitVec 32) (rope : FVec Ideal S96x512 .bf16) (s : Pass Ideal) :
    (Tile.start kb w rope s).m = k0_pay46 w kb (qaZero rope) := by
  simp only [Tile.start, pay52_eq]

/-- The tile as the loop finds it: its query rows are those of the first shift, a real. -/
theorem start_shift (hkv : RealKV k v K V) (n : ℕ) (hn : n < 56) (rope : FVec Ideal S96x512 .bf16) (q : Fin 512 → Fin 96 → ℝ)
    (hr : ∀ (d : Fin 96) (c : Fin 512), rope (ix2 d c) = ((q c d : ℝ) : EReal)) (s : Pass Ideal) :
    ∀ c : Fin 512, ∃ μ : ℝ, (Tile.start (kBlk k 0) (Scalar.muli (BitVec.ofNat 32 n) 512#32) rope s).m (ix2 0 c) = (μ : EReal)
      ∧ QaAt (Tile.start (kBlk k 0) (Scalar.muli (BitVec.ofNat 32 n) 512#32) rope s).qa c (q c) μ := by
  intro c
  have hz : QaAt (qaZero rope) c (q c) 0 := by
    refine ⟨fun d => ?_, fun r => ?_⟩
    · refine (put_low _ _ d c).trans ((put_head _ _ d c).trans ?_)
      rw [pay42_eq]; exact hr d c
    · refine (put_tail _ _ r c).trans ((pay44_at r c).trans ?_)
      simp
  have hw : Scalar.muli (BitVec.ofNat 32 n) 512#32 + BitVec.ofNat 32 c.val = BitVec.ofNat 32 (512 * n + c.val) := by
    unfold Scalar.muli
    apply BitVec.eq_of_toNat_eq
    simp [IntOp.muli, BitVec.toNat_add, BitVec.toNat_mul, BitVec.toNat_ofNat]
    omega
  have e46 : ∃ μ : ℝ, k0_pay46 (F := Ideal) (Scalar.muli (BitVec.ofNat 32 n) 512#32) (kBlk k 0) (qaZero rope) (ix2 0 c) = (μ : EReal) := by
    rw [pay46_at, hw]
    have hd : ∀ i : Fin 512, (if (BitVec.ofNat 32 i.val).sle (BitVec.ofNat 32 (512 * n + c.val)) then ∑ r : Fin 128, kBlk k 0 (ix4 0 0 i r) * qaZero rope (ix2 r c) else ⊥)
        = if i.val ≤ 512 * n + c.val then ((score K (q c) i.val : ℝ) : EReal) else ⊥ := by
      intro i
      rw [dot_at hkv hz 0 (by omega) i, sle_small _ _ (by omega) (by omega)]
      simp
    rw [Finset.sup_congr rfl fun i _ => hd i]
    have hle : ∀ x : EReal, x = (Finset.univ.sup fun i : Fin 512 => if i.val ≤ 512 * n + c.val then ((score K (q c) i.val : ℝ) : EReal) else ⊥) → ∃ μ : ℝ, x = (μ : EReal) := by
      intro x hx
      have h0 : ((score K (q c) 0 : ℝ) : EReal) ≤ x := by
        rw [hx]
        have := Finset.le_sup (f := fun i : Fin 512 => if i.val ≤ 512 * n + c.val then ((score K (q c) i.val : ℝ) : EReal) else ⊥) (Finset.mem_univ (0 : Fin 512))
        simpa using this
      have h1 : x < ⊤ := by
        rw [hx, Finset.sup_lt_iff (by exact bot_lt_top)]
        intro i _
        split
        · exact EReal.coe_lt_top _
        · exact bot_lt_top
      refine ⟨x.toReal, (EReal.coe_toReal h1.ne ?_).symm⟩
      intro hb
      rw [hb] at h0
      exact absurd (le_bot_iff.1 h0) (EReal.coe_ne_bot _)
    exact hle _ rfl
  obtain ⟨μ, hμ⟩ := e46
  refine ⟨μ, ?_, ⟨fun d => ?_, fun r => ?_⟩⟩
  · rw [start_m]; exact hμ
  · exact (put_low _ _ d c).trans (hz.low d)
  · exact (put_tail _ _ r c).trans (pay51_at _ _ _ r c μ hμ)

/-- The tile after the loop over the passes is good. -/
theorem final_good (hkv : RealKV k v K V) (n : ℕ) (hn : n < 56) (rope : FVec Ideal S96x512 .bf16) (q : Fin 512 → Fin 96 → ℝ)
    (hr : ∀ (d : Fin 96) (c : Fin 512), rope (ix2 d c) = ((q c d : ℝ) : EReal)) :
    Good k v n q (Tile.final k v n (Scalar.muli (BitVec.ofNat 32 n) 512#32) rope) :=
  after_two_good hkv n hn _ q rfl (start_shift hkv n hn rope q hr _)

end Cert.KernelIdeal.Hand

end
-- ==== Proof.IdealOut.lean ====
/-
  Hand-written. What a grid point writes, over the extended reals, on real inputs: the softmax mean and the three maxima of its
  512 positions, zero past the sequence's length.
-/
module

public import proofs.«01_k».proof.Proof.IdealTile

@[expose] public section

set_option maxRecDepth 16384

noncomputable section

namespace Cert.KernelIdeal.Hand

open Cert.KernelIdeal Cert.KernelIdeal.Gen
open Idealize.ShloMosaic Idealize.ShloMosaic.TcCoe
open Cert.Fold
open Cert.Spec (score rot masked mag scoreMax)

theorem absf_coe (φ : FTy) (r : ℝ) : FloatOps.absf (F := Ideal) (φ := φ) ((r : ℝ) : EReal) = ((|r| : ℝ) : EReal) := by
  show max (r : EReal) (-(r : EReal)) = _
  rcases le_total 0 r with h | h
  · rw [abs_of_nonneg h, max_eq_left]
    rw [← EReal.coe_neg, EReal.coe_le_coe_iff]; linarith
  · rw [abs_of_nonpos h, max_eq_right, EReal.coe_neg]
    rw [← EReal.coe_neg, EReal.coe_le_coe_iff]; linarith

theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem pay34_at (len w : BitVec 32) (c : Fin 512) : k0_pay34 (F := Ideal) len w (ix2 0 c) = BitVec.ofBool ((w + BitVec.ofNat 32 c.val).slt len) := by
  pointwise [k0_pay34]
  rfl

theorem pay35_at (x : Vec Ideal S1x1x96x512 .bf16) (cs sn : Vec Ideal S1x48x512 .f32) (c : Fin 512) (X : Fin 96 → ℝ) (C S : Fin 48 → ℝ)
    (hx : ∀ d, x (ix4 0 0 d c) = ((X d : ℝ) : EReal)) (hc : ∀ e, cs (ix3 0 e c) = ((C e : ℝ) : EReal)) (hs : ∀ e, sn (ix3 0 e c) = ((S e : ℝ) : EReal)) (d : Fin 96) :
    k0_pay35 (F := Ideal) x cs sn (ix2 d c) = ((rot X C S d : ℝ) : EReal) := by
  pointwise [k0_pay35]
  unfold Cert.Spec.rot
  by_cases h : d.val < 48
  · rw [dif_pos h, dif_pos h, hx, hx, hc, hs, ← EReal.coe_mul, ← EReal.coe_mul, ← EReal.coe_sub]
  · rw [dif_neg h, dif_neg h, hx, hx, hc, hs, ← EReal.coe_mul, ← EReal.coe_mul, ← EReal.coe_add]
    have e : (⟨48 + (d.val - 48), by omega⟩ : Fin 96) = ⟨d.val, by omega⟩ := Fin.ext (by show 48 + (d.val - 48) = d.val; omega)
    rw [e]

theorem pay36_at (len w : BitVec 32) (x : Vec Ideal S1x1x96x512 .bf16) (cs sn : Vec Ideal S1x48x512 .f32) (c : Fin 512) :
    k0_pay37 (F := Ideal) len w x cs sn (ix4 0 0 0 c)
      = Scalar.select (k0_pay34 (F := Ideal) len w (ix2 0 c)) (Finset.univ.sup fun d : Fin 96 => FloatOps.absf (k0_pay35 x cs sn (ix2 d c))) (0 : EReal) := by
  unfold k0_pay37 k0_pay36
  generalize k0_pay35 x cs sn = y
  generalize k0_pay34 len w = z
  pointwise
  rw [ofBits_bot16]
  rfl

theorem pay60_at (z : IVec S1x512 1) (m : Vec Ideal S1x512 .f32) (hi lo : Vec Ideal S8x512 .f32) (c : Fin 512) :
    k0_pay60 (F := Ideal) z m hi lo (ix4 0 0 0 c)
      = Scalar.select (z (ix2 0 c)) (max (FloatOps.absf (F := Ideal) (φ := .f32) ((Finset.univ.sup fun r : Fin 8 => hi (ix2 r c)) + m (ix2 0 c) : EReal))
          (FloatOps.absf (F := Ideal) (φ := .f32) ((Finset.univ.inf fun r : Fin 8 => lo (ix2 r c)) + m (ix2 0 c) : EReal)) * ((c1 : ℝ) : EReal)) (0 : EReal) := by
  unfold k0_pay60 k0_pay59
  pointwise
  rw [ofBits_bot, ofBits_top, named_c1]
  rfl

theorem pay62_at (z : IVec S1x512 1) (l : Vec Ideal S8x512 .f32) (a : Vec Ideal S96x512 .f32) (d : Fin 96) (c : Fin 512) :
    k0_pay62 (F := Ideal) z l a (ix2 d c) = Scalar.select (z (ix2 0 c)) (Ideal.div (a (ix2 d c)) (∑ r : Fin 8, l (ix2 r c))) (0 : EReal) := by
  unfold k0_pay62
  pointwise

theorem pay63_at (z : IVec S1x512 1) (l : Vec Ideal S8x512 .f32) (a : Vec Ideal S96x512 .f32) (d : Fin 96) (c : Fin 512) :
    k0_pay63 (F := Ideal) z l a (ix4 0 0 d c) = k0_pay62 (F := Ideal) z l a (ix2 d c) := by
  unfold k0_pay63
  generalize k0_pay62 z l a = y
  pointwise

theorem pay65_at (z : IVec S1x512 1) (l : Vec Ideal S8x512 .f32) (a : Vec Ideal S96x512 .f32) (c : Fin 512) :
    k0_pay65 (F := Ideal) z l a (ix4 0 0 0 c) = Finset.univ.sup fun d : Fin 96 => FloatOps.absf (F := Ideal) (φ := .f32) (k0_pay62 (F := Ideal) z l a (ix2 d c)) := by
  unfold k0_pay65 k0_pay64
  generalize k0_pay62 z l a = y
  pointwise
  rw [ofBits_bot]
  rfl

theorem pay4_at (d : Fin 96) (c : Fin 512) : k0_pay4 (F := Ideal) (ix4 0 0 d c) = (0 : EReal) := by pointwise [k0_pay4]
theorem pay5_at (c : Fin 512) : k0_pay5 (F := Ideal) (ix4 0 0 0 c) = (0 : EReal) := by pointwise [k0_pay5]
theorem pay6_at (c : Fin 512) : k0_pay6 (F := Ideal) (ix4 0 0 0 c) = (0 : EReal) := by pointwise [k0_pay6]
theorem pay7_at (c : Fin 512) : k0_pay7 (F := Ideal) (ix4 0 0 0 c) = (0 : EReal) := by pointwise [k0_pay7]

/-- The weight of a real shifted score. -/
theorem wt_coe (t : ℝ) : wt (t : EReal) = ((Real.exp (t * Cert.Spec.c1) : ℝ) : EReal) := by
  unfold wt
  rw [← EReal.coe_mul, Ideal.exp2_coe]
  congr 1
  show (2 : ℝ) ^ (t * c2) = _
  rw [Real.rpow_def_of_pos (by norm_num)]
  congr 1
  unfold c2 Cert.Spec.c1
  have : Real.log 2 ≠ 0 := (Real.log_pos (by norm_num)).ne'
  field_simp

theorem pos_word (n : ℕ) (c : Fin 512) (hn : n < 56) : Scalar.muli (BitVec.ofNat 32 n) 512#32 + BitVec.ofNat 32 c.val = BitVec.ofNat 32 (512 * n + c.val) := by
  unfold Scalar.muli
  apply BitVec.eq_of_toNat_eq
  simp [IntOp.muli, BitVec.toNat_add, BitVec.toNat_mul, BitVec.toNat_ofNat]
  omega

theorem not_slt_of_dead (n : ℕ) (hn : n < 56) (len : BitVec 32) (c : Fin 512) (h : len.sle (Scalar.muli (BitVec.ofNat 32 n) 512#32) = true) :
    (BitVec.ofNat 32 (512 * n + c.val)).slt len = false := by
  have e : Scalar.muli (BitVec.ofNat 32 n) 512#32 = BitVec.ofNat 32 (512 * n) := by
    have := pos_word n 0 hn
    simpa using this
  rw [e, BitVec.sle] at h
  rw [BitVec.slt]
  rw [toInt_small _ (by omega)] at h ⊢
  simp at h ⊢
  omega

section Point

variable {k : Vec Ideal S1x1x28672x128 .bf16} {v : Vec Ideal S1x1x96x28672 .bf16} {K : ℕ → Fin 96 → ℝ} {V : Fin 96 → ℕ → ℝ}

/-- What the good tile's pass says at a lane: the unmasked results. -/
theorem good_out (hkv : RealKV k v K V) (n : ℕ) (hn : n < 56) (q : Fin 512 → Fin 96 → ℝ) (T : Tile Ideal) (hT : Good k v n q T) (c : Fin 512) (d : Fin 96) :
    Ideal.div (T.s.acc (ix2 d c)) (∑ r : Fin 8, T.s.l (ix2 r c)) = ((Cert.Spec.out K V (q c) (512 * n + c.val) d : ℝ) : EReal) := by
  obtain ⟨qa, hs, hc⟩ := hT
  obtain ⟨μ, -, hq⟩ := hc c
  have hf := folded_whole hkv hq n hn
  rw [hs, hf.l, hf.acc]
  have e1 : (∑ j ∈ Finset.range (512 * n + c.val + 1), wt (shifted K (q c) μ j))
      = ((∑ j ∈ Finset.range (512 * n + c.val + 1), Real.exp ((score K (q c) j - μ) * Cert.Spec.c1) : ℝ) : EReal) := by
    rw [← coe_sum]; exact Finset.sum_congr rfl fun j _ => wt_coe _
  have e2 : (∑ j ∈ Finset.range (512 * n + c.val + 1), vals V d j * wt (shifted K (q c) μ j))
      = ((∑ j ∈ Finset.range (512 * n + c.val + 1), V d j * Real.exp ((score K (q c) j - μ) * Cert.Spec.c1) : ℝ) : EReal) := by
    rw [← coe_sum]
    refine Finset.sum_congr rfl fun j _ => ?_
    unfold shifted vals
    rw [wt_coe, EReal.coe_mul]
  rw [e1, e2, Ideal.div_coe (Cert.Spec.weights_pos K (q c) _ μ).ne', ← EReal.coe_mul, mul_one_div, Cert.Spec.out_shift]

theorem good_score (hkv : RealKV k v K V) (n : ℕ) (hn : n < 56) (q : Fin 512 → Fin 96 → ℝ) (T : Tile Ideal) (hT : Good k v n q T) (c : Fin 512) :
    (max (FloatOps.absf (F := Ideal) (φ := .f32) ((Finset.univ.sup fun r : Fin 8 => T.s.hi (ix2 r c)) + T.m (ix2 0 c) : EReal))
          (FloatOps.absf (F := Ideal) (φ := .f32) ((Finset.univ.inf fun r : Fin 8 => T.s.lo (ix2 r c)) + T.m (ix2 0 c) : EReal)) * ((c1 : ℝ) : EReal) : EReal)
      = scoreMax K (q c) (512 * n + c.val) := by
  obtain ⟨qa, hs, hc⟩ := hT
  obtain ⟨μ, hm, hq⟩ := hc c
  have hf := folded_whole hkv hq n hn
  obtain ⟨x, hx, ⟨i, hi, hix⟩, hxle⟩ := sup_real (512 * n + c.val) (fun j => score K (q c) j - μ)
  obtain ⟨y, hy, ⟨i', hi', hiy⟩, hyle⟩ := inf_real (512 * n + c.val) (fun j => score K (q c) j - μ)
  have h1 : (Finset.range (512 * n + c.val + 1)).sup (shifted K (q c) μ) = (x : EReal) := hx
  have h2 : (Finset.range (512 * n + c.val + 1)).inf (shifted K (q c) μ) = (y : EReal) := hy
  rw [hs, hf.hi, hf.lo, h1, h2, hm, ← EReal.coe_add, ← EReal.coe_add, absf_coe, absf_coe, max_coe, ← EReal.coe_mul]
  have hpos : 0 ≤ c1 := c1_pos.le
  unfold Cert.Spec.scoreMax
  apply le_antisymm
  · have hm : max |x + μ| |y + μ| = |score K (q c) i| ∨ max |x + μ| |y + μ| = |score K (q c) i'| := by
      rcases max_choice |x + μ| |y + μ| with h | h
      · left; rw [h, ← hix]; congr 1; ring
      · right; rw [h, ← hiy]; congr 1; ring
    rcases hm with h | h
    · rw [h]
      exact Finset.le_sup (f := fun j => ((|score K (q c) j| * Cert.Spec.c1 : ℝ) : EReal)) (Finset.mem_range.2 (by omega))
    · rw [h]
      exact Finset.le_sup (f := fun j => ((|score K (q c) j| * Cert.Spec.c1 : ℝ) : EReal)) (Finset.mem_range.2 (by omega))
  · refine Finset.sup_le fun j hj => ?_
    rw [EReal.coe_le_coe_iff]
    refine mul_le_mul_of_nonneg_right ?_ hpos
    have hj' : j ≤ 512 * n + c.val := by have := Finset.mem_range.1 hj; omega
    have a1 := hxle j hj'
    have a2 := hyle j hj'
    rcases abs_cases (score K (q c) j) with ⟨h, -⟩ | ⟨h, -⟩
    · rw [h]
      exact le_trans (by linarith) (le_trans (le_abs_self (x + μ)) (le_max_left _ _))
    · rw [h]
      exact le_trans (by linarith) (le_trans (neg_le_abs (y + μ)) (le_max_right _ _))

variable (i : grid0.Coords) (len : BitVec 32) (x : Vec Ideal S1x1x96x512 .bf16) (cs sn : Vec Ideal S1x48x512 .f32)
  (X : Fin 512 → Fin 96 → ℝ) (C S : Fin 512 → Fin 48 → ℝ)

/-- The real entries of a point's query block and rotation tables. -/
structure RealQ : Prop where
  x : ∀ c d, x (ix4 0 0 d c) = ((X c d : ℝ) : EReal)
  c : ∀ c e, cs (ix3 0 e c) = ((C c e : ℝ) : EReal)
  s : ∀ c e, sn (ix3 0 e c) = ((S c e : ℝ) : EReal)

variable {i len x cs sn X C S}

theorem tile_good (hkv : RealKV k v K V) (hq : RealQ x cs sn X C S) : Good k v (i 2).val (fun c => rot (X c) (C c) (S c)) (tileAt i x cs sn k v) :=
  final_good hkv _ (i 2).isLt _ _ fun d c => pay35_at x cs sn c _ _ _ (hq.x c) (hq.c c) (hq.s c) d

theorem select_mask (b : Bool) (y : EReal) : Scalar.select (BitVec.ofBool b) y (0 : EReal) = if b = true then y else 0 := by
  cases b <;> rfl

theorem outO_at (hkv : RealKV k v K V) (hq : RealQ x cs sn X C S) (d : Fin 96) (c : Fin 512) :
    outO i len x cs sn k v (ix4 0 0 d c)
      = masked (512 * (i 2).val + c.val) len ((Cert.Spec.out K V (rot (X c) (C c) (S c)) (512 * (i 2).val + c.val) d : ℝ) : EReal) := by
  have hn : (i 2).val < 56 := (i 2).isLt
  unfold outO Cert.Spec.masked
  by_cases h : dead i len
  · rw [if_pos h, pay4_at]
    unfold dead at h
    rw [sge_iff] at h
    rw [not_slt_of_dead _ hn len c h]
    rfl
  · rw [if_neg h, pay63_at, pay62_at, pay34_at, pos_word _ _ hn, good_out hkv _ hn _ _ (tile_good hkv hq), select_mask]

theorem outQ_at (hq : RealQ x cs sn X C S) (c : Fin 512) :
    outQ i len x cs sn (ix4 0 0 0 c) = masked (512 * (i 2).val + c.val) len (mag (rot (X c) (C c) (S c))) := by
  have hn : (i 2).val < 56 := (i 2).isLt
  unfold outQ Cert.Spec.masked
  by_cases h : dead i len
  · rw [if_pos h, pay5_at]
    unfold dead at h
    rw [sge_iff] at h
    rw [not_slt_of_dead _ hn len c h]
    rfl
  · rw [if_neg h, pay36_at, pay34_at, pos_word _ _ hn, select_mask]
    congr 1
    unfold Cert.Spec.mag
    refine Finset.sup_congr rfl fun d _ => ?_
    rw [pay35_at x cs sn c _ _ _ (hq.x c) (hq.c c) (hq.s c) d, absf_coe]

theorem outS_at (hkv : RealKV k v K V) (hq : RealQ x cs sn X C S) (c : Fin 512) :
    outS i len x cs sn k v (ix4 0 0 0 c) = masked (512 * (i 2).val + c.val) len (scoreMax K (rot (X c) (C c) (S c)) (512 * (i 2).val + c.val)) := by
  have hn : (i 2).val < 56 := (i 2).isLt
  unfold outS Cert.Spec.masked
  by_cases h : dead i len
  · rw [if_pos h, pay6_at]
    unfold dead at h
    rw [sge_iff] at h
    rw [not_slt_of_dead _ hn len c h]
    rfl
  · rw [if_neg h, pay60_at, pay34_at, pos_word _ _ hn, good_score hkv _ hn _ _ (tile_good hkv hq), select_mask]

theorem outR_at (hkv : RealKV k v K V) (hq : RealQ x cs sn X C S) (c : Fin 512) :
    outR i len x cs sn k v (ix4 0 0 0 c)
      = masked (512 * (i 2).val + c.val) len (mag (Cert.Spec.out K V (rot (X c) (C c) (S c)) (512 * (i 2).val + c.val))) := by
  have hn : (i 2).val < 56 := (i 2).isLt
  unfold outR Cert.Spec.masked
  by_cases h : dead i len
  · rw [if_pos h, pay7_at]
    unfold dead at h
    rw [sge_iff] at h
    rw [not_slt_of_dead _ hn len c h]
    rfl
  · rw [if_neg h, pay65_at]
    simp only [pay62_at, pay34_at, pos_word _ _ hn, good_out hkv _ hn _ _ (tile_good hkv hq), select_mask]
    by_cases hb : (BitVec.ofNat 32 (512 * (i 2).val + c.val)).slt len = true
    · simp only [hb, if_true]
      unfold Cert.Spec.mag
      refine Finset.sup_congr rfl fun d _ => ?_
      rw [absf_coe]
    · simp only [hb]
      have e : ∀ d : Fin 96, FloatOps.absf (F := Ideal) (φ := .f32) (if False then ((Cert.Spec.out K V (rot (X c) (C c) (S c)) (512 * (i 2).val + c.val) d : ℝ) : EReal) else 0) = 0 := fun d => by
        rw [if_neg not_false, ← EReal.coe_zero, absf_coe, abs_zero]
      refine (Finset.sup_congr rfl fun d _ => e d).trans ?_
      rw [Finset.sup_const ⟨0, Finset.mem_univ _⟩]
      rfl

end Point

end Cert.KernelIdeal.Hand

end
-- ==== Proof.KernelIdealBody.lean ====
/-
  Hand-written. The attention call's body run once at a symbolic grid point.
-/
module

public import proofs.«01_k».proof.Proof.KernelIdealFun
public import Idealize.ShloMosaic.Lib.Exec
public import Idealize.ShloMosaic.Lib.LoopRemainder
public import Idealize.ShloMosaic.Lib.Tactic
public import Idealize.ShloMosaic.Lib.Pipeline.Kit

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref's buffer on core `c` held at contents that read `X`. -/
abbrev held (c : Dev nD) {sp : Space} {S : Shape} {e : EltTy} (M : Memref sig .tc sp S e) (X : S.Idx → Elt F e) : sProp 𝕄 :=
  iprop(∃ f : BufTy.Contents (Elt F) M.view.ty, pt c M f ∗ ⌜M.view.read (Elt F) f = X⌝)

/-! ## Loads of a whole buffer -/

theorem ld_S128x512 (v : View sig .tc .vmem S128x512 .bf16) (f : v.ty.Contents (Elt F)) :
    v.readAt (Elt F) (Rect.unit (s := S128x512) ![0, 0] S128x512.size inb_S128x512_S128x512_0_0).toLoadRect f = v.read (Elt F) f := View.readAt_full v f _
theorem ld_S96x512 (v : View sig .tc .vmem S96x512 .f32) (f : v.ty.Contents (Elt F)) :
    v.readAt (Elt F) (Rect.unit (s := S96x512) ![0, 0] S96x512.size inb_S96x512_S96x512_0_0).toLoadRect f = v.read (Elt F) f := View.readAt_full v f _
theorem ld_S8x512 (v : View sig .tc .vmem S8x512 .f32) (f : v.ty.Contents (Elt F)) :
    v.readAt (Elt F) (Rect.unit (s := S8x512) ![0, 0] S8x512.size inb_S8x512_S8x512_0_0).toLoadRect f = v.read (Elt F) f := View.readAt_full v f _
theorem ld_S1x512 (v : View sig .tc .vmem S1x512 .f32) (f : v.ty.Contents (Elt F)) :
    v.readAt (Elt F) (Rect.unit (s := S1x512) ![0, 0] S1x512.size inb_S1x512_S1x512_0_0).toLoadRect f = v.read (Elt F) f := View.readAt_full v f _
theorem ld_S16x128 (v : View sig .tc .vmem S16x128 .f32) (f : v.ty.Contents (Elt F)) :
    v.readAt (Elt F) (Rect.unit (s := S16x128) ![0, 0] S16x128.size inb_S16x128_S16x128_0_0).toLoadRect f = v.read (Elt F) f := View.readAt_full v f _
theorem ld_S1x1x96x512_b (v : View sig .tc .vmem S1x1x96x512 .bf16) (f : v.ty.Contents (Elt F)) :
    v.readAt (Elt F) (Rect.unit (s := S1x1x96x512) ![0, 0, 0, 0] S1x1x96x512.size inb_S1x1x96x512_S1x1x96x512_0_0_0_0).toLoadRect f = v.read (Elt F) f := View.readAt_full v f _
theorem ld_S1x1x96x512 (v : View sig .tc .vmem S1x1x96x512 .f32) (f : v.ty.Contents (Elt F)) :
    v.readAt (Elt F) (Rect.unit (s := S1x1x96x512) ![0, 0, 0, 0] S1x1x96x512.size inb_S1x1x96x512_S1x1x96x512_0_0_0_0).toLoadRect f = v.read (Elt F) f := View.readAt_full v f _
theorem ld_S1x1x1x512 (v : View sig .tc .vmem S1x1x1x512 .f32) (f : v.ty.Contents (Elt F)) :
    v.readAt (Elt F) (Rect.unit (s := S1x1x1x512) ![0, 0, 0, 0] S1x1x1x512.size inb_S1x1x1x512_S1x1x1x512_0_0_0_0).toLoadRect f = v.read (Elt F) f := View.readAt_full v f _
theorem ld_S1x48x512 (v : View sig .tc .vmem S1x48x512 .f32) (f : v.ty.Contents (Elt F)) :
    v.readAt (Elt F) (Rect.unit (s := S1x48x512) ![0, 0, 0] S1x48x512.size inb_S1x48x512_S1x48x512_0_0_0).toLoadRect f = v.read (Elt F) f := View.readAt_full v f _

/-- A load of all the query rows, after both of their windows were stored. -/
theorem cov_qa (v : View sig .tc .vmem S128x512 .bf16) (w : Vec F S96x512 .bf16) (w' : Vec F S32x512 .bf16) :
    v.readCov [⟨Rect.unit (s := S128x512) ![96, 0] S32x512.size inb_S128x512_S32x512_96_0, w'⟩, ⟨Rect.unit (s := S128x512) ![0, 0] S96x512.size inb_S128x512_S96x512_0_0, w⟩]
        (Rect.unit (s := S128x512) ![0, 0] S128x512.size inb_S128x512_S128x512_0_0).toLoadRect
      = VecWindow.put (VecWindow.put qaBase ![0, 0] S96x512.size w) ![96, 0] S32x512.size w' := by
  unfold View.readCov
  rw [ld_S128x512, View.read_writes_cons_put v _ _ _ _ rfl, View.read_writes_cons_put v _ _ _ _ rfl, put_put_cover _ qaBase]

/-- The query rows after both windows and the shift rows again were stored. -/
theorem wr_qa (v : View sig .tc .vmem S128x512 .bf16) (f : v.ty.Contents (Elt F)) (w : Vec F S96x512 .bf16) (w' w'' : Vec F S32x512 .bf16) :
    v.read (Elt F) (v.writes (Elt F) f [⟨Rect.unit (s := S128x512) ![96, 0] S32x512.size inb_S128x512_S32x512_96_0, w''⟩,
        ⟨Rect.unit (s := S128x512) ![96, 0] S32x512.size inb_S128x512_S32x512_96_0, w'⟩, ⟨Rect.unit (s := S128x512) ![0, 0] S96x512.size inb_S128x512_S96x512_0_0, w⟩])
      = VecWindow.put (VecWindow.put (VecWindow.put qaBase ![0, 0] S96x512.size w) ![96, 0] S32x512.size w') ![96, 0] S32x512.size w'' := by
  rw [View.read_writes_cons_put v _ _ _ _ rfl, View.read_writes_cons_put v _ _ _ _ rfl, View.read_writes_cons_put v _ _ _ _ rfl, put_put_cover _ qaBase]

/-- A load of one row of a table of maxima. -/
theorem ld_row (v : View sig .tc .vmem S16x128 .f32) (f : v.ty.Contents (Elt F)) (i : grid0.Coords) (x : Vec F S16x128 .f32) (e : v.read (Elt F) f = x) :
    v.readAt (Elt F) (Rect.unit (s := S16x128) (k0_off2 i) S1x128.size (k0_off2_inb i)).toLoadRect f = rowOf x (i 1).val := by
  have hh : (i 1).val < 16 := Nat.lt_trans (i 1).isLt (show grid0.bound 1 < 16 by decide)
  rw [View.readAt_unit _ _ _ (k0_off2_eq i) (row_inb _ hh), rowOf, dif_pos hh, e]

/-- A store of one row of a table of maxima. -/
theorem st_row (v : View sig .tc .vmem S16x128 .f32) (f : v.ty.Contents (Elt F)) (i : grid0.Coords) (x : Vec F S16x128 .f32) (e : v.read (Elt F) f = x)
    (w w' : Vec F S1x128 .f32) (ew : w = w') :
    v.read (Elt F) (v.writes (Elt F) f [⟨Rect.unit (s := S16x128) (k0_off2 i) S1x128.size (k0_off2_inb i), w⟩]) = rowPut x (i 1).val w' := by
  rw [View.read_writes_cons_put v _ _ _ _ (k0_off2_eq i), View.writes_nil, e, ew, rowPut]

section Args

variable (c : Dev nD) (i : grid0.Coords)
  (arg3 : Memref sig .tc .smem S2 .i32) (harg3 : arg3.IsWhole)
  (arg4 : Memref sig .tc .vmem S1x1x96x512 .bf16) (harg4 : arg4.IsWhole)
  (arg5 : Memref sig .tc .vmem S1x48x512 .f32) (harg5 : arg5.IsWhole)
  (arg6 : Memref sig .tc .vmem S1x48x512 .f32) (harg6 : arg6.IsWhole)
  (arg7 : Memref sig .tc .vmem S1x1x28672x128 .bf16) (harg7 : arg7.IsWhole)
  (arg8 : Memref sig .tc .vmem S1x1x96x28672 .bf16) (harg8 : arg8.IsWhole)
  (arg9 : Memref sig .tc .vmem S1x1x96x512 .f32) (harg9 : arg9.IsWhole)
  (arg10 : Memref sig .tc .vmem S1x1x1x512 .f32) (harg10 : arg10.IsWhole)
  (arg11 : Memref sig .tc .vmem S1x1x1x512 .f32) (harg11 : arg11.IsWhole)
  (arg12 : Memref sig .tc .vmem S1x1x1x512 .f32) (harg12 : arg12.IsWhole)
  (arg13 : Memref sig .tc .vmem S16x128 .f32) (harg13 : arg13.IsWhole)
  (arg14 : Memref sig .tc .vmem S16x128 .f32) (harg14 : arg14.IsWhole)
  (arg15 : Memref sig .tc .vmem S16x128 .f32) (harg15 : arg15.IsWhole)
  (arg16 : Memref sig .tc .vmem S128x512 .bf16) (harg16 : arg16.IsWhole)
  (arg17 : Memref sig .tc .vmem S96x512 .f32) (harg17 : arg17.IsWhole)
  (arg18 : Memref sig .tc .vmem S8x512 .f32) (harg18 : arg18.IsWhole)
  (arg19 : Memref sig .tc .vmem S8x512 .f32) (harg19 : arg19.IsWhole)
  (arg20 : Memref sig .tc .vmem S8x512 .f32) (harg20 : arg20.IsWhole)
  (arg21 : Memref sig .tc .vmem S1x512 .f32) (harg21 : arg21.IsWhole)

/-- The trips of the loop over the key blocks before the tile's own. -/
theorem trips2 : (k0_t2_loop i).trips = (i 2).val := by
  have h : ∀ n : Fin 56, Scf.trips 0#32 (Scalar.addi 0#32 (Scalar.muli (Scalar.divsi (Scalar.subi (BitVec.ofNat 32 n.val) 0#32) 1#32) 1#32)) 1#32 = n.val := by
    decide
  exact h (i 2)

/-- The buffers a pass works on: the keys, the values and the query rows at given contents, the four it writes reading `s`. -/
abbrev passInv (X7 : BufTy.Contents (Elt F) arg7.view.ty) (X8 : BufTy.Contents (Elt F) arg8.view.ty) (X16 : BufTy.Contents (Elt F) arg16.view.ty) (s : Pass F) : sProp 𝕄 :=
  iprop(pt c arg7 X7 ∗ pt c arg8 X8 ∗ pt c arg16 X16 ∗ held c arg17 s.acc ∗ held c arg18 s.l ∗ held c arg19 s.hi ∗ held c arg20 s.lo)

/-- One trip of the loop over the key blocks before the tile's own is one step of the pass. -/
theorem step2 (X7 : BufTy.Contents (Elt F) arg7.view.ty) (X8 : BufTy.Contents (Elt F) arg8.view.ty) (X16 : BufTy.Contents (Elt F) arg16.view.ty) (arg2 v2 : BitVec 32)
    (k : Fin (k0_t2_loop i).trips) (s : Pass F) (qa : Vec F S128x512 .bf16) (e16 : arg16.view.read (Elt F) X16 = qa) :
    passInv c arg7 arg8 arg16 arg17 arg18 arg19 arg20 X7 X8 X16 s
      ⊢ wp frame (wpE (defs₀ (F := F)) Variants.none (c : Thread nD τ) none) Set.univ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v2 k ())
          (fun _ => passInv c arg7 arg8 arg16 arg17 arg18 arg19 arg20 X7 X8 X16
            (s.step (kBlk (arg7.view.read (Elt F) X7) k.val) (vBlk (arg8.view.read (Elt F) X8) k.val) qa)) := by
  subst e16
  have hk : k.val < 56 := Nat.lt_trans (Nat.lt_of_lt_of_eq k.isLt (trips2 i)) (i 2).isLt
  have eK : View.readAt (Elt F) arg7.view (Rect.unit (s := S1x1x28672x128) (k0_off3 i k) S1x1x512x128.size (k0_off3_inb i k)).toLoadRect X7
      = kBlk (arg7.view.read (Elt F) X7) k.val := by
    rw [View.readAt_unit _ _ _ (k0_off3_eq i k) (kblk_inb _ hk), kBlk, dif_pos hk]
  have eV : View.readAt (Elt F) arg8.view (Rect.unit (s := S1x1x96x28672) (k0_off4 i k) S1x1x96x512.size (k0_off4_inb i k)).toLoadRect X8
      = vBlk (arg8.view.read (Elt F) X8) k.val := by
    rw [View.readAt_unit _ _ _ (k0_off4_eq i k) (vblk_inb _ hk), vBlk, dif_pos hk]
  unfold k0_t2_body
  iintro ⟨H7, H8, H16, ⟨%f17, H17, %e17⟩, ⟨%f18, H18, %e18⟩, ⟨%f19, H19, %e19⟩, ⟨%f20, H20, %e20⟩⟩
  sl_exec
  sl_step
  isplitl [H7]; · iexact H7
  isplitl [H8]; · iexact H8
  isplitl [H16]; · iexact H16
  isplitl [H17]
  · iexists _; isplitl; · iexact H17
    ipureintro
    sl_unfold_words
    rw [View.read_writes_full]
    simp only [eK, eV]; rw [ld_S128x512, ld_S96x512, e17]; rfl
  isplitl [H18]
  · iexists _; isplitl; · iexact H18
    ipureintro
    rw [View.read_writes_full]
    rw [ld_S128x512, ld_S8x512, e18]; rfl
  isplitl [H19]
  · iexists _; isplitl; · iexact H19
    ipureintro
    rw [View.read_writes_full]
    rw [ld_S128x512, ld_S8x512, e19]; rfl
  · iexists _; isplitl; · iexact H20
    ipureintro
    rw [View.read_writes_full]
    rw [ld_S128x512, ld_S8x512, e20]; rfl

/-- The buffers the loop over the passes works on, reading what `T` carries. -/
abbrev tileInv (X7 : BufTy.Contents (Elt F) arg7.view.ty) (X8 : BufTy.Contents (Elt F) arg8.view.ty) (T : Tile F) : sProp 𝕄 :=
  iprop(pt c arg7 X7 ∗ pt c arg8 X8 ∗ held c arg16 T.qa ∗ held c arg17 T.s.acc ∗ held c arg18 T.s.l ∗ held c arg19 T.s.hi ∗ held c arg20 T.s.lo ∗ held c arg21 T.m)

/-- One trip of the loop over the passes. -/
theorem trip1 (X7 : BufTy.Contents (Elt F) arg7.view.ty) (X8 : BufTy.Contents (Elt F) arg8.view.ty) (arg1 arg2 v2 : BitVec 32)
    (v20 : IVec S1x512 1) (v115 : FVec F S1x512 .f32) (v125 : IVec S32x512 1) (v127 : FVec F S1x512 .f32) (v142 : FVec F S32x512 .f32)
    (r : Fin k0_t1_loop.trips) (T : Tile F) (g : BitVec 32) :
    iprop(⌜g = T.flag⌝ ∗ tileInv c arg7 arg8 arg16 arg17 arg18 arg19 arg20 arg21 X7 X8 T)
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 arg2 v2 v20 v115 v125 v127 v142 r g)
          (fun flag => iprop(⌜flag = (T.trip (arg7.view.read (Elt F) X7) (arg8.view.read (Elt F) X8) (i 2).val r.val).flag⌝ ∗
            tileInv c arg7 arg8 arg16 arg17 arg18 arg19 arg20 arg21 X7 X8 (T.trip (arg7.view.read (Elt F) X7) (arg8.view.read (Elt F) X8) (i 2).val r.val))) := by
  have hi : (i 2).val < 56 := (i 2).isLt
  have eK : View.readAt (Elt F) arg7.view (Rect.unit (s := S1x1x28672x128) (k0_off7 i) S1x1x512x128.size (k0_off7_inb i)).toLoadRect X7
      = kBlk (arg7.view.read (Elt F) X7) (i 2).val := by
    rw [View.readAt_unit _ _ _ (k0_off7_eq i) (kblk_inb _ hi), kBlk, dif_pos hi]
  have eV : View.readAt (Elt F) arg8.view (Rect.unit (s := S1x1x96x28672) (k0_off8 i) S1x1x96x512.size (k0_off8_inb i)).toLoadRect X8
      = vBlk (arg8.view.read (Elt F) X8) (i 2).val := by
    rw [View.readAt_unit _ _ _ (k0_off8_eq i) (vblk_inb _ hi), vBlk, dif_pos hi]
  rcases T with ⟨qa, m, s, flag⟩
  by_cases hf : Scalar.cmpi .ne (Scalar.extui (Scalar.cmpi .ne flag 0#32) : BitVec 32) 0#32 = 1#1
  · unfold k0_t1_body
    iintro ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
    subst hg
    sl_exec
    sl_for (fun k _ => passInv c arg7 arg8 arg16 arg17 arg18 arg19 arg20 X7 X8 f16 (Pass.steps (arg7.view.read (Elt F) X7) (arg8.view.read (Elt F) X8) qa k)) $$ [H7 H8 H16 H17 H18 H19 H20]
    case region =>
      intro k _
      exact step2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X8 f16 arg2 v2 k _ qa e16
    · isplitl [H7]; · iexact H7
      isplitl [H8]; · iexact H8
      isplitl [H16]; · iexact H16
      isplitl [H17]
      · iexists _; isplitl; · iexact H17
        ipureintro; sl_unfold_words; rw [View.read_writes_full]; rfl
      isplitl [H18]
      · iexists _; isplitl; · iexact H18
        ipureintro; sl_unfold_words; rw [View.read_writes_full]; rfl
      isplitl [H19]
      · iexists _; isplitl; · iexact H19
        ipureintro; sl_unfold_words; rw [View.read_writes_full]; rfl
      · iexists _; isplitl; · iexact H20
        ipureintro; sl_unfold_words; rw [View.read_writes_full]; rfl
    iintro %acc ⟨H7, H8, H16, ⟨%g17, H17, %d17⟩, ⟨%g18, H18, %d18⟩, ⟨%g19, H19, %d19⟩, ⟨%g20, H20, %d20⟩⟩
    have e16' : arg16.view.read (Elt F) f16 = qa := e16
    have e21' : arg21.view.read (Elt F) f21 = m := e21
    have p17 := d17.trans (congrArg (fun n => (Pass.steps (arg7.view.read (Elt F) X7) (arg8.view.read (Elt F) X8) qa n).acc) (trips2 i))
    have p18 := d18.trans (congrArg (fun n => (Pass.steps (arg7.view.read (Elt F) X7) (arg8.view.read (Elt F) X8) qa n).l) (trips2 i))
    have p19 := d19.trans (congrArg (fun n => (Pass.steps (arg7.view.read (Elt F) X7) (arg8.view.read (Elt F) X8) qa n).hi) (trips2 i))
    have p20 := d20.trans (congrArg (fun n => (Pass.steps (arg7.view.read (Elt F) X7) (arg8.view.read (Elt F) X8) qa n).lo) (trips2 i))
    clear d17 d18 d19 d20 e16 e21
    sl_exec
    sl_step
    sl_unfold_words
    have eHi : arg19.view.readCov [⟨Rect.unit (s := S8x512) ![0, 0] S8x512.size inb_S8x512_S8x512_0_0,
          k0_pay29 (k0_pay25 (kBlk (arg7.view.read (Elt F) X7) (i 2).val) (arg16.view.readAt (Elt F) (Rect.unit (s := S128x512) ![0, 0] S128x512.size inb_S128x512_S128x512_0_0).toLoadRect f16))
            k0_pay26 k0_pay27 (arg19.view.readAt (Elt F) (Rect.unit (s := S8x512) ![0, 0] S8x512.size inb_S8x512_S8x512_0_0).toLoadRect g19)⟩]
          (Rect.unit (s := S8x512) ![0, 0] S8x512.size inb_S8x512_S8x512_0_0).toLoadRect
        = (Pass.whole (arg7.view.read (Elt F) X7) (arg8.view.read (Elt F) X8) (i 2).val qa).hi := by
      rw [View.readCov_full, ld_S128x512, ld_S8x512, e16', p19]; rfl
    rw [eHi]
    have e := Tile.trip_of (arg7.view.read (Elt F) X7) (arg8.view.read (Elt F) X8) (i 2).val r.val (⟨qa, m, s, g⟩ : Tile F) hf
    rw [e]
    by_cases hc : Scalar.cmpi .ne (Scalar.extui (againWord (Pass.whole (arg7.view.read (Elt F) X7) (arg8.view.read (Elt F) X8) (i 2).val qa).hi r.val) : BitVec 32) 0#32 = 1#1
    · have e' := Tile.redo_of (arg7.view.read (Elt F) X7) (arg8.view.read (Elt F) X8) (i 2).val r.val (⟨qa, m, s, g⟩ : Tile F) hc
      have hc' := hc
      unfold againWord at hc'
      rw [dif_pos hc', dif_pos hc', e']
      isplitl []
      · ipureintro; rfl
      isplitl [H7]; · iexact H7
      isplitl [H8]; · iexact H8
      isplitl [H16]
      · iexists _; isplitl; · iexact H16
        ipureintro
        rw [View.read_writes_cons_put arg16.view f16 _ _ [] rfl, ld_S1x512, e21', View.writes_nil, e16']
      isplitl [H17]
      · iexists _; isplitl; · iexact H17
        ipureintro
        rw [View.read_writes_full]
        simp only [eK, eV]; rw [ld_S128x512, ld_S96x512, e16', p17]; rfl
      isplitl [H18]
      · iexists _; isplitl; · iexact H18
        ipureintro
        rw [View.read_writes_full, ld_S128x512, ld_S8x512, e16', p18]; rfl
      isplitl [H19]
      · iexists _; isplitl; · iexact H19
        ipureintro
        rw [View.read_writes_full, ld_S128x512, ld_S8x512, e16', p19]; rfl
      isplitl [H20]
      · iexists _; isplitl; · iexact H20
        ipureintro
        rw [View.read_writes_full, ld_S128x512, ld_S8x512, e16', p20]; rfl
      · iexists _; isplitl; · iexact H21
        ipureintro
        rw [View.read_writes_full, ld_S1x512, e21']
    · have e' := Tile.redo_of_not (arg7.view.read (Elt F) X7) (arg8.view.read (Elt F) X8) (i 2).val r.val (⟨qa, m, s, g⟩ : Tile F) hc
      have hc' := hc
      unfold againWord at hc'
      rw [dif_neg hc', dif_neg hc', e']
      isplitl []
      · ipureintro; rfl
      isplitl [H7]; · iexact H7
      isplitl [H8]; · iexact H8
      isplitl [H16]
      · iexists _; isplitl; · iexact H16
        ipureintro; exact e16'
      isplitl [H17]
      · iexists _; isplitl; · iexact H17
        ipureintro
        rw [View.read_writes_full]
        simp only [eK, eV]; rw [ld_S128x512, ld_S96x512, e16', p17]; rfl
      isplitl [H18]
      · iexists _; isplitl; · iexact H18
        ipureintro
        rw [View.read_writes_full, ld_S128x512, ld_S8x512, e16', p18]; rfl
      isplitl [H19]
      · iexists _; isplitl; · iexact H19
        ipureintro
        rw [View.read_writes_full, ld_S128x512, ld_S8x512, e16', p19]; rfl
      isplitl [H20]
      · iexists _; isplitl; · iexact H20
        ipureintro
        rw [View.read_writes_full, ld_S128x512, ld_S8x512, e16', p20]; rfl
      · iexists _; isplitl; · iexact H21
        ipureintro; exact e21'
  · unfold k0_t1_body
    iintro ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
    subst hg
    sl_exec
    sl_step
    have e := Tile.trip_of_not (arg7.view.read (Elt F) X7) (arg8.view.read (Elt F) X8) (i 2).val r.val (⟨qa, m, s, g⟩ : Tile F) hf
    rw [e]
    isplitl []
    · ipureintro; rfl
    isplitl [H7]; · iexact H7
    isplitl [H8]; · iexact H8
    isplitl [H16]
    · iexists _; isplitl; · iexact H16
      ipureintro; exact e16
    isplitl [H17]
    · iexists _; isplitl; · iexact H17
      ipureintro; exact e17
    isplitl [H18]
    · iexists _; isplitl; · iexact H18
      ipureintro; exact e18
    isplitl [H19]
    · iexists _; isplitl; · iexact H19
      ipureintro; exact e19
    isplitl [H20]
    · iexists _; isplitl; · iexact H20
      ipureintro; exact e20
    · iexists _; isplitl; · iexact H21
      ipureintro; exact e21

theorem trips1 : k0_t1_loop.trips = 2 := by decide

/-- The batch's length as the body reads it. -/
abbrev lenAt (X3 : BufTy.Contents (Elt F) arg3.view.ty) : BitVec 32 :=
  arg3.view.readAt (Elt F) (Rect.unit (s := S2) (k0_off1 i) S1.size (k0_off1_inb i)).toLoadRect X3 (Shape.Idx.first (s := S1) (by decide))

/-- The body at a point whose tile has a position before the batch's length. -/
theorem bodyLive (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty)
    (hdead : ¬ Scalar.cmpi .ne (Scalar.extui (Scalar.cmpi .sge (Scalar.muli (BitVec.ofNat 32 (i 2).val) 512#32) (lenAt i arg3 X3)) : BitVec 32) 0#32 = 1#1)
    (hlive : Scalar.cmpi .ne (Scalar.extui (Scalar.cmpi .slt (Scalar.muli (BitVec.ofNat 32 (i 2).val) 512#32) (lenAt i arg3 X3)) : BitVec 32) 0#32 = 1#1)
    (T : Tile F) (hT : T = Tile.final (arg7.view.read (Elt F) X7) (arg8.view.read (Elt F) X8) (i 2).val (Scalar.muli (BitVec.ofNat 32 (i 2).val) 512#32) (k0_pay35 (arg4.view.read (Elt F) X4) (arg5.view.read (Elt F) X5) (arg6.view.read (Elt F) X6))) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (k0_pay63 (k0_pay34 (F := F) (lenAt i arg3 X3) (Scalar.muli (BitVec.ofNat 32 (i 2).val) 512#32)) T.s.l T.s.acc)
            ∗ held c arg10 (k0_pay37 (lenAt i arg3 X3) (Scalar.muli (BitVec.ofNat 32 (i 2).val) 512#32) (arg4.view.read (Elt F) X4) (arg5.view.read (Elt F) X5) (arg6.view.read (Elt F) X6))
            ∗ held c arg11 (k0_pay60 (k0_pay34 (F := F) (lenAt i arg3 X3) (Scalar.muli (BitVec.ofNat 32 (i 2).val) 512#32)) T.m T.s.hi T.s.lo)
            ∗ held c arg12 (k0_pay65 (k0_pay34 (F := F) (lenAt i arg3 X3) (Scalar.muli (BitVec.ofNat 32 (i 2).val) 512#32)) T.s.l T.s.acc)
            ∗ held c arg13 (rowPut (entry i k0_pay1 (arg13.view.read (Elt F) X13)) (i 1).val
                (k0_pay41 (k0_pay38 (rowOf (entry i k0_pay1 (arg13.view.read (Elt F) X13)) (i 1).val))
                  (k0_pay39 (lenAt i arg3 X3) (Scalar.muli (BitVec.ofNat 32 (i 2).val) 512#32) (arg4.view.read (Elt F) X4) (arg5.view.read (Elt F) X5) (arg6.view.read (Elt F) X6)) (k0_pay40 (lenAt i arg3 X3) (Scalar.muli (BitVec.ofNat 32 (i 2).val) 512#32) (arg4.view.read (Elt F) X4) (arg5.view.read (Elt F) X5) (arg6.view.read (Elt F) X6))))
            ∗ held c arg14 (rowPut (entry i k0_pay2 (arg14.view.read (Elt F) X14)) (i 1).val
                (k0_pay61 (k0_pay59 (k0_pay34 (F := F) (lenAt i arg3 X3) (Scalar.muli (BitVec.ofNat 32 (i 2).val) 512#32)) T.m T.s.hi T.s.lo) (rowOf (entry i k0_pay2 (arg14.view.read (Elt F) X14)) (i 1).val)))
            ∗ held c arg15 (rowPut (entry i k0_pay3 (arg15.view.read (Elt F) X15)) (i 1).val
                (k0_pay8 (k0_pay66 (rowOf (entry i k0_pay3 (arg15.view.read (Elt F) X15)) (i 1).val)) (k0_pay67 (k0_pay34 (F := F) (lenAt i arg3 X3) (Scalar.muli (BitVec.ofNat 32 (i 2).val) 512#32)) T.s.l T.s.acc)))
            ∗ (∃ f, pt c arg16 f) ∗ (∃ f, pt c arg17 f) ∗ (∃ f, pt c arg18 f) ∗ (∃ f, pt c arg19 f) ∗ (∃ f, pt c arg20 f) ∗ (∃ f, pt c arg21 f))) := by
  have eK0 : View.readAt (Elt F) arg7.view (Rect.unit (s := S1x1x28672x128) ![0, 0, 0, 0] S1x1x512x128.size inb_S1x1x28672x128_S1x1x512x128_0_0_0_0).toLoadRect X7
      = kBlk (arg7.view.read (Elt F) X7) 0 := by
    rw [View.readAt_unit _ _ _ rfl (kblk_inb 0 (by omega)), kBlk, dif_pos (by omega)]
  have e13 : arg13.view.read (Elt F) (if hc : first i then
      arg13.view.writes (Elt F) X13 [⟨Rect.unit (s := S16x128) ![0, 0] S16x128.size inb_S16x128_S16x128_0_0, k0_pay1 (F := F)⟩] else X13) = entry i k0_pay1 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay2 (F := F)⟩] else X14) = entry i k0_pay2 (arg14.view.read (Elt F) X14) := by
    by_cases hc : first i
    · rw [dif_pos hc, View.read_writes_full, entry, if_pos hc]
    · rw [dif_neg hc, entry, if_neg hc]
  have e15 : arg15.view.read (Elt F) (if hc : first i then
      arg15.view.writes (Elt F) X15 [⟨Rect.unit (s := S16x128) ![0, 0] S16x128.size inb_S16x128_S16x128_0_0, k0_pay3 (F := F)⟩] else X15) = entry i k0_pay3 (arg15.view.read (Elt F) X15) := by
    by_cases hc : first i
    · rw [dif_pos hc, View.read_writes_full, entry, if_pos hc]
    · rw [dif_neg hc, entry, if_neg hc]
  iintro ⟨H3, H4, H5, H6, H7, H8, H9, H10, H11, H12, H13, H14, H15, H16, H17, H18, H19, H20, H21⟩
  sl_exec
  sl_for (fun k (g : BitVec 32) => iprop(⌜g = (Tile.after (arg7.view.read (Elt F) X7) (arg8.view.read (Elt F) X8) (i 2).val
      (Tile.start (kBlk (arg7.view.read (Elt F) X7) 0) (Scalar.muli (BitVec.ofNat 32 (i 2).val) 512#32)
        (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩) k).flag⌝ ∗
    tileInv c arg7 arg8 arg16 arg17 arg18 arg19 arg20 arg21 X7 X8 (Tile.after (arg7.view.read (Elt F) X7) (arg8.view.read (Elt F) X8) (i 2).val
      (Tile.start (kBlk (arg7.view.read (Elt F) X7) 0) (Scalar.muli (BitVec.ofNat 32 (i 2).val) 512#32)
        (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩) k))) $$ [H7 H8 H16 H17 H18 H19 H20 H21]
  case region =>
    intro k g
    exact trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X8 _ _ _ _ _ _ _ _ k _ g
  · isplitl []
    · ipureintro; rfl
    isplitl [H7]; · iexact H7
    isplitl [H8]; · iexact H8
    isplitl [H16]
    · iexists _; isplitl; · iexact H16
      ipureintro
      sl_unfold_words
      rw [wr_qa, cov_qa, ld_S1x1x96x512_b, ld_S1x48x512, ld_S1x48x512]
      try rw [eK0]
      rfl
    isplitl [H17]
    · iexists _; isplitl; · iexact H17
      ipureintro; rfl
    isplitl [H18]
    · iexists _; isplitl; · iexact H18
      ipureintro; rfl
    isplitl [H19]
    · iexists _; isplitl; · iexact H19
      ipureintro; rfl
    isplitl [H20]
    · iexists _; isplitl; · iexact H20
      ipureintro; rfl
    · iexists _; isplitl; · iexact H21
      ipureintro
      sl_unfold_words
      rw [View.read_writes_full, cov_qa, ld_S1x1x96x512_b, ld_S1x48x512, ld_S1x48x512]
      try rw [eK0]
      rw [Tile.after_zero_m]; unfold qaZero; rfl
  iintro %g ⟨%hg, H7, H8, ⟨%f16, H16, %e16⟩, ⟨%f17, H17, %e17⟩, ⟨%f18, H18, %e18⟩, ⟨%f19, H19, %e19⟩, ⟨%f20, H20, %e20⟩, ⟨%f21, H21, %e21⟩⟩
  have hT' := (congrArg (Tile.after (arg7.view.read (Elt F) X7) (arg8.view.read (Elt F) X8) (i 2).val
      (Tile.start (kBlk (arg7.view.read (Elt F) X7) 0) (Scalar.muli (BitVec.ofNat 32 (i 2).val) 512#32) (k0_pay35 (arg4.view.read (Elt F) X4) (arg5.view.read (Elt F) X5) (arg6.view.read (Elt F) X6))
        ⟨arg17.view.read (Elt F) X17, arg18.view.read (Elt F) X18, arg19.view.read (Elt F) X19, arg20.view.read (Elt F) X20⟩)) trips1).trans
    ((after_forget (arg7.view.read (Elt F) X7) (arg8.view.read (Elt F) X8) (i 2).val (kBlk (arg7.view.read (Elt F) X7) 0) (Scalar.muli (BitVec.ofNat 32 (i 2).val) 512#32) (k0_pay35 (arg4.view.read (Elt F) X4) (arg5.view.read (Elt F) X5) (arg6.view.read (Elt F) X6)) _ Pass.init 1).trans hT.symm)
  have p17 := e17.trans (congrArg (fun T : Tile F => T.s.acc) hT')
  have p18 := e18.trans (congrArg (fun T : Tile F => T.s.l) hT')
  have p19 := e19.trans (congrArg (fun T : Tile F => T.s.hi) hT')
  have p20 := e20.trans (congrArg (fun T : Tile F => T.s.lo) hT')
  have p21 := e21.trans (congrArg (fun T : Tile F => T.m) hT')
  clear e16 e17 e18 e19 e20 e21 hg
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl; · iexact H9
    ipureintro
    sl_unfold_words
    rw [View.read_writes_full, ld_S8x512, ld_S96x512, p17, p18]
    rfl
  isplitl [H10]
  · iexists _; isplitl; · iexact H10
    ipureintro
    sl_unfold_words
    rw [View.read_writes_full, ld_S1x1x96x512_b, ld_S1x48x512, ld_S1x48x512]
    rfl
  isplitl [H11]
  · iexists _; isplitl; · iexact H11
    ipureintro
    sl_unfold_words
    rw [View.read_writes_full, ld_S8x512, ld_S8x512, ld_S1x512, p19, p20, p21]
    rfl
  isplitl [H12]
  · iexists _; isplitl; · iexact H12
    ipureintro
    sl_unfold_words
    rw [View.read_writes_full, ld_S8x512, ld_S96x512, p17, p18]
    rfl
  isplitl [H13]
  · iexists _; isplitl; · iexact H13
    ipureintro
    refine st_row arg13.view _ i _ e13 _ _ ?_
    sl_unfold_words
    rw [ld_S1x1x96x512_b, ld_S1x48x512, ld_S1x48x512]
    exact congrArg (fun x => k0_pay41 (k0_pay38 x) _ _) (ld_row arg13.view _ i _ e13)
  isplitl [H14]
  · iexists _; isplitl; · iexact H14
    ipureintro
    refine st_row arg14.view _ i _ e14 _ _ ?_
    sl_unfold_words
    rw [ld_S8x512, ld_S8x512, ld_S1x512, p19, p20, p21]
    exact congrArg (fun x => k0_pay61 _ x) (ld_row arg14.view _ i _ e14)
  isplitl [H15]
  · iexists _; isplitl; · iexact H15
    ipureintro
    refine st_row arg15.view _ i _ e15 _ _ ?_
    sl_unfold_words
    rw [ld_S8x512, ld_S96x512, p17, p18]
    exact congrArg (fun x => k0_pay8 (k0_pay66 x) _) (ld_row arg15.view _ i _ e15)
  isplitl [H16]; · iexists _; iexact H16
  isplitl [H17]; · iexists _; iexact H17
  isplitl [H18]; · iexists _; iexact H18
  isplitl [H19]; · iexists _; iexact H19
  isplitl [H20]; · iexists _; iexact H20
  · iexists _; iexact H21

/-- The body at a point whose tile has no position before the batch's length. -/
theorem bodyDead (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty)
    (hdead : dead i (lenAt i arg3 X3))
    (hlive : ¬ Scalar.cmpi .ne (Scalar.extui (Scalar.cmpi .slt (Scalar.muli (BitVec.ofNat 32 (i 2).val) 512#32) (lenAt i arg3 X3)) : BitVec 32) 0#32 = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (k0_pay4 (F := F)) ∗ held c arg10 (k0_pay5 (F := F)) ∗ held c arg11 (k0_pay6 (F := F)) ∗ held c arg12 (k0_pay7 (F := F))
            ∗ held c arg13 (entry i k0_pay1 (arg13.view.read (Elt F) X13)) ∗ held c arg14 (entry i k0_pay2 (arg14.view.read (Elt F) X14)) ∗ held c arg15 (entry i k0_pay3 (arg15.view.read (Elt F) X15))
            ∗ (∃ f, pt c arg16 f) ∗ (∃ f, pt c arg17 f) ∗ (∃ f, pt c arg18 f) ∗ (∃ f, pt c arg19 f) ∗ (∃ f, pt c arg20 f) ∗ (∃ f, pt c arg21 f))) := by
  have e13 : arg13.view.read (Elt F) (if hc : first i then
      arg13.view.writes (Elt F) X13 [⟨Rect.unit (s := S16x128) ![0, 0] S16x128.size inb_S16x128_S16x128_0_0, k0_pay1 (F := F)⟩] else X13) = entry i k0_pay1 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay2 (F := F)⟩] else X14) = entry i k0_pay2 (arg14.view.read (Elt F) X14) := by
    by_cases hc : first i
    · rw [dif_pos hc, View.read_writes_full, entry, if_pos hc]
    · rw [dif_neg hc, entry, if_neg hc]
  have e15 : arg15.view.read (Elt F) (if hc : first i then
      arg15.view.writes (Elt F) X15 [⟨Rect.unit (s := S16x128) ![0, 0] S16x128.size inb_S16x128_S16x128_0_0, k0_pay3 (F := F)⟩] else X15) = entry i k0_pay3 (arg15.view.read (Elt F) X15) := by
    by_cases hc : first i
    · rw [dif_pos hc, View.read_writes_full, entry, if_pos hc]
    · rw [dif_neg hc, entry, if_neg hc]
  unfold dead at hdead
  iintro ⟨H3, H4, H5, H6, H7, H8, H9, H10, H11, H12, H13, H14, H15, H16, H17, H18, H19, H20, H21⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iexists _; isplitl; · iexact H9
    ipureintro
    sl_unfold_words
    rw [View.read_writes_full]
  isplitl [H10]
  · iexists _; isplitl; · iexact H10
    ipureintro
    sl_unfold_words
    rw [View.read_writes_full]
  isplitl [H11]
  · iexists _; isplitl; · iexact H11
    ipureintro
    sl_unfold_words
    rw [View.read_writes_full]
  isplitl [H12]
  · iexists _; isplitl; · iexact H12
    ipureintro
    sl_unfold_words
    rw [View.read_writes_full]
  isplitl [H13]
  · iexists _; isplitl; · iexact H13
    ipureintro
    exact e13
  isplitl [H14]
  · iexists _; isplitl; · iexact H14
    ipureintro
    exact e14
  isplitl [H15]
  · iexists _; isplitl; · iexact H15
    ipureintro
    exact e15
  isplitl [H16]; · iexists _; iexact H16
  isplitl [H17]; · iexists _; iexact H17
  isplitl [H18]; · iexists _; iexact H18
  isplitl [H19]; · iexists _; iexact H19
  isplitl [H20]; · iexists _; iexact H20
  · iexists _; iexact H21

/-- The body at any point. -/
theorem bodyPoint (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (X8 : BufTy.Contents (Elt F) arg8.view.ty)
    (X9 : BufTy.Contents (Elt F) arg9.view.ty) (X10 : BufTy.Contents (Elt F) arg10.view.ty) (X11 : BufTy.Contents (Elt F) arg11.view.ty)
    (X12 : BufTy.Contents (Elt F) arg12.view.ty) (X13 : BufTy.Contents (Elt F) arg13.view.ty) (X14 : BufTy.Contents (Elt F) arg14.view.ty)
    (X15 : BufTy.Contents (Elt F) arg15.view.ty) (X16 : BufTy.Contents (Elt F) arg16.view.ty) (X17 : BufTy.Contents (Elt F) arg17.view.ty)
    (X18 : BufTy.Contents (Elt F) arg18.view.ty) (X19 : BufTy.Contents (Elt F) arg19.view.ty) (X20 : BufTy.Contents (Elt F) arg20.view.ty)
    (X21 : BufTy.Contents (Elt F) arg21.view.ty) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12
        ∗ pt c arg13 X13 ∗ pt c arg14 X14 ∗ pt c arg15 X15 ∗ pt c arg16 X16 ∗ pt c arg17 X17 ∗ pt c arg18 X18 ∗ pt c arg19 X19 ∗ pt c arg20 X20 ∗ pt c arg21 X21)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(pt c arg3 X3 ∗ pt c arg4 X4 ∗ pt c arg5 X5 ∗ pt c arg6 X6 ∗ pt c arg7 X7 ∗ pt c arg8 X8
            ∗ held c arg9 (outO i (lenAt i arg3 X3) (arg4.view.read (Elt F) X4) (arg5.view.read (Elt F) X5) (arg6.view.read (Elt F) X6) (arg7.view.read (Elt F) X7) (arg8.view.read (Elt F) X8)) ∗ held c arg10 (outQ i (lenAt i arg3 X3) (arg4.view.read (Elt F) X4) (arg5.view.read (Elt F) X5) (arg6.view.read (Elt F) X6)) ∗ held c arg11 (outS i (lenAt i arg3 X3) (arg4.view.read (Elt F) X4) (arg5.view.read (Elt F) X5) (arg6.view.read (Elt F) X6) (arg7.view.read (Elt F) X7) (arg8.view.read (Elt F) X8)) ∗ held c arg12 (outR i (lenAt i arg3 X3) (arg4.view.read (Elt F) X4) (arg5.view.read (Elt F) X5) (arg6.view.read (Elt F) X6) (arg7.view.read (Elt F) X7) (arg8.view.read (Elt F) X8))
            ∗ held c arg13 (statQ i (lenAt i arg3 X3) (arg4.view.read (Elt F) X4) (arg5.view.read (Elt F) X5) (arg6.view.read (Elt F) X6) (arg13.view.read (Elt F) X13)) ∗ held c arg14 (statS i (lenAt i arg3 X3) (arg4.view.read (Elt F) X4) (arg5.view.read (Elt F) X5) (arg6.view.read (Elt F) X6) (arg7.view.read (Elt F) X7) (arg8.view.read (Elt F) X8) (arg14.view.read (Elt F) X14))
            ∗ held c arg15 (statO i (lenAt i arg3 X3) (arg4.view.read (Elt F) X4) (arg5.view.read (Elt F) X5) (arg6.view.read (Elt F) X6) (arg7.view.read (Elt F) X7) (arg8.view.read (Elt F) X8) (arg15.view.read (Elt F) X15))
            ∗ (∃ f, pt c arg16 f) ∗ (∃ f, pt c arg17 f) ∗ (∃ f, pt c arg18 f) ∗ (∃ f, pt c arg19 f) ∗ (∃ f, pt c arg20 f) ∗ (∃ f, pt c arg21 f))) := by
  by_cases h : dead i (lenAt i arg3 X3)
  · unfold outO outQ outS outR statQ statS statO
    rw [if_pos h, if_pos h, if_pos h, if_pos h, if_pos h, if_pos h, if_pos h]
    exact bodyDead c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X4 X5 X6 X7 X8 X9 X10 X11 X12 X13 X14 X15 X16 X17 X18 X19 X20 X21 h (not_live_of_dead i _ h)
  · unfold outO outQ outS outR statQ statS statO
    rw [if_neg h, if_neg h, if_neg h, if_neg h, if_neg h, if_neg h, if_neg h]
    exact bodyLive c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X3 X4 X5 X6 X7 X8 X9 X10 X11 X12 X13 X14 X15 X16 X17 X18 X19 X20 X21 h (live_of_not_dead i _ h) _ rfl

end Args

end Cert.KernelIdeal.Hand

end
-- ==== Proof.KernelIdealFrame.lean ====
/-
  Hand-written. The attention call's pipeline: what each point leaves in the staging buffers, the body obligation, the run and the frame.
-/
module

public import proofs.«01_k».proof.Proof.KernelIdealBody
public import proofs.«01_k».proof.Proof.Gen.KernelIdeal.Frame
public import Idealize.ShloMosaic.Lib.Claim

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The batch's length, off the block of lengths. -/
def lenOf (i : grid0.Coords) (x : Vec F S2 .i32) : BitVec 32 :=
  View.ld x (Rect.unit (s := S2) (k0_off1 i) S1.size (k0_off1_inb i)) (Shape.Idx.first (s := S1) (by decide))

/-- The body at a grid point, on memrefs whose contents are named by what they read. -/
theorem bodyOwns (c : Dev nD) (i : grid0.Coords) (arg3 : Memref sig .tc .smem S2 .i32) (harg3 : arg3.IsWhole)
  (arg4 : Memref sig .tc .vmem S1x1x96x512 .bf16) (harg4 : arg4.IsWhole)
  (arg5 : Memref sig .tc .vmem S1x48x512 .f32) (harg5 : arg5.IsWhole)
  (arg6 : Memref sig .tc .vmem S1x48x512 .f32) (harg6 : arg6.IsWhole)
  (arg7 : Memref sig .tc .vmem S1x1x28672x128 .bf16) (harg7 : arg7.IsWhole)
  (arg8 : Memref sig .tc .vmem S1x1x96x28672 .bf16) (harg8 : arg8.IsWhole)
  (arg9 : Memref sig .tc .vmem S1x1x96x512 .f32) (harg9 : arg9.IsWhole)
  (arg10 : Memref sig .tc .vmem S1x1x1x512 .f32) (harg10 : arg10.IsWhole)
  (arg11 : Memref sig .tc .vmem S1x1x1x512 .f32) (harg11 : arg11.IsWhole)
  (arg12 : Memref sig .tc .vmem S1x1x1x512 .f32) (harg12 : arg12.IsWhole)
  (arg13 : Memref sig .tc .vmem S16x128 .f32) (harg13 : arg13.IsWhole)
  (arg14 : Memref sig .tc .vmem S16x128 .f32) (harg14 : arg14.IsWhole)
  (arg15 : Memref sig .tc .vmem S16x128 .f32) (harg15 : arg15.IsWhole)
  (arg16 : Memref sig .tc .vmem S128x512 .bf16) (harg16 : arg16.IsWhole)
  (arg17 : Memref sig .tc .vmem S96x512 .f32) (harg17 : arg17.IsWhole)
  (arg18 : Memref sig .tc .vmem S8x512 .f32) (harg18 : arg18.IsWhole)
  (arg19 : Memref sig .tc .vmem S8x512 .f32) (harg19 : arg19.IsWhole)
  (arg20 : Memref sig .tc .vmem S8x512 .f32) (harg20 : arg20.IsWhole)
  (arg21 : Memref sig .tc .vmem S1x512 .f32) (harg21 : arg21.IsWhole)
    (x3 : Vec F S2 .i32) (x4 : Vec F S1x1x96x512 .bf16) (x5 : Vec F S1x48x512 .f32) (x6 : Vec F S1x48x512 .f32) (x7 : Vec F S1x1x28672x128 .bf16) (x8 : Vec F S1x1x96x28672 .bf16) (x13 : Vec F S16x128 .f32) (x14 : Vec F S16x128 .f32) (x15 : Vec F S16x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ owns (c : Thread nD τ) arg15 fullShare x15 ∗ (∃ f, pt c arg16 f) ∗ (∃ f, pt c arg17 f) ∗ (∃ f, pt c arg18 f) ∗ (∃ f, pt c arg19 f) ∗ (∃ f, pt c arg20 f) ∗ (∃ f, pt c arg21 f)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outO i (lenOf i x3) x4 x5 x6 x7 x8) ∗ owns (c : Thread nD τ) arg10 fullShare (outQ i (lenOf i x3) x4 x5 x6) ∗ owns (c : Thread nD τ) arg11 fullShare (outS i (lenOf i x3) x4 x5 x6 x7 x8) ∗ owns (c : Thread nD τ) arg12 fullShare (outR i (lenOf i x3) x4 x5 x6 x7 x8) ∗ owns (c : Thread nD τ) arg13 fullShare (statQ i (lenOf i x3) x4 x5 x6 x13) ∗ owns (c : Thread nD τ) arg14 fullShare (statS i (lenOf i x3) x4 x5 x6 x7 x8 x14) ∗ owns (c : Thread nD τ) arg15 fullShare (statO i (lenOf i x3) x4 x5 x6 x7 x8 x15) ∗ (∃ f, pt c arg16 f) ∗ (∃ f, pt c arg17 f) ∗ (∃ f, pt c arg18 f) ∗ (∃ f, pt c arg19 f) ∗ (∃ f, pt c arg20 f) ∗ (∃ f, pt c arg21 f)) -∗ K ⟨⟩))
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, H16⟩, ⟨%f17, H17⟩, ⟨%f18, H18⟩, ⟨%f19, H19⟩, ⟨%f20, H20⟩, ⟨%f21, H21⟩, Hk⟩
  subst hf3 hf4 hf5 hf6 hf7 hf8 hf13 hf14 hf15
  iapply (wp_wand_r frame (wpE (defs₀ (F := F)) Variants.none (c : Thread nD τ) none) Set.univ)
  isplitl [H3 H4 H5 H6 H7 H8 H9 H10 H11 H12 H13 H14 H15 H16 H17 H18 H19 H20 H21]
  · iapply (bodyPoint c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 f4 f5 f6 f7 f8 f9 f10 f11 f12 f13 f14 f15 f16 f17 f18 f19 f20 f21)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro %a ⟨H3, H4, H5, H6, H7, H8, ⟨%g9, H9, %hg9⟩, ⟨%g10, H10, %hg10⟩, ⟨%g11, H11, %hg11⟩, ⟨%g12, H12, %hg12⟩, ⟨%g13, H13, %hg13⟩, ⟨%g14, H14, %hg14⟩, ⟨%g15, H15, %hg15⟩, H16, H17, H18, H19, H20, H21⟩
    iapply Hk
    isplitl [H3]; · iexists f3; isplitr; (ipureintro; rfl); iexact H3
    isplitl [H4]; · iexists f4; isplitr; (ipureintro; rfl); iexact H4
    isplitl [H5]; · iexists f5; isplitr; (ipureintro; rfl); iexact H5
    isplitl [H6]; · iexists f6; isplitr; (ipureintro; rfl); iexact H6
    isplitl [H7]; · iexists f7; isplitr; (ipureintro; rfl); iexact H7
    isplitl [H8]; · iexists f8; isplitr; (ipureintro; rfl); iexact H8
    isplitl [H9]; · iexists g9; isplitr; (ipureintro; exact hg9); iexact H9
    isplitl [H10]; · iexists g10; isplitr; (ipureintro; exact hg10); iexact H10
    isplitl [H11]; · iexists g11; isplitr; (ipureintro; exact hg11); iexact H11
    isplitl [H12]; · iexists g12; isplitr; (ipureintro; exact hg12); iexact H12
    isplitl [H13]; · iexists g13; isplitr; (ipureintro; exact hg13); iexact H13
    isplitl [H14]; · iexists g14; isplitr; (ipureintro; exact hg14); iexact H14
    isplitl [H15]; · iexists g15; isplitr; (ipureintro; exact hg15); iexact H15
    isplitl [H16]; · iexact H16
    isplitl [H17]; · iexact H17
    isplitl [H18]; · iexact H18
    isplitl [H19]; · iexact H19
    isplitl [H20]; · iexact H20
    iexact H21

variable (m : (ℓ : Loc nD τ sig) → Buf (Elt F) ℓ) (ρ : Dev nD → PrngReg)

/-! ## What the points leave -/

abbrev lensAt (c : Dev nD) (t : Fin cfg0.N) : BitVec 32 := lenOf (F := F) (grid0.coords t) (iblk m c 0 t)

/-- A table of maxima over the points before point `n`, by what one point does to it. -/
def chain (f : Fin cfg0.N → Vec F S16x128 .f32 → Vec F S16x128 .f32) (z : Vec F S16x128 .f32) : ℕ → Vec F S16x128 .f32
  | 0 => z
  | n + 1 => if h : n < cfg0.N then f ⟨n, h⟩ (chain f z n) else chain f z n

def stepQ (c : Dev nD) (t : Fin cfg0.N) (x : Vec F S16x128 .f32) : Vec F S16x128 .f32 :=
  statQ (grid0.coords t) (lensAt m c t) (iblk m c 1 t) (iblk m c 2 t) (iblk m c 3 t) x
def stepS (c : Dev nD) (t : Fin cfg0.N) (x : Vec F S16x128 .f32) : Vec F S16x128 .f32 :=
  statS (grid0.coords t) (lensAt m c t) (iblk m c 1 t) (iblk m c 2 t) (iblk m c 3 t) (iblk m c 4 t) (iblk m c 5 t) x
def stepO (c : Dev nD) (t : Fin cfg0.N) (x : Vec F S16x128 .f32) : Vec F S16x128 .f32 :=
  statO (grid0.coords t) (lensAt m c t) (iblk m c 1 t) (iblk m c 2 t) (iblk m c 3 t) (iblk m c 4 t) (iblk m c 5 t) x

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outO (grid0.coords t) (lensAt m c t) (iblk m c 1 t) (iblk m c 2 t) (iblk m c 3 t) (iblk m c 4 t) (iblk m c 5 t)
    | ⟨7, _⟩ => outQ (grid0.coords t) (lensAt m c t) (iblk m c 1 t) (iblk m c 2 t) (iblk m c 3 t)
    | ⟨8, _⟩ => outS (grid0.coords t) (lensAt m c t) (iblk m c 1 t) (iblk m c 2 t) (iblk m c 3 t) (iblk m c 4 t) (iblk m c 5 t)
    | ⟨9, _⟩ => outR (grid0.coords t) (lensAt m c t) (iblk m c 1 t) (iblk m c 2 t) (iblk m c 3 t) (iblk m c 4 t) (iblk m c 5 t)
    | ⟨10, _⟩ => chain (stepQ m c) k0_pay1 (t.val + 1)
    | ⟨11, _⟩ => chain (stepS m c) k0_pay2 (t.val + 1)
    | ⟨12, _⟩ => chain (stepO m c) k0_pay3 (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outO (grid0.coords t) (lensAt m c t) (iblk m c 1 t) (iblk m c 2 t) (iblk m c 3 t) (iblk m c 4 t) (iblk m c 5 t) := by dsimp only [dats]
theorem after0_7 (c : Dev nD) (t : Fin cfg0.N) : (dats m 0 c).after 7 t = outQ (grid0.coords t) (lensAt m c t) (iblk m c 1 t) (iblk m c 2 t) (iblk m c 3 t) := by dsimp only [dats]
theorem after0_8 (c : Dev nD) (t : Fin cfg0.N) : (dats m 0 c).after 8 t = outS (grid0.coords t) (lensAt m c t) (iblk m c 1 t) (iblk m c 2 t) (iblk m c 3 t) (iblk m c 4 t) (iblk m c 5 t) := by dsimp only [dats]
theorem after0_9 (c : Dev nD) (t : Fin cfg0.N) : (dats m 0 c).after 9 t = outR (grid0.coords t) (lensAt m c t) (iblk m c 1 t) (iblk m c 2 t) (iblk m c 3 t) (iblk m c 4 t) (iblk m c 5 t) := by dsimp only [dats]
theorem after0_10 (c : Dev nD) (t : Fin cfg0.N) : (dats m 0 c).after 10 t = chain (stepQ m c) k0_pay1 (t.val + 1) := by dsimp only [dats]
theorem after0_11 (c : Dev nD) (t : Fin cfg0.N) : (dats m 0 c).after 11 t = chain (stepS m c) k0_pay2 (t.val + 1) := by dsimp only [dats]
theorem after0_12 (c : Dev nD) (t : Fin cfg0.N) : (dats m 0 c).after 12 t = chain (stepO m c) k0_pay3 (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem first_zero (t : Fin cfg0.N) (h : t.val = 0) : first (grid0.coords t) := by
  obtain rfl : t = ⟨0, by decide⟩ := Fin.ext h
  decide +kernel

theorem chain_step (f : Fin cfg0.N → Vec F S16x128 .f32 → Vec F S16x128 .f32) (z : Vec F S16x128 .f32) (t : Fin cfg0.N) :
    chain f z (t.val + 1) = f t (chain f z t.val) := by
  rw [chain, dif_pos t.isLt]

theorem statb10 (c : Dev nD) (t : Fin cfg0.N) (d) : stepQ m c t ((dats m 0 c).before 10 t d) = chain (stepQ m c) k0_pay1 (t.val + 1) := by
  rw [chain_step]
  by_cases h : t.val = 0
  · have e := first_zero t h
    unfold stepQ statQ entry
    simp only [if_pos e]
  · have hl := t.isLt
    have hN : cfg0.N = 1344 := N_0
    rw [(dats m 0 c).before_out_kept 10 rfl t h (by
      rw [← Bool.not_eq_true, flush0_10]; simp only; omega) (fun _ => rfl) (fun _ _ => rfl) d, after0_10]
    simp only [show t.val - 1 + 1 = t.val by omega]
theorem statb11 (c : Dev nD) (t : Fin cfg0.N) (d) : stepS m c t ((dats m 0 c).before 11 t d) = chain (stepS m c) k0_pay2 (t.val + 1) := by
  rw [chain_step]
  by_cases h : t.val = 0
  · have e := first_zero t h
    unfold stepS statS entry
    simp only [if_pos e]
  · have hl := t.isLt
    have hN : cfg0.N = 1344 := N_0
    rw [(dats m 0 c).before_out_kept 11 rfl t h (by
      rw [← Bool.not_eq_true, flush0_11]; simp only; omega) (fun _ => rfl) (fun _ _ => rfl) d, after0_11]
    simp only [show t.val - 1 + 1 = t.val by omega]
theorem statb12 (c : Dev nD) (t : Fin cfg0.N) (d) : stepO m c t ((dats m 0 c).before 12 t d) = chain (stepO m c) k0_pay3 (t.val + 1) := by
  rw [chain_step]
  by_cases h : t.val = 0
  · have e := first_zero t h
    unfold stepO statO entry
    simp only [if_pos e]
  · have hl := t.isLt
    have hN : cfg0.N = 1344 := N_0
    rw [(dats m 0 c).before_out_kept 12 rfl t h (by
      rw [← Bool.not_eq_true, flush0_12]; simp only; omega) (fun _ => rfl) (fun _ _ => rfl) d, after0_12]
    simp only [show t.val - 1 + 1 = t.val by omega]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem pt_whole (c : Dev nD) (b : Ref sig .tc) (f : b.ty.Contents (Elt F)) :
    (pt c (Memref.whole b) f : sProp 𝕄) = ((c : Thread nD τ).loc b ↦{fullShare} f) := by
  unfold pt; simp only [View.set_whole, Memref.view_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12]
  unfold Pipeline.ΦA
  rw [scopedRest0_eq]
  iintro ⟨⟨⟨Z0, Z1, Z2, Z3, Z4, Z5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← statb10 m c t d10, ← statb11 m c t d11, ← statb12 m c t d12]
  unfold stepQ stepS stepO
  iapply (bodyOwns c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 10 t d10) ((dats m 0 c).before 11 t d11) ((dats m 0 c).before 12 t d12) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [Z0]; · icases Z0 with ⟨%z0, Z0⟩; iexists z0; rw [pt_whole]; iexact Z0
  isplitl [Z1]; · icases Z1 with ⟨%z1, Z1⟩; iexists z1; rw [pt_whole]; iexact Z1
  isplitl [Z2]; · icases Z2 with ⟨%z2, Z2⟩; iexists z2; rw [pt_whole]; iexact Z2
  isplitl [Z3]; · icases Z3 with ⟨%z3, Z3⟩; iexists z3; rw [pt_whole]; iexact Z3
  isplitl [Z4]; · icases Z4 with ⟨%z4, Z4⟩; iexists z4; rw [pt_whole]; iexact Z4
  isplitl [Z5]; · icases Z5 with ⟨%z5, Z5⟩; iexists z5; rw [pt_whole]; iexact Z5
  iintro ⟨H0, H1, H2, H3, H4, H5, H6, H7, H8, H9, H10, H11, H12, ⟨%z0, Z0⟩, ⟨%z1, Z1⟩, ⟨%z2, Z2⟩, ⟨%z3, Z3⟩, ⟨%z4, Z4⟩, ⟨%z5, Z5⟩⟩
  isplitl [Hg Z0 Z1 Z2 Z3 Z4 Z5]
  · isplitl [Z0 Z1 Z2 Z3 Z4 Z5]
    · isplitl [Z0]; · iexists z0; rw [← pt_whole]; iexact Z0
      isplitl [Z1]; · iexists z1; rw [← pt_whole]; iexact Z1
      isplitl [Z2]; · iexists z2; rw [← pt_whole]; iexact Z2
      isplitl [Z3]; · iexists z3; rw [← pt_whole]; iexact Z3
      isplitl [Z4]; · iexists z4; rw [← pt_whole]; iexact Z4
      iexists z5; rw [← pt_whole]; iexact Z5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one
set_option backward.isDefEq.respectTransparency.types false in
/-- From any memory with zero counters every execution terminates, with every array of the pipeline at what the points leave in it,
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.IdealArray.lean ====
/-
  Hand-written. The four arrays by position the attention call returns, after the run, over the extended reals, on real arguments: block by
  block what the grid points write, the blocks tiling the arrays.
-/
module

public import proofs.«01_k».proof.Proof.IdealOut
public import proofs.«01_k».proof.Proof.KernelIdealFrame
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem
open Idealize.ShloMosaic.Pipeline (Dat)
open Cert.Spec (grp Holds Args)

/-- The sequence, head and tile of a grid point. -/
def bOf (t : Fin cfg0.N) : Fin 2 := ⟨t.val / 672, by have := t.isLt; have h : cfg0.N = 1344 := N_0; omega⟩
def hOf (t : Fin cfg0.N) : Fin 12 := ⟨t.val / 56 % 12, by omega⟩
def pOf (t : Fin cfg0.N) (l : Fin 512) : Fin 28672 := ⟨512 * (t.val % 56) + l.val, by omega⟩

theorem coord0 : ∀ t : Fin grid0.N, (grid0.coords t 0).val = t.val / 672 := by decide +kernel
theorem coord2 : ∀ t : Fin grid0.N, (grid0.coords t 2).val = t.val % 56 := by decide +kernel
theorem index0 : ∀ t : Fin grid0.N, win0_0.index t 0 = 0 := by decide +kernel
theorem index1 : ∀ t : Fin grid0.N, win0_1.index t 0 = t.val / 672 ∧ win0_1.index t 1 = t.val / 56 % 12 ∧ win0_1.index t 2 = 0 ∧ win0_1.index t 3 = t.val % 56 := by decide +kernel
theorem index2 : ∀ t : Fin grid0.N, win0_2.index t 0 = t.val / 672 ∧ win0_2.index t 1 = 0 ∧ win0_2.index t 2 = t.val % 56 := by decide +kernel
theorem index3 : ∀ t : Fin grid0.N, win0_3.index t 0 = t.val / 672 ∧ win0_3.index t 1 = 0 ∧ win0_3.index t 2 = t.val % 56 := by decide +kernel
theorem index4 : ∀ t : Fin grid0.N, win0_4.index t 0 = t.val / 672 ∧ win0_4.index t 1 = t.val / 56 % 12 / 3 ∧ win0_4.index t 2 = 0 ∧ win0_4.index t 3 = 0 := by decide +kernel
theorem index5 : ∀ t : Fin grid0.N, win0_5.index t 0 = t.val / 672 ∧ win0_5.index t 1 = t.val / 56 % 12 / 3 ∧ win0_5.index t 2 = 0 ∧ win0_5.index t 3 = 0 := by decide +kernel
theorem index6 : ∀ t : Fin grid0.N, win0_6.index t 0 = t.val / 672 ∧ win0_6.index t 1 = t.val / 56 % 12 ∧ win0_6.index t 2 = 0 ∧ win0_6.index t 3 = t.val % 56 := by decide +kernel
theorem index7 : ∀ t : Fin grid0.N, win0_7.index t 0 = t.val / 672 ∧ win0_7.index t 1 = t.val / 56 % 12 ∧ win0_7.index t 2 = 0 ∧ win0_7.index t 3 = t.val % 56 := by decide +kernel
theorem index8 : ∀ t : Fin grid0.N, win0_8.index t 0 = t.val / 672 ∧ win0_8.index t 1 = t.val / 56 % 12 ∧ win0_8.index t 2 = 0 ∧ win0_8.index t 3 = t.val % 56 := by decide +kernel
theorem index9 : ∀ t : Fin grid0.N, win0_9.index t 0 = t.val / 672 ∧ win0_9.index t 1 = t.val / 56 % 12 ∧ win0_9.index t 2 = 0 ∧ win0_9.index t 3 = t.val % 56 := by decide +kernel

section Blocks

variable (m : (ℓ : Loc nD τ sig) → Buf (Elt Ideal) ℓ) (c : Dev nD) (t : Fin cfg0.N)

theorem iblk0_at (b : Fin 2) : iblk m c 0 t (ix1 b) = m ((c.tc : Thread nD τ).loc main_arg0) (ix1 b) := by
  unfold iblk
  rw [View.read_apply]
  show V m c main_arg0 _ = m (c.tc.loc main_arg0) _
  unfold V
  congr 1
  funext a
  apply Fin.ext
  have hi := index0 t
  match a with
  | ⟨0, _⟩ => show win0_0.index t 0 * 2 + 1 * b.val = b.val; rw [hi]; omega

theorem iblk1_at (d : Fin 96) (l : Fin 512) : iblk m c 1 t (ix4 0 0 d l) = m ((c.tc : Thread nD τ).loc main_arg1) (ix4 (bOf t) (hOf t) d (pOf t l)) := by
  unfold iblk
  rw [View.read_apply]
  show V m c main_arg1 _ = m (c.tc.loc main_arg1) _
  unfold V
  congr 1
  funext a
  apply Fin.ext
  have hi := index1 t
  match a with
  | ⟨0, _⟩ => show win0_1.index t 0 * 1 + 1 * 0 = t.val / 672; rw [hi.1]; omega
  | ⟨1, _⟩ => show win0_1.index t 1 * 1 + 1 * 0 = t.val / 56 % 12; rw [hi.2.1]; omega
  | ⟨2, _⟩ => show win0_1.index t 2 * 96 + 1 * d.val = d.val; rw [hi.2.2.1]; omega
  | ⟨3, _⟩ => show win0_1.index t 3 * 512 + 1 * l.val = 512 * (t.val % 56) + l.val; rw [hi.2.2.2]; omega

theorem iblk2_at (e : Fin 48) (l : Fin 512) : iblk m c 2 t (ix3 0 e l) = m ((c.tc : Thread nD τ).loc main_arg2) (ix3 (bOf t) e (pOf t l)) := by
  unfold iblk
  rw [View.read_apply]
  show V m c main_arg2 _ = m (c.tc.loc main_arg2) _
  unfold V
  congr 1
  funext a
  apply Fin.ext
  have hi := index2 t
  match a with
  | ⟨0, _⟩ => show win0_2.index t 0 * 1 + 1 * 0 = t.val / 672; rw [hi.1]; omega
  | ⟨1, _⟩ => show win0_2.index t 1 * 48 + 1 * e.val = e.val; rw [hi.2.1]; omega
  | ⟨2, _⟩ => show win0_2.index t 2 * 512 + 1 * l.val = 512 * (t.val % 56) + l.val; rw [hi.2.2]; omega

theorem iblk3_at (e : Fin 48) (l : Fin 512) : iblk m c 3 t (ix3 0 e l) = m ((c.tc : Thread nD τ).loc main_arg3) (ix3 (bOf t) e (pOf t l)) := by
  unfold iblk
  rw [View.read_apply]
  show V m c main_arg3 _ = m (c.tc.loc main_arg3) _
  unfold V
  congr 1
  funext a
  apply Fin.ext
  have hi := index3 t
  match a with
  | ⟨0, _⟩ => show win0_3.index t 0 * 1 + 1 * 0 = t.val / 672; rw [hi.1]; omega
  | ⟨1, _⟩ => show win0_3.index t 1 * 48 + 1 * e.val = e.val; rw [hi.2.1]; omega
  | ⟨2, _⟩ => show win0_3.index t 2 * 512 + 1 * l.val = 512 * (t.val % 56) + l.val; rw [hi.2.2]; omega

theorem iblk4_at (j : Fin 28672) (r : Fin 128) : iblk m c 4 t (ix4 0 0 j r) = m ((c.tc : Thread nD τ).loc main_arg4) (ix4 (bOf t) (grp (hOf t)) j r) := by
  unfold iblk
  rw [View.read_apply]
  show V m c main_arg4 _ = m (c.tc.loc main_arg4) _
  unfold V
  congr 1
  funext a
  apply Fin.ext
  have hi := index4 t
  match a with
  | ⟨0, _⟩ => show win0_4.index t 0 * 1 + 1 * 0 = t.val / 672; rw [hi.1]; omega
  | ⟨1, _⟩ => show win0_4.index t 1 * 1 + 1 * 0 = t.val / 56 % 12 / 3; rw [hi.2.1]; omega
  | ⟨2, _⟩ => show win0_4.index t 2 * 28672 + 1 * j.val = j.val; rw [hi.2.2.1]; omega
  | ⟨3, _⟩ => show win0_4.index t 3 * 128 + 1 * r.val = r.val; rw [hi.2.2.2]; omega

theorem iblk5_at (d : Fin 96) (j : Fin 28672) : iblk m c 5 t (ix4 0 0 d j) = m ((c.tc : Thread nD τ).loc main_arg5) (ix4 (bOf t) (grp (hOf t)) d j) := by
  unfold iblk
  rw [View.read_apply]
  show V m c main_arg5 _ = m (c.tc.loc main_arg5) _
  unfold V
  congr 1
  funext a
  apply Fin.ext
  have hi := index5 t
  match a with
  | ⟨0, _⟩ => show win0_5.index t 0 * 1 + 1 * 0 = t.val / 672; rw [hi.1]; omega
  | ⟨1, _⟩ => show win0_5.index t 1 * 1 + 1 * 0 = t.val / 56 % 12 / 3; rw [hi.2.1]; omega
  | ⟨2, _⟩ => show win0_5.index t 2 * 96 + 1 * d.val = d.val; rw [hi.2.2.1]; omega
  | ⟨3, _⟩ => show win0_5.index t 3 * 28672 + 1 * j.val = j.val; rw [hi.2.2.2]; omega

theorem lensAt_eq : lensAt m c t = m ((c.tc : Thread nD τ).loc main_arg0) (ix1 (bOf t)) := by
  have e : lensAt m c t = iblk m c 0 t (ix1 (bOf t)) := by
    unfold lensAt lenOf View.ld
    refine congrArg (iblk m c 0 t) ?_
    funext a
    apply Fin.ext
    match a with
    | ⟨0, _⟩ =>
      show k0_off1 (grid0.coords t) 0 + 1 * 0 = t.val / 672
      have h : ∀ t : Fin grid0.N, k0_off1 (grid0.coords t) 0 = t.val / 672 := by decide +kernel
      rw [h t]; rfl
  rw [e, iblk0_at]

/-- The argument arrays hold real arguments. -/
def Held (A : Args) : Prop :=
  Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable {m c} {A : Args} (hA : Held m c A)

include hA

theorem blk_kv : RealKV (iblk m c 4 t) (iblk m c 5 t) (A.K (bOf t) (grp (hOf t))) (A.V (bOf t) (grp (hOf t))) where
  key j d := (iblk4_at m c t j _).trans (hA.k _ _ j d)
  tail j r := (iblk4_at m c t j _).trans (hA.tail _ _ j r)
  val d j := (iblk5_at m c t d j).trans (hA.v _ _ d j)

theorem blk_q : RealQ (iblk m c 1 t) (iblk m c 2 t) (iblk m c 3 t) (fun l => A.X (bOf t) (hOf t) (pOf t l)) (fun l => A.C (bOf t) (pOf t l)) (fun l => A.S (bOf t) (pOf t l)) where
  x l d := (iblk1_at m c t d l).trans (hA.x _ _ d _)
  c l e := (iblk2_at m c t e l).trans (hA.c _ e _)
  s l e := (iblk3_at m c t e l).trans (hA.s _ e _)

theorem blk_len : lensAt m c t = A.len (bOf t) := (lensAt_eq m c t).trans (hA.len _)

theorem ptO (d : Fin 96) (l : Fin 512) :
    outO (grid0.coords t) (lensAt m c t) (iblk m c 1 t) (iblk m c 2 t) (iblk m c 3 t) (iblk m c 4 t) (iblk m c 5 t) (ix4 0 0 d l) = A.resO (bOf t) (hOf t) d (pOf t l) := by
  rw [outO_at (blk_kv t hA) (blk_q t hA), blk_len t hA, coord2]
  rfl

theorem ptQ (l : Fin 512) :
    outQ (grid0.coords t) (lensAt m c t) (iblk m c 1 t) (iblk m c 2 t) (iblk m c 3 t) (ix4 0 0 0 l) = A.resQ (bOf t) (hOf t) (pOf t l) := by
  rw [outQ_at (blk_q t hA), blk_len t hA, coord2]
  rfl

theorem ptS (l : Fin 512) :
    outS (grid0.coords t) (lensAt m c t) (iblk m c 1 t) (iblk m c 2 t) (iblk m c 3 t) (iblk m c 4 t) (iblk m c 5 t) (ix4 0 0 0 l) = A.resS (bOf t) (hOf t) (pOf t l) := by
  rw [outS_at (blk_kv t hA) (blk_q t hA), blk_len t hA, coord2]
  rfl

theorem ptR (l : Fin 512) :
    outR (grid0.coords t) (lensAt m c t) (iblk m c 1 t) (iblk m c 2 t) (iblk m c 3 t) (iblk m c 4 t) (iblk m c 5 t) (ix4 0 0 0 l) = A.resR (bOf t) (hOf t) (pOf t l) := by
  rw [outR_at (blk_kv t hA) (blk_q t hA), blk_len t hA, coord2]
  rfl

end Blocks

/-! ## The result arrays -/

/-- The grid point that writes position `p` of head `h` of sequence `b`. -/
def tOf (b : Fin 2) (h : Fin 12) (p : Fin 28672) : Fin cfg0.N := ⟨b.val * 672 + h.val * 56 + p.val / 512, by have e : cfg0.N = 1344 := N_0; omega⟩

section Arrays

variable {m : (ℓ : Loc nD τ sig) → Buf (Elt Ideal) ℓ} {c : Dev nD} {A : Args} (hA : Held m c A)

def arrO (A : Args) : S2x12x96x28672.Idx → EReal := fun i => A.resO (i 0) (i 1) (i 2) (i 3)
def arrQ (A : Args) : S2x12x1x28672.Idx → EReal := fun i => A.resQ (i 0) (i 1) (i 3)
def arrS (A : Args) : S2x12x1x28672.Idx → EReal := fun i => A.resS (i 0) (i 1) (i 3)
def arrR (A : Args) : S2x12x1x28672.Idx → EReal := fun i => A.resR (i 0) (i 1) (i 3)

theorem emb6 (t : Fin cfg0.N) (d : Fin 96) (l : Fin 512) :
    ((cfg0.win 6).blk t).view.emb (ix4 0 0 d l : S1x1x96x512.Idx) = (ix4 (bOf t) (hOf t) d (pOf t l) : S2x12x96x28672.Idx) := by
  have hi := index6 t
  funext a
  apply Fin.ext
  match a with
  | ⟨0, _⟩ => show win0_6.index t 0 * 1 + 1 * 0 = t.val / 672; rw [hi.1]; omega
  | ⟨1, _⟩ => show win0_6.index t 1 * 1 + 1 * 0 = t.val / 56 % 12; rw [hi.2.1]; omega
  | ⟨2, _⟩ => show win0_6.index t 2 * 96 + 1 * d.val = d.val; rw [hi.2.2.1]; omega
  | ⟨3, _⟩ => show win0_6.index t 3 * 512 + 1 * l.val = 512 * (t.val % 56) + l.val; rw [hi.2.2.2]; omega

include hA in
theorem flushed6 (t : Fin cfg0.N) : (dats m 0 c).flushed 6 t = ((cfg0.win 6).blk t).view.read (Elt Ideal) (arrO A) := by
  show (cfg0.win 6).cut (grid0.coords t) ((dats m 0 c).after 6 t) = _
  rw [after0_6]
  have key : ∀ y : S1x1x96x512.Idx, outO (grid0.coords t) (lensAt m c t) (iblk m c 1 t) (iblk m c 2 t) (iblk m c 3 t) (iblk m c 4 t) (iblk m c 5 t) y = arrO A (((cfg0.win 6).blk t).view.emb y) := by
    intro y
    idx_vars y
    obtain rfl : y0 = 0 := Subsingleton.elim _ _
    obtain rfl : y1 = 0 := Subsingleton.elim _ _
    exact (ptO t hA y2 y3).trans (congrArg (arrO A) (emb6 t y2 y3)).symm
  funext y
  exact key y

theorem cover6 (i : S2x12x96x28672.Idx) : ∃ t : Fin cfg0.N, (cfg0.win 6).flush t = true ∧ i ∈ ((cfg0.win 6).blk t).view.set := by
  have h0 : (i 0 : ℕ) < 2 := (i 0).isLt
  have h1 : (i 1 : ℕ) < 12 := (i 1).isLt
  have h2 : (i 2 : ℕ) < 96 := (i 2).isLt
  have h3 : (i 3 : ℕ) < 28672 := (i 3).isLt
  refine ⟨tOf (i 0) (i 1) (i 3), flush0_6 _, ?_⟩
  show i ∈ ((View.whole main_v0_0).slice (win0_6.rect (tOf (i 0) (i 1) (i 3)))).set
  rw [View.set_slice_whole, Rect.mem_set_unit]
  have hi := index6 (tOf (i 0) (i 1) (i 3))
  have ht : (tOf (i 0) (i 1) (i 3)).val = (i 0 : ℕ) * 672 + (i 1 : ℕ) * 56 + (i 3 : ℕ) / 512 := rfl
  rw [ht] at hi
  intro a
  match a with
  | ⟨0, _⟩ => show win0_6.index _ 0 * 1 ≤ (i 0 : ℕ) ∧ (i 0 : ℕ) < win0_6.index _ 0 * 1 + 1; rw [hi.1]; omega
  | ⟨1, _⟩ => show win0_6.index _ 1 * 1 ≤ (i 1 : ℕ) ∧ (i 1 : ℕ) < win0_6.index _ 1 * 1 + 1; rw [hi.2.1]; omega
  | ⟨2, _⟩ => show win0_6.index _ 2 * 96 ≤ (i 2 : ℕ) ∧ (i 2 : ℕ) < win0_6.index _ 2 * 96 + 96; rw [hi.2.2.1]; omega
  | ⟨3, _⟩ => show win0_6.index _ 3 * 512 ≤ (i 3 : ℕ) ∧ (i 3 : ℕ) < win0_6.index _ 3 * 512 + 512; rw [hi.2.2.2]; omega

include hA in
theorem final6 : (dats m 0 c).arrAt 6 cfg0.N = arrO A := (dats m 0 c).arrAt_eq_of_cover 6 (arrO A) (fun t _ => flushed6 hA t) cover6

theorem emb7 (t : Fin cfg0.N) (l : Fin 512) :
    ((cfg0.win 7).blk t).view.emb (ix4 0 0 0 l : S1x1x1x512.Idx) = (ix4 (bOf t) (hOf t) (0 : Fin 1) (pOf t l) : S2x12x1x28672.Idx) := by
  have hi := index7 t
  funext a
  apply Fin.ext
  match a with
  | ⟨0, _⟩ => show win0_7.index t 0 * 1 + 1 * 0 = t.val / 672; rw [hi.1]; omega
  | ⟨1, _⟩ => show win0_7.index t 1 * 1 + 1 * 0 = t.val / 56 % 12; rw [hi.2.1]; omega
  | ⟨2, _⟩ => show win0_7.index t 2 * 1 + 1 * 0 = 0; rw [hi.2.2.1]
  | ⟨3, _⟩ => show win0_7.index t 3 * 512 + 1 * l.val = 512 * (t.val % 56) + l.val; rw [hi.2.2.2]; omega

include hA in
theorem flushed7 (t : Fin cfg0.N) : (dats m 0 c).flushed 7 t = ((cfg0.win 7).blk t).view.read (Elt Ideal) (arrQ A) := by
  show (cfg0.win 7).cut (grid0.coords t) ((dats m 0 c).after 7 t) = _
  rw [after0_7]
  have key : ∀ y : S1x1x1x512.Idx, outQ (grid0.coords t) (lensAt m c t) (iblk m c 1 t) (iblk m c 2 t) (iblk m c 3 t) y = arrQ A (((cfg0.win 7).blk t).view.emb y) := by
    intro y
    idx_vars y
    obtain rfl : y0 = 0 := Subsingleton.elim _ _
    obtain rfl : y1 = 0 := Subsingleton.elim _ _
    obtain rfl : y2 = 0 := Subsingleton.elim _ _
    exact (ptQ t hA y3).trans (congrArg (arrQ A) (emb7 t y3)).symm
  funext y
  exact key y

theorem cover7 (i : S2x12x1x28672.Idx) : ∃ t : Fin cfg0.N, (cfg0.win 7).flush t = true ∧ i ∈ ((cfg0.win 7).blk t).view.set := by
  have h0 : (i 0 : ℕ) < 2 := (i 0).isLt
  have h1 : (i 1 : ℕ) < 12 := (i 1).isLt
  have h2 : (i 2 : ℕ) < 1 := (i 2).isLt
  have h3 : (i 3 : ℕ) < 28672 := (i 3).isLt
  refine ⟨tOf (i 0) (i 1) (i 3), flush0_7 _, ?_⟩
  show i ∈ ((View.whole main_v0_1).slice (win0_7.rect (tOf (i 0) (i 1) (i 3)))).set
  rw [View.set_slice_whole, Rect.mem_set_unit]
  have hi := index7 (tOf (i 0) (i 1) (i 3))
  have ht : (tOf (i 0) (i 1) (i 3)).val = (i 0 : ℕ) * 672 + (i 1 : ℕ) * 56 + (i 3 : ℕ) / 512 := rfl
  rw [ht] at hi
  intro a
  match a with
  | ⟨0, _⟩ => show win0_7.index _ 0 * 1 ≤ (i 0 : ℕ) ∧ (i 0 : ℕ) < win0_7.index _ 0 * 1 + 1; rw [hi.1]; omega
  | ⟨1, _⟩ => show win0_7.index _ 1 * 1 ≤ (i 1 : ℕ) ∧ (i 1 : ℕ) < win0_7.index _ 1 * 1 + 1; rw [hi.2.1]; omega
  | ⟨2, _⟩ => show win0_7.index _ 2 * 1 ≤ (i 2 : ℕ) ∧ (i 2 : ℕ) < win0_7.index _ 2 * 1 + 1; rw [hi.2.2.1]; omega
  | ⟨3, _⟩ => show win0_7.index _ 3 * 512 ≤ (i 3 : ℕ) ∧ (i 3 : ℕ) < win0_7.index _ 3 * 512 + 512; rw [hi.2.2.2]; omega

include hA in
theorem final7 : (dats m 0 c).arrAt 7 cfg0.N = arrQ A := (dats m 0 c).arrAt_eq_of_cover 7 (arrQ A) (fun t _ => flushed7 hA t) cover7

theorem emb8 (t : Fin cfg0.N) (l : Fin 512) :
    ((cfg0.win 8).blk t).view.emb (ix4 0 0 0 l : S1x1x1x512.Idx) = (ix4 (bOf t) (hOf t) (0 : Fin 1) (pOf t l) : S2x12x1x28672.Idx) := by
  have hi := index8 t
  funext a
  apply Fin.ext
  match a with
  | ⟨0, _⟩ => show win0_8.index t 0 * 1 + 1 * 0 = t.val / 672; rw [hi.1]; omega
  | ⟨1, _⟩ => show win0_8.index t 1 * 1 + 1 * 0 = t.val / 56 % 12; rw [hi.2.1]; omega
  | ⟨2, _⟩ => show win0_8.index t 2 * 1 + 1 * 0 = 0; rw [hi.2.2.1]
  | ⟨3, _⟩ => show win0_8.index t 3 * 512 + 1 * l.val = 512 * (t.val % 56) + l.val; rw [hi.2.2.2]; omega

include hA in
theorem flushed8 (t : Fin cfg0.N) : (dats m 0 c).flushed 8 t = ((cfg0.win 8).blk t).view.read (Elt Ideal) (arrS A) := by
  show (cfg0.win 8).cut (grid0.coords t) ((dats m 0 c).after 8 t) = _
  rw [after0_8]
  have key : ∀ y : S1x1x1x512.Idx, outS (grid0.coords t) (lensAt m c t) (iblk m c 1 t) (iblk m c 2 t) (iblk m c 3 t) (iblk m c 4 t) (iblk m c 5 t) y = arrS A (((cfg0.win 8).blk t).view.emb y) := by
    intro y
    idx_vars y
    obtain rfl : y0 = 0 := Subsingleton.elim _ _
    obtain rfl : y1 = 0 := Subsingleton.elim _ _
    obtain rfl : y2 = 0 := Subsingleton.elim _ _
    exact (ptS t hA y3).trans (congrArg (arrS A) (emb8 t y3)).symm
  funext y
  exact key y

theorem cover8 (i : S2x12x1x28672.Idx) : ∃ t : Fin cfg0.N, (cfg0.win 8).flush t = true ∧ i ∈ ((cfg0.win 8).blk t).view.set := by
  have h0 : (i 0 : ℕ) < 2 := (i 0).isLt
  have h1 : (i 1 : ℕ) < 12 := (i 1).isLt
  have h2 : (i 2 : ℕ) < 1 := (i 2).isLt
  have h3 : (i 3 : ℕ) < 28672 := (i 3).isLt
  refine ⟨tOf (i 0) (i 1) (i 3), flush0_8 _, ?_⟩
  show i ∈ ((View.whole main_v0_2).slice (win0_8.rect (tOf (i 0) (i 1) (i 3)))).set
  rw [View.set_slice_whole, Rect.mem_set_unit]
  have hi := index8 (tOf (i 0) (i 1) (i 3))
  have ht : (tOf (i 0) (i 1) (i 3)).val = (i 0 : ℕ) * 672 + (i 1 : ℕ) * 56 + (i 3 : ℕ) / 512 := rfl
  rw [ht] at hi
  intro a
  match a with
  | ⟨0, _⟩ => show win0_8.index _ 0 * 1 ≤ (i 0 : ℕ) ∧ (i 0 : ℕ) < win0_8.index _ 0 * 1 + 1; rw [hi.1]; omega
  | ⟨1, _⟩ => show win0_8.index _ 1 * 1 ≤ (i 1 : ℕ) ∧ (i 1 : ℕ) < win0_8.index _ 1 * 1 + 1; rw [hi.2.1]; omega
  | ⟨2, _⟩ => show win0_8.index _ 2 * 1 ≤ (i 2 : ℕ) ∧ (i 2 : ℕ) < win0_8.index _ 2 * 1 + 1; rw [hi.2.2.1]; omega
  | ⟨3, _⟩ => show win0_8.index _ 3 * 512 ≤ (i 3 : ℕ) ∧ (i 3 : ℕ) < win0_8.index _ 3 * 512 + 512; rw [hi.2.2.2]; omega

include hA in
theorem final8 : (dats m 0 c).arrAt 8 cfg0.N = arrS A := (dats m 0 c).arrAt_eq_of_cover 8 (arrS A) (fun t _ => flushed8 hA t) cover8

theorem emb9 (t : Fin cfg0.N) (l : Fin 512) :
    ((cfg0.win 9).blk t).view.emb (ix4 0 0 0 l : S1x1x1x512.Idx) = (ix4 (bOf t) (hOf t) (0 : Fin 1) (pOf t l) : S2x12x1x28672.Idx) := by
  have hi := index9 t
  funext a
  apply Fin.ext
  match a with
  | ⟨0, _⟩ => show win0_9.index t 0 * 1 + 1 * 0 = t.val / 672; rw [hi.1]; omega
  | ⟨1, _⟩ => show win0_9.index t 1 * 1 + 1 * 0 = t.val / 56 % 12; rw [hi.2.1]; omega
  | ⟨2, _⟩ => show win0_9.index t 2 * 1 + 1 * 0 = 0; rw [hi.2.2.1]
  | ⟨3, _⟩ => show win0_9.index t 3 * 512 + 1 * l.val = 512 * (t.val % 56) + l.val; rw [hi.2.2.2]; omega

include hA in
theorem flushed9 (t : Fin cfg0.N) : (dats m 0 c).flushed 9 t = ((cfg0.win 9).blk t).view.read (Elt Ideal) (arrR A) := by
  show (cfg0.win 9).cut (grid0.coords t) ((dats m 0 c).after 9 t) = _
  rw [after0_9]
  have key : ∀ y : S1x1x1x512.Idx, outR (grid0.coords t) (lensAt m c t) (iblk m c 1 t) (iblk m c 2 t) (iblk m c 3 t) (iblk m c 4 t) (iblk m c 5 t) y = arrR A (((cfg0.win 9).blk t).view.emb y) := by
    intro y
    idx_vars y
    obtain rfl : y0 = 0 := Subsingleton.elim _ _
    obtain rfl : y1 = 0 := Subsingleton.elim _ _
    obtain rfl : y2 = 0 := Subsingleton.elim _ _
    exact (ptR t hA y3).trans (congrArg (arrR A) (emb9 t y3)).symm
  funext y
  exact key y

theorem cover9 (i : S2x12x1x28672.Idx) : ∃ t : Fin cfg0.N, (cfg0.win 9).flush t = true ∧ i ∈ ((cfg0.win 9).blk t).view.set := by
  have h0 : (i 0 : ℕ) < 2 := (i 0).isLt
  have h1 : (i 1 : ℕ) < 12 := (i 1).isLt
  have h2 : (i 2 : ℕ) < 1 := (i 2).isLt
  have h3 : (i 3 : ℕ) < 28672 := (i 3).isLt
  refine ⟨tOf (i 0) (i 1) (i 3), flush0_9 _, ?_⟩
  show i ∈ ((View.whole main_v0_3).slice (win0_9.rect (tOf (i 0) (i 1) (i 3)))).set
  rw [View.set_slice_whole, Rect.mem_set_unit]
  have hi := index9 (tOf (i 0) (i 1) (i 3))
  have ht : (tOf (i 0) (i 1) (i 3)).val = (i 0 : ℕ) * 672 + (i 1 : ℕ) * 56 + (i 3 : ℕ) / 512 := rfl
  rw [ht] at hi
  intro a
  match a with
  | ⟨0, _⟩ => show win0_9.index _ 0 * 1 ≤ (i 0 : ℕ) ∧ (i 0 : ℕ) < win0_9.index _ 0 * 1 + 1; rw [hi.1]; omega
  | ⟨1, _⟩ => show win0_9.index _ 1 * 1 ≤ (i 1 : ℕ) ∧ (i 1 : ℕ) < win0_9.index _ 1 * 1 + 1; rw [hi.2.1]; omega
  | ⟨2, _⟩ => show win0_9.index _ 2 * 1 ≤ (i 2 : ℕ) ∧ (i 2 : ℕ) < win0_9.index _ 2 * 1 + 1; rw [hi.2.2.1]; omega
  | ⟨3, _⟩ => show win0_9.index _ 3 * 512 ≤ (i 3 : ℕ) ∧ (i 3 : ℕ) < win0_9.index _ 3 * 512 + 512; rw [hi.2.2.2]; omega

include hA in
theorem final9 : (dats m 0 c).arrAt 9 cfg0.N = arrR A := (dats m 0 c).arrAt_eq_of_cover 9 (arrR A) (fun t _ => flushed9 hA t) cover9

end Arrays

end Cert.KernelIdeal.Hand

end
-- ==== Proof.Table.lean ====
/-
  Hand-written. The tables of maxima: for each of twelve heads and 128 lanes, the largest of a row's entries over the sequences and the
  positions of the lane (those equal to it modulo 128); four further rows of zeros.
-/
module

public import proofs.«01_k».proof.Proof.Spec

@[expose] public section

noncomputable section

namespace Cert.Spec

open Idealize.ShloMosaic

/-- Position `a` of lane `l`. -/
def lanePos (a : Fin 224) (l : Fin 128) : Fin 28672 := ⟨128 * a.val + l.val, by omega⟩

/-- The table of the maxima of `R`. -/
def tableAt (R : Fin 2 → Fin 12 → Fin 28672 → EReal) (r : Fin 16) (l : Fin 128) : EReal :=
  if h : r.val < 12 then Finset.univ.sup fun b : Fin 2 => Finset.univ.sup fun a : Fin 224 => R b ⟨r.val, h⟩ (lanePos a l) else 0

theorem masked_nonneg (p : ℕ) (len : BitVec 32) (x : EReal) (h : 0 ≤ x) : 0 ≤ masked p len x := by
  unfold masked
  split
  · exact h
  · exact le_refl _

theorem mag_nonneg (x : Fin 96 → ℝ) : 0 ≤ mag x :=
  le_trans (EReal.coe_nonneg.2 (abs_nonneg (x 0))) (Finset.le_sup (f := fun d => ((|x d| : ℝ) : EReal)) (Finset.mem_univ 0))

theorem scoreMax_nonneg (K : ℕ → Fin 96 → ℝ) (q : Fin 96 → ℝ) (p : ℕ) : 0 ≤ scoreMax K q p :=
  le_trans (EReal.coe_nonneg.2 (mul_nonneg (abs_nonneg (score K q 0)) c1_pos.le))
    (Finset.le_sup (f := fun j => ((|score K q j| * c1 : ℝ) : EReal)) (Finset.mem_range.2 (by omega : 0 < p + 1)))

theorem Args.resQ_nonneg (A : Args) (b : Fin 2) (h : Fin 12) (p : Fin 28672) : 0 ≤ A.resQ b h p := masked_nonneg _ _ _ (mag_nonneg _)
theorem Args.resS_nonneg (A : Args) (b : Fin 2) (h : Fin 12) (p : Fin 28672) : 0 ≤ A.resS b h p := masked_nonneg _ _ _ (scoreMax_nonneg _ _ _)
theorem Args.resR_nonneg (A : Args) (b : Fin 2) (h : Fin 12) (p : Fin 28672) : 0 ≤ A.resR b h p := masked_nonneg _ _ _ (mag_nonneg _)

end Cert.Spec

end
-- ==== Proof.IdealTable.lean ====
/-
  Hand-written. The kernel's tables of maxima, over the extended reals: what a grid point does to a table, the table after all of them;
  and the run of the call, its seven arrays.
-/
module

public import proofs.«01_k».proof.Proof.IdealArray
public import proofs.«01_k».proof.Proof.Table

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem
open Idealize.ShloMosaic.Pipeline (Dat)
open Cert.Spec (Args tableAt lanePos)

/-- Lane `l` of chunk `a` of a tile's 512 positions. -/
def chunk (a : Fin 4) (l : Fin 128) : Fin 512 := ⟨128 * a.val + l.val, by omega⟩

/-- The largest of a block's entries in a lane. -/
def laneMax (f : Fin 512 → EReal) (l : Fin 128) : EReal := Finset.univ.sup fun a : Fin 4 => f (chunk a l)

theorem laneMax_eq (f : Fin 512 → EReal) (l : Fin 128) :
    laneMax f l = max (max (max (f ⟨l.val, by omega⟩) (f ⟨128 + l.val, by omega⟩)) (f ⟨256 + l.val, by omega⟩)) (f ⟨384 + l.val, by omega⟩) := by
  have e0 : (⟨l.val, by omega⟩ : Fin 512) = chunk 0 l := Fin.ext (by show l.val = 128 * 0 + l.val; omega)
  rw [e0]
  show laneMax f l = max (max (max (f (chunk 0 l)) (f (chunk 1 l))) (f (chunk 2 l))) (f (chunk 3 l))
  apply le_antisymm
  · refine Finset.sup_le fun a _ => ?_
    fin_cases a <;> simp
  · simp only [max_le_iff]
    have h := fun a : Fin 4 => Finset.le_sup (f := fun a : Fin 4 => f (chunk a l)) (Finset.mem_univ a)
    exact ⟨⟨⟨h 0, h 1⟩, h 2⟩, h 3⟩

theorem rowOf_at (x : Vec Ideal S16x128 .f32) (h : ℕ) (hh : h < 16) (l : Fin 128) : rowOf x h (ix2 0 l) = x (ix2 ⟨h, hh⟩ l) := by
  unfold rowOf
  rw [dif_pos hh]
  unfold VecWindow.window
  refine congrArg x ?_
  funext a
  apply Fin.ext
  fin_cases a <;> simp [Rect.unit, Rect.emb, ix2]

theorem rowPut_at (x : Vec Ideal S16x128 .f32) (h : ℕ) (w : Vec Ideal S1x128 .f32) (r : Fin 16) (l : Fin 128) :
    rowPut x h w (ix2 r l) = if r.val = h then w (ix2 0 l) else x (ix2 r l) := by
  unfold rowPut VecWindow.put
  by_cases e : r.val = h
  · subst e
    rw [if_pos rfl, dif_pos]
    · refine congrArg w ?_
      funext a
      apply Fin.ext
      fin_cases a <;> simp [Rect.unitLocal, ix2]
    · intro a
      fin_cases a <;> simp [ix2, S1x128]
  · rw [if_neg e, dif_neg]
    intro hc
    apply e
    have := hc 0
    simp [ix2, S1x128] at this
    omega

theorem statz1 (y : S16x128.Idx) : k0_pay1 (F := Ideal) y = (0 : EReal) := by idx_vars y; pointwise [k0_pay1]
theorem statz2 (y : S16x128.Idx) : k0_pay2 (F := Ideal) y = (0 : EReal) := by idx_vars y; pointwise [k0_pay2]
theorem statz3 (y : S16x128.Idx) : k0_pay3 (F := Ideal) y = (0 : EReal) := by idx_vars y; pointwise [k0_pay3]

theorem pay41_at (len w : BitVec 32) (x : Vec Ideal S1x1x96x512 .bf16) (cs sn : Vec Ideal S1x48x512 .f32) (row : Vec Ideal S1x128 .f32) (l : Fin 128) :
    k0_pay41 (F := Ideal) (k0_pay38 row) (k0_pay39 len w x cs sn) (k0_pay40 len w x cs sn) (ix2 0 l)
      = max (row (ix2 0 l) : EReal) (laneMax (fun c => k0_pay37 (F := Ideal) len w x cs sn (ix4 0 0 0 c)) l) := by
  rw [laneMax_eq]
  unfold k0_pay41 k0_pay38 k0_pay39 k0_pay40 k0_pay37
  generalize k0_pay36 len w x cs sn = y
  pointwise

theorem pay61_at (z : IVec S1x512 1) (m : Vec Ideal S1x512 .f32) (hi lo : Vec Ideal S8x512 .f32) (row : Vec Ideal S1x128 .f32) (l : Fin 128) :
    k0_pay61 (F := Ideal) (k0_pay59 z m hi lo) row (ix2 0 l)
      = max (row (ix2 0 l) : EReal) (laneMax (fun c => k0_pay60 (F := Ideal) z m hi lo (ix4 0 0 0 c)) l) := by
  rw [laneMax_eq]
  unfold k0_pay61 k0_pay60
  generalize k0_pay59 z m hi lo = y
  pointwise

theorem pay8_at (z : IVec S1x512 1) (s : Vec Ideal S8x512 .f32) (a : Vec Ideal S96x512 .f32) (row : Vec Ideal S1x128 .f32) (l : Fin 128) :
    k0_pay8 (F := Ideal) (k0_pay66 row) (k0_pay67 z s a) (ix2 0 l)
      = max (row (ix2 0 l) : EReal) (laneMax (fun c => k0_pay65 (F := Ideal) z s a (ix4 0 0 0 c)) l) := by
  rw [laneMax_eq]
  unfold k0_pay8 k0_pay66 k0_pay67 k0_pay65
  generalize k0_pay64 z s a = y
  pointwise

theorem laneMax_zero (f : Fin 512 → EReal) (hf : ∀ c, f c = 0) (l : Fin 128) : laneMax f l = 0 := by
  rw [laneMax_eq]; simp [hf]

section Point

variable (i : grid0.Coords) (len : BitVec 32) (qt : Vec Ideal S1x1x96x512 .bf16) (cs sn : Vec Ideal S1x48x512 .f32)
  (k : Vec Ideal S1x1x28672x128 .bf16) (v : Vec Ideal S1x1x96x28672 .bf16) (x : Vec Ideal S16x128 .f32)

theorem entry_eq (z : Vec Ideal S16x128 .f32) (hz : first i → x = z) : entry i z x = x := by
  unfold entry
  split
  · next h => exact (hz h).symm
  · rfl

theorem head_lt : (i 1).val < 16 := lt_trans (i 1).isLt (by decide)

theorem statQ_at (hz : first i → x = k0_pay1 (F := Ideal)) (h0 : ∀ y, (0 : EReal) ≤ x y) (r : Fin 16) (l : Fin 128) :
    statQ i len qt cs sn x (ix2 r l)
      = if r.val = (i 1).val then max (x (ix2 r l) : EReal) (laneMax (fun c => outQ i len qt cs sn (ix4 0 0 0 c)) l) else x (ix2 r l) := by
  unfold statQ outQ
  rw [entry_eq i x _ hz]
  by_cases h : dead i len
  · rw [if_pos h]
    simp only [if_pos h]
    rw [laneMax_zero _ (fun c => pay5_at c), max_eq_left (h0 _), ite_self]
  · rw [if_neg h, rowPut_at, pay41_at, rowOf_at x _ (head_lt i)]
    simp only [if_neg h]
    by_cases e : r.val = (i 1).val
    · rw [if_pos e, if_pos e]
      have : (⟨(i 1).val, head_lt i⟩ : Fin 16) = r := Fin.ext e.symm
      rw [this]
    · rw [if_neg e, if_neg e]

theorem statS_at (hz : first i → x = k0_pay2 (F := Ideal)) (h0 : ∀ y, (0 : EReal) ≤ x y) (r : Fin 16) (l : Fin 128) :
    statS i len qt cs sn k v x (ix2 r l)
      = if r.val = (i 1).val then max (x (ix2 r l) : EReal) (laneMax (fun c => outS i len qt cs sn k v (ix4 0 0 0 c)) l) else x (ix2 r l) := by
  unfold statS outS
  rw [entry_eq i x _ hz]
  by_cases h : dead i len
  · rw [if_pos h]
    simp only [if_pos h]
    rw [laneMax_zero _ (fun c => pay6_at c), max_eq_left (h0 _), ite_self]
  · rw [if_neg h, rowPut_at, pay61_at, rowOf_at x _ (head_lt i)]
    simp only [if_neg h]
    by_cases e : r.val = (i 1).val
    · rw [if_pos e, if_pos e]
      have : (⟨(i 1).val, head_lt i⟩ : Fin 16) = r := Fin.ext e.symm
      rw [this]
    · rw [if_neg e, if_neg e]

theorem statO_at (hz : first i → x = k0_pay3 (F := Ideal)) (h0 : ∀ y, (0 : EReal) ≤ x y) (r : Fin 16) (l : Fin 128) :
    statO i len qt cs sn k v x (ix2 r l)
      = if r.val = (i 1).val then max (x (ix2 r l) : EReal) (laneMax (fun c => outR i len qt cs sn k v (ix4 0 0 0 c)) l) else x (ix2 r l) := by
  unfold statO outR
  rw [entry_eq i x _ hz]
  by_cases h : dead i len
  · rw [if_pos h]
    simp only [if_pos h]
    rw [laneMax_zero _ (fun c => pay7_at c), max_eq_left (h0 _), ite_self]
  · rw [if_neg h, rowPut_at, pay8_at, rowOf_at x _ (head_lt i)]
    simp only [if_neg h]
    by_cases e : r.val = (i 1).val
    · rw [if_pos e, if_pos e]
      have : (⟨(i 1).val, head_lt i⟩ : Fin 16) = r := Fin.ext e.symm
      rw [this]
    · rw [if_neg e, if_neg e]

end Point

/-! ## The table after all points -/

theorem coord1 : ∀ t : Fin grid0.N, (grid0.coords t 1).val = t.val / 56 % 12 := by decide +kernel
theorem first_val : ∀ t : Fin grid0.N, first (grid0.coords t) → t.val = 0 := by decide +kernel

section Chain

variable {f : Fin cfg0.N → Vec Ideal S16x128 .f32 → Vec Ideal S16x128 .f32} {z : Vec Ideal S16x128 .f32} {R : Fin 2 → Fin 12 → Fin 28672 → EReal}
  (hz : ∀ y, z y = (0 : EReal))
  (hf : ∀ t x, (t.val = 0 → x = z) → (∀ y, (0 : EReal) ≤ x y) → ∀ (r : Fin 16) (l : Fin 128),
    f t x (ix2 r l) = if r.val = (hOf t).val then max (x (ix2 r l) : EReal) (laneMax (fun c => R (bOf t) (hOf t) (pOf t c)) l) else x (ix2 r l))

include hz hf

theorem chain_le (n : ℕ) (hn : n ≤ cfg0.N) (r : Fin 16) (l : Fin 128) (u : EReal) :
    (chain f z n (ix2 r l) : EReal) ≤ u ↔ 0 ≤ u ∧ ∀ t : Fin cfg0.N, t.val < n → r.val = (hOf t).val → ∀ a : Fin 4, R (bOf t) (hOf t) (pOf t (chunk a l)) ≤ u := by
  induction n generalizing r l u with
  | zero =>
    rw [chain, hz]
    exact ⟨fun h => ⟨h, fun t ht => absurd ht (by omega)⟩, fun h => h.1⟩
  | succ n ih =>
    have hlt : n < cfg0.N := by omega
    have h0 : ∀ y, (0 : EReal) ≤ chain f z n y := fun y => by
      idx_vars y
      exact ((ih (by omega) y0 y1 _).1 (le_refl _)).1
    have e : chain f z (n + 1) = f ⟨n, hlt⟩ (chain f z n) := by rw [chain, dif_pos hlt]
    rw [e, hf ⟨n, hlt⟩ _ (fun h => by have h' : n = 0 := h; subst h'; rfl) h0]
    by_cases hr : r.val = (hOf ⟨n, hlt⟩).val
    · rw [if_pos hr, max_le_iff, ih (by omega)]
      constructor
      · rintro ⟨⟨hu, h1⟩, h2⟩
        refine ⟨hu, fun t ht hrt a => ?_⟩
        by_cases hc : t.val < n
        · exact h1 t hc hrt a
        · obtain rfl : t = ⟨n, hlt⟩ := Fin.ext (by show t.val = n; omega)
          exact le_trans (Finset.le_sup (f := fun a : Fin 4 => R (bOf ⟨n, hlt⟩) (hOf ⟨n, hlt⟩) (pOf ⟨n, hlt⟩ (chunk a l))) (Finset.mem_univ a)) h2
      · rintro ⟨hu, h1⟩
        exact ⟨⟨hu, fun t ht => h1 t (by omega)⟩, Finset.sup_le fun a _ => h1 ⟨n, hlt⟩ (by show n < n + 1; omega) hr a⟩
    · rw [if_neg hr, ih (by omega)]
      constructor
      · rintro ⟨hu, h1⟩
        refine ⟨hu, fun t ht hrt a => ?_⟩
        by_cases hc : t.val < n
        · exact h1 t hc hrt a
        · obtain rfl : t = ⟨n, hlt⟩ := Fin.ext (by show t.val = n; omega)
          exact absurd hrt hr
      · rintro ⟨hu, h1⟩
        exact ⟨hu, fun t ht => h1 t (by omega)⟩

theorem chain_table (hR : ∀ b h p, 0 ≤ R b h p) (r : Fin 16) (l : Fin 128) : (chain f z cfg0.N (ix2 r l) : EReal) = tableAt R r l := by
  refine eq_of_forall_ge_iff fun u => ?_
  have hN : cfg0.N = 1344 := N_0
  rw [chain_le hz hf cfg0.N (le_refl _)]
  unfold tableAt
  by_cases hr : r.val < 12
  · rw [dif_pos hr, Finset.sup_le_iff]
    simp only [Finset.sup_le_iff]
    constructor
    · rintro ⟨-, h⟩ b - a -
      have hb := b.isLt
      have ha := a.isLt
      have hl := l.isLt
      have ht : b.val * 672 + r.val * 56 + a.val / 4 < cfg0.N := by omega
      have := h ⟨b.val * 672 + r.val * 56 + a.val / 4, ht⟩ ht (by show r.val = (b.val * 672 + r.val * 56 + a.val / 4) / 56 % 12; omega) ⟨a.val % 4, by omega⟩
      have e1 : bOf ⟨b.val * 672 + r.val * 56 + a.val / 4, ht⟩ = b := Fin.ext (by show (b.val * 672 + r.val * 56 + a.val / 4) / 672 = b.val; omega)
      have e2 : hOf ⟨b.val * 672 + r.val * 56 + a.val / 4, ht⟩ = ⟨r.val, hr⟩ := Fin.ext (by show (b.val * 672 + r.val * 56 + a.val / 4) / 56 % 12 = r.val; omega)
      have e3 : pOf ⟨b.val * 672 + r.val * 56 + a.val / 4, ht⟩ (chunk ⟨a.val % 4, by omega⟩ l) = lanePos a l :=
        Fin.ext (by show 512 * ((b.val * 672 + r.val * 56 + a.val / 4) % 56) + (128 * (a.val % 4) + l.val) = 128 * a.val + l.val; omega)
      rw [e1, e2, e3] at this
      exact this
    · intro h
      refine ⟨le_trans (hR 0 ⟨r.val, hr⟩ (lanePos 0 l)) (h 0 (Finset.mem_univ _) 0 (Finset.mem_univ _)), fun t ht hrt a => ?_⟩
      have hl := l.isLt
      have := h (bOf t) (Finset.mem_univ _) ⟨4 * (t.val % 56) + a.val, by omega⟩ (Finset.mem_univ _)
      have e2 : hOf t = ⟨r.val, hr⟩ := Fin.ext hrt.symm
      have e3 : lanePos ⟨4 * (t.val % 56) + a.val, by omega⟩ l = pOf t (chunk a l) :=
        Fin.ext (by show 128 * (4 * (t.val % 56) + a.val) + l.val = 512 * (t.val % 56) + (128 * a.val + l.val); omega)
      rw [e2, ← e3]
      exact this
  · rw [dif_neg hr]
    constructor
    · exact fun h => h.1
    · refine fun h => ⟨h, fun t _ hrt => absurd hrt ?_⟩
      have := (hOf t).isLt
      omega

end Chain

/-! ## The three arrays -/

section Arrays

variable {m : (ℓ : Loc nD τ sig) → Buf (Elt Ideal) ℓ} {c : Dev nD} {A : Args} (hA : Held m c A)

def arrT (R : Fin 2 → Fin 12 → Fin 28672 → EReal) : S16x128.Idx → EReal := fun i => tableAt R (i 0) (i 1)

theorem first_of (t : Fin cfg0.N) {x z : Vec Ideal S16x128 .f32} (h : t.val = 0 → x = z) : first (grid0.coords t) → x = z := fun hf => h (first_val t hf)

include hA

theorem stepQ_at (t : Fin cfg0.N) (x : Vec Ideal S16x128 .f32) (hz : t.val = 0 → x = k0_pay1 (F := Ideal)) (h0 : ∀ y, (0 : EReal) ≤ x y) (r : Fin 16) (l : Fin 128) :
    stepQ m c t x (ix2 r l) = if r.val = (hOf t).val then max (x (ix2 r l) : EReal) (laneMax (fun c => A.resQ (bOf t) (hOf t) (pOf t c)) l) else x (ix2 r l) := by
  unfold stepQ
  rw [statQ_at _ _ _ _ _ _ (first_of t hz) h0, coord1 t]
  simp only [ptQ t hA]
  rfl

theorem stepS_at (t : Fin cfg0.N) (x : Vec Ideal S16x128 .f32) (hz : t.val = 0 → x = k0_pay2 (F := Ideal)) (h0 : ∀ y, (0 : EReal) ≤ x y) (r : Fin 16) (l : Fin 128) :
    stepS m c t x (ix2 r l) = if r.val = (hOf t).val then max (x (ix2 r l) : EReal) (laneMax (fun c => A.resS (bOf t) (hOf t) (pOf t c)) l) else x (ix2 r l) := by
  unfold stepS
  rw [statS_at _ _ _ _ _ _ _ _ (first_of t hz) h0, coord1 t]
  simp only [ptS t hA]
  rfl

theorem stepO_at (t : Fin cfg0.N) (x : Vec Ideal S16x128 .f32) (hz : t.val = 0 → x = k0_pay3 (F := Ideal)) (h0 : ∀ y, (0 : EReal) ≤ x y) (r : Fin 16) (l : Fin 128) :
    stepO m c t x (ix2 r l) = if r.val = (hOf t).val then max (x (ix2 r l) : EReal) (laneMax (fun c => A.resR (bOf t) (hOf t) (pOf t c)) l) else x (ix2 r l) := by
  unfold stepO
  rw [statO_at _ _ _ _ _ _ _ _ (first_of t hz) h0, coord1 t]
  simp only [ptR t hA]
  rfl

theorem tableQ : chain (stepQ m c) (k0_pay1 (F := Ideal)) cfg0.N = arrT A.resQ := by
  funext y
  idx_vars y
  exact chain_table statz1 (stepQ_at hA) A.resQ_nonneg y0 y1

theorem tableS : chain (stepS m c) (k0_pay2 (F := Ideal)) cfg0.N = arrT A.resS := by
  funext y
  idx_vars y
  exact chain_table statz2 (stepS_at hA) A.resS_nonneg y0 y1

theorem tableO : chain (stepO m c) (k0_pay3 (F := Ideal)) cfg0.N = arrT A.resR := by
  funext y
  idx_vars y
  exact chain_table statz3 (stepO_at hA) A.resR_nonneg y0 y1

omit hA

/-- The last grid point. -/
def tLast : Fin cfg0.N := ⟨1343, by have e : cfg0.N = 1344 := N_0; omega⟩

theorem last_of (t : Fin cfg0.N) (h : t.val % 1344 = 1343) : t.val + 1 = cfg0.N := by
  have e : cfg0.N = 1344 := N_0
  have := t.isLt
  omega

theorem index10 : ∀ t : Fin grid0.N, win0_10.index t 0 = 0 ∧ win0_10.index t 1 = 0 := fun _ => ⟨rfl, rfl⟩
theorem index11 : ∀ t : Fin grid0.N, win0_11.index t 0 = 0 ∧ win0_11.index t 1 = 0 := fun _ => ⟨rfl, rfl⟩
theorem index12 : ∀ t : Fin grid0.N, win0_12.index t 0 = 0 ∧ win0_12.index t 1 = 0 := fun _ => ⟨rfl, rfl⟩

theorem emb10 (t : Fin cfg0.N) (r : Fin 16) (l : Fin 128) : ((cfg0.win 10).blk t).view.emb (ix2 r l : S16x128.Idx) = (ix2 r l : S16x128.Idx) := by
  have hi := index10 t
  funext a
  apply Fin.ext
  match a with
  | ⟨0, _⟩ => show win0_10.index t 0 * 16 + 1 * r.val = r.val; rw [hi.1]; omega
  | ⟨1, _⟩ => show win0_10.index t 1 * 128 + 1 * l.val = l.val; rw [hi.2]; omega

include hA in
theorem flushed10 (t : Fin cfg0.N) (h : (cfg0.win 10).flush t = true) : (dats m 0 c).flushed 10 t = ((cfg0.win 10).blk t).view.read (Elt Ideal) (arrT A.resQ) := by
  show (cfg0.win 10).cut (grid0.coords t) ((dats m 0 c).after 10 t) = _
  rw [after0_10, last_of t ((flush0_10 t).1 h), tableQ hA]
  have key : ∀ y : S16x128.Idx, arrT A.resQ y = arrT A.resQ (((cfg0.win 10).blk t).view.emb y) := by
    intro y
    idx_vars y
    exact (congrArg (arrT A.resQ) (emb10 t y0 y1)).symm
  funext y
  exact key y

theorem cover10 (i : S16x128.Idx) : ∃ t : Fin cfg0.N, (cfg0.win 10).flush t = true ∧ i ∈ ((cfg0.win 10).blk t).view.set := by
  have h0 : (i 0 : ℕ) < 16 := (i 0).isLt
  have h1 : (i 1 : ℕ) < 128 := (i 1).isLt
  refine ⟨tLast, (flush0_10 _).2 rfl, ?_⟩
  show i ∈ ((View.whole main_v0_4).slice (win0_10.rect tLast)).set
  rw [View.set_slice_whole, Rect.mem_set_unit]
  have hi := index10 tLast
  intro a
  match a with
  | ⟨0, _⟩ => show win0_10.index _ 0 * 16 ≤ (i 0 : ℕ) ∧ (i 0 : ℕ) < win0_10.index _ 0 * 16 + 16; rw [hi.1]; omega
  | ⟨1, _⟩ => show win0_10.index _ 1 * 128 ≤ (i 1 : ℕ) ∧ (i 1 : ℕ) < win0_10.index _ 1 * 128 + 128; rw [hi.2]; omega

include hA in
theorem final10 : (dats m 0 c).arrAt 10 cfg0.N = arrT A.resQ := (dats m 0 c).arrAt_eq_of_cover 10 (arrT A.resQ) (fun t h => flushed10 hA t h) cover10

theorem emb11 (t : Fin cfg0.N) (r : Fin 16) (l : Fin 128) : ((cfg0.win 11).blk t).view.emb (ix2 r l : S16x128.Idx) = (ix2 r l : S16x128.Idx) := by
  have hi := index11 t
  funext a
  apply Fin.ext
  match a with
  | ⟨0, _⟩ => show win0_11.index t 0 * 16 + 1 * r.val = r.val; rw [hi.1]; omega
  | ⟨1, _⟩ => show win0_11.index t 1 * 128 + 1 * l.val = l.val; rw [hi.2]; omega

include hA in
theorem flushed11 (t : Fin cfg0.N) (h : (cfg0.win 11).flush t = true) : (dats m 0 c).flushed 11 t = ((cfg0.win 11).blk t).view.read (Elt Ideal) (arrT A.resS) := by
  show (cfg0.win 11).cut (grid0.coords t) ((dats m 0 c).after 11 t) = _
  rw [after0_11, last_of t ((flush0_11 t).1 h), tableS hA]
  have key : ∀ y : S16x128.Idx, arrT A.resS y = arrT A.resS (((cfg0.win 11).blk t).view.emb y) := by
    intro y
    idx_vars y
    exact (congrArg (arrT A.resS) (emb11 t y0 y1)).symm
  funext y
  exact key y

theorem cover11 (i : S16x128.Idx) : ∃ t : Fin cfg0.N, (cfg0.win 11).flush t = true ∧ i ∈ ((cfg0.win 11).blk t).view.set := by
  have h0 : (i 0 : ℕ) < 16 := (i 0).isLt
  have h1 : (i 1 : ℕ) < 128 := (i 1).isLt
  refine ⟨tLast, (flush0_11 _).2 rfl, ?_⟩
  show i ∈ ((View.whole main_v0_5).slice (win0_11.rect tLast)).set
  rw [View.set_slice_whole, Rect.mem_set_unit]
  have hi := index11 tLast
  intro a
  match a with
  | ⟨0, _⟩ => show win0_11.index _ 0 * 16 ≤ (i 0 : ℕ) ∧ (i 0 : ℕ) < win0_11.index _ 0 * 16 + 16; rw [hi.1]; omega
  | ⟨1, _⟩ => show win0_11.index _ 1 * 128 ≤ (i 1 : ℕ) ∧ (i 1 : ℕ) < win0_11.index _ 1 * 128 + 128; rw [hi.2]; omega

include hA in
theorem final11 : (dats m 0 c).arrAt 11 cfg0.N = arrT A.resS := (dats m 0 c).arrAt_eq_of_cover 11 (arrT A.resS) (fun t h => flushed11 hA t h) cover11

theorem emb12 (t : Fin cfg0.N) (r : Fin 16) (l : Fin 128) : ((cfg0.win 12).blk t).view.emb (ix2 r l : S16x128.Idx) = (ix2 r l : S16x128.Idx) := by
  have hi := index12 t
  funext a
  apply Fin.ext
  match a with
  | ⟨0, _⟩ => show win0_12.index t 0 * 16 + 1 * r.val = r.val; rw [hi.1]; omega
  | ⟨1, _⟩ => show win0_12.index t 1 * 128 + 1 * l.val = l.val; rw [hi.2]; omega

include hA in
theorem flushed12 (t : Fin cfg0.N) (h : (cfg0.win 12).flush t = true) : (dats m 0 c).flushed 12 t = ((cfg0.win 12).blk t).view.read (Elt Ideal) (arrT A.resR) := by
  show (cfg0.win 12).cut (grid0.coords t) ((dats m 0 c).after 12 t) = _
  rw [after0_12, last_of t ((flush0_12 t).1 h), tableO hA]
  have key : ∀ y : S16x128.Idx, arrT A.resR y = arrT A.resR (((cfg0.win 12).blk t).view.emb y) := by
    intro y
    idx_vars y
    exact (congrArg (arrT A.resR) (emb12 t y0 y1)).symm
  funext y
  exact key y

theorem cover12 (i : S16x128.Idx) : ∃ t : Fin cfg0.N, (cfg0.win 12).flush t = true ∧ i ∈ ((cfg0.win 12).blk t).view.set := by
  have h0 : (i 0 : ℕ) < 16 := (i 0).isLt
  have h1 : (i 1 : ℕ) < 128 := (i 1).isLt
  refine ⟨tLast, (flush0_12 _).2 rfl, ?_⟩
  show i ∈ ((View.whole main_v0_6).slice (win0_12.rect tLast)).set
  rw [View.set_slice_whole, Rect.mem_set_unit]
  have hi := index12 tLast
  intro a
  match a with
  | ⟨0, _⟩ => show win0_12.index _ 0 * 16 ≤ (i 0 : ℕ) ∧ (i 0 : ℕ) < win0_12.index _ 0 * 16 + 16; rw [hi.1]; omega
  | ⟨1, _⟩ => show win0_12.index _ 1 * 128 ≤ (i 1 : ℕ) ∧ (i 1 : ℕ) < win0_12.index _ 1 * 128 + 128; rw [hi.2]; omega

include hA in
theorem final12 : (dats m 0 c).arrAt 12 cfg0.N = arrT A.resR := (dats m 0 c).arrAt_eq_of_cover 12 (arrT A.resR) (fun t h => flushed12 hA t h) cover12

end Arrays

/-- The run of the attention call on real arguments: the seven results, the arguments unchanged. -/
theorem run (m : (ℓ : Loc nD τ sig) → Buf (Elt Ideal) ℓ) (ρ : Dev nD → PrngReg) (A : Dev nD → Args) (hA : ∀ c, Held m c (A c)) :
    θ_run defs (onTc (τ := τ) (main (F := Ideal))) ⟨m, fun _ => 0, ρ⟩ fun r => ∀ c : Dev nD,
      r.2.mem ((c.tc : Thread nD τ).loc main_v0_0) = arrO (A c)
      ∧ r.2.mem ((c.tc : Thread nD τ).loc main_v0_1) = arrQ (A c)
      ∧ r.2.mem ((c.tc : Thread nD τ).loc main_v0_2) = arrS (A c)
      ∧ r.2.mem ((c.tc : Thread nD τ).loc main_v0_3) = arrR (A c)
      ∧ r.2.mem ((c.tc : Thread nD τ).loc main_v0_4) = arrT (A c).resQ
      ∧ r.2.mem ((c.tc : Thread nD τ).loc main_v0_5) = arrT (A c).resS
      ∧ r.2.mem ((c.tc : Thread nD τ).loc main_v0_6) = arrT (A c).resR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 (hA c)), ((h c).1 7).trans (final7 (hA c)), ((h c).1 8).trans (final8 (hA c)),
      ((h c).1 9).trans (final9 (hA c)), ((h c).1 10).trans (final10 (hA c)), ((h c).1 11).trans (final11 (hA c)), ((h c).1 12).trans (final12 (hA c)),
      ((h c).1 0).trans ((dats m 0 c).arrAt_in 0 rfl _), ((h c).1 1).trans ((dats m 0 c).arrAt_in 1 rfl _), ((h c).1 2).trans ((dats m 0 c).arrAt_in 2 rfl _),
      ((h c).1 3).trans ((dats m 0 c).arrAt_in 3 rfl _), ((h c).1 4).trans ((dats m 0 c).arrAt_in 4 rfl _), ((h c).1 5).trans ((dats m 0 c).arrAt_in 5 rfl _)⟩)
    (run_main m ρ)

end Cert.KernelIdeal.Hand

end
-- ==== Proof.RefScores.lean ====
/-
  Hand-written. The reference's rotated queries and scaled scores, over the extended reals, on real arguments.
-/
module

public import proofs.«01_k».proof.Proof.IdealOut
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic
open Cert.Fold
open Cert.KernelIdeal.Hand (absf_coe select_mask toInt_small sle_small ofBits_bot ofBits_bot16)
open Cert.Spec (score rot masked mag scoreMax grp Args Holds)

variable {A : Args} {x0 : (⟨S2, .i32⟩ : BufTy).Contents (Elt Ideal)} {x1 : (⟨S2x12x96x28672, .bf16⟩ : BufTy).Contents (Elt Ideal)}
  {x2 x3 : (⟨S2x48x28672, .f32⟩ : BufTy).Contents (Elt Ideal)} {x4 : (⟨S2x4x28672x128, .bf16⟩ : BufTy).Contents (Elt Ideal)}
  {x5 : (⟨S2x4x96x28672, .bf16⟩ : BufTy).Contents (Elt Ideal)}

/-- The query head of a key head and a place in its group. -/
def head (g : Fin 4) (r : Fin 3) : Fin 12 := ⟨g.val * 3 + r.val, by omega⟩

theorem exists_head (h : Fin 12) : ∃ g r, head g r = h := ⟨⟨h.val / 3, by omega⟩, ⟨h.val % 3, by omega⟩, by apply Fin.ext; simp only [head]; omega⟩

theorem grp_head (g : Fin 4) (r : Fin 3) : grp (head g r) = g := by apply Fin.ext; simp only [grp, head]; omega

/-- The bit that holds where a key at `j` counts for a query at `p`. -/
def vis (len : BitVec 32) (p j : Fin 28672) : Bool := decide (j.val ≤ p.val) && (BitVec.ofNat 32 j.val).slt len

theorem rope_at (hA : Holds A x0 x1 x2 x3 x4 x5) (b : Fin 2) (h : Fin 12) (d : Fin 96) (p : Fin 28672) :
    val_main_v24 (F := Ideal) x1 x2 x3 (ix4 b h d p) = ((A.q b h p d : ℝ) : EReal) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7]
  unfold Cert.Spec.Args.q Cert.Spec.rot
  have hx := hA.x b h
  have hc := hA.c b
  have hs := hA.s b
  by_cases h : d.val < 48
  · rw [dif_pos h, dif_pos h, hx, hx, hc, hs, ← EReal.coe_mul, ← EReal.coe_mul, ← EReal.coe_sub]
  · rw [dif_neg h, dif_neg h, hx, hx, hc, hs, ← EReal.coe_mul, ← EReal.coe_mul, ← EReal.coe_add]
    have e : (⟨48 + (d.val - 48), by omega⟩ : Fin 96) = ⟨d.val, by omega⟩ := Fin.ext (by show 48 + (d.val - 48) = d.val; omega)
    rw [e]

theorem group_at (b : Fin 2) (g : Fin 4) (r : Fin 3) (d : Fin 96) (p : Fin 28672) :
    val_main_v30 (F := Ideal) x1 x2 x3 (ix5 b g r d p) = val_main_v24 (F := Ideal) x1 x2 x3 (ix4 b (head g r) d p) := by
  unfold val_main_v30
  generalize val_main_v24 (F := Ideal) x1 x2 x3 = y
  pointwise
  rfl

theorem dot_at (b : Fin 2) (g : Fin 4) (r : Fin 3) (p j : Fin 28672) :
    val_main_v31 (F := Ideal) x1 x2 x3 x4 (ix5 b g r p j) = ∑ d : Fin 96, val_main_v30 (F := Ideal) x1 x2 x3 (ix5 b g r d p) * x4 (ix4 b g j ⟨d.val, by omega⟩) := by
  unfold val_main_v31 val_main_v29
  generalize val_main_v30 (F := Ideal) x1 x2 x3 = y
  pointwise

theorem ofBits_96 : Ideal.ofBits .f32 0x42C00000#32 = ((96 : ℝ) : EReal) := by
  simp [Ideal.ofBits, Ideal.ieee]
  rw [← EReal.coe_mul, EReal.coe_eq_coe_iff]
  norm_num

theorem score_at (hA : Holds A x0 x1 x2 x3 x4 x5) (b : Fin 2) (g : Fin 4) (r : Fin 3) (p j : Fin 28672) :
    val_main_v34 (F := Ideal) x1 x2 x3 x4 (ix5 b g r p j) = ((score (A.K b g) (A.q b (head g r) p) j.val * Cert.Spec.c1 : ℝ) : EReal) := by
  have e : val_main_v31 (F := Ideal) x1 x2 x3 x4 (ix5 b g r p j) = ((score (A.K b g) (A.q b (head g r) p) j.val : ℝ) : EReal) := by
    rw [dot_at]
    unfold Cert.Spec.score
    rw [← coe_sum]
    refine Finset.sum_congr rfl fun d _ => ?_
    rw [group_at, rope_at hA, hA.k, ← EReal.coe_mul, mul_comm]
  rw [val_main_v34_apply, e]
  pointwise [val_main_v33, val_main_v32, val_main_cst_1]
  rw [ofBits_96, Ideal.sqrt_coe, if_neg (by norm_num), Ideal.div_coe (Real.sqrt_pos.mpr (by norm_num)).ne', ← EReal.coe_mul, one_div]
  rfl

theorem and_ofBool (a b : Bool) : IntOp.andi (BitVec.ofBool a) (BitVec.ofBool b) = BitVec.ofBool (a && b) := by
  cases a <;> cases b <;> rfl

theorem vis_at (hA : Holds A x0 x1 x2 x3 x4 x5) (b : Fin 2) (p j : Fin 28672) : val_main_v49 (F := Ideal) x0 (ix3 b p j) = BitVec.ofBool (vis (A.len b) p j) := by
  pointwise [val_main_v49, val_main_v48, val_main_v47, val_main_v46, val_main_v45, val_main_v44, val_main_v43, val_main_v42, val_main_v41, val_main_v40, val_main_v39, val_main_v38, val_main_v37, val_main_v36, val_main_v35, val_main_v0]
  rw [hA.len]
  unfold vis
  rw [← sle_small _ _ (by omega) (by omega)]
  exact and_ofBool _ _

/-- The bit that holds where a query's position is in its sequence. -/
theorem valid_at (hA : Holds A x0 x1 x2 x3 x4 x5) (b : Fin 2) (p : Fin 28672) : val_main_v6 (F := Ideal) x0 (ix3 b 0 p) = BitVec.ofBool ((BitVec.ofNat 32 p.val).slt (A.len b)) := by
  pointwise [val_main_v6, val_main_v5, val_main_v4, val_main_v3, val_main_v2, val_main_v1, val_main_v0]
  rw [hA.len]
  rfl

/-- The query magnitudes. -/
theorem v75_at (hA : Holds A x0 x1 x2 x3 x4 x5) (b : Fin 2) (h : Fin 12) (p : Fin 28672) : val_main_v75 (F := Ideal) x0 x1 x2 x3 (ix4 b h 0 p) = A.resQ b h p := by
  unfold val_main_v75 val_main_v28 val_main_call0_v1 val_main_call0_v2 val_main_v27 val_main_v26 val_main_v25
  have hv := valid_at hA b p
  have hr := fun d => rope_at hA b h d p
  revert hv hr
  generalize val_main_v24 (F := Ideal) x1 x2 x3 = y
  generalize val_main_v6 (F := Ideal) x0 = z
  intro hv hr
  pointwise [val_main_cst, val_main_cst_0, val_main_call0_v0]
  rw [hv, ofBits_bot16]
  simp only [hr]
  show Scalar.select _ (Finset.univ.sup fun d : Fin 96 => FloatOps.absf (F := Ideal) (φ := .bf16) _) (Ideal.ofBits .f32 0#32) = _
  rw [Ideal.ofBits_zero_f32, select_mask]
  simp only [absf_coe]
  rfl

/-- Scores, masked below by the least value, and their magnitudes, masked by zero. -/
theorem v51_at (hA : Holds A x0 x1 x2 x3 x4 x5) (b : Fin 2) (g : Fin 4) (r : Fin 3) (p j : Fin 28672) :
    val_main_v51 (F := Ideal) x0 x1 x2 x3 x4 (ix5 b g r p j) = if vis (A.len b) p j then ((score (A.K b g) (A.q b (head g r) p) j.val * Cert.Spec.c1 : ℝ) : EReal) else ⊥ := by
  unfold val_main_v51 val_main_call1_v1 val_main_v50
  have hv := vis_at hA b p j
  have hr := score_at hA b g r p j
  revert hv hr
  generalize val_main_v34 (F := Ideal) x1 x2 x3 x4 = y
  generalize val_main_v49 (F := Ideal) x0 = z
  intro hv hr
  pointwise [val_main_call1_v2, val_main_call1_v0, val_main_cst_2]
  rw [hv, hr]
  show Scalar.select _ _ (Ideal.ofBits .f32 0xFF800000#32) = _
  rw [ofBits_bot]
  cases vis (A.len b) p j <;> rfl

theorem v57_at (hA : Holds A x0 x1 x2 x3 x4 x5) (b : Fin 2) (g : Fin 4) (r : Fin 3) (p j : Fin 28672) :
    val_main_v57 (F := Ideal) x0 x1 x2 x3 x4 (ix5 b g r p j) = if vis (A.len b) p j then ((score (A.K b g) (A.q b (head g r) p) j.val * Cert.Spec.c1 : ℝ) : EReal) else ⊥ := v51_at hA b g r p j

theorem v55_at (hA : Holds A x0 x1 x2 x3 x4 x5) (b : Fin 2) (g : Fin 4) (r : Fin 3) (p j : Fin 28672) :
    val_main_v55 (F := Ideal) x0 x1 x2 x3 x4 (ix5 b g r p j) = if vis (A.len b) p j then ((|score (A.K b g) (A.q b (head g r) p) j.val| * Cert.Spec.c1 : ℝ) : EReal) else 0 := by
  unfold val_main_v55 val_main_call2_v1 val_main_v50 val_main_v54
  have hv := vis_at hA b p j
  have hr := score_at hA b g r p j
  revert hv hr
  generalize val_main_v34 (F := Ideal) x1 x2 x3 x4 = y
  generalize val_main_v49 (F := Ideal) x0 = z
  intro hv hr
  pointwise [val_main_call2_v2, val_main_call2_v0, val_main_cst_4]
  rw [hv, hr, absf_coe, abs_mul, abs_of_pos Cert.Spec.c1_pos]
  show Scalar.select _ _ (Ideal.ofBits .f32 0#32) = _
  rw [Ideal.ofBits_zero_f32, select_mask]

end Cert.ReferenceIdeal.Hand

end
-- ==== Proof.RefOut.lean ====
/-
  Hand-written. The reference's softmax mean and its maxima, over the extended reals, on real arguments.
-/
module

public import proofs.«01_k».proof.Proof.RefScores

@[expose] public section

set_option maxRecDepth 16384

noncomputable section

namespace Cert.ReferenceIdeal.Hand

open Cert.ReferenceIdeal Cert.ReferenceIdeal.Gen Cert.ReferenceIdeal.Read
open Idealize.ShloMosaic
open Cert.Fold
open Cert.KernelIdeal.Hand (absf_coe select_mask toInt_small sle_small ofBits_bot ofBits_bot16)
open Cert.Spec (score rot masked mag scoreMax grp Args Holds)

variable {A : Args} {x0 : (⟨S2, .i32⟩ : BufTy).Contents (Elt Ideal)} {x1 : (⟨S2x12x96x28672, .bf16⟩ : BufTy).Contents (Elt Ideal)}
  {x2 x3 : (⟨S2x48x28672, .f32⟩ : BufTy).Contents (Elt Ideal)} {x4 : (⟨S2x4x28672x128, .bf16⟩ : BufTy).Contents (Elt Ideal)}
  {x5 : (⟨S2x4x96x28672, .bf16⟩ : BufTy).Contents (Elt Ideal)}

theorem vis_valid (len : BitVec 32) (p j : Fin 28672) (h : (BitVec.ofNat 32 p.val).slt len = true) : vis len p j = decide (j.val ≤ p.val) := by
  unfold vis
  by_cases hj : j.val ≤ p.val
  · rw [BitVec.slt, toInt_small _ (by omega)] at h ⊢
    simp only [decide_eq_true_eq] at h
    simp only [hj, decide_true, Bool.true_and, decide_eq_true_eq]
    omega
  · simp [hj]

section Row

variable (hA : Holds A x0 x1 x2 x3 x4 x5) (b : Fin 2) (g : Fin 4) (r : Fin 3) (p : Fin 28672) (hp : (BitVec.ofNat 32 p.val).slt (A.len b) = true)

include hA hp

theorem v52_at : val_main_v52 (F := Ideal) x0 x1 x2 x3 x4 (ix4 b g r p)
    = (Finset.range (p.val + 1)).sup fun j => ((score (A.K b g) (A.q b (head g r) p) j * Cert.Spec.c1 : ℝ) : EReal) := by
  have h := fun j => v51_at hA b g r p j
  revert h
  unfold val_main_v52
  generalize val_main_v51 (F := Ideal) x0 x1 x2 x3 x4 = y
  intro h
  pointwise [val_main_cst_3]
  rw [ofBits_bot, ← sup_cut 28672 p.val p.isLt]
  refine Finset.sup_congr rfl fun j _ => ?_
  rw [h, vis_valid _ _ _ hp]
  simp only [decide_eq_true_eq]

theorem v56_at : val_main_v56 (F := Ideal) x0 x1 x2 x3 x4 (ix4 b g r p) = scoreMax (A.K b g) (A.q b (head g r) p) p.val := by
  have h := fun j => v55_at hA b g r p j
  revert h
  unfold val_main_v56
  generalize val_main_v55 (F := Ideal) x0 x1 x2 x3 x4 = y
  intro h
  pointwise [val_main_cst_5]
  rw [ofBits_bot]
  show (Finset.univ.sup fun j : Fin 28672 => y (ix5 b g r p j)) = _
  unfold Cert.Spec.scoreMax
  have hn : ∀ j : ℕ, (0 : EReal) ≤ ((|score (A.K b g) (A.q b (head g r) p) j| * Cert.Spec.c1 : ℝ) : EReal) := fun j =>
    EReal.coe_nonneg.2 (mul_nonneg (abs_nonneg _) Cert.Spec.c1_pos.le)
  rw [← sup_cut 28672 p.val p.isLt]
  apply le_antisymm
  · refine Finset.sup_le fun j _ => ?_
    rw [h, vis_valid _ _ _ hp]
    simp only [decide_eq_true_eq]
    by_cases hj : j.val ≤ p.val
    · rw [if_pos hj]
      have := Finset.le_sup (f := fun i : Fin 28672 => if i.val ≤ p.val then ((|score (A.K b g) (A.q b (head g r) p) i.val| * Cert.Spec.c1 : ℝ) : EReal) else ⊥) (Finset.mem_univ j)
      simpa only [if_pos hj] using this
    · rw [if_neg hj]
      have := Finset.le_sup (f := fun i : Fin 28672 => if i.val ≤ p.val then ((|score (A.K b g) (A.q b (head g r) p) i.val| * Cert.Spec.c1 : ℝ) : EReal) else ⊥) (Finset.mem_univ p)
      exact le_trans (hn p.val) (by simpa only [if_pos (le_refl p.val)] using this)
  · refine Finset.sup_le fun j _ => ?_
    refine le_trans ?_ (Finset.le_sup (f := fun j : Fin 28672 => y (ix5 b g r p j)) (Finset.mem_univ j))
    rw [h, vis_valid _ _ _ hp]
    simp only [decide_eq_true_eq]
    by_cases hj : j.val ≤ p.val
    · rw [if_pos hj, if_pos hj]
    · rw [if_neg hj]; exact bot_le

/-- The unnormalised weights: of a real shift, and zero past the query. -/
theorem weights_at : ∃ μ : ℝ, ∀ j : Fin 28672, val_main_v60 (F := Ideal) x0 x1 x2 x3 x4 (ix5 b g r p j)
    = if j.val ≤ p.val then ((Real.exp ((score (A.K b g) (A.q b (head g r) p) j.val - μ) * Cert.Spec.c1) : ℝ) : EReal) else 0 := by
  obtain ⟨M, hM, -, -⟩ := sup_real p.val (fun j => score (A.K b g) (A.q b (head g r) p) j * Cert.Spec.c1)
  have h52 := (v52_at hA b g r p hp).trans hM
  refine ⟨M / Cert.Spec.c1, fun j => ?_⟩
  have h57 := v57_at hA b g r p j
  revert h52 h57
  unfold val_main_v60 val_main_v59 val_main_v58 val_main_v53
  generalize val_main_v52 (F := Ideal) x0 x1 x2 x3 x4 = y
  generalize val_main_v57 (F := Ideal) x0 x1 x2 x3 x4 = z
  intro h52 h57
  pointwise
  rw [h52, h57, vis_valid _ _ _ hp]
  simp only [decide_eq_true_eq]
  by_cases hj : j.val ≤ p.val
  · rw [if_pos hj, if_pos hj, ← EReal.coe_sub, Ideal.exp_coe, sub_mul, div_mul_cancel₀ _ Cert.Spec.c1_pos.ne']
  · rw [if_neg hj, if_neg hj, EReal.bot_sub, Ideal.exp_bot]

/-- The softmax mean of the values. -/
theorem v66_at (d : Fin 96) : val_main_v66 (F := Ideal) x0 x1 x2 x3 x4 x5 (ix5 b g d r p)
    = ((Cert.Spec.out (A.K b g) (A.V b g) (A.q b (head g r) p) p.val d : ℝ) : EReal) := by
  obtain ⟨μ, hw⟩ := weights_at hA b g r p hp
  have hv := hA.v b g d
  revert hw
  unfold val_main_v66 val_main_v65 val_main_v64 val_main_v63 val_main_v62 val_main_v61
  generalize val_main_v60 (F := Ideal) x0 x1 x2 x3 x4 = y
  intro hw
  pointwise [val_main_cst_7]
  have hE : (∑ j : Fin 28672, y (ix5 b g r p j)) = ((∑ j ∈ Finset.range (p.val + 1), Real.exp ((score (A.K b g) (A.q b (head g r) p) j - μ) * Cert.Spec.c1) : ℝ) : EReal) := by
    rw [← coe_sum, ← sum_cut 28672 p.val p.isLt]
    exact Finset.sum_congr rfl fun j _ => hw j
  simp only [hE, Ideal.div_coe (Cert.Spec.weights_pos (A.K b g) (A.q b (head g r) p) p.val μ).ne']
  rw [← Cert.Spec.out_shift _ _ _ _ _ μ, Finset.sum_div, ← coe_sum, ← sum_cut 28672 p.val p.isLt]
  refine Finset.sum_congr rfl fun j _ => ?_
  rw [hv, hw]
  by_cases hj : j.val ≤ p.val
  · rw [if_pos hj, if_pos hj, ← EReal.coe_mul, ← EReal.coe_mul, mul_one_div, mul_div_assoc]
  · rw [if_neg hj, if_neg hj, zero_mul, mul_zero]

end Row

variable (hA : Holds A x0 x1 x2 x3 x4 x5) (b : Fin 2) (h : Fin 12) (p : Fin 28672)

include hA

theorem v70_at (d : Fin 96) : val_main_v70 (F := Ideal) x0 x1 x2 x3 x4 x5 (ix4 b h d p) = A.resO b h d p := by
  obtain ⟨g, r, rfl⟩ := exists_head h
  have hv := valid_at hA b p
  have ho := fun hp => v66_at hA b g r p hp d
  revert hv ho
  unfold val_main_v70 val_main_v69 val_main_v67 val_main_call4_v1 val_main_v68
  generalize val_main_v66 (F := Ideal) x0 x1 x2 x3 x4 x5 = y
  generalize val_main_v6 (F := Ideal) x0 = z
  intro hv ho
  pointwise [val_main_call4_v2, val_main_call4_v0, val_main_cst_8]
  have eg : ∀ q, (⟨(head g r).val / 3, q⟩ : Fin 4) = g := fun _ => grp_head g r
  have er : ∀ q, (⟨(head g r).val % 3, q⟩ : Fin 3) = r := fun _ => by apply Fin.ext; simp only [head]; omega
  rw [eg, er, hv]
  show Scalar.select _ _ (Ideal.ofBits .f32 0#32) = _
  rw [Ideal.ofBits_zero_f32, select_mask]
  unfold Cert.Spec.Args.resO Cert.Spec.masked
  rw [grp_head]
  by_cases hb : (BitVec.ofNat 32 p.val).slt (A.len b) = true
  · rw [if_pos hb, if_pos hb, ho hb]
  · rw [if_neg hb, if_neg hb]

theorem v76_at : val_main_v76 (F := Ideal) x0 x1 x2 x3 x4 (ix4 b h 0 p) = A.resS b h p := by
  obtain ⟨g, r, rfl⟩ := exists_head h
  have hv := valid_at hA b p
  have ho := fun hp => v56_at hA b g r p hp
  revert hv ho
  unfold val_main_v76 val_main_v72 val_main_v71 val_main_call5_v1
  generalize val_main_v56 (F := Ideal) x0 x1 x2 x3 x4 = y
  generalize val_main_v6 (F := Ideal) x0 = z
  intro hv ho
  pointwise [val_main_call5_v2, val_main_call5_v0, val_main_cst_9]
  have eg : ∀ q, (⟨(head g r).val / 3, q⟩ : Fin 4) = g := fun _ => grp_head g r
  have er : ∀ q, (⟨(head g r).val % 3, q⟩ : Fin 3) = r := fun _ => by apply Fin.ext; simp only [head]; omega
  rw [eg, er, hv]
  show Scalar.select _ _ (Ideal.ofBits .f32 0#32) = _
  rw [Ideal.ofBits_zero_f32, select_mask]
  unfold Cert.Spec.Args.resS Cert.Spec.masked
  rw [grp_head]
  by_cases hb : (BitVec.ofNat 32 p.val).slt (A.len b) = true
  · rw [if_pos hb, if_pos hb, ho hb]
  · rw [if_neg hb, if_neg hb]

theorem v77_at : val_main_v77 (F := Ideal) x0 x1 x2 x3 x4 x5 (ix4 b h 0 p) = A.resR b h p := by
  have ho := fun d => v70_at hA b h p d
  revert ho
  unfold val_main_v77 val_main_v74 val_main_v73
  generalize val_main_v70 (F := Ideal) x0 x1 x2 x3 x4 x5 = y
  intro ho
  pointwise [val_main_cst_10]
  rw [ofBits_bot]
  simp only [ho]
  show (Finset.univ.sup fun d : Fin 96 => FloatOps.absf (F := Ideal) (φ := .f32) (A.resO b h d p)) = _
  unfold Cert.Spec.Args.resR Cert.Spec.Args.resO Cert.Spec.masked
  by_cases hb : (BitVec.ofNat 32 p.val).slt (A.len b) = true
  · simp only [hb, if_true, absf_coe]
    rfl
  · simp only [hb]
    have e : ∀ d : Fin 96, FloatOps.absf (F := Ideal) (φ := .f32) (if False then ((Cert.Spec.out (A.K b (grp h)) (A.V b (grp h)) (A.q b h p) p.val d : ℝ) : EReal) else 0) = 0 := fun d => by
      rw [if_neg not_false, ← EReal.coe_zero, absf_coe, abs_zero]
    refine (Finset.sup_congr rfl fun d _ => e d).trans ?_
    rw [Finset.sup_const ⟨0, Finset.mem_univ _⟩]
    rfl

end Cert.ReferenceIdeal.Hand

end
-- ==== Proof.RefTable.lean ====
/-
  Hand-written. The reference's tables of maxima, over the extended reals, on real arguments.
-/
module

public import proofs.«01_k».proof.Proof.RefOut
public import proofs.«01_k».proof.Proof.Table

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (ofBits_bot)
open Cert.Spec (Args Holds tableAt lanePos)

variable {A : Args} {x0 : (⟨S2, .i32⟩ : BufTy).Contents (Elt Ideal)} {x1 : (⟨S2x12x96x28672, .bf16⟩ : BufTy).Contents (Elt Ideal)}
  {x2 x3 : (⟨S2x48x28672, .f32⟩ : BufTy).Contents (Elt Ideal)} {x4 : (⟨S2x4x28672x128, .bf16⟩ : BufTy).Contents (Elt Ideal)}
  {x5 : (⟨S2x4x96x28672, .bf16⟩ : BufTy).Contents (Elt Ideal)} (hA : Holds A x0 x1 x2 x3 x4 x5) (r : Fin 16) (l : Fin 128)

include hA

omit hA in
/-- The largest over lane `l`'s positions and then over the sequences. -/
theorem table_fold {R : Fin 2 → Fin 12 → Fin 28672 → EReal} {y : S2x12x28672.Idx → EReal} (h : ∀ b h p, y (ix3 b h p) = R b h p) (r : Fin 16) (l : Fin 128) :
    (if hr : r.val < 12 then
      Finset.fold max (Ideal.ofBits FTy.f32 4286578688#32)
        (fun x : Fin 2 => Finset.fold max (Ideal.ofBits FTy.f32 4286578688#32)
          (fun a : Fin 224 => y (ix3 x ⟨r.val, hr⟩ ⟨a.val * 128 + l.val, by omega⟩)) Finset.univ) Finset.univ
      else 0) = tableAt R r l := by
  unfold tableAt
  by_cases hr : r.val < 12
  · rw [dif_pos hr, dif_pos hr, ofBits_bot]
    refine Finset.sup_congr rfl fun b _ => Finset.sup_congr rfl fun a _ => ?_
    rw [h]
    congr 1
    exact Fin.ext (by show a.val * 128 + l.val = 128 * a.val + l.val; omega)
  · rw [dif_neg hr, dif_neg hr]

theorem v28_at (b : Fin 2) (h : Fin 12) (p : Fin 28672) : val_main_v28 (F := Ideal) x0 x1 x2 x3 (ix3 b h p) = A.resQ b h p := by
  rw [← v75_at hA b h p]
  unfold val_main_v75
  generalize val_main_v28 (F := Ideal) x0 x1 x2 x3 = y
  pointwise

theorem v82_at : val_main_v82 (F := Ideal) x0 x1 x2 x3 (ix2 r l) = tableAt A.resQ r l := by
  have h := v28_at hA
  revert h
  unfold val_main_v82 val_main_v80 val_main_v79 val_main_v78
  generalize val_main_v28 (F := Ideal) x0 x1 x2 x3 = y
  intro h
  pointwise [val_main_cst_11, val_main_cst_12, val_main_v81, val_main_cst_13]
  exact table_fold h r l

theorem v72_at (b : Fin 2) (h : Fin 12) (p : Fin 28672) : val_main_v72 (F := Ideal) x0 x1 x2 x3 x4 (ix3 b h p) = A.resS b h p := by
  rw [← v76_at hA b h p]
  unfold val_main_v76
  generalize val_main_v72 (F := Ideal) x0 x1 x2 x3 x4 = y
  pointwise

theorem v87_at : val_main_v87 (F := Ideal) x0 x1 x2 x3 x4 (ix2 r l) = tableAt A.resS r l := by
  have h := v72_at hA
  revert h
  unfold val_main_v87 val_main_v85 val_main_v84 val_main_v83
  generalize val_main_v72 (F := Ideal) x0 x1 x2 x3 x4 = y
  intro h
  pointwise [val_main_cst_14, val_main_cst_15, val_main_v86, val_main_cst_16]
  exact table_fold h r l

theorem v74_at (b : Fin 2) (h : Fin 12) (p : Fin 28672) : val_main_v74 (F := Ideal) x0 x1 x2 x3 x4 x5 (ix3 b h p) = A.resR b h p := by
  rw [← v77_at hA b h p]
  unfold val_main_v77
  generalize val_main_v74 (F := Ideal) x0 x1 x2 x3 x4 x5 = y
  pointwise

theorem v92_at : val_main_v92 (F := Ideal) x0 x1 x2 x3 x4 x5 (ix2 r l) = tableAt A.resR r l := by
  have h := v74_at hA
  revert h
  unfold val_main_v92 val_main_v90 val_main_v89 val_main_v88
  generalize val_main_v74 (F := Ideal) x0 x1 x2 x3 x4 x5 = y
  intro h
  pointwise [val_main_cst_17, val_main_cst_18, val_main_v91, val_main_cst_19]
  exact table_fold h r l

end Cert.ReferenceIdeal.Hand

end
-- ==== Proof.RefArray.lean ====
/-
  Hand-written. The reference's run, over the extended reals, on real arguments: its seven results are the specification's arrays,
  its arguments unchanged.
-/
module

public import proofs.«01_k».proof.Proof.RefTable
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.Spec (Args Holds tableAt)

variable (m : (ℓ : Loc nD τ sig) → Buf (Elt Ideal) ℓ) (c : Dev nD)

/-- The reference's arguments on a device are the reals `A`. -/
def Held (A : Args) : Prop :=
  Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

def arrO (A : Args) : S2x12x96x28672.Idx → EReal := fun i => A.resO (i 0) (i 1) (i 2) (i 3)
def arrQ (A : Args) : S2x12x1x28672.Idx → EReal := fun i => A.resQ (i 0) (i 1) (i 3)
def arrS (A : Args) : S2x12x1x28672.Idx → EReal := fun i => A.resS (i 0) (i 1) (i 3)
def arrR (A : Args) : S2x12x1x28672.Idx → EReal := fun i => A.resR (i 0) (i 1) (i 3)
def arrT (R : Fin 2 → Fin 12 → Fin 28672 → EReal) : S16x128.Idx → EReal := fun i => tableAt R (i 0) (i 1)

variable {A : Args} {x0 : (⟨S2, .i32⟩ : BufTy).Contents (Elt Ideal)} {x1 : (⟨S2x12x96x28672, .bf16⟩ : BufTy).Contents (Elt Ideal)}
  {x2 x3 : (⟨S2x48x28672, .f32⟩ : BufTy).Contents (Elt Ideal)} {x4 : (⟨S2x4x28672x128, .bf16⟩ : BufTy).Contents (Elt Ideal)}
  {x5 : (⟨S2x4x96x28672, .bf16⟩ : BufTy).Contents (Elt Ideal)} (hA : Holds A x0 x1 x2 x3 x4 x5)

include hA

theorem v70_eq : val_main_v70 (F := Ideal) x0 x1 x2 x3 x4 x5 = arrO A := by
  funext y
  idx_vars y
  exact v70_at hA y0 y1 y3 y2

theorem v75_eq : val_main_v75 (F := Ideal) x0 x1 x2 x3 = arrQ A := by
  funext y
  idx_vars y
  obtain rfl : y2 = 0 := Subsingleton.elim _ _
  exact v75_at hA y0 y1 y3

theorem v76_eq : val_main_v76 (F := Ideal) x0 x1 x2 x3 x4 = arrS A := by
  funext y
  idx_vars y
  obtain rfl : y2 = 0 := Subsingleton.elim _ _
  exact v76_at hA y0 y1 y3

theorem v77_eq : val_main_v77 (F := Ideal) x0 x1 x2 x3 x4 x5 = arrR A := by
  funext y
  idx_vars y
  obtain rfl : y2 = 0 := Subsingleton.elim _ _
  exact v77_at hA y0 y1 y3

theorem v82_eq : val_main_v82 (F := Ideal) x0 x1 x2 x3 = arrT A.resQ := by
  funext y
  idx_vars y
  exact v82_at hA y0 y1

theorem v87_eq : val_main_v87 (F := Ideal) x0 x1 x2 x3 x4 = arrT A.resS := by
  funext y
  idx_vars y
  exact v87_at hA y0 y1

theorem v92_eq : val_main_v92 (F := Ideal) x0 x1 x2 x3 x4 x5 = arrT A.resR := by
  funext y
  idx_vars y
  exact v92_at hA y0 y1

omit hA in
/-- The run of the reference on real arguments. -/
theorem run (ρ : Dev nD → PrngReg) (A : Dev nD → Args) (hA : ∀ c, Held m c (A c)) :
    θ_run defs (onTc (τ := τ) (main (F := Ideal))) ⟨m, fun _ => 0, ρ⟩ fun r => ∀ c : Dev nD,
      r.2.mem ((c.tc : Thread nD τ).loc main_v70) = arrO (A c)
      ∧ r.2.mem ((c.tc : Thread nD τ).loc main_v75) = arrQ (A c)
      ∧ r.2.mem ((c.tc : Thread nD τ).loc main_v76) = arrS (A c)
      ∧ r.2.mem ((c.tc : Thread nD τ).loc main_v77) = arrR (A c)
      ∧ r.2.mem ((c.tc : Thread nD τ).loc main_v82) = arrT (A c).resQ
      ∧ r.2.mem ((c.tc : Thread nD τ).loc main_v87) = arrT (A c).resS
      ∧ r.2.mem ((c.tc : Thread nD τ).loc main_v92) = arrT (A c).resR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v70_eq m c).trans (v70_eq (hA c))),
      (h c).2.1.trans ((val_main_v75_eq _ _ _ _).trans (v75_eq (hA c))), (h c).2.2.1.trans ((val_main_v76_eq m c).trans (v76_eq (hA c))),
      (h c).2.2.2.1.trans ((val_main_v77_eq m c).trans (v77_eq (hA c))),
      (h c).2.2.2.2.1.trans ((val_main_v82_eq _ _ _ _).trans (v82_eq (hA c))), (h c).2.2.2.2.2.1.trans ((val_main_v87_eq m c).trans (v87_eq (hA c))),
      (h c).2.2.2.2.2.2.1.trans ((val_main_v92_eq m c).trans (v92_eq (hA c))), (h c).2.2.2.2.2.2.2⟩)
    (Cert.ReferenceIdeal.Value.run (F := Ideal) m ρ)

end Cert.ReferenceIdeal.Hand

end
-- ==== Proof.Inputs.lean ====
/-
  Hand-written. The precondition read entry by entry: every float argument is a real, and the keys' further columns are three ones
  and then zeros. The reals themselves, as arguments of the specification.
-/
module

public import proofs.«01_k».proof.Proof.IdealOut
public import proofs.«01_k».proof.Pre_finite_and_augmented
public import Idealize.ShloMosaic.Lib.IdealHost

@[expose] public section

set_option maxRecDepth 16384

noncomputable section

namespace Cert.Inputs

open Cert.Pre_finite_and_augmented
open Idealize.ShloMosaic
open Cert.Spec (Args Holds)

instance facts : Cert.Pre_finite_and_augmented.Facts where
  bitsLt_bf16_f32 := by decide
  bcast_S_S2x12x96x28672 := by decide
  bcast_S_S2x48x28672 := by decide
  bcast_S_S2x4x28672x128 := by decide
  bcast_S_S2x4x96x28672 := by decide
  slices_S2x4x28672x128_S2x4x28672x32_0_0_0_96 := by decide
  bcast_S_S2x4x28672x32 := by decide

variable (x0 : IVec S2 32) (x1 : FVec Ideal S2x12x96x28672 .bf16) (x2 x3 : FVec Ideal S2x48x28672 .f32) (x4 : FVec Ideal S2x4x28672x128 .bf16) (x5 : FVec Ideal S2x4x96x28672 .bf16)

/-- The arguments' reals. -/
def args : Args where
  len b := x0 (ix1 b)
  X b h p d := EReal.toReal (x1 (ix4 b h d p))
  C b p e := EReal.toReal (x2 (ix3 b e p))
  S b p e := EReal.toReal (x3 (ix3 b e p))
  K b g j d := if h : j < 28672 then EReal.toReal (x4 (ix4 b g ⟨j, h⟩ ⟨d.val, by omega⟩)) else 0
  V b g d j := if h : j < 28672 then EReal.toReal (x5 (ix4 b g d ⟨j, h⟩)) else 0

/-- A magnitude below infinity is a real's. -/
theorem real_of_bit (φ : FTy) (x : EReal)
    (h : BitVec.ofBool (decide (FloatOps.absf (F := Ideal) (φ := φ) x < Ideal.ofBits .f32 0x7F800000#32)) = 1#1) : x = ((EReal.toReal x : ℝ) : EReal) := by
  rw [Cert.KernelIdeal.Hand.ofBits_top] at h
  have hlt : max x (-x) < ⊤ := by
    by_contra hn
    rw [show decide (FloatOps.absf (F := Ideal) (φ := φ) x < ⊤) = false from decide_eq_false hn] at h
    exact absurd h (by decide)
  have h1 : x ≠ ⊤ := fun e => by rw [e] at hlt; simp at hlt
  have h2 : x ≠ ⊥ := fun e => by rw [e] at hlt; simp at hlt
  exact (EReal.coe_toReal h1 h2).symm

theorem eq_of_bit (x y : EReal) (h : BitVec.ofBool (decide (x = y)) = 1#1) : x = y := by
  by_contra hn
  rw [decide_eq_false hn] at h
  exact absurd h (by decide)

theorem slt_three : ∀ r : Fin 32, IntOp.cmpi .slt (BitVec.ofNat 32 r.val) 3#32 = BitVec.ofBool (decide (r.val < 3)) := by decide

variable {x0 x1 x2 x3 x4 x5}

/-- The precondition's six arrays, true everywhere, make the arguments the reals they are read as. -/
theorem holds (h1 : (fn (F := Ideal) x0 x1 x2 x3 x4 x5).1 = fun _ => 1#1) (h2 : (fn (F := Ideal) x0 x1 x2 x3 x4 x5).2.1 = fun _ => 1#1)
    (h3 : (fn (F := Ideal) x0 x1 x2 x3 x4 x5).2.2.1 = fun _ => 1#1) (h4 : (fn (F := Ideal) x0 x1 x2 x3 x4 x5).2.2.2.1 = fun _ => 1#1)
    (h5 : (fn (F := Ideal) x0 x1 x2 x3 x4 x5).2.2.2.2.1 = fun _ => 1#1) (h6 : (fn (F := Ideal) x0 x1 x2 x3 x4 x5).2.2.2.2.2 = fun _ => 1#1) :
    Holds (args x0 x1 x2 x3 x4 x5) x0 x1 x2 x3 x4 x5 := by
  refine ⟨fun b => rfl, fun b h d p => ?_, fun b e p => ?_, fun b e p => ?_, fun b g j d => ?_, fun b g j r => ?_, fun b g d j => ?_⟩
  · refine real_of_bit .f32 _ (Eq.trans ?_ (congrFun h1 (ix4 b h d p)))
    unfold fn fn_part1
    dsimp only
    pointwise
  · refine real_of_bit .f32 _ (Eq.trans ?_ (congrFun h2 (ix3 b e p)))
    unfold fn fn_part1
    dsimp only
    pointwise
  · refine real_of_bit .f32 _ (Eq.trans ?_ (congrFun h3 (ix3 b e p)))
    unfold fn fn_part1
    dsimp only
    pointwise
  · unfold args
    dsimp only
    rw [dif_pos j.isLt]
    refine real_of_bit .f32 _ (Eq.trans ?_ (congrFun h4 (ix4 b g j ⟨d.val, by omega⟩)))
    unfold fn fn_part1
    dsimp only
    pointwise
  · refine (eq_of_bit _ _ (Eq.trans ?_ (congrFun h6 (ix4 b g j r)))).trans (b := Scalar.select (IntOp.cmpi .slt (BitVec.ofNat 32 r.val) 3#32) (Ideal.ofBits .f32 0x3F800000#32) (Ideal.ofBits .f32 0x00000000#32)) ?_
    · unfold fn fn_part1 fn_where
      dsimp only [id]
      pointwise
    · rw [slt_three, Ideal.ofBits_zero_f32, Ideal.ofBits_one_f32]
      by_cases hr : r.val < 3
      · rw [if_pos hr, decide_eq_true hr]; rfl
      · rw [if_neg hr, decide_eq_false hr]; rfl
  · unfold args
    dsimp only
    rw [dif_pos j.isLt]
    refine real_of_bit .f32 _ (Eq.trans ?_ (congrFun h5 (ix4 b g d j)))
    unfold fn fn_part1
    dsimp only
    pointwise

end Cert.Inputs

end
-- ==== Proof.QuantSpec.lean ====
/-
  Hand-written. What the quantization call computes, on extended reals: the five tables' row maxima, the scales, and the codes.
-/
module

public import Idealize.ShloMosaic.Lib.Pointwise
public import Idealize.ShloMosaic.PureOps.Ideal.Laws

@[expose] public section

noncomputable section

namespace Cert.QuantSpec

open Idealize.ShloMosaic

/-- The largest entry of row `r` of a table. -/
def rowMax (x : (⟨2, ![16, 128]⟩ : Shape).Idx → EReal) (r : Fin 16) : EReal := Finset.univ.sup fun l : Fin 128 => x (ix2 r l)

/-- The scale of a magnitude: a 448th of it, one when it is zero. -/
def scale (a : EReal) : EReal := if a = 0 then 1 else Ideal.div a ((448 : ℝ) : EReal)

/-- The ten statistics of a row: the five maxima, in the order of queries, keys, values, scores and outputs, and their scales. -/
def stat (k v q s o : (⟨2, ![16, 128]⟩ : Shape).Idx → EReal) (j : Fin 10) (r : Fin 16) : EReal :=
  match j with
  | ⟨0, _⟩ => rowMax q r
  | ⟨1, _⟩ => rowMax k r
  | ⟨2, _⟩ => rowMax v r
  | ⟨3, _⟩ => rowMax s r
  | ⟨4, _⟩ => rowMax o r
  | ⟨5, _⟩ => scale (rowMax q r)
  | ⟨6, _⟩ => scale (rowMax k r)
  | ⟨7, _⟩ => scale (rowMax v r)
  | ⟨8, _⟩ => scale (rowMax s r)
  | ⟨9, _⟩ => scale (rowMax o r)

/-- The code of an output entry `x` under the scale `a`: their quotient, held between -448 and 448. -/
def code (a x : EReal) : EReal := min ((448 : ℝ) : EReal) (max ((-448 : ℝ) : EReal) (Ideal.div x a))

theorem fold_max (f : Fin 128 → EReal) : Finset.fold max (Ideal.ofBits .f32 0xFF800000#32) f Finset.univ = Finset.univ.sup f := by
  have h : Ideal.ofBits .f32 0xFF800000#32 = ⊥ := by simp [Ideal.ofBits, Ideal.ieee]
  rw [h]; rfl

theorem ofBits_448 : Ideal.ofBits .f32 0x43E00000#32 = ((448 : ℝ) : EReal) := by
  simp [Ideal.ofBits, Ideal.ieee]
  rw [← EReal.coe_mul, EReal.coe_eq_coe_iff]
  norm_num

theorem ofBits_neg448 : Ideal.ofBits .f32 0xC3E00000#32 = ((-448 : ℝ) : EReal) := by
  simp [Ideal.ofBits, Ideal.ieee]
  rw [← EReal.coe_mul, EReal.coe_eq_coe_iff]
  norm_num

/-- Multiplying by a 448th is dividing by 448. -/
theorem mul_step (a : EReal) : a * (((448 : ℝ)⁻¹ : ℝ) : EReal) = Ideal.div a ((448 : ℝ) : EReal) := by
  unfold Ideal.div
  rw [if_neg (by norm_num [EReal.coe_eq_zero]), EReal.coe_inv]

end Cert.QuantSpec

end
-- ==== Proof.QuantBody.lean ====
/-
  Hand-written. What the quantization kernel stores, at an index.
-/
module

public import proofs.«01_k».proof.Proof.QuantSpec
public import proofs.«01_k».proof.Proof.Gen.QuantIdeal.Frame
public import Idealize.ShloMosaic.Lib.VecWindow
public import Idealize.ShloMosaic.Lib.Pipeline.ValueKit.Tiles

@[expose] public section

set_option maxRecDepth 16384

noncomputable section

namespace Cert.QuantIdeal.Hand

open Cert.QuantIdeal Cert.QuantIdeal.Gen
open Idealize.ShloMosaic Idealize.ShloMosaic.TcCoe
open Cert.QuantSpec

theorem named_step (b : BitVec FTy.f32.bits) : Named.named (F := Ideal) (φ := .f32) κ "fp8_step" b = (((448 : ℝ)⁻¹ : ℝ) : EReal) :=
  IdealRules.named_const.ideal_named_scalar _ _ _ _ rfl

/-! ## The row maxima -/

theorem pay2_at (x : Vec Ideal S16x128 .f32) (r : Fin 16) (l : Fin 128) : k0_pay2 (F := Ideal) x (ix2 r l) = rowMax x r := by
  pointwise [k0_pay2]
  exact fold_max _

theorem pay3_at (x : Vec Ideal S16x128 .f32) (r : Fin 16) (l : Fin 128) : k0_pay3 (F := Ideal) x (ix2 r l) = rowMax x r := by
  pointwise [k0_pay3]
  exact fold_max _

theorem pay4_at (x : Vec Ideal S16x128 .f32) (r : Fin 16) (l : Fin 128) : k0_pay4 (F := Ideal) x (ix2 r l) = rowMax x r := by
  pointwise [k0_pay4]
  exact fold_max _

theorem pay5_at (x : Vec Ideal S16x128 .f32) (r : Fin 16) (l : Fin 128) : k0_pay5 (F := Ideal) x (ix2 r l) = rowMax x r := by
  pointwise [k0_pay5]
  exact fold_max _

theorem pay6_at (x : Vec Ideal S16x128 .f32) (r : Fin 16) (l : Fin 128) : k0_pay6 (F := Ideal) x (ix2 r l) = rowMax x r := by
  pointwise [k0_pay6]
  exact fold_max _

/-! ## The ten rows of statistics -/

theorem pay7_at (x : Vec Ideal S16x128 .f32) (r : Fin 16) (l : Fin 128) : k0_pay7 (F := Ideal) x (ix3 0 r l) = rowMax x r := by
  rw [← pay2_at x r l]
  unfold k0_pay7
  generalize k0_pay2 (F := Ideal) x = y
  pointwise

theorem pay8_at (x : Vec Ideal S16x128 .f32) (r : Fin 16) (l : Fin 128) : k0_pay8 (F := Ideal) x (ix3 0 r l) = rowMax x r := by
  rw [← pay3_at x r l]
  unfold k0_pay8
  generalize k0_pay3 (F := Ideal) x = y
  pointwise

theorem pay9_at (y : FVec Ideal S16x128 .f32) (r : Fin 16) (l : Fin 128) : k0_pay9 (F := Ideal) y (ix3 0 r l) = y (ix2 r l) := by
  pointwise [k0_pay9]

theorem pay10_at (y : FVec Ideal S16x128 .f32) (r : Fin 16) (l : Fin 128) : k0_pay10 (F := Ideal) y (ix3 0 r l) = y (ix2 r l) := by
  pointwise [k0_pay10]

theorem pay11_at (y : FVec Ideal S16x128 .f32) (r : Fin 16) (l : Fin 128) : k0_pay11 (F := Ideal) y (ix3 0 r l) = y (ix2 r l) := by
  pointwise [k0_pay11]

theorem pay16_at (y : FVec Ideal S16x128 .f32) (r : Fin 16) (l : Fin 128) : k0_pay16 (F := Ideal) y (ix3 0 r l) = y (ix2 r l) := by
  pointwise [k0_pay16]

theorem pay17_at (y : FVec Ideal S16x128 .f32) (r : Fin 16) (l : Fin 128) : k0_pay17 (F := Ideal) y (ix3 0 r l) = y (ix2 r l) := by
  pointwise [k0_pay17]

theorem pay18_at (y : FVec Ideal S16x128 .f32) (r : Fin 16) (l : Fin 128) : k0_pay18 (F := Ideal) y (ix3 0 r l) = y (ix2 r l) := by
  pointwise [k0_pay18]

theorem pay12_at (y : FVec Ideal S16x128 .f32) (r : Fin 16) (l : Fin 128) : k0_pay12 (F := Ideal) y (ix2 r l) = scale (y (ix2 r l)) := by
  pointwise [k0_pay12]
  rw [named_step, mul_step]
  rfl

theorem pay13_at (y : FVec Ideal S16x128 .f32) (r : Fin 16) (l : Fin 128) : k0_pay13 (F := Ideal) y (ix2 r l) = scale (y (ix2 r l)) := by
  pointwise [k0_pay13]
  rw [named_step, mul_step]
  rfl

theorem pay14_at (y : FVec Ideal S16x128 .f32) (r : Fin 16) (l : Fin 128) : k0_pay14 (F := Ideal) y (ix2 r l) = scale (y (ix2 r l)) := by
  pointwise [k0_pay14]
  rw [named_step, mul_step]
  rfl

theorem pay15_at (y : FVec Ideal S16x128 .f32) (r : Fin 16) (l : Fin 128) : k0_pay15 (F := Ideal) y (ix3 0 r l) = scale (y (ix2 r l)) := by
  pointwise [k0_pay15]
  rw [named_step, mul_step]
  rfl

theorem pay19_at (y : FVec Ideal S16x128 .f32) (r : Fin 16) (l : Fin 128) : k0_pay19 (F := Ideal) y (ix3 0 r l) = scale (y (ix2 r l)) := by
  pointwise [k0_pay19]
  rw [named_step, mul_step]
  rfl

/-! ## The codes -/

theorem pay21_at (x : Vec Ideal S1x128 .f32) (d : Fin 96) (l : Fin 1024) :
    k0_pay21 (F := Ideal) x (ix2 d l) = scale (Finset.univ.sup fun l : Fin 128 => x (ix2 0 l)) := by
  pointwise [k0_pay21]
  rw [named_step, mul_step, fold_max]
  rfl

theorem pay1_at (o : Vec Ideal S1x1x96x1024 .f32) (x : Vec Ideal S1x128 .f32) (d : Fin 96) (l : Fin 1024) :
    k0_pay1 (F := Ideal) (k0_pay20 o) (k0_pay21 x) (ix4 0 0 d l) = code (scale (Finset.univ.sup fun l : Fin 128 => x (ix2 0 l))) (o (ix4 0 0 d l)) := by
  rw [← pay21_at x d l]
  generalize k0_pay21 (F := Ideal) x = y
  pointwise [k0_pay1, k0_pay20]
  rw [ofBits_448, ofBits_neg448]
  rfl

/-! ## What the run leaves -/

section Out

variable (c : Dev nD) (i : grid0.Coords) (arg3 : Memref sig .tc .vmem S16x128 .f32) (harg3 : arg3.IsWhole) (arg4 : Memref sig .tc .vmem S16x128 .f32) (harg4 : arg4.IsWhole)
  (arg5 : Memref sig .tc .vmem S16x128 .f32) (harg5 : arg5.IsWhole) (arg6 : Memref sig .tc .vmem S16x128 .f32) (harg6 : arg6.IsWhole)
  (arg7 : Memref sig .tc .vmem S16x128 .f32) (harg7 : arg7.IsWhole) (arg8 : Memref sig .tc .vmem S1x1x96x1024 .f32) (harg8 : arg8.IsWhole)
  (arg9 : Memref sig .tc .vmem S1x1x96x1024 .fp8e4m3) (harg9 : arg9.IsWhole) (arg10 : Memref sig .tc .vmem S10x16x128 .f32) (harg10 : arg10.IsWhole)
  (x0 x1 x2 x3 x4 : Vec Ideal S16x128 .f32) (x5 : Vec Ideal S1x1x96x1024 .f32)

/-- The whole table, read from a buffer that holds it. -/
theorem readTable (arg : Memref sig .tc .vmem S16x128 .f32) (harg : arg.IsWhole) (x : Vec Ideal S16x128 .f32) (h : ∀ a, (![0, 0] : Fin 2 → ℕ) a + S16x128.size a ≤ S16x128.size a) :
    arg.view.readAt (Elt Ideal) (Rect.unit (s := S16x128) ![0, 0] S16x128.size h).toLoadRect (harg.unread x) = x := by
  funext y
  rw [View.readAt_apply, harg.read_unread]
  congr 1
  funext a
  apply Fin.ext
  match a with
  | ⟨0, _⟩ => show 0 + 1 * (y 0).val = (y 0).val; omega
  | ⟨1, _⟩ => show 0 + 1 * (y 1).val = (y 1).val; omega

theorem head_lt : (i 1).val < 16 := lt_trans (i 1).isLt (by decide)

/-- The whole output block, read from a buffer that holds it. -/
theorem readBlock (d : Fin 96) (l : Fin 1024) :
    arg8.view.readAt (Elt Ideal) (Rect.unit (s := S1x1x96x1024) ![0, 0, 0, 0] S1x1x96x1024.size inb_S1x1x96x1024_S1x1x96x1024_0_0_0_0).toLoadRect (harg8.unread x5) (ix4 0 0 d l)
      = x5 (ix4 0 0 d l) := by
  rw [View.readAt_apply, harg8.read_unread]
  refine congrArg x5 (funext fun a => Fin.ext ?_)
  match a with
  | ⟨0, _⟩ => show 0 + 1 * 0 = 0; omega
  | ⟨1, _⟩ => show 0 + 1 * 0 = 0; omega
  | ⟨2, _⟩ => show 0 + 1 * d.val = d.val; omega
  | ⟨3, _⟩ => show 0 + 1 * l.val = l.val; omega

theorem off1 : k0_off1 i 0 = (i 1).val := by
  have := head_lt i
  simp [k0_off1, Scalar.indexCast]
  omega

/-- The row of the point's head, read from a buffer that holds the table. -/
theorem readRow (k : Fin 128) :
    arg7.view.readAt (Elt Ideal) (Rect.unit (s := S16x128) (k0_off1 i) S1x128.size (k0_off1_inb i)).toLoadRect (harg7.unread x4) (ix2 0 k)
      = x4 (ix2 ⟨(i 1).val, head_lt i⟩ k) := by
  rw [View.readAt_apply, harg7.read_unread]
  refine congrArg x4 (funext fun a => Fin.ext ?_)
  match a with
  | ⟨0, _⟩ => show k0_off1 i 0 + 1 * 0 = (i 1).val; rw [off1]; omega
  | ⟨1, _⟩ => show 0 + 1 * k.val = k.val; omega

theorem codes_at (d : Fin 96) (l : Fin 1024) :
    out0_A_6 (F := Ideal) c i arg3 harg3 arg4 harg4 arg5 harg5 arg6 harg6 arg7 harg7 arg8 harg8 arg9 harg9 arg10 harg10 x0 x1 x2 x3 x4 x5 (ix4 0 0 d l)
      = code (scale (rowMax x4 ⟨(i 1).val, head_lt i⟩)) (x5 (ix4 0 0 d l)) := by
  unfold out0_A_6 kernelRun0_A
  have h := View.read_writes_cons_emb (v := VO0_6) (f := VO0_6.junk) (Val := Elt Ideal)
    (Rect.unit (s := S1x1x96x1024) ![0, 0, 0, 0] S1x1x96x1024.size inb_S1x1x96x1024_S1x1x96x1024_0_0_0_0)
    (k0_pay1 (F := Ideal) (k0_pay20 (arg8.view.readAt (Elt Ideal) (Rect.unit (s := S1x1x96x1024) ![0, 0, 0, 0] S1x1x96x1024.size inb_S1x1x96x1024_S1x1x96x1024_0_0_0_0).toLoadRect (harg8.unread x5)))
      (k0_pay21 (arg7.view.readAt (Elt Ideal) (Rect.unit (s := S16x128) (k0_off1 i) S1x128.size (k0_off1_inb i)).toLoadRect (harg7.unread x4)))) [] (ix4 0 0 d l)
  rw [Rect.emb_unit_full] at h
  refine h.trans ?_
  rw [pay1_at]
  exact congrArg₂ code (congrArg scale (Finset.sup_congr rfl fun k _ => readRow i arg7 harg7 x4 k)) (readBlock arg8 harg8 x5 d l)

/-- A row of statistics, stored at its place among the ten, is what the statistics say of that row. -/
theorem row_at (j : Fin 10) (h : ∀ a, (![j.val, 0, 0] : Fin 3 → ℕ) a + S1x16x128.size a ≤ S10x16x128.size a) (p : Vec Ideal S1x16x128 .f32)
    (hp : ∀ (r : Fin 16) (l : Fin 128), p (ix3 0 r l) = stat x0 x1 x2 x3 x4 j r) :
    ∀ x : S1x16x128.Idx, p x = (fun y : S10x16x128.Idx => stat x0 x1 x2 x3 x4 (y 0) (y 1)) ((Rect.unit (s := S10x16x128) ![j.val, 0, 0] S1x16x128.size h).emb x) := by
  intro y
  idx_vars y
  obtain rfl : y0 = 0 := Subsingleton.elim _ _
  rw [hp]
  refine congrArg₂ (stat x0 x1 x2 x3 x4) (Fin.ext ?_) (Fin.ext ?_)
  · show j.val = j.val + 1 * 0; omega
  · show y1.val = 0 + 1 * y1.val; omega

theorem stats_at (j : Fin 10) (r : Fin 16) (l : Fin 128) :
    out0_A_7 (F := Ideal) c i arg3 harg3 arg4 harg4 arg5 harg5 arg6 harg6 arg7 harg7 arg8 harg8 arg9 harg9 arg10 harg10 x0 x1 x2 x3 x4 x5 (ix3 j r l)
      = stat x0 x1 x2 x3 x4 j r := by
  unfold out0_A_7
  refine View.read_writes_apply_of_pieces VO0_7 VO0_7.junk (fun y : S10x16x128.Idx => (stat x0 x1 x2 x3 x4 (y 0) (y 1) : EReal)) _ ?_ (ix3 j r l)
    (cover0_A_7 c i arg3 harg3 arg4 harg4 arg5 harg5 arg6 harg6 arg7 harg7 arg8 harg8 arg9 harg9 arg10 harg10 x0 x1 x2 x3 x4 x5 _)
  unfold kernelRun0_A
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_, List.forall_mem_cons.2 ⟨?_, by simp⟩⟩⟩⟩⟩⟩⟩⟩⟩⟩
  · exact row_at x0 x1 x2 x3 x4 9 inb_S10x16x128_S1x16x128_9_0_0 _ fun r l => (pay19_at _ r l).trans (congrArg scale ((pay6_at _ r l).trans (congrArg (rowMax · r) (readTable arg7 harg7 x4 inb_S16x128_S16x128_0_0))))
  · exact row_at x0 x1 x2 x3 x4 8 inb_S10x16x128_S1x16x128_8_0_0 _ fun r l => (pay18_at _ r l).trans ((pay14_at _ r l).trans (congrArg scale ((pay5_at _ r l).trans (congrArg (rowMax · r) (readTable arg6 harg6 x3 inb_S16x128_S16x128_0_0)))))
  · exact row_at x0 x1 x2 x3 x4 7 inb_S10x16x128_S1x16x128_7_0_0 _ fun r l => (pay17_at _ r l).trans ((pay13_at _ r l).trans (congrArg scale ((pay4_at _ r l).trans (congrArg (rowMax · r) (readTable arg4 harg4 x1 inb_S16x128_S16x128_0_0)))))
  · exact row_at x0 x1 x2 x3 x4 6 inb_S10x16x128_S1x16x128_6_0_0 _ fun r l => (pay16_at _ r l).trans ((pay12_at _ r l).trans (congrArg scale ((pay3_at _ r l).trans (congrArg (rowMax · r) (readTable arg3 harg3 x0 inb_S16x128_S16x128_0_0)))))
  · exact row_at x0 x1 x2 x3 x4 5 inb_S10x16x128_S1x16x128_5_0_0 _ fun r l => (pay15_at _ r l).trans (congrArg scale ((pay2_at _ r l).trans (congrArg (rowMax · r) (readTable arg5 harg5 x2 inb_S16x128_S16x128_0_0))))
  · exact row_at x0 x1 x2 x3 x4 4 inb_S10x16x128_S1x16x128_4_0_0 _ fun r l => (pay11_at _ r l).trans ((pay6_at _ r l).trans (congrArg (rowMax · r) (readTable arg7 harg7 x4 inb_S16x128_S16x128_0_0)))
  · exact row_at x0 x1 x2 x3 x4 3 inb_S10x16x128_S1x16x128_3_0_0 _ fun r l => (pay10_at _ r l).trans ((pay5_at _ r l).trans (congrArg (rowMax · r) (readTable arg6 harg6 x3 inb_S16x128_S16x128_0_0)))
  · exact row_at x0 x1 x2 x3 x4 2 inb_S10x16x128_S1x16x128_2_0_0 _ fun r l => (pay9_at _ r l).trans ((pay4_at _ r l).trans (congrArg (rowMax · r) (readTable arg4 harg4 x1 inb_S16x128_S16x128_0_0)))
  · exact row_at x0 x1 x2 x3 x4 1 inb_S10x16x128_S1x16x128_1_0_0 _ fun r l => (pay8_at _ r l).trans (congrArg (rowMax · r) (readTable arg3 harg3 x0 inb_S16x128_S16x128_0_0))
  · exact row_at x0 x1 x2 x3 x4 0 inb_S10x16x128_S1x16x128_0_0_0 _ fun r l => (pay7_at _ r l).trans (congrArg (rowMax · r) (readTable arg5 harg5 x2 inb_S16x128_S16x128_0_0))

end Out

end Cert.QuantIdeal.Hand

end
-- ==== Proof.QuantArray.lean ====
/-
  Hand-written. The two arrays the quantization call returns, after its run, over the extended reals.
-/
module

public import proofs.«01_k».proof.Proof.QuantBody
public import Idealize.ShloMosaic.Lib.Pipeline.Value

@[expose] public section

set_option maxRecDepth 16384

noncomputable section

namespace Cert.QuantIdeal.Hand

open Cert.QuantIdeal Cert.QuantIdeal.Gen
open Idealize.ShloMosaic Idealize.ShloMosaic.TcCoe Idealize.SL Idealize.SL.Sem
open Idealize.ShloMosaic.Pipeline (Dat)
open Cert.QuantSpec

/-- The sequence, head and positions of a grid point. -/
def bOf (t : Fin cfg0.N) : Fin 2 := ⟨t.val / 336, by have := t.isLt; have h : cfg0.N = 672 := N_0; omega⟩
def hOf (t : Fin cfg0.N) : Fin 12 := ⟨t.val / 28 % 12, by omega⟩
def pOf (t : Fin cfg0.N) (l : Fin 1024) : Fin 28672 := ⟨1024 * (t.val % 28) + l.val, by omega⟩

theorem coord1 : ∀ t : Fin grid0.N, (grid0.coords t 1).val = t.val / 28 % 12 := by decide +kernel
theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 336 ∧ win0_5.index t 1 = t.val / 28 % 12 ∧ win0_5.index t 2 = 0 ∧ win0_5.index t 3 = t.val % 28 := by decide +kernel
theorem index6 : ∀ t : Fin grid0.N, win0_6.index t 0 = t.val / 336 ∧ win0_6.index t 1 = t.val / 28 % 12 ∧ win0_6.index t 2 = 0 ∧ win0_6.index t 3 = t.val % 28 := by decide +kernel
theorem index7 : ∀ t : Fin grid0.N, win0_7.index t 0 = 0 ∧ win0_7.index t 1 = 0 ∧ win0_7.index t 2 = 0 := by decide +kernel

section Arrays

variable (m : (ℓ : Loc nD τ sig) → Buf (Elt Ideal) ℓ) (c : Dev nD) (t : Fin cfg0.N)

theorem iblk0_eq : iblk m c 0 t = m ((c.tc : Thread nD τ).loc main_arg0) := by
  have hi := index0 t
  have key : ∀ y : S16x128.Idx, (iblk m c 0 t : Vec Ideal S16x128 .f32) y = m ((c.tc : Thread nD τ).loc main_arg0) y := by
    intro y
    idx_vars y
    unfold iblk
    rw [View.read_apply]
    show V m c main_arg0 _ = m (c.tc.loc main_arg0) _
    unfold V
    congr 1
    funext a
    apply Fin.ext
    match a with
    | ⟨0, _⟩ => show win0_0.index t 0 * 16 + 1 * y0.val = y0.val; rw [hi.1]; omega
    | ⟨1, _⟩ => show win0_0.index t 1 * 128 + 1 * y1.val = y1.val; rw [hi.2]; omega
  exact funext key

theorem iblk1_eq : iblk m c 1 t = m ((c.tc : Thread nD τ).loc main_arg1) := by
  have hi := index1 t
  have key : ∀ y : S16x128.Idx, (iblk m c 1 t : Vec Ideal S16x128 .f32) y = m ((c.tc : Thread nD τ).loc main_arg1) y := by
    intro y
    idx_vars y
    unfold iblk
    rw [View.read_apply]
    show V m c main_arg1 _ = m (c.tc.loc main_arg1) _
    unfold V
    congr 1
    funext a
    apply Fin.ext
    match a with
    | ⟨0, _⟩ => show win0_1.index t 0 * 16 + 1 * y0.val = y0.val; rw [hi.1]; omega
    | ⟨1, _⟩ => show win0_1.index t 1 * 128 + 1 * y1.val = y1.val; rw [hi.2]; omega
  exact funext key

theorem iblk2_eq : iblk m c 2 t = m ((c.tc : Thread nD τ).loc main_arg2) := by
  have hi := index2 t
  have key : ∀ y : S16x128.Idx, (iblk m c 2 t : Vec Ideal S16x128 .f32) y = m ((c.tc : Thread nD τ).loc main_arg2) y := by
    intro y
    idx_vars y
    unfold iblk
    rw [View.read_apply]
    show V m c main_arg2 _ = m (c.tc.loc main_arg2) _
    unfold V
    congr 1
    funext a
    apply Fin.ext
    match a with
    | ⟨0, _⟩ => show win0_2.index t 0 * 16 + 1 * y0.val = y0.val; rw [hi.1]; omega
    | ⟨1, _⟩ => show win0_2.index t 1 * 128 + 1 * y1.val = y1.val; rw [hi.2]; omega
  exact funext key

theorem iblk3_eq : iblk m c 3 t = m ((c.tc : Thread nD τ).loc main_arg3) := by
  have hi := index3 t
  have key : ∀ y : S16x128.Idx, (iblk m c 3 t : Vec Ideal S16x128 .f32) y = m ((c.tc : Thread nD τ).loc main_arg3) y := by
    intro y
    idx_vars y
    unfold iblk
    rw [View.read_apply]
    show V m c main_arg3 _ = m (c.tc.loc main_arg3) _
    unfold V
    congr 1
    funext a
    apply Fin.ext
    match a with
    | ⟨0, _⟩ => show win0_3.index t 0 * 16 + 1 * y0.val = y0.val; rw [hi.1]; omega
    | ⟨1, _⟩ => show win0_3.index t 1 * 128 + 1 * y1.val = y1.val; rw [hi.2]; omega
  exact funext key

theorem iblk4_eq : iblk m c 4 t = m ((c.tc : Thread nD τ).loc main_arg4) := by
  have hi := index4 t
  have key : ∀ y : S16x128.Idx, (iblk m c 4 t : Vec Ideal S16x128 .f32) y = m ((c.tc : Thread nD τ).loc main_arg4) y := by
    intro y
    idx_vars y
    unfold iblk
    rw [View.read_apply]
    show V m c main_arg4 _ = m (c.tc.loc main_arg4) _
    unfold V
    congr 1
    funext a
    apply Fin.ext
    match a with
    | ⟨0, _⟩ => show win0_4.index t 0 * 16 + 1 * y0.val = y0.val; rw [hi.1]; omega
    | ⟨1, _⟩ => show win0_4.index t 1 * 128 + 1 * y1.val = y1.val; rw [hi.2]; omega
  exact funext key

theorem iblk5_at (d : Fin 96) (l : Fin 1024) : iblk m c 5 t (ix4 0 0 d l) = m ((c.tc : Thread nD τ).loc main_arg5) (ix4 (bOf t) (hOf t) d (pOf t l)) := by
  unfold iblk
  rw [View.read_apply]
  show V m c main_arg5 _ = m (c.tc.loc main_arg5) _
  unfold V
  congr 1
  funext a
  apply Fin.ext
  have hi := index5 t
  match a with
  | ⟨0, _⟩ => show win0_5.index t 0 * 1 + 1 * 0 = t.val / 336; rw [hi.1]; omega
  | ⟨1, _⟩ => show win0_5.index t 1 * 1 + 1 * 0 = t.val / 28 % 12; rw [hi.2.1]; omega
  | ⟨2, _⟩ => show win0_5.index t 2 * 96 + 1 * d.val = d.val; rw [hi.2.2.1]; omega
  | ⟨3, _⟩ => show win0_5.index t 3 * 1024 + 1 * l.val = 1024 * (t.val % 28) + l.val; rw [hi.2.2.2]; omega

/-- The codes: every output entry under its head's scale. -/
def codes (o : S16x128.Idx → EReal) (x : S2x12x96x28672.Idx → EReal) : S2x12x96x28672.Idx → EReal :=
  fun i => code (scale (rowMax o ⟨(i 1).val, lt_trans (i 1).isLt (by decide)⟩)) (x i)

/-- The statistics, the same in every lane. -/
def stats (k v q s o : S16x128.Idx → EReal) : S10x16x128.Idx → EReal := fun i => stat k v q s o (i 0) (i 1)

/-- The grid point that writes position `p` of head `h` of sequence `b`. -/
def tOf (b : Fin 2) (h : Fin 12) (p : Fin 28672) : Fin cfg0.N := ⟨b.val * 336 + h.val * 28 + p.val / 1024, by have e : cfg0.N = 672 := N_0; omega⟩

theorem emb6 (d : Fin 96) (l : Fin 1024) :
    ((cfg0.win 6).blk t).view.emb (ix4 0 0 d l : S1x1x96x1024.Idx) = (ix4 (bOf t) (hOf t) d (pOf t l) : S2x12x96x28672.Idx) := by
  have hi := index6 t
  funext a
  apply Fin.ext
  match a with
  | ⟨0, _⟩ => show win0_6.index t 0 * 1 + 1 * 0 = t.val / 336; rw [hi.1]; omega
  | ⟨1, _⟩ => show win0_6.index t 1 * 1 + 1 * 0 = t.val / 28 % 12; rw [hi.2.1]; omega
  | ⟨2, _⟩ => show win0_6.index t 2 * 96 + 1 * d.val = d.val; rw [hi.2.2.1]; omega
  | ⟨3, _⟩ => show win0_6.index t 3 * 1024 + 1 * l.val = 1024 * (t.val % 28) + l.val; rw [hi.2.2.2]; omega

def arrCodes : S2x12x96x28672.Idx → EReal := codes (m ((c.tc : Thread nD τ).loc main_arg4)) (m ((c.tc : Thread nD τ).loc main_arg5))
def arrStats : S10x16x128.Idx → EReal :=
  stats (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem ptCodes (d : Fin 96) (l : Fin 1024) : (outsAt0 m c t).1 (ix4 0 0 d l) = arrCodes m c (ix4 (bOf t) (hOf t) d (pOf t l)) := by
  unfold outsAt0
  dsimp only
  rw [codes_at]
  rw [iblk4_eq, iblk5_at]
  refine congrArg (fun r => code (scale (rowMax _ r)) _) (Fin.ext ?_)
  exact coord1 t

theorem ptStats (j : Fin 10) (r : Fin 16) (l : Fin 128) : (outsAt0 m c t).2 (ix3 j r l) = arrStats m c (ix3 j r l) := by
  unfold outsAt0
  dsimp only
  rw [stats_at]
  rw [iblk0_eq, iblk1_eq, iblk2_eq, iblk3_eq, iblk4_eq]
  rfl

theorem flushed6 : (dats m 0 c).flushed 6 t = ((cfg0.win 6).blk t).view.read (Elt Ideal) (arrCodes m c) := by
  show (cfg0.win 6).cut (grid0.coords t) ((dats m 0 c).after 6 t) = _
  rw [after0_6]
  have key : ∀ y : S1x1x96x1024.Idx, (outsAt0 m c t).1 y = arrCodes m c (((cfg0.win 6).blk t).view.emb y) := by
    intro y
    idx_vars y
    obtain rfl : y0 = 0 := Subsingleton.elim _ _
    obtain rfl : y1 = 0 := Subsingleton.elim _ _
    exact (ptCodes m c t y2 y3).trans (congrArg (arrCodes m c) (emb6 t y2 y3)).symm
  funext y
  exact key y

theorem cover6 (i : S2x12x96x28672.Idx) : ∃ t : Fin cfg0.N, (cfg0.win 6).flush t = true ∧ i ∈ ((cfg0.win 6).blk t).view.set := by
  have h0 : (i 0 : ℕ) < 2 := (i 0).isLt
  have h1 : (i 1 : ℕ) < 12 := (i 1).isLt
  have h2 : (i 2 : ℕ) < 96 := (i 2).isLt
  have h3 : (i 3 : ℕ) < 28672 := (i 3).isLt
  refine ⟨tOf (i 0) (i 1) (i 3), flush0_6 _, ?_⟩
  show i ∈ ((View.whole main_v0_0).slice (win0_6.rect (tOf (i 0) (i 1) (i 3)))).set
  rw [View.set_slice_whole, Rect.mem_set_unit]
  have hi := index6 (tOf (i 0) (i 1) (i 3))
  have ht : (tOf (i 0) (i 1) (i 3)).val = (i 0 : ℕ) * 336 + (i 1 : ℕ) * 28 + (i 3 : ℕ) / 1024 := rfl
  rw [ht] at hi
  intro a
  match a with
  | ⟨0, _⟩ => show win0_6.index _ 0 * 1 ≤ (i 0 : ℕ) ∧ (i 0 : ℕ) < win0_6.index _ 0 * 1 + 1; rw [hi.1]; omega
  | ⟨1, _⟩ => show win0_6.index _ 1 * 1 ≤ (i 1 : ℕ) ∧ (i 1 : ℕ) < win0_6.index _ 1 * 1 + 1; rw [hi.2.1]; omega
  | ⟨2, _⟩ => show win0_6.index _ 2 * 96 ≤ (i 2 : ℕ) ∧ (i 2 : ℕ) < win0_6.index _ 2 * 96 + 96; rw [hi.2.2.1]; omega
  | ⟨3, _⟩ => show win0_6.index _ 3 * 1024 ≤ (i 3 : ℕ) ∧ (i 3 : ℕ) < win0_6.index _ 3 * 1024 + 1024; rw [hi.2.2.2]; omega

theorem final6 : (dats m 0 c).arrAt 6 cfg0.N = arrCodes m c := (dats m 0 c).arrAt_eq_of_cover 6 (arrCodes m c) (fun t _ => flushed6 m c t) cover6

theorem emb7 (j : Fin 10) (r : Fin 16) (l : Fin 128) : ((cfg0.win 7).blk t).view.emb (ix3 j r l : S10x16x128.Idx) = (ix3 j r l : S10x16x128.Idx) := by
  have hi := index7 t
  funext a
  apply Fin.ext
  match a with
  | ⟨0, _⟩ => show win0_7.index t 0 * 10 + 1 * j.val = j.val; rw [hi.1]; omega
  | ⟨1, _⟩ => show win0_7.index t 1 * 16 + 1 * r.val = r.val; rw [hi.2.1]; omega
  | ⟨2, _⟩ => show win0_7.index t 2 * 128 + 1 * l.val = l.val; rw [hi.2.2]; omega

theorem flushed7 : (dats m 0 c).flushed 7 t = ((cfg0.win 7).blk t).view.read (Elt Ideal) (arrStats m c) := by
  show (cfg0.win 7).cut (grid0.coords t) ((dats m 0 c).after 7 t) = _
  rw [after0_7]
  have key : ∀ y : S10x16x128.Idx, (outsAt0 m c t).2 y = arrStats m c (((cfg0.win 7).blk t).view.emb y) := by
    intro y
    idx_vars y
    exact (ptStats m c t y0 y1 y2).trans (congrArg (arrStats m c) (emb7 t y0 y1 y2)).symm
  funext y
  exact key y

/-- The last grid point. -/
def tLast : Fin cfg0.N := ⟨671, by have e : cfg0.N = 672 := N_0; omega⟩

theorem cover7 (i : S10x16x128.Idx) : ∃ t : Fin cfg0.N, (cfg0.win 7).flush t = true ∧ i ∈ ((cfg0.win 7).blk t).view.set := by
  have h0 : (i 0 : ℕ) < 10 := (i 0).isLt
  have h1 : (i 1 : ℕ) < 16 := (i 1).isLt
  have h2 : (i 2 : ℕ) < 128 := (i 2).isLt
  refine ⟨tLast, (flush0_7 _).2 rfl, ?_⟩
  show i ∈ ((View.whole main_v0_1).slice (win0_7.rect tLast)).set
  rw [View.set_slice_whole, Rect.mem_set_unit]
  have hi := index7 tLast
  intro a
  match a with
  | ⟨0, _⟩ => show win0_7.index _ 0 * 10 ≤ (i 0 : ℕ) ∧ (i 0 : ℕ) < win0_7.index _ 0 * 10 + 10; rw [hi.1]; omega
  | ⟨1, _⟩ => show win0_7.index _ 1 * 16 ≤ (i 1 : ℕ) ∧ (i 1 : ℕ) < win0_7.index _ 1 * 16 + 16; rw [hi.2.1]; omega
  | ⟨2, _⟩ => show win0_7.index _ 2 * 128 ≤ (i 2 : ℕ) ∧ (i 2 : ℕ) < win0_7.index _ 2 * 128 + 128; rw [hi.2.2]; omega

theorem final7 : (dats m 0 c).arrAt 7 cfg0.N = arrStats m c := (dats m 0 c).arrAt_eq_of_cover 7 (arrStats m c) (fun t _ => flushed7 m c t) cover7

end Arrays

/-- The run of the quantization call: the codes and the statistics, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = arrCodes m c
      ∧ r.2.mem ((c.tc : Thread nD τ).loc main_v0_1) = arrStats m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 7).trans (final7 m c),
      ((h c).1 0).trans ((dats m 0 c).arrAt_in 0 rfl _), ((h c).1 1).trans ((dats m 0 c).arrAt_in 1 rfl _), ((h c).1 2).trans ((dats m 0 c).arrAt_in 2 rfl _),
      ((h c).1 3).trans ((dats m 0 c).arrAt_in 3 rfl _), ((h c).1 4).trans ((dats m 0 c).arrAt_in 4 rfl _), ((h c).1 5).trans ((dats m 0 c).arrAt_in 5 rfl _)⟩)
    (run_main m ρ)

end Cert.QuantIdeal.Hand

end
-- ==== Proof.QuantRef.lean ====
/-
  Hand-written. The quantization reference's two results at an index, and its run, over the extended reals.
-/
module

public import proofs.«01_k».proof.Proof.QuantSpec
public import proofs.«01_k».proof.Proof.Gen.QuantReferenceIdeal.Read
public import proofs.«01_k».proof.Proof.Gen.QuantReferenceIdeal.Run

@[expose] public section

set_option maxRecDepth 16384

noncomputable section

namespace Cert.QuantReferenceIdeal.Hand

open Cert.QuantReferenceIdeal Cert.QuantReferenceIdeal.Gen Cert.QuantReferenceIdeal.Read
open Idealize.ShloMosaic Idealize.ShloMosaic.TcCoe Idealize.SL.Sem
open Cert.QuantSpec

theorem one : (id (constant (F := Ideal) S_ .f32 0x3F800000#32) ix0 : EReal) = 1 := by
  show Ideal.ofBits .f32 0x3F800000#32 = 1
  simp [Ideal.ofBits, Ideal.ieee]
  rw [← EReal.coe_mul, ← EReal.coe_one, EReal.coe_eq_coe_iff]
  norm_num

theorem hi448 : (id (constant (F := Ideal) S_ .f32 0x43E00000#32) ix0 : EReal) = ((448 : ℝ) : EReal) := ofBits_448
theorem lo448 : (id (constant (F := Ideal) S_ .f32 0xC3E00000#32) ix0 : EReal) = ((-448 : ℝ) : EReal) := ofBits_neg448

/-! ## The row maxima and the scales -/

theorem v0_at (x : (⟨S16x128, .f32⟩ : BufTy).Contents (Elt Ideal)) (r : Fin 16) : val_main_v0 (F := Ideal) x (ix1 r) = rowMax x r := by
  pointwise [val_main_v0, val_main_cst]
  exact fold_max _

theorem v1_at (x : (⟨S16x128, .f32⟩ : BufTy).Contents (Elt Ideal)) (r : Fin 16) : val_main_v1 (F := Ideal) x (ix1 r) = rowMax x r := by
  pointwise [val_main_v1, val_main_cst_0]
  exact fold_max _

theorem v2_at (x : (⟨S16x128, .f32⟩ : BufTy).Contents (Elt Ideal)) (r : Fin 16) : val_main_v2 (F := Ideal) x (ix1 r) = rowMax x r := by
  pointwise [val_main_v2, val_main_cst_1]
  exact fold_max _

theorem v3_at (x : (⟨S16x128, .f32⟩ : BufTy).Contents (Elt Ideal)) (r : Fin 16) : val_main_v3 (F := Ideal) x (ix1 r) = rowMax x r := by
  pointwise [val_main_v3, val_main_cst_2]
  exact fold_max _

theorem v4_at (x : (⟨S16x128, .f32⟩ : BufTy).Contents (Elt Ideal)) (r : Fin 16) : val_main_v4 (F := Ideal) x (ix1 r) = rowMax x r := by
  pointwise [val_main_v4, val_main_cst_3]
  exact fold_max _

theorem v9_at (x : (⟨S16x128, .f32⟩ : BufTy).Contents (Elt Ideal)) (r : Fin 16) : val_main_v9 (F := Ideal) x (ix1 r) = scale (rowMax x r) := by
  rw [← v0_at x r]
  unfold val_main_v9 val_main_v6 val_main_v8
  generalize val_main_v0 (F := Ideal) x = y
  pointwise [val_main_call0_v1, val_main_call0_v0, val_main_v5, val_main_v7, val_main_cst_4, val_main_cst_5, val_main_cst_6]
  rw [ofBits_448, one]
  rfl

theorem v14_at (x : (⟨S16x128, .f32⟩ : BufTy).Contents (Elt Ideal)) (r : Fin 16) : val_main_v14 (F := Ideal) x (ix1 r) = scale (rowMax x r) := by
  rw [← v1_at x r]
  unfold val_main_v14 val_main_v11 val_main_v13
  generalize val_main_v1 (F := Ideal) x = y
  pointwise [val_main_call1_v1, val_main_call1_v0, val_main_v10, val_main_v12, val_main_cst_7, val_main_cst_8, val_main_cst_9]
  rw [ofBits_448, one]
  rfl

theorem v19_at (x : (⟨S16x128, .f32⟩ : BufTy).Contents (Elt Ideal)) (r : Fin 16) : val_main_v19 (F := Ideal) x (ix1 r) = scale (rowMax x r) := by
  rw [← v2_at x r]
  unfold val_main_v19 val_main_v16 val_main_v18
  generalize val_main_v2 (F := Ideal) x = y
  pointwise [val_main_call2_v1, val_main_call2_v0, val_main_v15, val_main_v17, val_main_cst_10, val_main_cst_11, val_main_cst_12]
  rw [ofBits_448, one]
  rfl

theorem v24_at (x : (⟨S16x128, .f32⟩ : BufTy).Contents (Elt Ideal)) (r : Fin 16) : val_main_v24 (F := Ideal) x (ix1 r) = scale (rowMax x r) := by
  rw [← v3_at x r]
  unfold val_main_v24 val_main_v21 val_main_v23
  generalize val_main_v3 (F := Ideal) x = y
  pointwise [val_main_call3_v1, val_main_call3_v0, val_main_v20, val_main_v22, val_main_cst_13, val_main_cst_14, val_main_cst_15]
  rw [ofBits_448, one]
  rfl

theorem v29_at (x : (⟨S16x128, .f32⟩ : BufTy).Contents (Elt Ideal)) (r : Fin 16) : val_main_v29 (F := Ideal) x (ix1 r) = scale (rowMax x r) := by
  rw [← v4_at x r]
  unfold val_main_v29 val_main_v26 val_main_v28
  generalize val_main_v4 (F := Ideal) x = y
  pointwise [val_main_call4_v1, val_main_call4_v0, val_main_v25, val_main_v27, val_main_cst_16, val_main_cst_17, val_main_cst_18]
  rw [ofBits_448, one]
  rfl

theorem v45_at (x : (⟨S16x128, .f32⟩ : BufTy).Contents (Elt Ideal)) (r : Fin 16) : val_main_v45 (F := Ideal) x (ix1 r) = scale (rowMax x r) := by
  rw [← v4_at x r]
  unfold val_main_v45 val_main_v42 val_main_v44
  generalize val_main_v4 (F := Ideal) x = y
  pointwise [val_main_call5_v1, val_main_call5_v0, val_main_v41, val_main_v43, val_main_cst_19, val_main_cst_20, val_main_cst_21]
  rw [ofBits_448, one]
  rfl

/-! ## The codes -/

/-- The codes: every output entry under its head's scale. -/
def codes (o : S16x128.Idx → EReal) (x : S2x12x96x28672.Idx → EReal) : S2x12x96x28672.Idx → EReal :=
  fun i => code (scale (rowMax o ⟨(i 1).val, lt_trans (i 1).isLt (by decide)⟩)) (x i)

/-- The statistics, the same in every lane. -/
def stats (k v q s o : S16x128.Idx → EReal) : S10x16x128.Idx → EReal := fun i => stat k v q s o (i 0) (i 1)

theorem v51_at (o : (⟨S16x128, .f32⟩ : BufTy).Contents (Elt Ideal)) (x : (⟨S2x12x96x28672, .f32⟩ : BufTy).Contents (Elt Ideal))
    (b : Fin 2) (h : Fin 12) (d : Fin 96) (p : Fin 28672) : val_main_v51 (F := Ideal) o x (ix4 b h d p) = code (scale (rowMax o ⟨h.val, by omega⟩)) (x (ix4 b h d p)) := by
  rw [← v45_at o]
  unfold val_main_v51 val_main_v50 val_main_call6_v2 val_main_v49 val_main_v48 val_main_v47 val_main_v46
  generalize val_main_v45 (F := Ideal) o = y
  pointwise [val_main_call6_v4, val_main_call6_v3, val_main_call6_v1, val_main_call6_v0, val_main_cst_22, val_main_cst_23]
  rw [hi448, lo448]
  rfl

theorem v51_eq (o : (⟨S16x128, .f32⟩ : BufTy).Contents (Elt Ideal)) (x : (⟨S2x12x96x28672, .f32⟩ : BufTy).Contents (Elt Ideal)) :
    val_main_v51 (F := Ideal) o x = codes o x := by
  funext y
  idx_vars y
  exact v51_at o x y0 y1 y2 y3

/-! ## The statistics -/

theorem v53_at (k v q s o : (⟨S16x128, .f32⟩ : BufTy).Contents (Elt Ideal)) (j : Fin 10) (r : Fin 16) (l : Fin 128) :
    val_main_v53 (F := Ideal) k v q s o (ix3 j r l) = stat k v q s o j r := by
  unfold val_main_v53 val_main_v52 val_main_v40 val_main_v30 val_main_v31 val_main_v32 val_main_v33 val_main_v34 val_main_v35 val_main_v36 val_main_v37 val_main_v38 val_main_v39
  have e0 := v0_at q r
  have e1 := v1_at k r
  have e2 := v2_at v r
  have e3 := v3_at s r
  have e4 := v4_at o r
  have e5 := v9_at q r
  have e6 := v14_at k r
  have e7 := v19_at v r
  have e8 := v24_at s r
  have e9 := v29_at o r
  revert e0 e1 e2 e3 e4 e5 e6 e7 e8 e9
  generalize val_main_v0 (F := Ideal) q = y0
  generalize val_main_v1 (F := Ideal) k = y1
  generalize val_main_v2 (F := Ideal) v = y2
  generalize val_main_v3 (F := Ideal) s = y3
  generalize val_main_v4 (F := Ideal) o = y4
  generalize val_main_v9 (F := Ideal) q = y5
  generalize val_main_v14 (F := Ideal) k = y6
  generalize val_main_v19 (F := Ideal) v = y7
  generalize val_main_v24 (F := Ideal) s = y8
  generalize val_main_v29 (F := Ideal) o = y9
  intro e0 e1 e2 e3 e4 e5 e6 e7 e8 e9
  pointwise
  rw [e0, e1, e2, e3, e4, e5, e6, e7, e8, e9]
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

theorem v53_eq (k v q s o : (⟨S16x128, .f32⟩ : BufTy).Contents (Elt Ideal)) : val_main_v53 (F := Ideal) k v q s o = stats k v q s o := by
  funext y
  idx_vars y
  exact v53_at k v q s o y0 y1 y2

/-- The run of the reference. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = codes (m ((c.tc : Thread nD τ).loc main_arg4)) (m ((c.tc : Thread nD τ).loc main_arg5))
      ∧ r.2.mem ((c.tc : Thread nD τ).loc main_v53) = stats (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v51_eq _ _).trans (v51_eq _ _)), (h c).2.1.trans ((val_main_v53_eq m c).trans (v53_eq _ _ _ _ _)), (h c).2.2⟩)
    (Cert.QuantReferenceIdeal.Value.run (F := Ideal) m ρ)

end Cert.QuantReferenceIdeal.Hand

end
-- ==== Proof.PrepFun.lean ====
/-
  Hand-written. What a grid point of the preparation call writes, as a function of the blocks it reads.
-/
module

public import proofs.«01_k».proof.Proof.Gen.Prep.Skeleton
public import Idealize.ShloMosaic.Lib.VecWindow

@[expose] public section

set_option maxRecDepth 16384

noncomputable section

namespace Cert.Prep.Hand

open Cert.Prep Cert.Prep.Gen
open Idealize.ShloMosaic Idealize.ShloMosaic.TcCoe

variable {F : FTy → Type} [FloatOps F]

/-- Whether a grid point is the first. -/
def first (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32))
    (Scalar.cmpi .eq (BitVec.ofNat 32 (i 2).val) 0#32)) : BitVec 32) 0#32 = 1#1

instance (i : grid0.Coords) : Decidable (first i) := by unfold first; infer_instance

/-- A table of maxima as the point's work finds it: `z` at the first point, what it held otherwise. -/
def entry (i : grid0.Coords) (z x : Vec F S16x128 .f32) : Vec F S16x128 .f32 := if first i then z else x

theorem row_inb (h : ℕ) (hh : h < 16) : ∀ a, (![h, 0] : Fin 2 → ℕ) a + S1x128.size a ≤ S16x128.size a := by
  intro a; fin_cases a <;> simp [S1x128, S16x128]; omega

/-- Row `h` of a table of maxima. -/
def rowOf (x : Vec F S16x128 .f32) (h : ℕ) : Vec F S1x128 .f32 :=
  if hh : h < 16 then VecWindow.window x ![h, 0] S1x128.size (row_inb h hh) else VecWindow.window x ![0, 0] S1x128.size (row_inb 0 (by omega))

/-- A table of maxima with row `h` replaced. -/
def rowPut (x : Vec F S16x128 .f32) (h : ℕ) (w : Vec F S1x128 .f32) : Vec F S16x128 .f32 := VecWindow.put x ![h, 0] S1x128.size w

/-- The batch's entry of a pair of words. -/
def wordOf (i : grid0.Coords) (x : Vec F S2 .i32) : BitVec 32 :=
  View.ld x (Rect.unit (s := S2) (k0_off2 i) S1.size (k0_off2_inb i)) (Shape.Idx.first (s := S1) (by decide))

/-- The first column of the frequencies. -/
def freqOf (x : Vec F S48x128 .f32) : Vec F S48x1 .f32 := VecWindow.window x ![0, 0] S48x1.size inb_S48x128_S48x1_0_0

/-- The cosines a grid point works with: computed at a tile's first point, kept from there at its others. -/
def outCos (i : grid0.Coords) (pos : BitVec 32) (fr : Vec F S48x128 .f32) (old : Vec F S1x48x1024 .f32) : Vec F S1x48x1024 .f32 :=
  if k0_cond2 i = 1#1 then k0_pay6 i pos (freqOf fr) else old

/-- The sines a grid point works with. -/
def outSin (i : grid0.Coords) (pos : BitVec 32) (fr : Vec F S48x128 .f32) (old : Vec F S1x48x1024 .f32) : Vec F S1x48x1024 .f32 :=
  if k0_cond2 i = 1#1 then k0_pay7 i pos (freqOf fr) else old

/-- The block of rotated keys, with their further columns, position first. -/
def outK (kt : Vec F S1x1x96x1024 .bf16) (cs sn : Vec F S1x48x1024 .f32) : Vec F S1x1x1024x128 .bf16 := k0_pay2 (k0_pay9 kt cs sn)

/-- The block of key maxima. -/
def outRK (i : grid0.Coords) (len : BitVec 32) (kt : Vec F S1x1x96x1024 .bf16) (cs sn : Vec F S1x48x1024 .f32) : Vec F S1x1x1x1024 .f32 :=
  k0_pay13 (k0_pay8 (F := F) i len) (k0_pay10 kt cs sn)

/-- The block of value maxima. -/
def outRV (i : grid0.Coords) (len : BitVec 32) (vt : Vec F S1x1x96x1024 .bf16) : Vec F S1x1x1x1024 .f32 := k0_pay14 (k0_pay8 (F := F) i len) vt

/-- The table of key maxima after a grid point, from the table before. -/
def statK (i : grid0.Coords) (len : BitVec 32) (kt : Vec F S1x1x96x1024 .bf16) (cs sn : Vec F S1x48x1024 .f32) (x : Vec F S16x128 .f32) : Vec F S16x128 .f32 :=
  rowPut (entry i k0_pay3 x) (i 2).val (k0_pay15 (k0_pay8 (F := F) i len) (k0_pay10 kt cs sn) (rowOf (entry i k0_pay3 x) (i 2).val))

/-- The table of value maxima after a grid point, from the table before. -/
def statV (i : grid0.Coords) (len : BitVec 32) (vt : Vec F S1x1x96x1024 .bf16) (x : Vec F S16x128 .f32) : Vec F S16x128 .f32 :=
  rowPut (entry i k0_pay4 x) (i 2).val (k0_pay1 (k0_pay12 (k0_pay8 (F := F) i len) vt) (rowOf (entry i k0_pay4 x) (i 2).val))

end Cert.Prep.Hand

end
-- ==== Proof.PrepBody.lean ====
/-
  Hand-written. The preparation call's body run once at a symbolic grid point.
-/
module

public import proofs.«01_k».proof.Proof.PrepFun
public import Idealize.ShloMosaic.Lib.Exec
public import Idealize.ShloMosaic.Lib.LoopRemainder
public import Idealize.ShloMosaic.Lib.Tactic
public import Idealize.ShloMosaic.Lib.Pipeline.Kit

@[expose] public section

set_option maxRecDepth 65536
set_option maxHeartbeats 4000000

noncomputable section

namespace Cert.Prep.Hand

open Cert.Prep Cert.Prep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref's buffer on core `c` held at contents that read `X`. -/
abbrev held (c : Dev nD) {sp : Space} {S : Shape} {e : EltTy} (M : Memref sig .tc sp S e) (X : S.Idx → Elt F e) : sProp 𝕄 :=
  iprop(∃ f : BufTy.Contents (Elt F) M.view.ty, pt c M f ∗ ⌜M.view.read (Elt F) f = X⌝)

/-! ## Loads -/

theorem ld_S1x1x96x1024 (v : View sig .tc .vmem S1x1x96x1024 .bf16) (f : v.ty.Contents (Elt F)) :
    v.readAt (Elt F) (Rect.unit (s := S1x1x96x1024) ![0, 0, 0, 0] S1x1x96x1024.size inb_S1x1x96x1024_S1x1x96x1024_0_0_0_0).toLoadRect f = v.read (Elt F) f := View.readAt_full v f _
theorem ld_S1x48x1024 (v : View sig .tc .vmem S1x48x1024 .f32) (f : v.ty.Contents (Elt F)) :
    v.readAt (Elt F) (Rect.unit (s := S1x48x1024) ![0, 0, 0] S1x48x1024.size inb_S1x48x1024_S1x48x1024_0_0_0).toLoadRect f = v.read (Elt F) f := View.readAt_full v f _

/-- A load of the frequencies' first column. -/
theorem ld_freq (v : View sig .tc .vmem S48x128 .f32) (f : v.ty.Contents (Elt F)) :
    v.readAt (Elt F) (Rect.unit (s := S48x128) ![0, 0] S48x1.size inb_S48x128_S48x1_0_0).toLoadRect f = freqOf (v.read (Elt F) f) := by
  rw [View.readAt_unit _ _ _ rfl inb_S48x128_S48x1_0_0, freqOf]

/-- A load of one row of a table of maxima. -/
theorem ld_row (v : View sig .tc .vmem S16x128 .f32) (f : v.ty.Contents (Elt F)) (i : grid0.Coords) (x : Vec F S16x128 .f32) (e : v.read (Elt F) f = x) :
    v.readAt (Elt F) (Rect.unit (s := S16x128) (k0_off3 i) S1x128.size (k0_off3_inb i)).toLoadRect f = rowOf x (i 2).val := by
  have hh : (i 2).val < 16 := Nat.lt_trans (i 2).isLt (show grid0.bound 2 < 16 by decide)
  rw [View.readAt_unit _ _ _ (k0_off3_eq i) (row_inb _ hh), rowOf, dif_pos hh, e]

/-- A store of one row of a table of maxima. -/
theorem st_row (v : View sig .tc .vmem S16x128 .f32) (f : v.ty.Contents (Elt F)) (i : grid0.Coords) (x : Vec F S16x128 .f32) (e : v.read (Elt F) f = x)
    (w w' : Vec F S1x128 .f32) (ew : w = w') :
    v.read (Elt F) (v.writes (Elt F) f [⟨Rect.unit (s := S16x128) (k0_off3 i) S1x128.size (k0_off3_inb i), w⟩]) = rowPut x (i 2).val w' := by
  rw [View.read_writes_cons_put v _ _ _ _ (k0_off3_eq i), View.writes_nil, e, ew, rowPut]

section Args

variable (c : Dev nD) (i : grid0.Coords)
  (arg3 : Memref sig .tc .smem S2 .i32) (harg3 : arg3.IsWhole)
  (arg4 : Memref sig .tc .smem S2 .i32) (harg4 : arg4.IsWhole)
  (arg5 : Memref sig .tc .vmem S48x128 .f32) (harg5 : arg5.IsWhole)
  (arg6 : Memref sig .tc .vmem S1x1x96x1024 .bf16) (harg6 : arg6.IsWhole)
  (arg7 : Memref sig .tc .vmem S1x1x96x1024 .bf16) (harg7 : arg7.IsWhole)
  (arg8 : Memref sig .tc .vmem S1x1x1024x128 .bf16) (harg8 : arg8.IsWhole)
  (arg9 : Memref sig .tc .vmem S1x48x1024 .f32) (harg9 : arg9.IsWhole)
  (arg10 : Memref sig .tc .vmem S1x48x1024 .f32) (harg10 : arg10.IsWhole)
  (arg11 : Memref sig .tc .vmem S1x1x1x1024 .f32) (harg11 : arg11.IsWhole)
  (arg12 : Memref sig .tc .vmem S1x1x1x1024 .f32) (harg12 : arg12.IsWhole)
  (arg13 : Memref sig .tc .vmem S16x128 .f32) (harg13 : arg13.IsWhole)
  (arg14 : Memref sig .tc .vmem S16x128 .f32) (harg14 : arg14.IsWhole)

/-- The batch's entry of a pair of words as the body reads it. -/
abbrev wordAt (arg : Memref sig .tc .smem S2 .i32) (X : BufTy.Contents (Elt F) arg.view.ty) : BitVec 32 :=
  arg.view.readAt (Elt F) (Rect.unit (s := S2) (k0_off2 i) S1.size (k0_off2_inb i)).toLoadRect X (Shape.Idx.first (s := S1) (by decide))

/-- The body at a tile's first point, which computes the tile's cosines and sines. -/
theorem bodyFresh (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (h2 : k0_cond2 i = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (k0_pay6 i (wordAt i arg3 X3) (freqOf (arg5.view.read (Elt F) X5))) (k0_pay7 i (wordAt i arg3 X3) (freqOf (arg5.view.read (Elt F) X5)))) ∗ held c arg9 (k0_pay6 i (wordAt i arg3 X3) (freqOf (arg5.view.read (Elt F) X5))) ∗ held c arg10 (k0_pay7 i (wordAt i arg3 X3) (freqOf (arg5.view.read (Elt F) X5)))
            ∗ held c arg11 (outRK i (wordAt i arg4 X4) (arg6.view.read (Elt F) X6) (k0_pay6 i (wordAt i arg3 X3) (freqOf (arg5.view.read (Elt F) X5))) (k0_pay7 i (wordAt i arg3 X3) (freqOf (arg5.view.read (Elt F) X5)))) ∗ held c arg12 (outRV i (wordAt i arg4 X4) (arg7.view.read (Elt F) X7))
            ∗ held c arg13 (statK i (wordAt i arg4 X4) (arg6.view.read (Elt F) X6) (k0_pay6 i (wordAt i arg3 X3) (freqOf (arg5.view.read (Elt F) X5))) (k0_pay7 i (wordAt i arg3 X3) (freqOf (arg5.view.read (Elt F) X5))) (arg13.view.read (Elt F) X13)) ∗ held c arg14 (statV i (wordAt i arg4 X4) (arg7.view.read (Elt F) X7) (arg14.view.read (Elt F) X14)))) := by
  have e13 : arg13.view.read (Elt F) (if hc : first i then
      arg13.view.writes (Elt F) X13 [⟨Rect.unit (s := S16x128) ![0, 0] S16x128.size inb_S16x128_S16x128_0_0, k0_pay3 (F := F)⟩] else X13) = entry i k0_pay3 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay4 (F := F)⟩] else X14) = entry i k0_pay4 (arg14.view.read (Elt F) X14) := by
    by_cases hc : first i
    · rw [dif_pos hc, View.read_writes_full, entry, if_pos hc]
    · rw [dif_neg hc, entry, if_neg hc]
  iintro ⟨H3, H4, H5, H6, H7, H8, H9, H10, H11, H12, H13, H14⟩
  sl_exec
  sl_step
  isplitl [H3]; · iexact H3
  isplitl [H4]; · iexact H4
  isplitl [H5]; · iexact H5
  isplitl [H6]; · iexact H6
  isplitl [H7]; · iexact H7
  isplitl [H8]
  · iexists _; isplitl; · iexact H8
    ipureintro
    sl_unfold_words
    rw [View.read_writes_full, View.readCov_full, View.readCov_full, ld_S1x1x96x1024, ld_freq]; rfl
  isplitl [H9]
  · iexists _; isplitl; · iexact H9
    ipureintro
    sl_unfold_words
    rw [View.read_writes_full, ld_freq]; rfl
  isplitl [H10]
  · iexists _; isplitl; · iexact H10
    ipureintro
    sl_unfold_words
    rw [View.read_writes_full, ld_freq]; rfl
  isplitl [H11]
  · iexists _; isplitl; · iexact H11
    ipureintro
    sl_unfold_words
    rw [View.read_writes_full, View.readCov_full, View.readCov_full, ld_S1x1x96x1024, ld_freq]; rfl
  isplitl [H12]
  · iexists _; isplitl; · iexact H12
    ipureintro
    sl_unfold_words
    rw [View.read_writes_full, ld_S1x1x96x1024]; rfl
  isplitl [H13]
  · iexists _; isplitl; · iexact H13
    ipureintro
    sl_unfold_words
    refine st_row arg13.view _ i _ e13 _ _ ?_
    rw [View.readCov_full, View.readCov_full, ld_S1x1x96x1024, ld_freq]
    exact congrArg (fun x => k0_pay15 _ _ x) (ld_row arg13.view _ i _ e13)
  · iexists _; isplitl; · iexact H14
    ipureintro
    sl_unfold_words
    refine st_row arg14.view _ i _ e14 _ _ ?_
    rw [ld_S1x1x96x1024]
    exact congrArg (fun x => k0_pay1 _ x) (ld_row arg14.view _ i _ e14)

/-- The body at a tile's other points, which finds the tile's cosines and sines in the buffers. -/
theorem bodyKept (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (h2 : ¬ k0_cond2 i = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (arg9.view.read (Elt F) X9) (arg10.view.read (Elt F) X10)) ∗ held c arg9 (arg9.view.read (Elt F) X9) ∗ held c arg10 (arg10.view.read (Elt F) X10)
            ∗ held c arg11 (outRK i (wordAt i arg4 X4) (arg6.view.read (Elt F) X6) (arg9.view.read (Elt F) X9) (arg10.view.read (Elt F) X10)) ∗ held c arg12 (outRV i (wordAt i arg4 X4) (arg7.view.read (Elt F) X7))
            ∗ held c arg13 (statK i (wordAt i arg4 X4) (arg6.view.read (Elt F) X6) (arg9.view.read (Elt F) X9) (arg10.view.read (Elt F) X10) (arg13.view.read (Elt F) X13)) ∗ held c arg14 (statV i (wordAt i arg4 X4) (arg7.view.read (Elt F) X7) (arg14.view.read (Elt F) X14)))) := by
  have e13 : arg13.view.read (Elt F) (if hc : first i then
      arg13.view.writes (Elt F) X13 [⟨Rect.unit (s := S16x128) ![0, 0] S16x128.size inb_S16x128_S16x128_0_0, k0_pay3 (F := F)⟩] else X13) = entry i k0_pay3 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay4 (F := F)⟩] else X14) = entry i k0_pay4 (arg14.view.read (Elt F) X14) := by
    by_cases hc : first i
    · rw [dif_pos hc, View.read_writes_full, entry, if_pos hc]
    · rw [dif_neg hc, entry, if_neg hc]
  iintro ⟨H3, H4, H5, H6, H7, H8, H9, H10, H11, H12, H13, H14⟩
  sl_exec
  sl_step
  isplitl [H3]; · iexact H3
  isplitl [H4]; · iexact H4
  isplitl [H5]; · iexact H5
  isplitl [H6]; · iexact H6
  isplitl [H7]; · iexact H7
  isplitl [H8]
  · iexists _; isplitl; · iexact H8
    ipureintro
    sl_unfold_words
    rw [View.read_writes_full, ld_S1x1x96x1024, ld_S1x48x1024, ld_S1x48x1024]; rfl
  isplitl [H9]
  · iexists _; isplitl; · iexact H9
    ipureintro; rfl
  isplitl [H10]
  · iexists _; isplitl; · iexact H10
    ipureintro; rfl
  isplitl [H11]
  · iexists _; isplitl; · iexact H11
    ipureintro
    sl_unfold_words
    rw [View.read_writes_full, ld_S1x1x96x1024, ld_S1x48x1024, ld_S1x48x1024]; rfl
  isplitl [H12]
  · iexists _; isplitl; · iexact H12
    ipureintro
    sl_unfold_words
    rw [View.read_writes_full, ld_S1x1x96x1024]; rfl
  isplitl [H13]
  · iexists _; isplitl; · iexact H13
    ipureintro
    sl_unfold_words
    refine st_row arg13.view _ i _ e13 _ _ ?_
    rw [ld_S1x1x96x1024, ld_S1x48x1024, ld_S1x48x1024]
    exact congrArg (fun x => k0_pay15 _ _ x) (ld_row arg13.view _ i _ e13)
  · iexists _; isplitl; · iexact H14
    ipureintro
    sl_unfold_words
    refine st_row arg14.view _ i _ e14 _ _ ?_
    rw [ld_S1x1x96x1024]
    exact congrArg (fun x => k0_pay1 _ x) (ld_row arg14.view _ i _ e14)

/-- The body at any point. -/
theorem bodyPoint (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (outCos i (wordAt i arg3 X3) (arg5.view.read (Elt F) X5) (arg9.view.read (Elt F) X9)) (outSin i (wordAt i arg3 X3) (arg5.view.read (Elt F) X5) (arg10.view.read (Elt F) X10))) ∗ held c arg9 (outCos i (wordAt i arg3 X3) (arg5.view.read (Elt F) X5) (arg9.view.read (Elt F) X9)) ∗ held c arg10 (outSin i (wordAt i arg3 X3) (arg5.view.read (Elt F) X5) (arg10.view.read (Elt F) X10))
            ∗ held c arg11 (outRK i (wordAt i arg4 X4) (arg6.view.read (Elt F) X6) (outCos i (wordAt i arg3 X3) (arg5.view.read (Elt F) X5) (arg9.view.read (Elt F) X9)) (outSin i (wordAt i arg3 X3) (arg5.view.read (Elt F) X5) (arg10.view.read (Elt F) X10))) ∗ held c arg12 (outRV i (wordAt i arg4 X4) (arg7.view.read (Elt F) X7))
            ∗ held c arg13 (statK i (wordAt i arg4 X4) (arg6.view.read (Elt F) X6) (outCos i (wordAt i arg3 X3) (arg5.view.read (Elt F) X5) (arg9.view.read (Elt F) X9)) (outSin i (wordAt i arg3 X3) (arg5.view.read (Elt F) X5) (arg10.view.read (Elt F) X10)) (arg13.view.read (Elt F) X13)) ∗ held c arg14 (statV i (wordAt i arg4 X4) (arg7.view.read (Elt F) X7) (arg14.view.read (Elt F) X14)))) := by
  by_cases h : k0_cond2 i = 1#1
  · unfold outCos outSin
    rw [if_pos h, if_pos h]
    exact bodyFresh c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 X13 X14 h
  · unfold outCos outSin
    rw [if_neg h, if_neg h]
    exact bodyKept c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 X13 X14 h

end Args

end Cert.Prep.Hand

end
-- ==== Proof.PrepFrame.lean ====
/-
  Hand-written. The preparation call's pipeline: what each point leaves in the staging buffers, the body obligation, the run and the
  frame.
-/
module

public import proofs.«01_k».proof.Proof.PrepBody
public import proofs.«01_k».proof.Proof.Gen.Prep.Frame
public import Idealize.ShloMosaic.Lib.Claim
public import Idealize.ShloMosaic.Lib.Pipeline.TableIdle

@[expose] public section

set_option maxRecDepth 16384
set_option maxHeartbeats 4000000

noncomputable section

namespace Cert.Prep.Hand

open Cert.Prep Cert.Prep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at a grid point, on memrefs whose contents are named by what they read. -/
theorem bodyOwns (c : Dev nD) (i : grid0.Coords)
  (arg3 : Memref sig .tc .smem S2 .i32) (harg3 : arg3.IsWhole)
  (arg4 : Memref sig .tc .smem S2 .i32) (harg4 : arg4.IsWhole)
  (arg5 : Memref sig .tc .vmem S48x128 .f32) (harg5 : arg5.IsWhole)
  (arg6 : Memref sig .tc .vmem S1x1x96x1024 .bf16) (harg6 : arg6.IsWhole)
  (arg7 : Memref sig .tc .vmem S1x1x96x1024 .bf16) (harg7 : arg7.IsWhole)
  (arg8 : Memref sig .tc .vmem S1x1x1024x128 .bf16) (harg8 : arg8.IsWhole)
  (arg9 : Memref sig .tc .vmem S1x48x1024 .f32) (harg9 : arg9.IsWhole)
  (arg10 : Memref sig .tc .vmem S1x48x1024 .f32) (harg10 : arg10.IsWhole)
  (arg11 : Memref sig .tc .vmem S1x1x1x1024 .f32) (harg11 : arg11.IsWhole)
  (arg12 : Memref sig .tc .vmem S1x1x1x1024 .f32) (harg12 : arg12.IsWhole)
  (arg13 : Memref sig .tc .vmem S16x128 .f32) (harg13 : arg13.IsWhole)
  (arg14 : Memref sig .tc .vmem S16x128 .f32) (harg14 : arg14.IsWhole)
    (x3 : Vec F S2 .i32) (x4 : Vec F S2 .i32) (x5 : Vec F S48x128 .f32) (x6 : Vec F S1x1x96x1024 .bf16) (x7 : Vec F S1x1x96x1024 .bf16) (x9 : Vec F S1x48x1024 .f32) (x10 : Vec F S1x48x1024 .f32) (x13 : Vec F S16x128 .f32) (x14 : Vec F S16x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outK x6 (outCos i (wordOf (F := F) i x3) x5 x9) (outSin i (wordOf (F := F) i x3) x5 x10)) ∗ owns (c : Thread nD τ) arg9 fullShare (outCos i (wordOf (F := F) i x3) x5 x9) ∗ owns (c : Thread nD τ) arg10 fullShare (outSin i (wordOf (F := F) i x3) x5 x10) ∗ owns (c : Thread nD τ) arg11 fullShare (outRK i (wordOf (F := F) i x4) x6 (outCos i (wordOf (F := F) i x3) x5 x9) (outSin i (wordOf (F := F) i x3) x5 x10)) ∗ owns (c : Thread nD τ) arg12 fullShare (outRV i (wordOf (F := F) i x4) x7) ∗ owns (c : Thread nD τ) arg13 fullShare (statK i (wordOf (F := F) i x4) x6 (outCos i (wordOf (F := F) i x3) x5 x9) (outSin i (wordOf (F := F) i x3) x5 x10) x13) ∗ owns (c : Thread nD τ) arg14 fullShare (statV i (wordOf (F := F) i x4) x7 x14)) -∗ K ⟨⟩))
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  subst hf3 hf4 hf5 hf6 hf7 hf9 hf10 hf13 hf14
  iapply (wp_wand_r frame (wpE (defs₀ (F := F)) Variants.none (c : Thread nD τ) none) Set.univ)
  isplitl [H3 H4 H5 H6 H7 H8 H9 H10 H11 H12 H13 H14]
  · iapply (bodyPoint c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %a ⟨H3, H4, H5, H6, H7, ⟨%g8, H8, %hg8⟩, ⟨%g9, H9, %hg9⟩, ⟨%g10, H10, %hg10⟩, ⟨%g11, H11, %hg11⟩, ⟨%g12, H12, %hg12⟩, ⟨%g13, H13, %hg13⟩, ⟨%g14, H14, %hg14⟩⟩
    iapply Hk
    isplitl [H3]; · iexists f3; isplitr; (ipureintro; rfl); iexact H3
    isplitl [H4]; · iexists f4; isplitr; (ipureintro; rfl); iexact H4
    isplitl [H5]; · iexists f5; isplitr; (ipureintro; rfl); iexact H5
    isplitl [H6]; · iexists f6; isplitr; (ipureintro; rfl); iexact H6
    isplitl [H7]; · iexists f7; isplitr; (ipureintro; rfl); iexact H7
    isplitl [H8]; · iexists g8; isplitr; (ipureintro; exact hg8); iexact H8
    isplitl [H9]; · iexists g9; isplitr; (ipureintro; exact hg9); iexact H9
    isplitl [H10]; · iexists g10; isplitr; (ipureintro; exact hg10); iexact H10
    isplitl [H11]; · iexists g11; isplitr; (ipureintro; exact hg11); iexact H11
    isplitl [H12]; · iexists g12; isplitr; (ipureintro; exact hg12); iexact H12
    isplitl [H13]; · iexists g13; isplitr; (ipureintro; exact hg13); iexact H13
    iexists g14; isplitr; (ipureintro; exact hg14); iexact H14

variable (m : (ℓ : Loc nD τ sig) → Buf (Elt F) ℓ) (ρ : Dev nD → PrngReg)

/-! ## What the points leave -/

/-- The batch's first position and its length at a point. -/
abbrev posAt (c : Dev nD) (t : Fin cfg0.N) : BitVec 32 := wordOf (F := F) (grid0.coords t) (iblk m c 0 t)
abbrev lenAt (c : Dev nD) (t : Fin cfg0.N) : BitVec 32 := wordOf (F := F) (grid0.coords t) (iblk m c 1 t)

/-- A buffer after the points before point `n`, by what one point does to it. -/
def chain {α : Type} (f : Fin cfg0.N → α → α) (z : α) : ℕ → α
  | 0 => z
  | n + 1 => if h : n < cfg0.N then f ⟨n, h⟩ (chain f z n) else chain f z n

theorem chain_step {α : Type} (f : Fin cfg0.N → α → α) (z : α) (t : Fin cfg0.N) : chain f z (t.val + 1) = f t (chain f z t.val) := by
  rw [chain, dif_pos t.isLt]

def stepC (c : Dev nD) (t : Fin cfg0.N) (x : Vec F S1x48x1024 .f32) : Vec F S1x48x1024 .f32 := outCos (grid0.coords t) (posAt m c t) (iblk m c 2 t) x
def stepS (c : Dev nD) (t : Fin cfg0.N) (x : Vec F S1x48x1024 .f32) : Vec F S1x48x1024 .f32 := outSin (grid0.coords t) (posAt m c t) (iblk m c 2 t) x

/-- The cosines and sines a point works with. -/
def cosAt (c : Dev nD) (t : Fin cfg0.N) : Vec F S1x48x1024 .f32 := chain (stepC m c) (fun _ => Scalar.ofBits .f32 0x00000000#32) (t.val + 1)
def sinAt (c : Dev nD) (t : Fin cfg0.N) : Vec F S1x48x1024 .f32 := chain (stepS m c) (fun _ => Scalar.ofBits .f32 0x00000000#32) (t.val + 1)

def stepK (c : Dev nD) (t : Fin cfg0.N) (x : Vec F S16x128 .f32) : Vec F S16x128 .f32 :=
  statK (grid0.coords t) (lenAt m c t) (iblk m c 3 t) (cosAt m c t) (sinAt m c t) x
def stepV (c : Dev nD) (t : Fin cfg0.N) (x : Vec F S16x128 .f32) : Vec F S16x128 .f32 :=
  statV (grid0.coords t) (lenAt m c t) (iblk m c 4 t) x

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outK (iblk m c 3 t) (cosAt m c t) (sinAt m c t)
    | ⟨6, _⟩ => cosAt m c t
    | ⟨7, _⟩ => sinAt m c t
    | ⟨8, _⟩ => outRK (grid0.coords t) (lenAt m c t) (iblk m c 3 t) (cosAt m c t) (sinAt m c t)
    | ⟨9, _⟩ => outRV (grid0.coords t) (lenAt m c t) (iblk m c 4 t)
    | ⟨10, _⟩ => chain (stepK m c) k0_pay3 (t.val + 1)
    | ⟨11, _⟩ => chain (stepV m c) k0_pay4 (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outK (iblk m c 3 t) (cosAt m c t) (sinAt m c t) := by dsimp only [dats]
theorem after0_6 (c : Dev nD) (t : Fin cfg0.N) : (dats m 0 c).after 6 t = cosAt m c t := by dsimp only [dats]
theorem after0_7 (c : Dev nD) (t : Fin cfg0.N) : (dats m 0 c).after 7 t = sinAt m c t := by dsimp only [dats]
theorem after0_8 (c : Dev nD) (t : Fin cfg0.N) : (dats m 0 c).after 8 t = outRK (grid0.coords t) (lenAt m c t) (iblk m c 3 t) (cosAt m c t) (sinAt m c t) := by dsimp only [dats]
theorem after0_9 (c : Dev nD) (t : Fin cfg0.N) : (dats m 0 c).after 9 t = outRV (grid0.coords t) (lenAt m c t) (iblk m c 4 t) := by dsimp only [dats]
theorem after0_10 (c : Dev nD) (t : Fin cfg0.N) : (dats m 0 c).after 10 t = chain (stepK m c) k0_pay3 (t.val + 1) := by dsimp only [dats]
theorem after0_11 (c : Dev nD) (t : Fin cfg0.N) : (dats m 0 c).after 11 t = chain (stepV m c) k0_pay4 (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem first_zero (t : Fin cfg0.N) (h : t.val = 0) : first (grid0.coords t) := by
  obtain rfl : t = ⟨0, by decide⟩ := Fin.ext h
  decide +kernel

theorem cond_iff : ∀ t : Fin cfg0.N, k0_cond2 (grid0.coords t) = 1#1 ↔ t.val % 4 = 0 := by
  decide +kernel

theorem cond_first (t : Fin cfg0.N) (h : t.val % 4 = 0) : k0_cond2 (grid0.coords t) = 1#1 := (cond_iff t).2 h

theorem idle6 (t : Fin cfg0.N) : cfg0.idle 6 (cfg0.grid.coords t) = !decide (t.val % 4 = 0) := by
  show (!(k0_cond2 (grid0.coords t) == 1#1)) = _
  by_cases h : t.val % 4 = 0
  · rw [cond_first t h, decide_eq_true h]; rfl
  · rw [decide_eq_false h, beq_eq_false_iff_ne.2 (fun e => h ((cond_iff t).1 e))]

theorem idle7 (t : Fin cfg0.N) : cfg0.idle 7 (cfg0.grid.coords t) = !decide (t.val % 4 = 0) := idle6 t

/-- The buffer of window 6 holds nothing stored where a tile's first head begins. -/
theorem fresh6 (n : ℕ) (hn : n ≤ cfg0.N) : cfg0.fresh 6 n = decide (n % 4 = 0) := by
  refine cfg0.fresh_tab 6 (fun n => decide (n % 4 = 0)) rfl (fun t => ?_) n hn
  have hf := flush0_6 t
  have hi := idle6 t
  by_cases h : t.val % 4 = 3
  · rw [hf.2 h, Bool.true_or]
    exact decide_eq_true (by omega)
  · rw [(Bool.not_eq_true _).mp (fun e => h (hf.1 e)), Bool.false_or, hi]
    rw [decide_eq_false (show ¬ (t.val + 1) % 4 = 0 by omega)]
    by_cases h0 : t.val % 4 = 0
    · rw [decide_eq_true h0]; rfl
    · rw [decide_eq_false h0]; rfl

theorem stepC_id (c : Dev nD) (t : Fin cfg0.N) (h : ¬ t.val % 4 = 0) (x : Vec F S1x48x1024 .f32) : stepC m c t x = x := by
  unfold stepC outCos
  rw [if_neg (fun e => h ((cond_iff t).1 e))]

theorem cosAt_prev (c : Dev nD) (t : Fin cfg0.N) (h : ¬ t.val % 4 = 0) (ht : t.val - 1 < cfg0.N) : cosAt m c t = cosAt m c ⟨t.val - 1, ht⟩ := by
  unfold cosAt
  rw [chain_step, stepC_id m c t h]
  simp only [show t.val - 1 + 1 = t.val by omega]

theorem statb6 (c : Dev nD) (t : Fin cfg0.N) (d) : stepC m c t ((dats m 0 c).before 6 t d) = cosAt m c t := by
  by_cases h : t.val % 4 = 0
  · unfold cosAt
    rw [chain_step]
    have e := cond_first t h
    unfold stepC outCos
    simp only [if_pos e]
  · have hl := t.isLt
    have hcarry : ∀ (t : Fin cfg0.N) (_ : t.val ≠ 0), cfg0.idle 6 (cfg0.grid.coords t) = true → cfg0.fresh 6 t.val = false →
        (dats m 0 c).after 6 t = (dats m 0 c).after 6 ⟨t.val - 1, by omega⟩ := by
      intro t _ _ hfr
      rw [fresh6 t.val (Nat.le_of_lt t.isLt)] at hfr
      rw [after0_6, after0_6]
      exact cosAt_prev m c t (of_decide_eq_false hfr) _
    rw [(dats m 0 c).before_out_traj 6 rfl (fun _ _ => rfl) hcarry t.val t rfl d, fresh6 t.val (Nat.le_of_lt hl), decide_eq_false h,
      if_neg Bool.false_ne_true, after0_6, stepC_id m c t h]
    exact (cosAt_prev m c t h _).symm

/-- The buffer of window 7 holds nothing stored where a tile's first head begins. -/
theorem fresh7 (n : ℕ) (hn : n ≤ cfg0.N) : cfg0.fresh 7 n = decide (n % 4 = 0) := by
  refine cfg0.fresh_tab 7 (fun n => decide (n % 4 = 0)) rfl (fun t => ?_) n hn
  have hf := flush0_7 t
  have hi := idle7 t
  by_cases h : t.val % 4 = 3
  · rw [hf.2 h, Bool.true_or]
    exact decide_eq_true (by omega)
  · rw [(Bool.not_eq_true _).mp (fun e => h (hf.1 e)), Bool.false_or, hi]
    rw [decide_eq_false (show ¬ (t.val + 1) % 4 = 0 by omega)]
    by_cases h0 : t.val % 4 = 0
    · rw [decide_eq_true h0]; rfl
    · rw [decide_eq_false h0]; rfl

theorem stepS_id (c : Dev nD) (t : Fin cfg0.N) (h : ¬ t.val % 4 = 0) (x : Vec F S1x48x1024 .f32) : stepS m c t x = x := by
  unfold stepS outSin
  rw [if_neg (fun e => h ((cond_iff t).1 e))]

theorem sinAt_prev (c : Dev nD) (t : Fin cfg0.N) (h : ¬ t.val % 4 = 0) (ht : t.val - 1 < cfg0.N) : sinAt m c t = sinAt m c ⟨t.val - 1, ht⟩ := by
  unfold sinAt
  rw [chain_step, stepS_id m c t h]
  simp only [show t.val - 1 + 1 = t.val by omega]

theorem statb7 (c : Dev nD) (t : Fin cfg0.N) (d) : stepS m c t ((dats m 0 c).before 7 t d) = sinAt m c t := by
  by_cases h : t.val % 4 = 0
  · unfold sinAt
    rw [chain_step]
    have e := cond_first t h
    unfold stepS outSin
    simp only [if_pos e]
  · have hl := t.isLt
    have hcarry : ∀ (t : Fin cfg0.N) (_ : t.val ≠ 0), cfg0.idle 7 (cfg0.grid.coords t) = true → cfg0.fresh 7 t.val = false →
        (dats m 0 c).after 7 t = (dats m 0 c).after 7 ⟨t.val - 1, by omega⟩ := by
      intro t _ _ hfr
      rw [fresh7 t.val (Nat.le_of_lt t.isLt)] at hfr
      rw [after0_7, after0_7]
      exact sinAt_prev m c t (of_decide_eq_false hfr) _
    rw [(dats m 0 c).before_out_traj 7 rfl (fun _ _ => rfl) hcarry t.val t rfl d, fresh7 t.val (Nat.le_of_lt hl), decide_eq_false h,
      if_neg Bool.false_ne_true, after0_7, stepS_id m c t h]
    exact (sinAt_prev m c t h _).symm

theorem statb10 (c : Dev nD) (t : Fin cfg0.N) (d) : stepK m c t ((dats m 0 c).before 10 t d) = chain (stepK m c) k0_pay3 (t.val + 1) := by
  rw [chain_step]
  by_cases h : t.val = 0
  · have e := first_zero t h
    unfold stepK statK entry
    simp only [if_pos e]
  · have hl := t.isLt
    have hN : cfg0.N = 224 := N_0
    rw [(dats m 0 c).before_out_kept 10 rfl t h (by
      rw [← Bool.not_eq_true, flush0_10]; simp only; omega) (fun _ => rfl) (fun _ _ => rfl) d, after0_10]
    simp only [show t.val - 1 + 1 = t.val by omega]
theorem statb11 (c : Dev nD) (t : Fin cfg0.N) (d) : stepV m c t ((dats m 0 c).before 11 t d) = chain (stepV m c) k0_pay4 (t.val + 1) := by
  rw [chain_step]
  by_cases h : t.val = 0
  · have e := first_zero t h
    unfold stepV statV entry
    simp only [if_pos e]
  · have hl := t.isLt
    have hN : cfg0.N = 224 := N_0
    rw [(dats m 0 c).before_out_kept 11 rfl t h (by
      rw [← Bool.not_eq_true, flush0_11]; simp only; omega) (fun _ => rfl) (fun _ _ => rfl) d, after0_11]
    simp only [show t.val - 1 + 1 = t.val by omega]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What a point hands back of window 6's buffer: at a point that stores nothing into it and does not write it back, the buffer as it
    was found; else the point's block. -/
def leaves6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem leave6 (c : Dev nD) (t : Fin cfg0.N) (d) :
    (owns (c : Thread nD τ) (st0_6 t) fullShare (stepC m c t ((dats m 0 c).before 6 t d)) : sProp 𝕄) ⊢ leaves6 m c t := by
  unfold leaves6
  cases hi : cfg0.idle 6 (cfg0.grid.coords t) with
  | false => rw [statb6 m c t d, after0_6]
  | true =>
    cases hf : (cfg0.win 6).flush t with
    | true => rw [statb6 m c t d, after0_6]
    | false =>
      have h : ¬ t.val % 4 = 0 := fun h => by rw [idle6 t, decide_eq_true h] at hi; exact Bool.false_ne_true hi
      rw [stepC_id m c t h]
      iintro H
      iexists d
      iexact H

/-- What a point hands back of window 7's buffer: at a point that stores nothing into it and does not write it back, the buffer as it
    was found; else the point's block. -/
def leaves7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem leave7 (c : Dev nD) (t : Fin cfg0.N) (d) :
    (owns (c : Thread nD τ) (st0_7 t) fullShare (stepS m c t ((dats m 0 c).before 7 t d)) : sProp 𝕄) ⊢ leaves7 m c t := by
  unfold leaves7
  cases hi : cfg0.idle 7 (cfg0.grid.coords t) with
  | false => rw [statb7 m c t d, after0_7]
  | true =>
    cases hf : (cfg0.win 7).flush t with
    | true => rw [statb7 m c t d, after0_7]
    | false =>
      have h : ¬ t.val % 4 = 0 := fun h => by rw [idle7 t, decide_eq_true h] at hi; exact Bool.false_ne_true hi
      rw [stepS_id m c t h]
      iintro H
      iexists d
      iexact H

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leaves6 m c t
    ∗ leaves7 m c t
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← statb10 m c t d10, ← statb11 m c t d11]
  unfold stepK stepV
  rw [← statb6 m c t d6, ← statb7 m c t d7]
  unfold stepC stepS
  iapply (bodyOwns c (grid0.coords t) _ _ _ _ _ _ _ _ _ _ _ _ _ _ _ _ _ _ _ _ _ _ _ _ (iblk m c 0 t) (iblk m c 1 t) (iblk m c 2 t) (iblk m c 3 t) (iblk m c 4 t) ((dats m 0 c).before 6 t d6) ((dats m 0 c).before 7 t d7) ((dats m 0 c).before 10 t d10) ((dats m 0 c).before 11 t d11) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t d6); iexact H6
  isplitl [H7]; · iapply (leave7 m c t d7); iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one
set_option backward.isDefEq.respectTransparency.types false in
/-- From any memory with zero counters every execution terminates, with every array of the pipeline at what the points leave in it,
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Prep.Hand

end
-- ==== Proof.PrepIdealFun.lean ====
/-
  Hand-written. What a grid point of the preparation call writes, as a function of the blocks it reads.
-/
module

public import proofs.«01_k».proof.Proof.Gen.PrepIdeal.Skeleton
public import Idealize.ShloMosaic.Lib.VecWindow

@[expose] public section

set_option maxRecDepth 16384

noncomputable section

namespace Cert.PrepIdeal.Hand

open Cert.PrepIdeal Cert.PrepIdeal.Gen
open Idealize.ShloMosaic Idealize.ShloMosaic.TcCoe

variable {F : FTy → Type} [FloatOps F]

/-- Whether a grid point is the first. -/
def first (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32))
    (Scalar.cmpi .eq (BitVec.ofNat 32 (i 2).val) 0#32)) : BitVec 32) 0#32 = 1#1

instance (i : grid0.Coords) : Decidable (first i) := by unfold first; infer_instance

/-- A table of maxima as the point's work finds it: `z` at the first point, what it held otherwise. -/
def entry (i : grid0.Coords) (z x : Vec F S16x128 .f32) : Vec F S16x128 .f32 := if first i then z else x

theorem row_inb (h : ℕ) (hh : h < 16) : ∀ a, (![h, 0] : Fin 2 → ℕ) a + S1x128.size a ≤ S16x128.size a := by
  intro a; fin_cases a <;> simp [S1x128, S16x128]; omega

/-- Row `h` of a table of maxima. -/
def rowOf (x : Vec F S16x128 .f32) (h : ℕ) : Vec F S1x128 .f32 :=
  if hh : h < 16 then VecWindow.window x ![h, 0] S1x128.size (row_inb h hh) else VecWindow.window x ![0, 0] S1x128.size (row_inb 0 (by omega))

/-- A table of maxima with row `h` replaced. -/
def rowPut (x : Vec F S16x128 .f32) (h : ℕ) (w : Vec F S1x128 .f32) : Vec F S16x128 .f32 := VecWindow.put x ![h, 0] S1x128.size w

/-- The batch's entry of a pair of words. -/
def wordOf (i : grid0.Coords) (x : Vec F S2 .i32) : BitVec 32 :=
  View.ld x (Rect.unit (s := S2) (k0_off2 i) S1.size (k0_off2_inb i)) (Shape.Idx.first (s := S1) (by decide))

/-- The first column of the frequencies. -/
def freqOf (x : Vec F S48x128 .f32) : Vec F S48x1 .f32 := VecWindow.window x ![0, 0] S48x1.size inb_S48x128_S48x1_0_0

/-- The cosines a grid point works with: computed at a tile's first point, kept from there at its others. -/
def outCos (i : grid0.Coords) (pos : BitVec 32) (fr : Vec F S48x128 .f32) (old : Vec F S1x48x1024 .f32) : Vec F S1x48x1024 .f32 :=
  if k0_cond2 i = 1#1 then k0_pay6 i pos (freqOf fr) else old

/-- The sines a grid point works with. -/
def outSin (i : grid0.Coords) (pos : BitVec 32) (fr : Vec F S48x128 .f32) (old : Vec F S1x48x1024 .f32) : Vec F S1x48x1024 .f32 :=
  if k0_cond2 i = 1#1 then k0_pay7 i pos (freqOf fr) else old

/-- The block of rotated keys, with their further columns, position first. -/
def outK (kt : Vec F S1x1x96x1024 .bf16) (cs sn : Vec F S1x48x1024 .f32) : Vec F S1x1x1024x128 .bf16 := k0_pay2 (k0_pay9 kt cs sn)

/-- The block of key maxima. -/
def outRK (i : grid0.Coords) (len : BitVec 32) (kt : Vec F S1x1x96x1024 .bf16) (cs sn : Vec F S1x48x1024 .f32) : Vec F S1x1x1x1024 .f32 :=
  k0_pay13 (k0_pay8 (F := F) i len) (k0_pay10 kt cs sn)

/-- The block of value maxima. -/
def outRV (i : grid0.Coords) (len : BitVec 32) (vt : Vec F S1x1x96x1024 .bf16) : Vec F S1x1x1x1024 .f32 := k0_pay14 (k0_pay8 (F := F) i len) vt

/-- The table of key maxima after a grid point, from the table before. -/
def statK (i : grid0.Coords) (len : BitVec 32) (kt : Vec F S1x1x96x1024 .bf16) (cs sn : Vec F S1x48x1024 .f32) (x : Vec F S16x128 .f32) : Vec F S16x128 .f32 :=
  rowPut (entry i k0_pay3 x) (i 2).val (k0_pay15 (k0_pay8 (F := F) i len) (k0_pay10 kt cs sn) (rowOf (entry i k0_pay3 x) (i 2).val))

/-- The table of value maxima after a grid point, from the table before. -/
def statV (i : grid0.Coords) (len : BitVec 32) (vt : Vec F S1x1x96x1024 .bf16) (x : Vec F S16x128 .f32) : Vec F S16x128 .f32 :=
  rowPut (entry i k0_pay4 x) (i 2).val (k0_pay1 (k0_pay12 (k0_pay8 (F := F) i len) vt) (rowOf (entry i k0_pay4 x) (i 2).val))

end Cert.PrepIdeal.Hand

end
-- ==== Proof.PrepSpec.lean ====
/-
  Hand-written. The mathematics of the preparation call, over the extended reals: the angles of the positions, the rotated keys with
  their further columns, the magnitudes of the rotated keys and of the values, and the tables of their maxima.
-/
module

public import Idealize.ShloMosaic.Lib.Pointwise
public import Idealize.ShloMosaic.PureOps.Ideal.Laws

@[expose] public section

noncomputable section

namespace Cert.PrepSpec

open Idealize.ShloMosaic

/-- The arguments by sequence, head, entry and position: first positions, lengths, frequencies, keys, values. -/
structure Args where
  pos : Fin 2 → BitVec 32
  len : Fin 2 → BitVec 32
  fr : Fin 48 → EReal
  X : Fin 2 → Fin 4 → Fin 96 → Fin 28672 → EReal
  Y : Fin 2 → Fin 4 → Fin 96 → Fin 28672 → EReal

/-- The arguments the arrays hold; of the frequencies' columns the first counts. -/
def argsOf (x0 x1 : (⟨1, ![2]⟩ : Shape).Idx → BitVec 32) (x2 : (⟨2, ![48, 128]⟩ : Shape).Idx → EReal)
    (x3 x4 : (⟨4, ![2, 4, 96, 28672]⟩ : Shape).Idx → EReal) : Args where
  pos b := x0 (ix1 b)
  len b := x1 (ix1 b)
  fr e := x2 (ix2 e 0)
  X b g d p := x3 (ix4 b g d p)
  Y b g d p := x4 (ix4 b g d p)

/-- A key rotated by its position's angles: `x` the key, `c` and `s` the cosines and sines. -/
def rot (x : Fin 96 → EReal) (c s : Fin 48 → EReal) (d : Fin 96) : EReal :=
  if h : d.val < 48 then x ⟨d.val, by omega⟩ * c ⟨d.val, h⟩ - x ⟨48 + d.val, by omega⟩ * s ⟨d.val, h⟩
  else x ⟨d.val, by omega⟩ * c ⟨d.val - 48, by omega⟩ + x ⟨d.val - 48, by omega⟩ * s ⟨d.val - 48, by omega⟩

/-- The largest magnitude among 96 entries. -/
def mag (x : Fin 96 → EReal) : EReal := Finset.univ.sup fun d => max (x d) (-(x d))

theorem mag_nonneg (x : Fin 96 → EReal) : 0 ≤ mag x := by
  refine le_trans ?_ (Finset.le_sup (f := fun d => max (x d) (-(x d))) (Finset.mem_univ 0))
  rcases le_total 0 (x 0) with h | h
  · exact le_trans h (le_max_left _ _)
  · exact le_trans (EReal.neg_nonneg.2 h) (le_max_right _ _)

/-- The result at position `p` of a sequence of length `len`: `x` where the position is in the sequence, zero past it. -/
def masked (p : ℕ) (len : BitVec 32) (x : EReal) : EReal := if (BitVec.ofNat 32 p).slt len then x else 0

theorem masked_nonneg (p : ℕ) (len : BitVec 32) (x : EReal) (h : 0 ≤ x) : 0 ≤ masked p len x := by
  unfold masked
  split
  · exact h
  · exact le_refl _

theorem select_masked (p : ℕ) (len : BitVec 32) (x : EReal) : Scalar.select (BitVec.ofBool ((BitVec.ofNat 32 p).slt len)) x 0 = masked p len x := by
  unfold masked Scalar.select
  cases (BitVec.ofNat 32 p).slt len <;> rfl

namespace Args

variable (A : Args)

/-- The angle of a position under a frequency. -/
def angle (b : Fin 2) (e : Fin 48) (p : Fin 28672) : EReal := (((A.pos b + BitVec.ofNat 32 p.val).toInt : ℝ) : EReal) * A.fr e

def cosine (b : Fin 2) (e : Fin 48) (p : Fin 28672) : EReal := Ideal.cos (A.angle b e p)
def sine (b : Fin 2) (e : Fin 48) (p : Fin 28672) : EReal := Ideal.sin (A.angle b e p)

/-- The rotated key of a position. -/
def key (b : Fin 2) (g : Fin 4) (p : Fin 28672) : Fin 96 → EReal :=
  rot (fun d => A.X b g d p) (fun e => A.cosine b e p) (fun e => A.sine b e p)

/-- The rotated keys with 32 further columns: three ones, then zeros. -/
def aug (b : Fin 2) (g : Fin 4) (p : Fin 28672) (j : Fin 128) : EReal :=
  if h : j.val < 96 then A.key b g p ⟨j.val, h⟩ else if j.val < 99 then 1 else 0

/-- The magnitudes of the rotated keys and of the values. -/
def resK (b : Fin 2) (g : Fin 4) (p : Fin 28672) : EReal := masked p.val (A.len b) (mag (A.key b g p))
def resV (b : Fin 2) (g : Fin 4) (p : Fin 28672) : EReal := masked p.val (A.len b) (mag fun d => A.Y b g d p)

theorem resK_nonneg (b : Fin 2) (g : Fin 4) (p : Fin 28672) : 0 ≤ A.resK b g p := masked_nonneg _ _ _ (mag_nonneg _)
theorem resV_nonneg (b : Fin 2) (g : Fin 4) (p : Fin 28672) : 0 ≤ A.resV b g p := masked_nonneg _ _ _ (mag_nonneg _)

end Args

/-- Position `a` of lane `l`. -/
def lanePos (a : Fin 224) (l : Fin 128) : Fin 28672 := ⟨128 * a.val + l.val, by omega⟩

/-- The table of the maxima of `R`: a row for each of four heads, a lane for each residue of the position modulo 128, twelve further
    rows of zeros. -/
def tableAt (R : Fin 2 → Fin 4 → Fin 28672 → EReal) (r : Fin 16) (l : Fin 128) : EReal :=
  if h : r.val < 4 then Finset.univ.sup fun b : Fin 2 => Finset.univ.sup fun a : Fin 224 => R b ⟨r.val, h⟩ (lanePos a l) else 0

end Cert.PrepSpec

end
-- ==== Proof.PrepPoint.lean ====
/-
  Hand-written. What a grid point of the preparation call computes, entry by entry, over the extended reals.
-/
module

public import proofs.«01_k».proof.Proof.PrepIdealFun
public import proofs.«01_k».proof.Proof.PrepSpec

@[expose] public section

set_option maxRecDepth 16384

noncomputable section

namespace Cert.PrepIdeal.Hand

open Cert.PrepIdeal Cert.PrepIdeal.Gen
open Idealize.ShloMosaic Idealize.ShloMosaic.TcCoe
open Cert.PrepSpec

theorem pos_word (n : ℕ) (l : Fin 1024) : Scalar.muli (BitVec.ofNat 32 n) 1024#32 + BitVec.ofNat 32 l.val = BitVec.ofNat 32 (1024 * n + l.val) := by
  unfold Scalar.muli
  apply BitVec.eq_of_toNat_eq
  simp [IntOp.muli, BitVec.toNat_add, BitVec.toNat_mul, BitVec.toNat_ofNat]
  omega

theorem ofBits_bot16 : Ideal.ofBits .bf16 0xFF80#16 = ⊥ := by simp [Ideal.ofBits, Ideal.ieee]

theorem ofBits_one : Ideal.ofBits .f32 0x3F800000#32 = 1 := by
  simp [Ideal.ofBits, Ideal.ieee]
  rw [← EReal.coe_mul, ← EReal.coe_one, EReal.coe_eq_coe_iff]
  norm_num

theorem freqOf_at (x : Vec Ideal S48x128 .f32) (e : Fin 48) : freqOf x (ix2 e 0) = x (ix2 e 0) := by
  unfold freqOf VecWindow.window
  refine congrArg x ?_
  funext a
  apply Fin.ext
  fin_cases a <;> simp [Rect.unit, Rect.emb, ix2]

section Point

variable (i : grid0.Coords) (w len : BitVec 32) (fr : Vec Ideal S48x1 .f32) (x : Vec Ideal S1x1x96x1024 .bf16) (cs sn : Vec Ideal S1x48x1024 .f32)

theorem pay5_at (e : Fin 48) (l : Fin 1024) :
    k0_pay5 (F := Ideal) i w fr (ix2 e l) = (((w + BitVec.ofNat 32 (1024 * (i 1).val + l.val)).toInt : ℝ) : EReal) * fr (ix2 e 0) := by
  rw [← pos_word]
  pointwise [k0_pay5]
  rfl

theorem pay6_at (e : Fin 48) (l : Fin 1024) : k0_pay6 (F := Ideal) i w fr (ix3 0 e l) = Ideal.cos (k0_pay5 (F := Ideal) i w fr (ix2 e l)) := by
  unfold k0_pay6
  generalize k0_pay5 i w fr = y
  pointwise

theorem pay7_at (e : Fin 48) (l : Fin 1024) : k0_pay7 (F := Ideal) i w fr (ix3 0 e l) = Ideal.sin (k0_pay5 (F := Ideal) i w fr (ix2 e l)) := by
  unfold k0_pay7
  generalize k0_pay5 i w fr = y
  pointwise

theorem pay8_at (l : Fin 1024) : k0_pay8 (F := Ideal) i len (ix2 0 l) = BitVec.ofBool ((BitVec.ofNat 32 (1024 * (i 1).val + l.val)).slt len) := by
  rw [← pos_word]
  pointwise [k0_pay8]
  rfl

theorem pay9_at (d : Fin 96) (l : Fin 1024) :
    k0_pay9 (F := Ideal) x cs sn (ix2 d l) = rot (fun d => x (ix4 0 0 d l)) (fun e => cs (ix3 0 e l)) (fun e => sn (ix3 0 e l)) d := by
  pointwise [k0_pay9]
  unfold rot
  by_cases h : d.val < 48
  · rw [dif_pos h, dif_pos h]
  · rw [dif_neg h, dif_neg h]
    have e : (⟨48 + (d.val - 48), by omega⟩ : Fin 96) = ⟨d.val, by omega⟩ := Fin.ext (by show 48 + (d.val - 48) = d.val; omega)
    rw [e]

/-- Of the 32 further columns the first three are ones. -/
theorem tail_bit : ∀ n : Fin 32, IntOp.cmpi .slt (BitVec.ofNat 32 n.val) 3#32 = BitVec.ofBool (decide (n.val < 3)) := by decide

theorem outK_at (l : Fin 1024) (j : Fin 128) :
    outK (F := Ideal) x cs sn (ix4 0 0 l j)
      = if h : j.val < 96 then rot (fun d => x (ix4 0 0 d l)) (fun e => cs (ix3 0 e l)) (fun e => sn (ix3 0 e l)) ⟨j.val, h⟩ else if j.val < 99 then (1 : EReal) else 0 := by
  have hr := fun d => pay9_at x cs sn d l
  revert hr
  unfold outK k0_pay2
  generalize k0_pay9 x cs sn = y
  intro hr
  pointwise
  by_cases h : j.val < 96
  · rw [dif_pos h, dif_pos h, hr]
  · rw [dif_neg h, dif_neg h]
    refine (congrArg (fun z => Scalar.select z (1 : EReal) 0) (tail_bit ⟨j.val - 96, by omega⟩)).trans ?_
    by_cases h' : j.val < 99
    · rw [if_pos h']
      have : decide (j.val - 96 < 3) = true := decide_eq_true (by omega)
      show Scalar.select (BitVec.ofBool (decide (j.val - 96 < 3))) (1 : EReal) 0 = 1
      rw [this]
      rfl
    · rw [if_neg h']
      have : decide (j.val - 96 < 3) = false := decide_eq_false (by omega)
      show Scalar.select (BitVec.ofBool (decide (j.val - 96 < 3))) (1 : EReal) 0 = 0
      rw [this]
      rfl

theorem pay11_at (z : IVec S1x1024 1) (l : Fin 1024) :
    k0_pay11 (F := Ideal) z (k0_pay10 x cs sn) (ix2 0 l)
      = Scalar.select (z (ix2 0 l)) (mag (rot (fun d => x (ix4 0 0 d l)) (fun e => cs (ix3 0 e l)) (fun e => sn (ix3 0 e l)))) (0 : EReal) := by
  have hr := fun d => pay9_at x cs sn d l
  revert hr
  unfold k0_pay11 k0_pay10
  generalize k0_pay9 x cs sn = y
  intro hr
  pointwise
  rw [ofBits_bot16]
  simp only [hr]
  rfl

theorem pay12_at (z : IVec S1x1024 1) (l : Fin 1024) :
    k0_pay12 (F := Ideal) z x (ix2 0 l) = Scalar.select (z (ix2 0 l)) (mag fun d => x (ix4 0 0 d l)) (0 : EReal) := by
  unfold k0_pay12
  pointwise
  rw [ofBits_bot16]
  rfl

theorem outRK_at (l : Fin 1024) :
    outRK (F := Ideal) i len x cs sn (ix4 0 0 0 l)
      = masked (1024 * (i 1).val + l.val) len (mag (rot (fun d => x (ix4 0 0 d l)) (fun e => cs (ix3 0 e l)) (fun e => sn (ix3 0 e l)))) := by
  have h : outRK (F := Ideal) i len x cs sn (ix4 0 0 0 l) = k0_pay11 (F := Ideal) (k0_pay8 (F := Ideal) i len) (k0_pay10 x cs sn) (ix2 0 l) := by
    unfold outRK k0_pay13
    generalize k0_pay11 (k0_pay8 (F := Ideal) i len) (k0_pay10 x cs sn) = y
    pointwise
  rw [h, pay11_at, pay8_at, select_masked]

theorem outRV_at (l : Fin 1024) : outRV (F := Ideal) i len x (ix4 0 0 0 l) = masked (1024 * (i 1).val + l.val) len (mag fun d => x (ix4 0 0 d l)) := by
  have h : outRV (F := Ideal) i len x (ix4 0 0 0 l) = k0_pay12 (F := Ideal) (k0_pay8 (F := Ideal) i len) x (ix2 0 l) := by
    unfold outRV k0_pay14
    generalize k0_pay12 (k0_pay8 (F := Ideal) i len) x = y
    pointwise
  rw [h, pay12_at, pay8_at, select_masked]

end Point

/-! ## The tables -/

/-- Lane `l` of chunk `a` of a tile's 1024 positions. -/
def chunk (a : Fin 8) (l : Fin 128) : Fin 1024 := ⟨128 * a.val + l.val, by omega⟩

/-- The largest of a block's entries in a lane. -/
def laneMax (f : Fin 1024 → EReal) (l : Fin 128) : EReal := Finset.univ.sup fun a : Fin 8 => f (chunk a l)

theorem laneMax_eq (f : Fin 1024 → EReal) (l : Fin 128) :
    laneMax f l = max (max (max (max (max (max (max (f ⟨l.val, by omega⟩) (f ⟨128 + l.val, by omega⟩)) (f ⟨256 + l.val, by omega⟩)) (f ⟨384 + l.val, by omega⟩))
      (f ⟨512 + l.val, by omega⟩)) (f ⟨640 + l.val, by omega⟩)) (f ⟨768 + l.val, by omega⟩)) (f ⟨896 + l.val, by omega⟩) := by
  have e0 : (⟨l.val, by omega⟩ : Fin 1024) = chunk 0 l := Fin.ext (by show l.val = 128 * 0 + l.val; omega)
  rw [e0]
  show laneMax f l = max (max (max (max (max (max (max (f (chunk 0 l)) (f (chunk 1 l))) (f (chunk 2 l))) (f (chunk 3 l))) (f (chunk 4 l))) (f (chunk 5 l))) (f (chunk 6 l))) (f (chunk 7 l))
  apply le_antisymm
  · refine Finset.sup_le fun a _ => ?_
    fin_cases a <;> simp
  · simp only [max_le_iff]
    have h := fun a : Fin 8 => Finset.le_sup (f := fun a : Fin 8 => f (chunk a l)) (Finset.mem_univ a)
    exact ⟨⟨⟨⟨⟨⟨⟨h 0, h 1⟩, h 2⟩, h 3⟩, h 4⟩, h 5⟩, h 6⟩, h 7⟩

theorem rowOf_at (x : Vec Ideal S16x128 .f32) (h : ℕ) (hh : h < 16) (l : Fin 128) : rowOf x h (ix2 0 l) = x (ix2 ⟨h, hh⟩ l) := by
  unfold rowOf
  rw [dif_pos hh]
  unfold VecWindow.window
  refine congrArg x ?_
  funext a
  apply Fin.ext
  fin_cases a <;> simp [Rect.unit, Rect.emb, ix2]

theorem rowPut_at (x : Vec Ideal S16x128 .f32) (h : ℕ) (w : Vec Ideal S1x128 .f32) (r : Fin 16) (l : Fin 128) :
    rowPut x h w (ix2 r l) = if r.val = h then w (ix2 0 l) else x (ix2 r l) := by
  unfold rowPut VecWindow.put
  by_cases e : r.val = h
  · subst e
    rw [if_pos rfl, dif_pos]
    · refine congrArg w ?_
      funext a
      apply Fin.ext
      fin_cases a <;> simp [Rect.unitLocal, ix2]
    · intro a
      fin_cases a <;> simp [ix2, S1x128]
  · rw [if_neg e, dif_neg]
    intro hc
    apply e
    have := hc 0
    simp [ix2, S1x128] at this
    omega

theorem zero3 (y : S16x128.Idx) : k0_pay3 (F := Ideal) y = (0 : EReal) := by idx_vars y; pointwise [k0_pay3]
theorem zero4 (y : S16x128.Idx) : k0_pay4 (F := Ideal) y = (0 : EReal) := by idx_vars y; pointwise [k0_pay4]

theorem pay15_at (z : IVec S1x1024 1) (k : FVec Ideal S96x1024 .bf16) (row : Vec Ideal S1x128 .f32) (l : Fin 128) :
    k0_pay15 (F := Ideal) z k row (ix2 0 l) = max (row (ix2 0 l) : EReal) (laneMax (fun p => k0_pay13 (F := Ideal) z k (ix4 0 0 0 p)) l) := by
  rw [laneMax_eq]
  unfold k0_pay15 k0_pay13
  generalize k0_pay11 z k = y
  pointwise

theorem pay1_at (z : IVec S1x1024 1) (x : Vec Ideal S1x1x96x1024 .bf16) (row : Vec Ideal S1x128 .f32) (l : Fin 128) :
    k0_pay1 (F := Ideal) (k0_pay12 z x) row (ix2 0 l) = max (row (ix2 0 l) : EReal) (laneMax (fun p => k0_pay14 (F := Ideal) z x (ix4 0 0 0 p)) l) := by
  rw [laneMax_eq]
  unfold k0_pay1 k0_pay14
  generalize k0_pay12 z x = y
  pointwise

section Tables

variable (i : grid0.Coords) (len : BitVec 32) (kt vt : Vec Ideal S1x1x96x1024 .bf16) (cs sn : Vec Ideal S1x48x1024 .f32) (x : Vec Ideal S16x128 .f32)

theorem entry_eq (z : Vec Ideal S16x128 .f32) (hz : first i → x = z) : entry i z x = x := by
  unfold entry
  split
  · next h => exact (hz h).symm
  · rfl

theorem head_lt : (i 2).val < 16 := lt_trans (i 2).isLt (by decide)

theorem statK_at (hz : first i → x = k0_pay3 (F := Ideal)) (r : Fin 16) (l : Fin 128) :
    statK i len kt cs sn x (ix2 r l)
      = if r.val = (i 2).val then max (x (ix2 r l) : EReal) (laneMax (fun p => outRK i len kt cs sn (ix4 0 0 0 p)) l) else x (ix2 r l) := by
  unfold statK outRK
  rw [entry_eq i x _ hz, rowPut_at, pay15_at, rowOf_at x _ (head_lt i)]
  by_cases e : r.val = (i 2).val
  · rw [if_pos e, if_pos e]
    have : (⟨(i 2).val, head_lt i⟩ : Fin 16) = r := Fin.ext e.symm
    rw [this]
  · rw [if_neg e, if_neg e]

theorem statV_at (hz : first i → x = k0_pay4 (F := Ideal)) (r : Fin 16) (l : Fin 128) :
    statV i len vt x (ix2 r l)
      = if r.val = (i 2).val then max (x (ix2 r l) : EReal) (laneMax (fun p => outRV i len vt (ix4 0 0 0 p)) l) else x (ix2 r l) := by
  unfold statV outRV
  rw [entry_eq i x _ hz, rowPut_at, pay1_at, rowOf_at x _ (head_lt i)]
  by_cases e : r.val = (i 2).val
  · rw [if_pos e, if_pos e]
    have : (⟨(i 2).val, head_lt i⟩ : Fin 16) = r := Fin.ext e.symm
    rw [this]
  · rw [if_neg e, if_neg e]

end Tables

end Cert.PrepIdeal.Hand

end
-- ==== Proof.PrepIdealBody.lean ====
/-
  Hand-written. The preparation call's body run once at a symbolic grid point.
-/
module

public import proofs.«01_k».proof.Proof.PrepIdealFun
public import Idealize.ShloMosaic.Lib.Exec
public import Idealize.ShloMosaic.Lib.LoopRemainder
public import Idealize.ShloMosaic.Lib.Tactic
public import Idealize.ShloMosaic.Lib.Pipeline.Kit

@[expose] public section

set_option maxRecDepth 65536
set_option maxHeartbeats 4000000

noncomputable section

namespace Cert.PrepIdeal.Hand

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c` held at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref's buffer on core `c` held at contents that read `X`. -/
abbrev held (c : Dev nD) {sp : Space} {S : Shape} {e : EltTy} (M : Memref sig .tc sp S e) (X : S.Idx → Elt F e) : sProp 𝕄 :=
  iprop(∃ f : BufTy.Contents (Elt F) M.view.ty, pt c M f ∗ ⌜M.view.read (Elt F) f = X⌝)

/-! ## Loads -/

theorem ld_S1x1x96x1024 (v : View sig .tc .vmem S1x1x96x1024 .bf16) (f : v.ty.Contents (Elt F)) :
    v.readAt (Elt F) (Rect.unit (s := S1x1x96x1024) ![0, 0, 0, 0] S1x1x96x1024.size inb_S1x1x96x1024_S1x1x96x1024_0_0_0_0).toLoadRect f = v.read (Elt F) f := View.readAt_full v f _
theorem ld_S1x48x1024 (v : View sig .tc .vmem S1x48x1024 .f32) (f : v.ty.Contents (Elt F)) :
    v.readAt (Elt F) (Rect.unit (s := S1x48x1024) ![0, 0, 0] S1x48x1024.size inb_S1x48x1024_S1x48x1024_0_0_0).toLoadRect f = v.read (Elt F) f := View.readAt_full v f _

/-- A load of the frequencies' first column. -/
theorem ld_freq (v : View sig .tc .vmem S48x128 .f32) (f : v.ty.Contents (Elt F)) :
    v.readAt (Elt F) (Rect.unit (s := S48x128) ![0, 0] S48x1.size inb_S48x128_S48x1_0_0).toLoadRect f = freqOf (v.read (Elt F) f) := by
  rw [View.readAt_unit _ _ _ rfl inb_S48x128_S48x1_0_0, freqOf]

/-- A load of one row of a table of maxima. -/
theorem ld_row (v : View sig .tc .vmem S16x128 .f32) (f : v.ty.Contents (Elt F)) (i : grid0.Coords) (x : Vec F S16x128 .f32) (e : v.read (Elt F) f = x) :
    v.readAt (Elt F) (Rect.unit (s := S16x128) (k0_off3 i) S1x128.size (k0_off3_inb i)).toLoadRect f = rowOf x (i 2).val := by
  have hh : (i 2).val < 16 := Nat.lt_trans (i 2).isLt (show grid0.bound 2 < 16 by decide)
  rw [View.readAt_unit _ _ _ (k0_off3_eq i) (row_inb _ hh), rowOf, dif_pos hh, e]

/-- A store of one row of a table of maxima. -/
theorem st_row (v : View sig .tc .vmem S16x128 .f32) (f : v.ty.Contents (Elt F)) (i : grid0.Coords) (x : Vec F S16x128 .f32) (e : v.read (Elt F) f = x)
    (w w' : Vec F S1x128 .f32) (ew : w = w') :
    v.read (Elt F) (v.writes (Elt F) f [⟨Rect.unit (s := S16x128) (k0_off3 i) S1x128.size (k0_off3_inb i), w⟩]) = rowPut x (i 2).val w' := by
  rw [View.read_writes_cons_put v _ _ _ _ (k0_off3_eq i), View.writes_nil, e, ew, rowPut]

section Args

variable (c : Dev nD) (i : grid0.Coords)
  (arg3 : Memref sig .tc .smem S2 .i32) (harg3 : arg3.IsWhole)
  (arg4 : Memref sig .tc .smem S2 .i32) (harg4 : arg4.IsWhole)
  (arg5 : Memref sig .tc .vmem S48x128 .f32) (harg5 : arg5.IsWhole)
  (arg6 : Memref sig .tc .vmem S1x1x96x1024 .bf16) (harg6 : arg6.IsWhole)
  (arg7 : Memref sig .tc .vmem S1x1x96x1024 .bf16) (harg7 : arg7.IsWhole)
  (arg8 : Memref sig .tc .vmem S1x1x1024x128 .bf16) (harg8 : arg8.IsWhole)
  (arg9 : Memref sig .tc .vmem S1x48x1024 .f32) (harg9 : arg9.IsWhole)
  (arg10 : Memref sig .tc .vmem S1x48x1024 .f32) (harg10 : arg10.IsWhole)
  (arg11 : Memref sig .tc .vmem S1x1x1x1024 .f32) (harg11 : arg11.IsWhole)
  (arg12 : Memref sig .tc .vmem S1x1x1x1024 .f32) (harg12 : arg12.IsWhole)
  (arg13 : Memref sig .tc .vmem S16x128 .f32) (harg13 : arg13.IsWhole)
  (arg14 : Memref sig .tc .vmem S16x128 .f32) (harg14 : arg14.IsWhole)

/-- The batch's entry of a pair of words as the body reads it. -/
abbrev wordAt (arg : Memref sig .tc .smem S2 .i32) (X : BufTy.Contents (Elt F) arg.view.ty) : BitVec 32 :=
  arg.view.readAt (Elt F) (Rect.unit (s := S2) (k0_off2 i) S1.size (k0_off2_inb i)).toLoadRect X (Shape.Idx.first (s := S1) (by decide))

/-- The body at a tile's first point, which computes the tile's cosines and sines. -/
theorem bodyFresh (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (h2 : k0_cond2 i = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (k0_pay6 i (wordAt i arg3 X3) (freqOf (arg5.view.read (Elt F) X5))) (k0_pay7 i (wordAt i arg3 X3) (freqOf (arg5.view.read (Elt F) X5)))) ∗ held c arg9 (k0_pay6 i (wordAt i arg3 X3) (freqOf (arg5.view.read (Elt F) X5))) ∗ held c arg10 (k0_pay7 i (wordAt i arg3 X3) (freqOf (arg5.view.read (Elt F) X5)))
            ∗ held c arg11 (outRK i (wordAt i arg4 X4) (arg6.view.read (Elt F) X6) (k0_pay6 i (wordAt i arg3 X3) (freqOf (arg5.view.read (Elt F) X5))) (k0_pay7 i (wordAt i arg3 X3) (freqOf (arg5.view.read (Elt F) X5)))) ∗ held c arg12 (outRV i (wordAt i arg4 X4) (arg7.view.read (Elt F) X7))
            ∗ held c arg13 (statK i (wordAt i arg4 X4) (arg6.view.read (Elt F) X6) (k0_pay6 i (wordAt i arg3 X3) (freqOf (arg5.view.read (Elt F) X5))) (k0_pay7 i (wordAt i arg3 X3) (freqOf (arg5.view.read (Elt F) X5))) (arg13.view.read (Elt F) X13)) ∗ held c arg14 (statV i (wordAt i arg4 X4) (arg7.view.read (Elt F) X7) (arg14.view.read (Elt F) X14)))) := by
  have e13 : arg13.view.read (Elt F) (if hc : first i then
      arg13.view.writes (Elt F) X13 [⟨Rect.unit (s := S16x128) ![0, 0] S16x128.size inb_S16x128_S16x128_0_0, k0_pay3 (F := F)⟩] else X13) = entry i k0_pay3 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay4 (F := F)⟩] else X14) = entry i k0_pay4 (arg14.view.read (Elt F) X14) := by
    by_cases hc : first i
    · rw [dif_pos hc, View.read_writes_full, entry, if_pos hc]
    · rw [dif_neg hc, entry, if_neg hc]
  iintro ⟨H3, H4, H5, H6, H7, H8, H9, H10, H11, H12, H13, H14⟩
  sl_exec
  sl_step
  isplitl [H3]; · iexact H3
  isplitl [H4]; · iexact H4
  isplitl [H5]; · iexact H5
  isplitl [H6]; · iexact H6
  isplitl [H7]; · iexact H7
  isplitl [H8]
  · iexists _; isplitl; · iexact H8
    ipureintro
    sl_unfold_words
    rw [View.read_writes_full, View.readCov_full, View.readCov_full, ld_S1x1x96x1024, ld_freq]; rfl
  isplitl [H9]
  · iexists _; isplitl; · iexact H9
    ipureintro
    sl_unfold_words
    rw [View.read_writes_full, ld_freq]; rfl
  isplitl [H10]
  · iexists _; isplitl; · iexact H10
    ipureintro
    sl_unfold_words
    rw [View.read_writes_full, ld_freq]; rfl
  isplitl [H11]
  · iexists _; isplitl; · iexact H11
    ipureintro
    sl_unfold_words
    rw [View.read_writes_full, View.readCov_full, View.readCov_full, ld_S1x1x96x1024, ld_freq]; rfl
  isplitl [H12]
  · iexists _; isplitl; · iexact H12
    ipureintro
    sl_unfold_words
    rw [View.read_writes_full, ld_S1x1x96x1024]; rfl
  isplitl [H13]
  · iexists _; isplitl; · iexact H13
    ipureintro
    sl_unfold_words
    refine st_row arg13.view _ i _ e13 _ _ ?_
    rw [View.readCov_full, View.readCov_full, ld_S1x1x96x1024, ld_freq]
    exact congrArg (fun x => k0_pay15 _ _ x) (ld_row arg13.view _ i _ e13)
  · iexists _; isplitl; · iexact H14
    ipureintro
    sl_unfold_words
    refine st_row arg14.view _ i _ e14 _ _ ?_
    rw [ld_S1x1x96x1024]
    exact congrArg (fun x => k0_pay1 _ x) (ld_row arg14.view _ i _ e14)

/-- The body at a tile's other points, which finds the tile's cosines and sines in the buffers. -/
theorem bodyKept (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty)
    (h2 : ¬ k0_cond2 i = 1#1) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (arg9.view.read (Elt F) X9) (arg10.view.read (Elt F) X10)) ∗ held c arg9 (arg9.view.read (Elt F) X9) ∗ held c arg10 (arg10.view.read (Elt F) X10)
            ∗ held c arg11 (outRK i (wordAt i arg4 X4) (arg6.view.read (Elt F) X6) (arg9.view.read (Elt F) X9) (arg10.view.read (Elt F) X10)) ∗ held c arg12 (outRV i (wordAt i arg4 X4) (arg7.view.read (Elt F) X7))
            ∗ held c arg13 (statK i (wordAt i arg4 X4) (arg6.view.read (Elt F) X6) (arg9.view.read (Elt F) X9) (arg10.view.read (Elt F) X10) (arg13.view.read (Elt F) X13)) ∗ held c arg14 (statV i (wordAt i arg4 X4) (arg7.view.read (Elt F) X7) (arg14.view.read (Elt F) X14)))) := by
  have e13 : arg13.view.read (Elt F) (if hc : first i then
      arg13.view.writes (Elt F) X13 [⟨Rect.unit (s := S16x128) ![0, 0] S16x128.size inb_S16x128_S16x128_0_0, k0_pay3 (F := F)⟩] else X13) = entry i k0_pay3 (arg13.view.read (Elt F) X13) := by
    by_cases hc : first i
    · rw [dif_pos hc, View.read_writes_full, entry, if_pos hc]
    · rw [dif_neg hc, entry, if_neg hc]
  have e14 : arg14.view.read (Elt F) (if hc : first i then
      arg14.view.writes (Elt F) X14 [⟨Rect.unit (s := S16x128) ![0, 0] S16x128.size inb_S16x128_S16x128_0_0, k0_pay4 (F := F)⟩] else X14) = entry i k0_pay4 (arg14.view.read (Elt F) X14) := by
    by_cases hc : first i
    · rw [dif_pos hc, View.read_writes_full, entry, if_pos hc]
    · rw [dif_neg hc, entry, if_neg hc]
  iintro ⟨H3, H4, H5, H6, H7, H8, H9, H10, H11, H12, H13, H14⟩
  sl_exec
  sl_step
  isplitl [H3]; · iexact H3
  isplitl [H4]; · iexact H4
  isplitl [H5]; · iexact H5
  isplitl [H6]; · iexact H6
  isplitl [H7]; · iexact H7
  isplitl [H8]
  · iexists _; isplitl; · iexact H8
    ipureintro
    sl_unfold_words
    rw [View.read_writes_full, ld_S1x1x96x1024, ld_S1x48x1024, ld_S1x48x1024]; rfl
  isplitl [H9]
  · iexists _; isplitl; · iexact H9
    ipureintro; rfl
  isplitl [H10]
  · iexists _; isplitl; · iexact H10
    ipureintro; rfl
  isplitl [H11]
  · iexists _; isplitl; · iexact H11
    ipureintro
    sl_unfold_words
    rw [View.read_writes_full, ld_S1x1x96x1024, ld_S1x48x1024, ld_S1x48x1024]; rfl
  isplitl [H12]
  · iexists _; isplitl; · iexact H12
    ipureintro
    sl_unfold_words
    rw [View.read_writes_full, ld_S1x1x96x1024]; rfl
  isplitl [H13]
  · iexists _; isplitl; · iexact H13
    ipureintro
    sl_unfold_words
    refine st_row arg13.view _ i _ e13 _ _ ?_
    rw [ld_S1x1x96x1024, ld_S1x48x1024, ld_S1x48x1024]
    exact congrArg (fun x => k0_pay15 _ _ x) (ld_row arg13.view _ i _ e13)
  · iexists _; isplitl; · iexact H14
    ipureintro
    sl_unfold_words
    refine st_row arg14.view _ i _ e14 _ _ ?_
    rw [ld_S1x1x96x1024]
    exact congrArg (fun x => k0_pay1 _ x) (ld_row arg14.view _ i _ e14)

/-- The body at any point. -/
theorem bodyPoint (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X8 : BufTy.Contents (Elt F) arg8.view.ty)
    (X9 : BufTy.Contents (Elt F) arg9.view.ty)
    (X10 : BufTy.Contents (Elt F) arg10.view.ty)
    (X11 : BufTy.Contents (Elt F) arg11.view.ty)
    (X12 : BufTy.Contents (Elt F) arg12.view.ty)
    (X13 : BufTy.Contents (Elt F) arg13.view.ty)
    (X14 : BufTy.Contents (Elt F) arg14.view.ty) :
    iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14)
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14)
          (fun _ => iprop(pt c arg3 X3 ∗ pt c arg4 X4 ∗ pt c arg5 X5 ∗ pt c arg6 X6 ∗ pt c arg7 X7
            ∗ held c arg8 (outK (arg6.view.read (Elt F) X6) (outCos i (wordAt i arg3 X3) (arg5.view.read (Elt F) X5) (arg9.view.read (Elt F) X9)) (outSin i (wordAt i arg3 X3) (arg5.view.read (Elt F) X5) (arg10.view.read (Elt F) X10))) ∗ held c arg9 (outCos i (wordAt i arg3 X3) (arg5.view.read (Elt F) X5) (arg9.view.read (Elt F) X9)) ∗ held c arg10 (outSin i (wordAt i arg3 X3) (arg5.view.read (Elt F) X5) (arg10.view.read (Elt F) X10))
            ∗ held c arg11 (outRK i (wordAt i arg4 X4) (arg6.view.read (Elt F) X6) (outCos i (wordAt i arg3 X3) (arg5.view.read (Elt F) X5) (arg9.view.read (Elt F) X9)) (outSin i (wordAt i arg3 X3) (arg5.view.read (Elt F) X5) (arg10.view.read (Elt F) X10))) ∗ held c arg12 (outRV i (wordAt i arg4 X4) (arg7.view.read (Elt F) X7))
            ∗ held c arg13 (statK i (wordAt i arg4 X4) (arg6.view.read (Elt F) X6) (outCos i (wordAt i arg3 X3) (arg5.view.read (Elt F) X5) (arg9.view.read (Elt F) X9)) (outSin i (wordAt i arg3 X3) (arg5.view.read (Elt F) X5) (arg10.view.read (Elt F) X10)) (arg13.view.read (Elt F) X13)) ∗ held c arg14 (statV i (wordAt i arg4 X4) (arg7.view.read (Elt F) X7) (arg14.view.read (Elt F) X14)))) := by
  by_cases h : k0_cond2 i = 1#1
  · unfold outCos outSin
    rw [if_pos h, if_pos h]
    exact bodyFresh c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 X13 X14 h
  · unfold outCos outSin
    rw [if_neg h, if_neg h]
    exact bodyKept c i arg3 harg3 arg4 harg4 arg5 harg5 arg6 harg6 arg7 harg7 arg8 harg8 arg9 harg9 arg10 harg10 arg11 harg11 arg12 harg12 arg13 harg13 arg14 harg14 X3 X4 X5 X6 X7 X8 X9 X10 X11 X12 X13 X14 h

end Args

end Cert.PrepIdeal.Hand

end
-- ==== Proof.PrepIdealFrame.lean ====
/-
  Hand-written. The preparation call's pipeline: what each point leaves in the staging buffers, the body obligation, the run and the
  frame.
-/
module

public import proofs.«01_k».proof.Proof.PrepIdealBody
public import proofs.«01_k».proof.Proof.Gen.PrepIdeal.Frame
public import Idealize.ShloMosaic.Lib.Claim
public import Idealize.ShloMosaic.Lib.Pipeline.TableIdle

@[expose] public section

set_option maxRecDepth 16384
set_option maxHeartbeats 4000000

noncomputable section

namespace Cert.PrepIdeal.Hand

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at a grid point, on memrefs whose contents are named by what they read. -/
theorem bodyOwns (c : Dev nD) (i : grid0.Coords)
  (arg3 : Memref sig .tc .smem S2 .i32) (harg3 : arg3.IsWhole)
  (arg4 : Memref sig .tc .smem S2 .i32) (harg4 : arg4.IsWhole)
  (arg5 : Memref sig .tc .vmem S48x128 .f32) (harg5 : arg5.IsWhole)
  (arg6 : Memref sig .tc .vmem S1x1x96x1024 .bf16) (harg6 : arg6.IsWhole)
  (arg7 : Memref sig .tc .vmem S1x1x96x1024 .bf16) (harg7 : arg7.IsWhole)
  (arg8 : Memref sig .tc .vmem S1x1x1024x128 .bf16) (harg8 : arg8.IsWhole)
  (arg9 : Memref sig .tc .vmem S1x48x1024 .f32) (harg9 : arg9.IsWhole)
  (arg10 : Memref sig .tc .vmem S1x48x1024 .f32) (harg10 : arg10.IsWhole)
  (arg11 : Memref sig .tc .vmem S1x1x1x1024 .f32) (harg11 : arg11.IsWhole)
  (arg12 : Memref sig .tc .vmem S1x1x1x1024 .f32) (harg12 : arg12.IsWhole)
  (arg13 : Memref sig .tc .vmem S16x128 .f32) (harg13 : arg13.IsWhole)
  (arg14 : Memref sig .tc .vmem S16x128 .f32) (harg14 : arg14.IsWhole)
    (x3 : Vec F S2 .i32) (x4 : Vec F S2 .i32) (x5 : Vec F S48x128 .f32) (x6 : Vec F S1x1x96x1024 .bf16) (x7 : Vec F S1x1x96x1024 .bf16) (x9 : Vec F S1x48x1024 .f32) (x10 : Vec F S1x48x1024 .f32) (x13 : Vec F S16x128 .f32) (x14 : Vec F S16x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outK x6 (outCos i (wordOf (F := F) i x3) x5 x9) (outSin i (wordOf (F := F) i x3) x5 x10)) ∗ owns (c : Thread nD τ) arg9 fullShare (outCos i (wordOf (F := F) i x3) x5 x9) ∗ owns (c : Thread nD τ) arg10 fullShare (outSin i (wordOf (F := F) i x3) x5 x10) ∗ owns (c : Thread nD τ) arg11 fullShare (outRK i (wordOf (F := F) i x4) x6 (outCos i (wordOf (F := F) i x3) x5 x9) (outSin i (wordOf (F := F) i x3) x5 x10)) ∗ owns (c : Thread nD τ) arg12 fullShare (outRV i (wordOf (F := F) i x4) x7) ∗ owns (c : Thread nD τ) arg13 fullShare (statK i (wordOf (F := F) i x4) x6 (outCos i (wordOf (F := F) i x3) x5 x9) (outSin i (wordOf (F := F) i x3) x5 x10) x13) ∗ owns (c : Thread nD τ) arg14 fullShare (statV i (wordOf (F := F) i x4) x7 x14)) -∗ K ⟨⟩))
      ⊢ wp frame (wpE (defs₀ (F := F)) Variants.none (c : Thread nD τ) none) Set.univ (cc0_prep (F := F) i arg3 harg3 arg4 harg4 arg5 harg5 arg6 harg6 arg7 harg7 arg8 harg8 arg9 harg9 arg10 harg10 arg11 harg11 arg12 harg12 arg13 harg13 arg14 harg14) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  subst hf3 hf4 hf5 hf6 hf7 hf9 hf10 hf13 hf14
  iapply (wp_wand_r frame (wpE (defs₀ (F := F)) Variants.none (c : Thread nD τ) none) Set.univ)
  isplitl [H3 H4 H5 H6 H7 H8 H9 H10 H11 H12 H13 H14]
  · iapply (bodyPoint c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %a ⟨H3, H4, H5, H6, H7, ⟨%g8, H8, %hg8⟩, ⟨%g9, H9, %hg9⟩, ⟨%g10, H10, %hg10⟩, ⟨%g11, H11, %hg11⟩, ⟨%g12, H12, %hg12⟩, ⟨%g13, H13, %hg13⟩, ⟨%g14, H14, %hg14⟩⟩
    iapply Hk
    isplitl [H3]; · iexists f3; isplitr; (ipureintro; rfl); iexact H3
    isplitl [H4]; · iexists f4; isplitr; (ipureintro; rfl); iexact H4
    isplitl [H5]; · iexists f5; isplitr; (ipureintro; rfl); iexact H5
    isplitl [H6]; · iexists f6; isplitr; (ipureintro; rfl); iexact H6
    isplitl [H7]; · iexists f7; isplitr; (ipureintro; rfl); iexact H7
    isplitl [H8]; · iexists g8; isplitr; (ipureintro; exact hg8); iexact H8
    isplitl [H9]; · iexists g9; isplitr; (ipureintro; exact hg9); iexact H9
    isplitl [H10]; · iexists g10; isplitr; (ipureintro; exact hg10); iexact H10
    isplitl [H11]; · iexists g11; isplitr; (ipureintro; exact hg11); iexact H11
    isplitl [H12]; · iexists g12; isplitr; (ipureintro; exact hg12); iexact H12
    isplitl [H13]; · iexists g13; isplitr; (ipureintro; exact hg13); iexact H13
    iexists g14; isplitr; (ipureintro; exact hg14); iexact H14

variable (m : (ℓ : Loc nD τ sig) → Buf (Elt F) ℓ) (ρ : Dev nD → PrngReg)

/-! ## What the points leave -/

/-- The batch's first position and its length at a point. -/
abbrev posAt (c : Dev nD) (t : Fin cfg0.N) : BitVec 32 := wordOf (F := F) (grid0.coords t) (iblk m c 0 t)
abbrev lenAt (c : Dev nD) (t : Fin cfg0.N) : BitVec 32 := wordOf (F := F) (grid0.coords t) (iblk m c 1 t)

/-- A buffer after the points before point `n`, by what one point does to it. -/
def chain {α : Type} (f : Fin cfg0.N → α → α) (z : α) : ℕ → α
  | 0 => z
  | n + 1 => if h : n < cfg0.N then f ⟨n, h⟩ (chain f z n) else chain f z n

theorem chain_step {α : Type} (f : Fin cfg0.N → α → α) (z : α) (t : Fin cfg0.N) : chain f z (t.val + 1) = f t (chain f z t.val) := by
  rw [chain, dif_pos t.isLt]

def stepC (c : Dev nD) (t : Fin cfg0.N) (x : Vec F S1x48x1024 .f32) : Vec F S1x48x1024 .f32 := outCos (grid0.coords t) (posAt m c t) (iblk m c 2 t) x
def stepS (c : Dev nD) (t : Fin cfg0.N) (x : Vec F S1x48x1024 .f32) : Vec F S1x48x1024 .f32 := outSin (grid0.coords t) (posAt m c t) (iblk m c 2 t) x

/-- The cosines and sines a point works with. -/
def cosAt (c : Dev nD) (t : Fin cfg0.N) : Vec F S1x48x1024 .f32 := chain (stepC m c) (fun _ => Scalar.ofBits .f32 0x00000000#32) (t.val + 1)
def sinAt (c : Dev nD) (t : Fin cfg0.N) : Vec F S1x48x1024 .f32 := chain (stepS m c) (fun _ => Scalar.ofBits .f32 0x00000000#32) (t.val + 1)

def stepK (c : Dev nD) (t : Fin cfg0.N) (x : Vec F S16x128 .f32) : Vec F S16x128 .f32 :=
  statK (grid0.coords t) (lenAt m c t) (iblk m c 3 t) (cosAt m c t) (sinAt m c t) x
def stepV (c : Dev nD) (t : Fin cfg0.N) (x : Vec F S16x128 .f32) : Vec F S16x128 .f32 :=
  statV (grid0.coords t) (lenAt m c t) (iblk m c 4 t) x

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outK (iblk m c 3 t) (cosAt m c t) (sinAt m c t)
    | ⟨6, _⟩ => cosAt m c t
    | ⟨7, _⟩ => sinAt m c t
    | ⟨8, _⟩ => outRK (grid0.coords t) (lenAt m c t) (iblk m c 3 t) (cosAt m c t) (sinAt m c t)
    | ⟨9, _⟩ => outRV (grid0.coords t) (lenAt m c t) (iblk m c 4 t)
    | ⟨10, _⟩ => chain (stepK m c) k0_pay3 (t.val + 1)
    | ⟨11, _⟩ => chain (stepV m c) k0_pay4 (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outK (iblk m c 3 t) (cosAt m c t) (sinAt m c t) := by dsimp only [dats]
theorem after0_6 (c : Dev nD) (t : Fin cfg0.N) : (dats m 0 c).after 6 t = cosAt m c t := by dsimp only [dats]
theorem after0_7 (c : Dev nD) (t : Fin cfg0.N) : (dats m 0 c).after 7 t = sinAt m c t := by dsimp only [dats]
theorem after0_8 (c : Dev nD) (t : Fin cfg0.N) : (dats m 0 c).after 8 t = outRK (grid0.coords t) (lenAt m c t) (iblk m c 3 t) (cosAt m c t) (sinAt m c t) := by dsimp only [dats]
theorem after0_9 (c : Dev nD) (t : Fin cfg0.N) : (dats m 0 c).after 9 t = outRV (grid0.coords t) (lenAt m c t) (iblk m c 4 t) := by dsimp only [dats]
theorem after0_10 (c : Dev nD) (t : Fin cfg0.N) : (dats m 0 c).after 10 t = chain (stepK m c) k0_pay3 (t.val + 1) := by dsimp only [dats]
theorem after0_11 (c : Dev nD) (t : Fin cfg0.N) : (dats m 0 c).after 11 t = chain (stepV m c) k0_pay4 (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem first_zero (t : Fin cfg0.N) (h : t.val = 0) : first (grid0.coords t) := by
  obtain rfl : t = ⟨0, by decide⟩ := Fin.ext h
  decide +kernel

theorem cond_iff : ∀ t : Fin cfg0.N, k0_cond2 (grid0.coords t) = 1#1 ↔ t.val % 4 = 0 := by
  decide +kernel

theorem cond_first (t : Fin cfg0.N) (h : t.val % 4 = 0) : k0_cond2 (grid0.coords t) = 1#1 := (cond_iff t).2 h

theorem idle6 (t : Fin cfg0.N) : cfg0.idle 6 (cfg0.grid.coords t) = !decide (t.val % 4 = 0) := by
  show (!(k0_cond2 (grid0.coords t) == 1#1)) = _
  by_cases h : t.val % 4 = 0
  · rw [cond_first t h, decide_eq_true h]; rfl
  · rw [decide_eq_false h, beq_eq_false_iff_ne.2 (fun e => h ((cond_iff t).1 e))]

theorem idle7 (t : Fin cfg0.N) : cfg0.idle 7 (cfg0.grid.coords t) = !decide (t.val % 4 = 0) := idle6 t

/-- The buffer of window 6 holds nothing stored where a tile's first head begins. -/
theorem fresh6 (n : ℕ) (hn : n ≤ cfg0.N) : cfg0.fresh 6 n = decide (n % 4 = 0) := by
  refine cfg0.fresh_tab 6 (fun n => decide (n % 4 = 0)) rfl (fun t => ?_) n hn
  have hf := flush0_6 t
  have hi := idle6 t
  by_cases h : t.val % 4 = 3
  · rw [hf.2 h, Bool.true_or]
    exact decide_eq_true (by omega)
  · rw [(Bool.not_eq_true _).mp (fun e => h (hf.1 e)), Bool.false_or, hi]
    rw [decide_eq_false (show ¬ (t.val + 1) % 4 = 0 by omega)]
    by_cases h0 : t.val % 4 = 0
    · rw [decide_eq_true h0]; rfl
    · rw [decide_eq_false h0]; rfl

theorem stepC_id (c : Dev nD) (t : Fin cfg0.N) (h : ¬ t.val % 4 = 0) (x : Vec F S1x48x1024 .f32) : stepC m c t x = x := by
  unfold stepC outCos
  rw [if_neg (fun e => h ((cond_iff t).1 e))]

theorem cosAt_prev (c : Dev nD) (t : Fin cfg0.N) (h : ¬ t.val % 4 = 0) (ht : t.val - 1 < cfg0.N) : cosAt m c t = cosAt m c ⟨t.val - 1, ht⟩ := by
  unfold cosAt
  rw [chain_step, stepC_id m c t h]
  simp only [show t.val - 1 + 1 = t.val by omega]

theorem statb6 (c : Dev nD) (t : Fin cfg0.N) (d) : stepC m c t ((dats m 0 c).before 6 t d) = cosAt m c t := by
  by_cases h : t.val % 4 = 0
  · unfold cosAt
    rw [chain_step]
    have e := cond_first t h
    unfold stepC outCos
    simp only [if_pos e]
  · have hl := t.isLt
    have hcarry : ∀ (t : Fin cfg0.N) (_ : t.val ≠ 0), cfg0.idle 6 (cfg0.grid.coords t) = true → cfg0.fresh 6 t.val = false →
        (dats m 0 c).after 6 t = (dats m 0 c).after 6 ⟨t.val - 1, by omega⟩ := by
      intro t _ _ hfr
      rw [fresh6 t.val (Nat.le_of_lt t.isLt)] at hfr
      rw [after0_6, after0_6]
      exact cosAt_prev m c t (of_decide_eq_false hfr) _
    rw [(dats m 0 c).before_out_traj 6 rfl (fun _ _ => rfl) hcarry t.val t rfl d, fresh6 t.val (Nat.le_of_lt hl), decide_eq_false h,
      if_neg Bool.false_ne_true, after0_6, stepC_id m c t h]
    exact (cosAt_prev m c t h _).symm

/-- The buffer of window 7 holds nothing stored where a tile's first head begins. -/
theorem fresh7 (n : ℕ) (hn : n ≤ cfg0.N) : cfg0.fresh 7 n = decide (n % 4 = 0) := by
  refine cfg0.fresh_tab 7 (fun n => decide (n % 4 = 0)) rfl (fun t => ?_) n hn
  have hf := flush0_7 t
  have hi := idle7 t
  by_cases h : t.val % 4 = 3
  · rw [hf.2 h, Bool.true_or]
    exact decide_eq_true (by omega)
  · rw [(Bool.not_eq_true _).mp (fun e => h (hf.1 e)), Bool.false_or, hi]
    rw [decide_eq_false (show ¬ (t.val + 1) % 4 = 0 by omega)]
    by_cases h0 : t.val % 4 = 0
    · rw [decide_eq_true h0]; rfl
    · rw [decide_eq_false h0]; rfl

theorem stepS_id (c : Dev nD) (t : Fin cfg0.N) (h : ¬ t.val % 4 = 0) (x : Vec F S1x48x1024 .f32) : stepS m c t x = x := by
  unfold stepS outSin
  rw [if_neg (fun e => h ((cond_iff t).1 e))]

theorem sinAt_prev (c : Dev nD) (t : Fin cfg0.N) (h : ¬ t.val % 4 = 0) (ht : t.val - 1 < cfg0.N) : sinAt m c t = sinAt m c ⟨t.val - 1, ht⟩ := by
  unfold sinAt
  rw [chain_step, stepS_id m c t h]
  simp only [show t.val - 1 + 1 = t.val by omega]

theorem statb7 (c : Dev nD) (t : Fin cfg0.N) (d) : stepS m c t ((dats m 0 c).before 7 t d) = sinAt m c t := by
  by_cases h : t.val % 4 = 0
  · unfold sinAt
    rw [chain_step]
    have e := cond_first t h
    unfold stepS outSin
    simp only [if_pos e]
  · have hl := t.isLt
    have hcarry : ∀ (t : Fin cfg0.N) (_ : t.val ≠ 0), cfg0.idle 7 (cfg0.grid.coords t) = true → cfg0.fresh 7 t.val = false →
        (dats m 0 c).after 7 t = (dats m 0 c).after 7 ⟨t.val - 1, by omega⟩ := by
      intro t _ _ hfr
      rw [fresh7 t.val (Nat.le_of_lt t.isLt)] at hfr
      rw [after0_7, after0_7]
      exact sinAt_prev m c t (of_decide_eq_false hfr) _
    rw [(dats m 0 c).before_out_traj 7 rfl (fun _ _ => rfl) hcarry t.val t rfl d, fresh7 t.val (Nat.le_of_lt hl), decide_eq_false h,
      if_neg Bool.false_ne_true, after0_7, stepS_id m c t h]
    exact (sinAt_prev m c t h _).symm

theorem statb10 (c : Dev nD) (t : Fin cfg0.N) (d) : stepK m c t ((dats m 0 c).before 10 t d) = chain (stepK m c) k0_pay3 (t.val + 1) := by
  rw [chain_step]
  by_cases h : t.val = 0
  · have e := first_zero t h
    unfold stepK statK entry
    simp only [if_pos e]
  · have hl := t.isLt
    have hN : cfg0.N = 224 := N_0
    rw [(dats m 0 c).before_out_kept 10 rfl t h (by
      rw [← Bool.not_eq_true, flush0_10]; simp only; omega) (fun _ => rfl) (fun _ _ => rfl) d, after0_10]
    simp only [show t.val - 1 + 1 = t.val by omega]
theorem statb11 (c : Dev nD) (t : Fin cfg0.N) (d) : stepV m c t ((dats m 0 c).before 11 t d) = chain (stepV m c) k0_pay4 (t.val + 1) := by
  rw [chain_step]
  by_cases h : t.val = 0
  · have e := first_zero t h
    unfold stepV statV entry
    simp only [if_pos e]
  · have hl := t.isLt
    have hN : cfg0.N = 224 := N_0
    rw [(dats m 0 c).before_out_kept 11 rfl t h (by
      rw [← Bool.not_eq_true, flush0_11]; simp only; omega) (fun _ => rfl) (fun _ _ => rfl) d, after0_11]
    simp only [show t.val - 1 + 1 = t.val by omega]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What a point hands back of window 6's buffer: at a point that stores nothing into it and does not write it back, the buffer as it
    was found; else the point's block. -/
def leaves6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem leave6 (c : Dev nD) (t : Fin cfg0.N) (d) :
    (owns (c : Thread nD τ) (st0_6 t) fullShare (stepC m c t ((dats m 0 c).before 6 t d)) : sProp 𝕄) ⊢ leaves6 m c t := by
  unfold leaves6
  cases hi : cfg0.idle 6 (cfg0.grid.coords t) with
  | false => rw [statb6 m c t d, after0_6]
  | true =>
    cases hf : (cfg0.win 6).flush t with
    | true => rw [statb6 m c t d, after0_6]
    | false =>
      have h : ¬ t.val % 4 = 0 := fun h => by rw [idle6 t, decide_eq_true h] at hi; exact Bool.false_ne_true hi
      rw [stepC_id m c t h]
      iintro H
      iexists d
      iexact H

/-- What a point hands back of window 7's buffer: at a point that stores nothing into it and does not write it back, the buffer as it
    was found; else the point's block. -/
def leaves7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem leave7 (c : Dev nD) (t : Fin cfg0.N) (d) :
    (owns (c : Thread nD τ) (st0_7 t) fullShare (stepS m c t ((dats m 0 c).before 7 t d)) : sProp 𝕄) ⊢ leaves7 m c t := by
  unfold leaves7
  cases hi : cfg0.idle 7 (cfg0.grid.coords t) with
  | false => rw [statb7 m c t d, after0_7]
  | true =>
    cases hf : (cfg0.win 7).flush t with
    | true => rw [statb7 m c t d, after0_7]
    | false =>
      have h : ¬ t.val % 4 = 0 := fun h => by rw [idle7 t, decide_eq_true h] at hi; exact Bool.false_ne_true hi
      rw [stepS_id m c t h]
      iintro H
      iexists d
      iexact H

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leaves6 m c t
    ∗ leaves7 m c t
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← statb10 m c t d10, ← statb11 m c t d11]
  unfold stepK stepV
  rw [← statb6 m c t d6, ← statb7 m c t d7]
  unfold stepC stepS
  iapply (bodyOwns c (grid0.coords t) _ _ _ _ _ _ _ _ _ _ _ _ _ _ _ _ _ _ _ _ _ _ _ _ (iblk m c 0 t) (iblk m c 1 t) (iblk m c 2 t) (iblk m c 3 t) (iblk m c 4 t) ((dats m 0 c).before 6 t d6) ((dats m 0 c).before 7 t d7) ((dats m 0 c).before 10 t d10) ((dats m 0 c).before 11 t d11) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t d6); iexact H6
  isplitl [H7]; · iapply (leave7 m c t d7); iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one
set_option backward.isDefEq.respectTransparency.types false in
/-- From any memory with zero counters every execution terminates, with every array of the pipeline at what the points leave in it,
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.PrepIdeal.Hand

end
-- ==== Proof.PrepArray.lean ====
/-
  Hand-written. The arrays the preparation call returns, after its run, over the extended reals: the rotated keys with their further
  columns, the cosines and sines, the magnitudes by position and the tables of their maxima.
-/
module

public import proofs.«01_k».proof.Proof.PrepPoint
public import proofs.«01_k».proof.Proof.PrepIdealFrame
public import Idealize.ShloMosaic.Lib.Pipeline.Value

@[expose] public section

set_option maxRecDepth 16384

noncomputable section

namespace Cert.PrepIdeal.Hand

open Cert.PrepIdeal Cert.PrepIdeal.Gen
open Idealize.ShloMosaic Idealize.ShloMosaic.TcCoe Idealize.SL Idealize.SL.Sem
open Idealize.ShloMosaic.Pipeline (Dat)
open Cert.PrepSpec

/-- The sequence, head and positions of a grid point. -/
def bOf (t : Fin cfg0.N) : Fin 2 := ⟨t.val / 112, by have := t.isLt; have h : cfg0.N = 224 := N_0; omega⟩
def gOf (t : Fin cfg0.N) : Fin 4 := ⟨t.val % 4, by omega⟩
def pOf (t : Fin cfg0.N) (l : Fin 1024) : Fin 28672 := ⟨1024 * (t.val / 4 % 28) + l.val, by omega⟩

theorem coord1 : ∀ t : Fin grid0.N, (grid0.coords t 1).val = t.val / 4 % 28 := by decide +kernel
theorem coord2 : ∀ t : Fin grid0.N, (grid0.coords t 2).val = t.val % 4 := by decide +kernel
theorem offset2 : ∀ t : Fin grid0.N, k0_off2 (grid0.coords t) 0 = t.val / 112 := by decide +kernel
theorem first_val : ∀ t : Fin grid0.N, first (grid0.coords t) → t.val = 0 := by decide +kernel
theorem index0 : ∀ t : Fin grid0.N, win0_0.index t 0 = 0 := by decide +kernel
theorem index1 : ∀ t : Fin grid0.N, win0_1.index t 0 = 0 := by decide +kernel
theorem index2 : ∀ t : Fin grid0.N, win0_2.index t 0 = 0 ∧ win0_2.index t 1 = 0 := by decide +kernel
theorem index3 : ∀ t : Fin grid0.N, win0_3.index t 0 = t.val / 112 ∧ win0_3.index t 1 = t.val % 4 ∧ win0_3.index t 2 = 0 ∧ win0_3.index t 3 = t.val / 4 % 28 := by decide +kernel
theorem index4 : ∀ t : Fin grid0.N, win0_4.index t 0 = t.val / 112 ∧ win0_4.index t 1 = t.val % 4 ∧ win0_4.index t 2 = 0 ∧ win0_4.index t 3 = t.val / 4 % 28 := by decide +kernel
theorem index5 : ∀ t : Fin grid0.N, win0_5.index t 0 = t.val / 112 ∧ win0_5.index t 1 = t.val % 4 ∧ win0_5.index t 2 = t.val / 4 % 28 ∧ win0_5.index t 3 = 0 := by decide +kernel
theorem index6 : ∀ t : Fin grid0.N, win0_6.index t 0 = t.val / 112 ∧ win0_6.index t 1 = 0 ∧ win0_6.index t 2 = t.val / 4 % 28 := by decide +kernel
theorem index7 : ∀ t : Fin grid0.N, win0_7.index t 0 = t.val / 112 ∧ win0_7.index t 1 = 0 ∧ win0_7.index t 2 = t.val / 4 % 28 := by decide +kernel
theorem index8 : ∀ t : Fin grid0.N, win0_8.index t 0 = t.val / 112 ∧ win0_8.index t 1 = t.val % 4 ∧ win0_8.index t 2 = 0 ∧ win0_8.index t 3 = t.val / 4 % 28 := by decide +kernel
theorem index9 : ∀ t : Fin grid0.N, win0_9.index t 0 = t.val / 112 ∧ win0_9.index t 1 = t.val % 4 ∧ win0_9.index t 2 = 0 ∧ win0_9.index t 3 = t.val / 4 % 28 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel

section Arrays

variable (m : (ℓ : Loc nD τ sig) → Buf (Elt Ideal) ℓ) (c : Dev nD) (t : Fin cfg0.N)

/-- The arguments the launch memory holds. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-! ## The blocks a point reads -/

theorem iblk0_at (b : Fin 2) : iblk m c 0 t (ix1 b) = m ((c.tc : Thread nD τ).loc main_arg0) (ix1 b) := by
  unfold iblk
  rw [View.read_apply]
  show V m c main_arg0 _ = m (c.tc.loc main_arg0) _
  unfold V
  congr 1
  funext a
  apply Fin.ext
  have hi := index0 t
  match a with
  | ⟨0, _⟩ => show win0_0.index t 0 * 2 + 1 * b.val = b.val; rw [hi]; omega

theorem iblk1_at (b : Fin 2) : iblk m c 1 t (ix1 b) = m ((c.tc : Thread nD τ).loc main_arg1) (ix1 b) := by
  unfold iblk
  rw [View.read_apply]
  show V m c main_arg1 _ = m (c.tc.loc main_arg1) _
  unfold V
  congr 1
  funext a
  apply Fin.ext
  have hi := index1 t
  match a with
  | ⟨0, _⟩ => show win0_1.index t 0 * 2 + 1 * b.val = b.val; rw [hi]; omega

theorem iblk2_at (e : Fin 48) (j : Fin 128) : iblk m c 2 t (ix2 e j) = m ((c.tc : Thread nD τ).loc main_arg2) (ix2 e j) := by
  unfold iblk
  rw [View.read_apply]
  show V m c main_arg2 _ = m (c.tc.loc main_arg2) _
  unfold V
  congr 1
  funext a
  apply Fin.ext
  have hi := index2 t
  match a with
  | ⟨0, _⟩ => show win0_2.index t 0 * 48 + 1 * e.val = e.val; rw [hi.1]; omega
  | ⟨1, _⟩ => show win0_2.index t 1 * 128 + 1 * j.val = j.val; rw [hi.2]; omega

theorem iblk3_at (d : Fin 96) (l : Fin 1024) : iblk m c 3 t (ix4 0 0 d l) = m ((c.tc : Thread nD τ).loc main_arg3) (ix4 (bOf t) (gOf t) d (pOf t l)) := by
  unfold iblk
  rw [View.read_apply]
  show V m c main_arg3 _ = m (c.tc.loc main_arg3) _
  unfold V
  congr 1
  funext a
  apply Fin.ext
  have hi := index3 t
  match a with
  | ⟨0, _⟩ => show win0_3.index t 0 * 1 + 1 * 0 = t.val / 112; rw [hi.1]; omega
  | ⟨1, _⟩ => show win0_3.index t 1 * 1 + 1 * 0 = t.val % 4; rw [hi.2.1]; omega
  | ⟨2, _⟩ => show win0_3.index t 2 * 96 + 1 * d.val = d.val; rw [hi.2.2.1]; omega
  | ⟨3, _⟩ => show win0_3.index t 3 * 1024 + 1 * l.val = 1024 * (t.val / 4 % 28) + l.val; rw [hi.2.2.2]; omega

theorem iblk4_at (d : Fin 96) (l : Fin 1024) : iblk m c 4 t (ix4 0 0 d l) = m ((c.tc : Thread nD τ).loc main_arg4) (ix4 (bOf t) (gOf t) d (pOf t l)) := by
  unfold iblk
  rw [View.read_apply]
  show V m c main_arg4 _ = m (c.tc.loc main_arg4) _
  unfold V
  congr 1
  funext a
  apply Fin.ext
  have hi := index4 t
  match a with
  | ⟨0, _⟩ => show win0_4.index t 0 * 1 + 1 * 0 = t.val / 112; rw [hi.1]; omega
  | ⟨1, _⟩ => show win0_4.index t 1 * 1 + 1 * 0 = t.val % 4; rw [hi.2.1]; omega
  | ⟨2, _⟩ => show win0_4.index t 2 * 96 + 1 * d.val = d.val; rw [hi.2.2.1]; omega
  | ⟨3, _⟩ => show win0_4.index t 3 * 1024 + 1 * l.val = 1024 * (t.val / 4 % 28) + l.val; rw [hi.2.2.2]; omega

theorem wordOf_eq (x : Vec Ideal S2 .i32) : wordOf (F := Ideal) (grid0.coords t) x = x (ix1 (bOf t)) := by
  unfold wordOf View.ld
  refine congrArg x ?_
  funext a
  apply Fin.ext
  match a with
  | ⟨0, _⟩ =>
    show k0_off2 (grid0.coords t) 0 + 1 * 0 = t.val / 112
    rw [offset2 t]; rfl

theorem posAt_eq : posAt m c t = (args m c).pos (bOf t) := by
  show wordOf (F := Ideal) (grid0.coords t) (iblk m c 0 t) = _
  rw [wordOf_eq]
  exact iblk0_at m c t (bOf t)

theorem lenAt_eq : lenAt m c t = (args m c).len (bOf t) := by
  show wordOf (F := Ideal) (grid0.coords t) (iblk m c 1 t) = _
  rw [wordOf_eq]
  exact iblk1_at m c t (bOf t)

/-! ## The cosines and sines a point works with -/

theorem angle_eq (e : Fin 48) (l : Fin 1024) :
    k0_pay5 (F := Ideal) (grid0.coords t) (posAt m c t) (freqOf (iblk m c 2 t)) (ix2 e l) = (args m c).angle (bOf t) e (pOf t l) := by
  rw [pay5_at, posAt_eq, freqOf_at, iblk2_at, coord1 t]
  rfl

theorem stepC_fresh (h : t.val % 4 = 0) (x : Vec Ideal S1x48x1024 .f32) (e : Fin 48) (l : Fin 1024) :
    stepC m c t x (ix3 0 e l) = (args m c).cosine (bOf t) e (pOf t l) := by
  unfold stepC outCos
  rw [if_pos (cond_first t h), pay6_at, angle_eq]
  rfl

theorem stepC_kept (h : ¬ t.val % 4 = 0) (x : Vec Ideal S1x48x1024 .f32) : stepC m c t x = x := by
  unfold stepC outCos
  rw [if_neg (fun hc => h ((cond_iff t).1 hc))]

theorem cosAt_eq (e : Fin 48) (l : Fin 1024) : ∀ (n : ℕ) (hn : n < cfg0.N), cosAt m c ⟨n, hn⟩ (ix3 0 e l) = (args m c).cosine (bOf ⟨n, hn⟩) e (pOf ⟨n, hn⟩ l) := by
  intro n
  induction n with
  | zero =>
    intro hn
    unfold cosAt
    rw [chain_step]
    exact stepC_fresh m c ⟨0, hn⟩ rfl _ e l
  | succ n ih =>
    intro hn
    unfold cosAt
    rw [chain_step]
    by_cases h : (n + 1) % 4 = 0
    · exact stepC_fresh m c ⟨n + 1, hn⟩ h _ e l
    · rw [stepC_kept m c ⟨n + 1, hn⟩ h]
      refine (ih (by omega)).trans ?_
      have e1 : bOf ⟨n, by omega⟩ = bOf ⟨n + 1, hn⟩ := Fin.ext (by show n / 112 = (n + 1) / 112; omega)
      have e2 : pOf ⟨n, by omega⟩ l = pOf ⟨n + 1, hn⟩ l := Fin.ext (by show 1024 * (n / 4 % 28) + l.val = 1024 * ((n + 1) / 4 % 28) + l.val; omega)
      rw [e1, e2]

theorem stepS_fresh (h : t.val % 4 = 0) (x : Vec Ideal S1x48x1024 .f32) (e : Fin 48) (l : Fin 1024) :
    stepS m c t x (ix3 0 e l) = (args m c).sine (bOf t) e (pOf t l) := by
  unfold stepS outSin
  rw [if_pos (cond_first t h), pay7_at, angle_eq]
  rfl

theorem stepS_kept (h : ¬ t.val % 4 = 0) (x : Vec Ideal S1x48x1024 .f32) : stepS m c t x = x := by
  unfold stepS outSin
  rw [if_neg (fun hc => h ((cond_iff t).1 hc))]

theorem sinAt_eq (e : Fin 48) (l : Fin 1024) : ∀ (n : ℕ) (hn : n < cfg0.N), sinAt m c ⟨n, hn⟩ (ix3 0 e l) = (args m c).sine (bOf ⟨n, hn⟩) e (pOf ⟨n, hn⟩ l) := by
  intro n
  induction n with
  | zero =>
    intro hn
    unfold sinAt
    rw [chain_step]
    exact stepS_fresh m c ⟨0, hn⟩ rfl _ e l
  | succ n ih =>
    intro hn
    unfold sinAt
    rw [chain_step]
    by_cases h : (n + 1) % 4 = 0
    · exact stepS_fresh m c ⟨n + 1, hn⟩ h _ e l
    · rw [stepS_kept m c ⟨n + 1, hn⟩ h]
      refine (ih (by omega)).trans ?_
      have e1 : bOf ⟨n, by omega⟩ = bOf ⟨n + 1, hn⟩ := Fin.ext (by show n / 112 = (n + 1) / 112; omega)
      have e2 : pOf ⟨n, by omega⟩ l = pOf ⟨n + 1, hn⟩ l := Fin.ext (by show 1024 * (n / 4 % 28) + l.val = 1024 * ((n + 1) / 4 % 28) + l.val; omega)
      rw [e1, e2]

theorem cosAt_at (e : Fin 48) (l : Fin 1024) : cosAt m c t (ix3 0 e l) = (args m c).cosine (bOf t) e (pOf t l) := cosAt_eq m c e l t.val t.isLt
theorem sinAt_at (e : Fin 48) (l : Fin 1024) : sinAt m c t (ix3 0 e l) = (args m c).sine (bOf t) e (pOf t l) := sinAt_eq m c e l t.val t.isLt

/-! ## What a point writes -/

theorem rot_eq (l : Fin 1024) :
    rot (fun d => iblk m c 3 t (ix4 0 0 d l)) (fun e => cosAt m c t (ix3 0 e l)) (fun e => sinAt m c t (ix3 0 e l)) = (args m c).key (bOf t) (gOf t) (pOf t l) := by
  simp only [iblk3_at, cosAt_at, sinAt_at]
  rfl

theorem ptK (l : Fin 1024) (j : Fin 128) : outK (iblk m c 3 t) (cosAt m c t) (sinAt m c t) (ix4 0 0 l j) = (args m c).aug (bOf t) (gOf t) (pOf t l) j := by
  rw [outK_at, rot_eq]
  rfl

theorem ptRK (l : Fin 1024) :
    outRK (grid0.coords t) (lenAt m c t) (iblk m c 3 t) (cosAt m c t) (sinAt m c t) (ix4 0 0 0 l) = (args m c).resK (bOf t) (gOf t) (pOf t l) := by
  rw [outRK_at, rot_eq, lenAt_eq, coord1 t]
  rfl

theorem ptRV (l : Fin 1024) : outRV (grid0.coords t) (lenAt m c t) (iblk m c 4 t) (ix4 0 0 0 l) = (args m c).resV (bOf t) (gOf t) (pOf t l) := by
  rw [outRV_at, lenAt_eq, coord1 t]
  simp only [iblk4_at]
  rfl

/-! ## The arrays by position -/

def arrK : S2x4x28672x128.Idx → EReal := fun i => (args m c).aug (i 0) (i 1) (i 2) (i 3)
def arrC : S2x48x28672.Idx → EReal := fun i => (args m c).cosine (i 0) (i 1) (i 2)
def arrS : S2x48x28672.Idx → EReal := fun i => (args m c).sine (i 0) (i 1) (i 2)
def arrRK : S2x4x1x28672.Idx → EReal := fun i => (args m c).resK (i 0) (i 1) (i 3)
def arrRV : S2x4x1x28672.Idx → EReal := fun i => (args m c).resV (i 0) (i 1) (i 3)
def arrT (R : Fin 2 → Fin 4 → Fin 28672 → EReal) : S16x128.Idx → EReal := fun i => tableAt R (i 0) (i 1)

/-- The grid point that writes position `p` of head `g` of sequence `b`. -/
def tOf (b : Fin 2) (g : Fin 4) (p : Fin 28672) : Fin cfg0.N := ⟨b.val * 112 + p.val / 1024 * 4 + g.val, by have e : cfg0.N = 224 := N_0; omega⟩

theorem emb5 (l : Fin 1024) (j : Fin 128) : ((cfg0.win 5).blk t).view.emb (ix4 0 0 l j : S1x1x1024x128.Idx) = (ix4 (bOf t) (gOf t) (pOf t l) j : S2x4x28672x128.Idx) := by
  have hi := index5 t
  funext a
  apply Fin.ext
  match a with
  | ⟨0, _⟩ => show win0_5.index t 0 * 1 + 1 * 0 = t.val / 112; rw [hi.1]; omega
  | ⟨1, _⟩ => show win0_5.index t 1 * 1 + 1 * 0 = t.val % 4; rw [hi.2.1]; omega
  | ⟨2, _⟩ => show win0_5.index t 2 * 1024 + 1 * l.val = 1024 * (t.val / 4 % 28) + l.val; rw [hi.2.2.1]; omega
  | ⟨3, _⟩ => show win0_5.index t 3 * 128 + 1 * j.val = j.val; rw [hi.2.2.2]; omega

theorem flushed5 : (dats m 0 c).flushed 5 t = ((cfg0.win 5).blk t).view.read (Elt Ideal) (arrK m c) := by
  show (cfg0.win 5).cut (grid0.coords t) ((dats m 0 c).after 5 t) = _
  rw [after0_5]
  have key : ∀ y : S1x1x1024x128.Idx, outK (iblk m c 3 t) (cosAt m c t) (sinAt m c t) y = arrK m c (((cfg0.win 5).blk t).view.emb y) := by
    intro y
    idx_vars y
    obtain rfl : y0 = 0 := Subsingleton.elim _ _
    obtain rfl : y1 = 0 := Subsingleton.elim _ _
    exact (ptK m c t y2 y3).trans (congrArg (arrK m c) (emb5 t y2 y3)).symm
  funext y
  exact key y

theorem cover5 (i : S2x4x28672x128.Idx) : ∃ t : Fin cfg0.N, (cfg0.win 5).flush t = true ∧ i ∈ ((cfg0.win 5).blk t).view.set := by
  have h0 : (i 0 : ℕ) < 2 := (i 0).isLt
  have h1 : (i 1 : ℕ) < 4 := (i 1).isLt
  have h2 : (i 2 : ℕ) < 28672 := (i 2).isLt
  have h3 : (i 3 : ℕ) < 128 := (i 3).isLt
  refine ⟨tOf (i 0) (i 1) (i 2), flush0_5 _, ?_⟩
  show i ∈ ((View.whole main_v0_0).slice (win0_5.rect (tOf (i 0) (i 1) (i 2)))).set
  rw [View.set_slice_whole, Rect.mem_set_unit]
  have hi := index5 (tOf (i 0) (i 1) (i 2))
  have ht : (tOf (i 0) (i 1) (i 2)).val = (i 0 : ℕ) * 112 + (i 2 : ℕ) / 1024 * 4 + (i 1 : ℕ) := rfl
  rw [ht] at hi
  intro a
  match a with
  | ⟨0, _⟩ => show win0_5.index _ 0 * 1 ≤ (i 0 : ℕ) ∧ (i 0 : ℕ) < win0_5.index _ 0 * 1 + 1; rw [hi.1]; omega
  | ⟨1, _⟩ => show win0_5.index _ 1 * 1 ≤ (i 1 : ℕ) ∧ (i 1 : ℕ) < win0_5.index _ 1 * 1 + 1; rw [hi.2.1]; omega
  | ⟨2, _⟩ => show win0_5.index _ 2 * 1024 ≤ (i 2 : ℕ) ∧ (i 2 : ℕ) < win0_5.index _ 2 * 1024 + 1024; rw [hi.2.2.1]; omega
  | ⟨3, _⟩ => show win0_5.index _ 3 * 128 ≤ (i 3 : ℕ) ∧ (i 3 : ℕ) < win0_5.index _ 3 * 128 + 128; rw [hi.2.2.2]; omega

theorem final5 : (dats m 0 c).arrAt 5 cfg0.N = arrK m c := (dats m 0 c).arrAt_eq_of_cover 5 (arrK m c) (fun t _ => flushed5 m c t) cover5

theorem emb6 (e : Fin 48) (l : Fin 1024) : ((cfg0.win 6).blk t).view.emb (ix3 0 e l : S1x48x1024.Idx) = (ix3 (bOf t) e (pOf t l) : S2x48x28672.Idx) := by
  have hi := index6 t
  funext a
  apply Fin.ext
  match a with
  | ⟨0, _⟩ => show win0_6.index t 0 * 1 + 1 * 0 = t.val / 112; rw [hi.1]; omega
  | ⟨1, _⟩ => show win0_6.index t 1 * 48 + 1 * e.val = e.val; rw [hi.2.1]; omega
  | ⟨2, _⟩ => show win0_6.index t 2 * 1024 + 1 * l.val = 1024 * (t.val / 4 % 28) + l.val; rw [hi.2.2]; omega

theorem flushed6 : (dats m 0 c).flushed 6 t = ((cfg0.win 6).blk t).view.read (Elt Ideal) (arrC m c) := by
  show (cfg0.win 6).cut (grid0.coords t) ((dats m 0 c).after 6 t) = _
  rw [after0_6]
  have key : ∀ y : S1x48x1024.Idx, cosAt m c t y = arrC m c (((cfg0.win 6).blk t).view.emb y) := by
    intro y
    idx_vars y
    obtain rfl : y0 = 0 := Subsingleton.elim _ _
    exact (cosAt_at m c t y1 y2).trans (congrArg (arrC m c) (emb6 t y1 y2)).symm
  funext y
  exact key y

theorem cover6 (i : S2x48x28672.Idx) : ∃ t : Fin cfg0.N, (cfg0.win 6).flush t = true ∧ i ∈ ((cfg0.win 6).blk t).view.set := by
  have h0 : (i 0 : ℕ) < 2 := (i 0).isLt
  have h1 : (i 1 : ℕ) < 48 := (i 1).isLt
  have h2 : (i 2 : ℕ) < 28672 := (i 2).isLt
  refine ⟨tOf (i 0) 3 (i 2), (flush0_6 _).2 (by show ((i 0 : ℕ) * 112 + (i 2 : ℕ) / 1024 * 4 + 3) % 4 = 3; omega), ?_⟩
  show i ∈ ((View.whole main_v0_1).slice (win0_6.rect (tOf (i 0) 3 (i 2)))).set
  rw [View.set_slice_whole, Rect.mem_set_unit]
  have hi := index6 (tOf (i 0) 3 (i 2))
  have ht : (tOf (i 0) 3 (i 2)).val = (i 0 : ℕ) * 112 + (i 2 : ℕ) / 1024 * 4 + 3 := rfl
  rw [ht] at hi
  intro a
  match a with
  | ⟨0, _⟩ => show win0_6.index _ 0 * 1 ≤ (i 0 : ℕ) ∧ (i 0 : ℕ) < win0_6.index _ 0 * 1 + 1; rw [hi.1]; omega
  | ⟨1, _⟩ => show win0_6.index _ 1 * 48 ≤ (i 1 : ℕ) ∧ (i 1 : ℕ) < win0_6.index _ 1 * 48 + 48; rw [hi.2.1]; omega
  | ⟨2, _⟩ => show win0_6.index _ 2 * 1024 ≤ (i 2 : ℕ) ∧ (i 2 : ℕ) < win0_6.index _ 2 * 1024 + 1024; rw [hi.2.2]; omega

theorem final6 : (dats m 0 c).arrAt 6 cfg0.N = arrC m c := (dats m 0 c).arrAt_eq_of_cover 6 (arrC m c) (fun t _ => flushed6 m c t) cover6

theorem emb7 (e : Fin 48) (l : Fin 1024) : ((cfg0.win 7).blk t).view.emb (ix3 0 e l : S1x48x1024.Idx) = (ix3 (bOf t) e (pOf t l) : S2x48x28672.Idx) := by
  have hi := index7 t
  funext a
  apply Fin.ext
  match a with
  | ⟨0, _⟩ => show win0_7.index t 0 * 1 + 1 * 0 = t.val / 112; rw [hi.1]; omega
  | ⟨1, _⟩ => show win0_7.index t 1 * 48 + 1 * e.val = e.val; rw [hi.2.1]; omega
  | ⟨2, _⟩ => show win0_7.index t 2 * 1024 + 1 * l.val = 1024 * (t.val / 4 % 28) + l.val; rw [hi.2.2]; omega

theorem flushed7 : (dats m 0 c).flushed 7 t = ((cfg0.win 7).blk t).view.read (Elt Ideal) (arrS m c) := by
  show (cfg0.win 7).cut (grid0.coords t) ((dats m 0 c).after 7 t) = _
  rw [after0_7]
  have key : ∀ y : S1x48x1024.Idx, sinAt m c t y = arrS m c (((cfg0.win 7).blk t).view.emb y) := by
    intro y
    idx_vars y
    obtain rfl : y0 = 0 := Subsingleton.elim _ _
    exact (sinAt_at m c t y1 y2).trans (congrArg (arrS m c) (emb7 t y1 y2)).symm
  funext y
  exact key y

theorem cover7 (i : S2x48x28672.Idx) : ∃ t : Fin cfg0.N, (cfg0.win 7).flush t = true ∧ i ∈ ((cfg0.win 7).blk t).view.set := by
  have h0 : (i 0 : ℕ) < 2 := (i 0).isLt
  have h1 : (i 1 : ℕ) < 48 := (i 1).isLt
  have h2 : (i 2 : ℕ) < 28672 := (i 2).isLt
  refine ⟨tOf (i 0) 3 (i 2), (flush0_7 _).2 (by show ((i 0 : ℕ) * 112 + (i 2 : ℕ) / 1024 * 4 + 3) % 4 = 3; omega), ?_⟩
  show i ∈ ((View.whole main_v0_2).slice (win0_7.rect (tOf (i 0) 3 (i 2)))).set
  rw [View.set_slice_whole, Rect.mem_set_unit]
  have hi := index7 (tOf (i 0) 3 (i 2))
  have ht : (tOf (i 0) 3 (i 2)).val = (i 0 : ℕ) * 112 + (i 2 : ℕ) / 1024 * 4 + 3 := rfl
  rw [ht] at hi
  intro a
  match a with
  | ⟨0, _⟩ => show win0_7.index _ 0 * 1 ≤ (i 0 : ℕ) ∧ (i 0 : ℕ) < win0_7.index _ 0 * 1 + 1; rw [hi.1]; omega
  | ⟨1, _⟩ => show win0_7.index _ 1 * 48 ≤ (i 1 : ℕ) ∧ (i 1 : ℕ) < win0_7.index _ 1 * 48 + 48; rw [hi.2.1]; omega
  | ⟨2, _⟩ => show win0_7.index _ 2 * 1024 ≤ (i 2 : ℕ) ∧ (i 2 : ℕ) < win0_7.index _ 2 * 1024 + 1024; rw [hi.2.2]; omega

theorem final7 : (dats m 0 c).arrAt 7 cfg0.N = arrS m c := (dats m 0 c).arrAt_eq_of_cover 7 (arrS m c) (fun t _ => flushed7 m c t) cover7

theorem emb8 (l : Fin 1024) : ((cfg0.win 8).blk t).view.emb (ix4 0 0 0 l : S1x1x1x1024.Idx) = (ix4 (bOf t) (gOf t) 0 (pOf t l) : S2x4x1x28672.Idx) := by
  have hi := index8 t
  funext a
  apply Fin.ext
  match a with
  | ⟨0, _⟩ => show win0_8.index t 0 * 1 + 1 * 0 = t.val / 112; rw [hi.1]; omega
  | ⟨1, _⟩ => show win0_8.index t 1 * 1 + 1 * 0 = t.val % 4; rw [hi.2.1]; omega
  | ⟨2, _⟩ => show win0_8.index t 2 * 1 + 1 * 0 = 0; rw [hi.2.2.1]
  | ⟨3, _⟩ => show win0_8.index t 3 * 1024 + 1 * l.val = 1024 * (t.val / 4 % 28) + l.val; rw [hi.2.2.2]; omega

theorem flushed8 : (dats m 0 c).flushed 8 t = ((cfg0.win 8).blk t).view.read (Elt Ideal) (arrRK m c) := by
  show (cfg0.win 8).cut (grid0.coords t) ((dats m 0 c).after 8 t) = _
  rw [after0_8]
  have key : ∀ y : S1x1x1x1024.Idx, outRK (grid0.coords t) (lenAt m c t) (iblk m c 3 t) (cosAt m c t) (sinAt m c t) y = arrRK m c (((cfg0.win 8).blk t).view.emb y) := by
    intro y
    idx_vars y
    obtain rfl : y0 = 0 := Subsingleton.elim _ _
    obtain rfl : y1 = 0 := Subsingleton.elim _ _
    obtain rfl : y2 = 0 := Subsingleton.elim _ _
    exact (ptRK m c t y3).trans (congrArg (arrRK m c) (emb8 t y3)).symm
  funext y
  exact key y

theorem cover8 (i : S2x4x1x28672.Idx) : ∃ t : Fin cfg0.N, (cfg0.win 8).flush t = true ∧ i ∈ ((cfg0.win 8).blk t).view.set := by
  have h0 : (i 0 : ℕ) < 2 := (i 0).isLt
  have h1 : (i 1 : ℕ) < 4 := (i 1).isLt
  have h2 : (i 2 : ℕ) < 1 := (i 2).isLt
  have h3 : (i 3 : ℕ) < 28672 := (i 3).isLt
  refine ⟨tOf (i 0) (i 1) (i 3), flush0_8 _, ?_⟩
  show i ∈ ((View.whole main_v0_3).slice (win0_8.rect (tOf (i 0) (i 1) (i 3)))).set
  rw [View.set_slice_whole, Rect.mem_set_unit]
  have hi := index8 (tOf (i 0) (i 1) (i 3))
  have ht : (tOf (i 0) (i 1) (i 3)).val = (i 0 : ℕ) * 112 + (i 3 : ℕ) / 1024 * 4 + (i 1 : ℕ) := rfl
  rw [ht] at hi
  intro a
  match a with
  | ⟨0, _⟩ => show win0_8.index _ 0 * 1 ≤ (i 0 : ℕ) ∧ (i 0 : ℕ) < win0_8.index _ 0 * 1 + 1; rw [hi.1]; omega
  | ⟨1, _⟩ => show win0_8.index _ 1 * 1 ≤ (i 1 : ℕ) ∧ (i 1 : ℕ) < win0_8.index _ 1 * 1 + 1; rw [hi.2.1]; omega
  | ⟨2, _⟩ => show win0_8.index _ 2 * 1 ≤ (i 2 : ℕ) ∧ (i 2 : ℕ) < win0_8.index _ 2 * 1 + 1; rw [hi.2.2.1]; omega
  | ⟨3, _⟩ => show win0_8.index _ 3 * 1024 ≤ (i 3 : ℕ) ∧ (i 3 : ℕ) < win0_8.index _ 3 * 1024 + 1024; rw [hi.2.2.2]; omega

theorem final8 : (dats m 0 c).arrAt 8 cfg0.N = arrRK m c := (dats m 0 c).arrAt_eq_of_cover 8 (arrRK m c) (fun t _ => flushed8 m c t) cover8

theorem emb9 (l : Fin 1024) : ((cfg0.win 9).blk t).view.emb (ix4 0 0 0 l : S1x1x1x1024.Idx) = (ix4 (bOf t) (gOf t) 0 (pOf t l) : S2x4x1x28672.Idx) := by
  have hi := index9 t
  funext a
  apply Fin.ext
  match a with
  | ⟨0, _⟩ => show win0_9.index t 0 * 1 + 1 * 0 = t.val / 112; rw [hi.1]; omega
  | ⟨1, _⟩ => show win0_9.index t 1 * 1 + 1 * 0 = t.val % 4; rw [hi.2.1]; omega
  | ⟨2, _⟩ => show win0_9.index t 2 * 1 + 1 * 0 = 0; rw [hi.2.2.1]
  | ⟨3, _⟩ => show win0_9.index t 3 * 1024 + 1 * l.val = 1024 * (t.val / 4 % 28) + l.val; rw [hi.2.2.2]; omega

theorem flushed9 : (dats m 0 c).flushed 9 t = ((cfg0.win 9).blk t).view.read (Elt Ideal) (arrRV m c) := by
  show (cfg0.win 9).cut (grid0.coords t) ((dats m 0 c).after 9 t) = _
  rw [after0_9]
  have key : ∀ y : S1x1x1x1024.Idx, outRV (grid0.coords t) (lenAt m c t) (iblk m c 4 t) y = arrRV m c (((cfg0.win 9).blk t).view.emb y) := by
    intro y
    idx_vars y
    obtain rfl : y0 = 0 := Subsingleton.elim _ _
    obtain rfl : y1 = 0 := Subsingleton.elim _ _
    obtain rfl : y2 = 0 := Subsingleton.elim _ _
    exact (ptRV m c t y3).trans (congrArg (arrRV m c) (emb9 t y3)).symm
  funext y
  exact key y

theorem cover9 (i : S2x4x1x28672.Idx) : ∃ t : Fin cfg0.N, (cfg0.win 9).flush t = true ∧ i ∈ ((cfg0.win 9).blk t).view.set := by
  have h0 : (i 0 : ℕ) < 2 := (i 0).isLt
  have h1 : (i 1 : ℕ) < 4 := (i 1).isLt
  have h2 : (i 2 : ℕ) < 1 := (i 2).isLt
  have h3 : (i 3 : ℕ) < 28672 := (i 3).isLt
  refine ⟨tOf (i 0) (i 1) (i 3), flush0_9 _, ?_⟩
  show i ∈ ((View.whole main_v0_4).slice (win0_9.rect (tOf (i 0) (i 1) (i 3)))).set
  rw [View.set_slice_whole, Rect.mem_set_unit]
  have hi := index9 (tOf (i 0) (i 1) (i 3))
  have ht : (tOf (i 0) (i 1) (i 3)).val = (i 0 : ℕ) * 112 + (i 3 : ℕ) / 1024 * 4 + (i 1 : ℕ) := rfl
  rw [ht] at hi
  intro a
  match a with
  | ⟨0, _⟩ => show win0_9.index _ 0 * 1 ≤ (i 0 : ℕ) ∧ (i 0 : ℕ) < win0_9.index _ 0 * 1 + 1; rw [hi.1]; omega
  | ⟨1, _⟩ => show win0_9.index _ 1 * 1 ≤ (i 1 : ℕ) ∧ (i 1 : ℕ) < win0_9.index _ 1 * 1 + 1; rw [hi.2.1]; omega
  | ⟨2, _⟩ => show win0_9.index _ 2 * 1 ≤ (i 2 : ℕ) ∧ (i 2 : ℕ) < win0_9.index _ 2 * 1 + 1; rw [hi.2.2.1]; omega
  | ⟨3, _⟩ => show win0_9.index _ 3 * 1024 ≤ (i 3 : ℕ) ∧ (i 3 : ℕ) < win0_9.index _ 3 * 1024 + 1024; rw [hi.2.2.2]; omega

theorem final9 : (dats m 0 c).arrAt 9 cfg0.N = arrRV m c := (dats m 0 c).arrAt_eq_of_cover 9 (arrRV m c) (fun t _ => flushed9 m c t) cover9

end Arrays

end Cert.PrepIdeal.Hand

end
-- ==== Proof.PrepTable.lean ====
/-
  Hand-written. The preparation call's tables of maxima, over the extended reals: the table after all grid points; and the run of the
  call, its seven arrays.
-/
module

public import proofs.«01_k».proof.Proof.PrepArray

@[expose] public section

set_option maxRecDepth 16384

noncomputable section

namespace Cert.PrepIdeal.Hand

open Cert.PrepIdeal Cert.PrepIdeal.Gen
open Idealize.ShloMosaic Idealize.ShloMosaic.TcCoe Idealize.SL Idealize.SL.Sem
open Idealize.ShloMosaic.Pipeline (Dat)
open Cert.PrepSpec

/-! ## The table after all points -/

section Chain

variable {f : Fin cfg0.N → Vec Ideal S16x128 .f32 → Vec Ideal S16x128 .f32} {z : Vec Ideal S16x128 .f32} {R : Fin 2 → Fin 4 → Fin 28672 → EReal}
  (hz : ∀ y, z y = (0 : EReal))
  (hf : ∀ t x, (t.val = 0 → x = z) → ∀ (r : Fin 16) (l : Fin 128),
    f t x (ix2 r l) = if r.val = (gOf t).val then max (x (ix2 r l) : EReal) (laneMax (fun c => R (bOf t) (gOf t) (pOf t c)) l) else x (ix2 r l))

include hz hf

theorem chain_le (n : ℕ) (hn : n ≤ cfg0.N) (r : Fin 16) (l : Fin 128) (u : EReal) :
    (chain f z n (ix2 r l) : EReal) ≤ u ↔ 0 ≤ u ∧ ∀ t : Fin cfg0.N, t.val < n → r.val = (gOf t).val → ∀ a : Fin 8, R (bOf t) (gOf t) (pOf t (chunk a l)) ≤ u := by
  induction n generalizing r l u with
  | zero =>
    rw [chain, hz]
    exact ⟨fun h => ⟨h, fun t ht => absurd ht (by omega)⟩, fun h => h.1⟩
  | succ n ih =>
    have hlt : n < cfg0.N := by omega
    have e : chain f z (n + 1) = f ⟨n, hlt⟩ (chain f z n) := by rw [chain, dif_pos hlt]
    rw [e, hf ⟨n, hlt⟩ _ (fun h => by have h' : n = 0 := h; subst h'; rfl)]
    by_cases hr : r.val = (gOf ⟨n, hlt⟩).val
    · rw [if_pos hr, max_le_iff, ih (by omega)]
      constructor
      · rintro ⟨⟨hu, h1⟩, h2⟩
        refine ⟨hu, fun t ht hrt a => ?_⟩
        by_cases hc : t.val < n
        · exact h1 t hc hrt a
        · obtain rfl : t = ⟨n, hlt⟩ := Fin.ext (by show t.val = n; omega)
          exact le_trans (Finset.le_sup (f := fun a : Fin 8 => R (bOf ⟨n, hlt⟩) (gOf ⟨n, hlt⟩) (pOf ⟨n, hlt⟩ (chunk a l))) (Finset.mem_univ a)) h2
      · rintro ⟨hu, h1⟩
        exact ⟨⟨hu, fun t ht => h1 t (by omega)⟩, Finset.sup_le fun a _ => h1 ⟨n, hlt⟩ (by show n < n + 1; omega) hr a⟩
    · rw [if_neg hr, ih (by omega)]
      constructor
      · rintro ⟨hu, h1⟩
        refine ⟨hu, fun t ht hrt a => ?_⟩
        by_cases hc : t.val < n
        · exact h1 t hc hrt a
        · obtain rfl : t = ⟨n, hlt⟩ := Fin.ext (by show t.val = n; omega)
          exact absurd hrt hr
      · rintro ⟨hu, h1⟩
        exact ⟨hu, fun t ht => h1 t (by omega)⟩

theorem chain_table (hR : ∀ b h p, 0 ≤ R b h p) (r : Fin 16) (l : Fin 128) : (chain f z cfg0.N (ix2 r l) : EReal) = tableAt R r l := by
  refine eq_of_forall_ge_iff fun u => ?_
  have hN : cfg0.N = 224 := N_0
  rw [chain_le hz hf cfg0.N (le_refl _)]
  unfold tableAt
  by_cases hr : r.val < 4
  · rw [dif_pos hr, Finset.sup_le_iff]
    simp only [Finset.sup_le_iff]
    constructor
    · rintro ⟨-, h⟩ b - a -
      have hb := b.isLt
      have ha := a.isLt
      have hl := l.isLt
      have ht : b.val * 112 + a.val / 8 * 4 + r.val < cfg0.N := by omega
      have := h ⟨b.val * 112 + a.val / 8 * 4 + r.val, ht⟩ ht (by show r.val = (b.val * 112 + a.val / 8 * 4 + r.val) % 4; omega) ⟨a.val % 8, by omega⟩
      have e1 : bOf ⟨b.val * 112 + a.val / 8 * 4 + r.val, ht⟩ = b := Fin.ext (by show (b.val * 112 + a.val / 8 * 4 + r.val) / 112 = b.val; omega)
      have e2 : gOf ⟨b.val * 112 + a.val / 8 * 4 + r.val, ht⟩ = ⟨r.val, hr⟩ := Fin.ext (by show (b.val * 112 + a.val / 8 * 4 + r.val) % 4 = r.val; omega)
      have e3 : pOf ⟨b.val * 112 + a.val / 8 * 4 + r.val, ht⟩ (chunk ⟨a.val % 8, by omega⟩ l) = lanePos a l :=
        Fin.ext (by show 1024 * ((b.val * 112 + a.val / 8 * 4 + r.val) / 4 % 28) + (128 * (a.val % 8) + l.val) = 128 * a.val + l.val; omega)
      rw [e1, e2, e3] at this
      exact this
    · intro h
      refine ⟨le_trans (hR 0 ⟨r.val, hr⟩ (lanePos 0 l)) (h 0 (Finset.mem_univ _) 0 (Finset.mem_univ _)), fun t ht hrt a => ?_⟩
      have hl := l.isLt
      have := h (bOf t) (Finset.mem_univ _) ⟨8 * (t.val / 4 % 28) + a.val, by omega⟩ (Finset.mem_univ _)
      have e2 : gOf t = ⟨r.val, hr⟩ := Fin.ext hrt.symm
      have e3 : lanePos ⟨8 * (t.val / 4 % 28) + a.val, by omega⟩ l = pOf t (chunk a l) :=
        Fin.ext (by show 128 * (8 * (t.val / 4 % 28) + a.val) + l.val = 1024 * (t.val / 4 % 28) + (128 * a.val + l.val); omega)
      rw [e2, ← e3]
      exact this
  · rw [dif_neg hr]
    constructor
    · exact fun h => h.1
    · refine fun h => ⟨h, fun t _ hrt => absurd hrt ?_⟩
      have := (gOf t).isLt
      omega

end Chain

/-! ## The two tables -/

section Tables

variable (m : (ℓ : Loc nD τ sig) → Buf (Elt Ideal) ℓ) (c : Dev nD) (t : Fin cfg0.N)

theorem first_of {x z : Vec Ideal S16x128 .f32} (h : t.val = 0 → x = z) : first (grid0.coords t) → x = z := fun hf => h (first_val t hf)

theorem stepK_at (x : Vec Ideal S16x128 .f32) (hz : t.val = 0 → x = k0_pay3 (F := Ideal)) (r : Fin 16) (l : Fin 128) :
    stepK m c t x (ix2 r l) = if r.val = (gOf t).val then max (x (ix2 r l) : EReal) (laneMax (fun p => (args m c).resK (bOf t) (gOf t) (pOf t p)) l) else x (ix2 r l) := by
  unfold stepK
  rw [statK_at _ _ _ _ _ _ (first_of t hz), coord2 t]
  simp only [ptRK m c t]
  rfl

theorem stepV_at (x : Vec Ideal S16x128 .f32) (hz : t.val = 0 → x = k0_pay4 (F := Ideal)) (r : Fin 16) (l : Fin 128) :
    stepV m c t x (ix2 r l) = if r.val = (gOf t).val then max (x (ix2 r l) : EReal) (laneMax (fun p => (args m c).resV (bOf t) (gOf t) (pOf t p)) l) else x (ix2 r l) := by
  unfold stepV
  rw [statV_at _ _ _ _ (first_of t hz), coord2 t]
  simp only [ptRV m c t]
  rfl

theorem tableK : chain (stepK m c) (k0_pay3 (F := Ideal)) cfg0.N = arrT (args m c).resK := by
  funext y
  idx_vars y
  exact chain_table zero3 (stepK_at m c) (args m c).resK_nonneg y0 y1

theorem tableV : chain (stepV m c) (k0_pay4 (F := Ideal)) cfg0.N = arrT (args m c).resV := by
  funext y
  idx_vars y
  exact chain_table zero4 (stepV_at m c) (args m c).resV_nonneg y0 y1

/-- The last grid point. -/
def tLast : Fin cfg0.N := ⟨223, by have e : cfg0.N = 224 := N_0; omega⟩

theorem last_of (h : t.val % 224 = 223) : t.val + 1 = cfg0.N := by
  have e : cfg0.N = 224 := N_0
  have := t.isLt
  omega

theorem emb10 (r : Fin 16) (l : Fin 128) : ((cfg0.win 10).blk t).view.emb (ix2 r l : S16x128.Idx) = (ix2 r l : S16x128.Idx) := by
  have hi := index10 t
  funext a
  apply Fin.ext
  match a with
  | ⟨0, _⟩ => show win0_10.index t 0 * 16 + 1 * r.val = r.val; rw [hi.1]; omega
  | ⟨1, _⟩ => show win0_10.index t 1 * 128 + 1 * l.val = l.val; rw [hi.2]; omega

theorem flushed10 (h : (cfg0.win 10).flush t = true) : (dats m 0 c).flushed 10 t = ((cfg0.win 10).blk t).view.read (Elt Ideal) (arrT (args m c).resK) := by
  show (cfg0.win 10).cut (grid0.coords t) ((dats m 0 c).after 10 t) = _
  rw [after0_10, last_of t ((flush0_10 t).1 h), tableK m c]
  have key : ∀ y : S16x128.Idx, arrT (args m c).resK y = arrT (args m c).resK (((cfg0.win 10).blk t).view.emb y) := by
    intro y
    idx_vars y
    exact (congrArg (arrT (args m c).resK) (emb10 t y0 y1)).symm
  funext y
  exact key y

theorem cover10 (i : S16x128.Idx) : ∃ t : Fin cfg0.N, (cfg0.win 10).flush t = true ∧ i ∈ ((cfg0.win 10).blk t).view.set := by
  have h0 : (i 0 : ℕ) < 16 := (i 0).isLt
  have h1 : (i 1 : ℕ) < 128 := (i 1).isLt
  refine ⟨tLast, (flush0_10 _).2 rfl, ?_⟩
  show i ∈ ((View.whole main_v0_5).slice (win0_10.rect tLast)).set
  rw [View.set_slice_whole, Rect.mem_set_unit]
  have hi := index10 tLast
  intro a
  match a with
  | ⟨0, _⟩ => show win0_10.index _ 0 * 16 ≤ (i 0 : ℕ) ∧ (i 0 : ℕ) < win0_10.index _ 0 * 16 + 16; rw [hi.1]; omega
  | ⟨1, _⟩ => show win0_10.index _ 1 * 128 ≤ (i 1 : ℕ) ∧ (i 1 : ℕ) < win0_10.index _ 1 * 128 + 128; rw [hi.2]; omega

theorem final10 : (dats m 0 c).arrAt 10 cfg0.N = arrT (args m c).resK := (dats m 0 c).arrAt_eq_of_cover 10 (arrT (args m c).resK) (fun t h => flushed10 m c t h) cover10

theorem emb11 (r : Fin 16) (l : Fin 128) : ((cfg0.win 11).blk t).view.emb (ix2 r l : S16x128.Idx) = (ix2 r l : S16x128.Idx) := by
  have hi := index11 t
  funext a
  apply Fin.ext
  match a with
  | ⟨0, _⟩ => show win0_11.index t 0 * 16 + 1 * r.val = r.val; rw [hi.1]; omega
  | ⟨1, _⟩ => show win0_11.index t 1 * 128 + 1 * l.val = l.val; rw [hi.2]; omega

theorem flushed11 (h : (cfg0.win 11).flush t = true) : (dats m 0 c).flushed 11 t = ((cfg0.win 11).blk t).view.read (Elt Ideal) (arrT (args m c).resV) := by
  show (cfg0.win 11).cut (grid0.coords t) ((dats m 0 c).after 11 t) = _
  rw [after0_11, last_of t ((flush0_11 t).1 h), tableV m c]
  have key : ∀ y : S16x128.Idx, arrT (args m c).resV y = arrT (args m c).resV (((cfg0.win 11).blk t).view.emb y) := by
    intro y
    idx_vars y
    exact (congrArg (arrT (args m c).resV) (emb11 t y0 y1)).symm
  funext y
  exact key y

theorem cover11 (i : S16x128.Idx) : ∃ t : Fin cfg0.N, (cfg0.win 11).flush t = true ∧ i ∈ ((cfg0.win 11).blk t).view.set := by
  have h0 : (i 0 : ℕ) < 16 := (i 0).isLt
  have h1 : (i 1 : ℕ) < 128 := (i 1).isLt
  refine ⟨tLast, (flush0_11 _).2 rfl, ?_⟩
  show i ∈ ((View.whole main_v0_6).slice (win0_11.rect tLast)).set
  rw [View.set_slice_whole, Rect.mem_set_unit]
  have hi := index11 tLast
  intro a
  match a with
  | ⟨0, _⟩ => show win0_11.index _ 0 * 16 ≤ (i 0 : ℕ) ∧ (i 0 : ℕ) < win0_11.index _ 0 * 16 + 16; rw [hi.1]; omega
  | ⟨1, _⟩ => show win0_11.index _ 1 * 128 ≤ (i 1 : ℕ) ∧ (i 1 : ℕ) < win0_11.index _ 1 * 128 + 128; rw [hi.2]; omega

theorem final11 : (dats m 0 c).arrAt 11 cfg0.N = arrT (args m c).resV := (dats m 0 c).arrAt_eq_of_cover 11 (arrT (args m c).resV) (fun t h => flushed11 m c t h) cover11

end Tables

/-- The run of the call: its seven arrays, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = arrK m c
      ∧ r.2.mem ((c.tc : Thread nD τ).loc main_v0_1) = arrC m c
      ∧ r.2.mem ((c.tc : Thread nD τ).loc main_v0_2) = arrS m c
      ∧ r.2.mem ((c.tc : Thread nD τ).loc main_v0_3) = arrRK m c
      ∧ r.2.mem ((c.tc : Thread nD τ).loc main_v0_4) = arrRV m c
      ∧ r.2.mem ((c.tc : Thread nD τ).loc main_v0_5) = arrT (args m c).resK
      ∧ r.2.mem ((c.tc : Thread nD τ).loc main_v0_6) = arrT (args m c).resV
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c),
      ((h c).1 6).trans (final6 m c),
      ((h c).1 7).trans (final7 m c),
      ((h c).1 8).trans (final8 m c),
      ((h c).1 9).trans (final9 m c),
      ((h c).1 10).trans (final10 m c),
      ((h c).1 11).trans (final11 m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _)⟩)
    (run_main m ρ)

end Cert.PrepIdeal.Hand

end
-- ==== Proof.PrepRef.lean ====
/-
  Hand-written. The preparation reference's seven results at an index, and its run, over the extended reals.
-/
module

public import proofs.«01_k».proof.Proof.PrepSpec
public import proofs.«01_k».proof.Proof.Gen.PrepReferenceIdeal.Read
public import proofs.«01_k».proof.Proof.Gen.PrepReferenceIdeal.Run

@[expose] public section

set_option maxRecDepth 16384

noncomputable section

namespace Cert.PrepReferenceIdeal.Hand

open Cert.PrepReferenceIdeal Cert.PrepReferenceIdeal.Gen Cert.PrepReferenceIdeal.Read
open Idealize.ShloMosaic Idealize.ShloMosaic.TcCoe Idealize.SL.Sem
open Cert.PrepSpec

theorem ofBits_bot : Ideal.ofBits .f32 0xFF800000#32 = ⊥ := by simp [Ideal.ofBits, Ideal.ieee]
theorem ofBits_bot16 : Ideal.ofBits .bf16 0xFF80#16 = ⊥ := by simp [Ideal.ofBits, Ideal.ieee]

theorem zero : (id (constant (F := Ideal) S_ .f32 0x00000000#32) ix0 : EReal) = 0 := by
  show Ideal.ofBits .f32 0x00000000#32 = 0
  simp [Ideal.ofBits, Ideal.ieee]

variable (x0 x1 : (⟨S2, .i32⟩ : BufTy).Contents (Elt Ideal)) (x2 : (⟨S48x128, .f32⟩ : BufTy).Contents (Elt Ideal))
  (x3 x4 : (⟨S2x4x96x28672, .bf16⟩ : BufTy).Contents (Elt Ideal))

/-! ## Angles, cosines, sines -/

theorem v18_at (b : Fin 2) (e : Fin 48) (p : Fin 28672) : val_main_v18 (F := Ideal) x0 x2 (ix3 b e p) = (argsOf x0 x1 x2 x3 x4).angle b e p := by
  pointwise [val_main_v18, val_main_v17, val_main_v16, val_main_v15, val_main_v14, val_main_v13, val_main_v12, val_main_v11, val_main_v10, val_main_v9, val_main_v8, val_main_v7, val_main_v0]
  rfl

theorem v19_at (b : Fin 2) (e : Fin 48) (p : Fin 28672) : val_main_v19 (F := Ideal) x0 x2 (ix3 b e p) = (argsOf x0 x1 x2 x3 x4).cosine b e p := by
  unfold Args.cosine
  rw [← v18_at]
  unfold val_main_v19
  generalize val_main_v18 (F := Ideal) x0 x2 = y
  rfl

theorem v20_at (b : Fin 2) (e : Fin 48) (p : Fin 28672) : val_main_v20 (F := Ideal) x0 x2 (ix3 b e p) = (argsOf x0 x1 x2 x3 x4).sine b e p := by
  unfold Args.sine
  rw [← v18_at]
  unfold val_main_v20
  generalize val_main_v18 (F := Ideal) x0 x2 = y
  rfl

/-! ## The rotated keys and their columns -/

theorem v38_at (b : Fin 2) (g : Fin 4) (d : Fin 96) (p : Fin 28672) :
    val_main_v38 (F := Ideal) x0 x2 x3 (ix4 b g d p) = (argsOf x0 x1 x2 x3 x4).key b g p d := by
  have hc := v19_at x0 x1 x2 x3 x4
  have hs := v20_at x0 x1 x2 x3 x4
  revert hc hs
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21
  generalize val_main_v19 (F := Ideal) x0 x2 = cs
  generalize val_main_v20 (F := Ideal) x0 x2 = sn
  intro hc hs
  pointwise
  show _ = rot (fun d => x3 (ix4 b g d p)) (fun e => (argsOf x0 x1 x2 x3 x4).cosine b e p) (fun e => (argsOf x0 x1 x2 x3 x4).sine b e p) d
  unfold rot
  by_cases h : d.val < 48
  · rw [dif_pos h, dif_pos h, hc, hs]
  · rw [dif_neg h, dif_neg h, hc, hs]
    have e : (⟨48 + (d.val - 48), by omega⟩ : Fin 96) = ⟨d.val, by omega⟩ := Fin.ext (by show 48 + (d.val - 48) = d.val; omega)
    rw [e]

theorem v51_at (b : Fin 2) (g : Fin 4) (p : Fin 28672) (j : Fin 128) :
    val_main_v51 (F := Ideal) x0 x2 x3 (ix4 b g p j) = (argsOf x0 x1 x2 x3 x4).aug b g p j := by
  have hk := v38_at x0 x1 x2 x3 x4
  revert hk
  unfold val_main_v51 val_main_v50 val_main_v49 val_main_v48 val_main_v47
  generalize val_main_v38 (F := Ideal) x0 x2 x3 = y
  intro hk
  pointwise [val_main_cst_3, val_main_cst_4]
  unfold Args.aug
  by_cases h : j.val < 96
  · rw [dif_pos h, dif_pos h, hk]
  · rw [dif_neg h, dif_neg h]
    by_cases h' : j.val < 99
    · rw [if_pos h', dif_pos (by omega)]
    · rw [if_neg h', dif_neg (by omega)]

/-! ## The magnitudes -/

theorem v42_at (b : Fin 2) (g : Fin 4) (p : Fin 28672) : val_main_v42 (F := Ideal) x0 x1 x2 x3 (ix3 b g p) = (argsOf x0 x1 x2 x3 x4).resK b g p := by
  have hk := v38_at x0 x1 x2 x3 x4
  revert hk
  unfold val_main_v42 val_main_v41 val_main_v40 val_main_v39
  generalize val_main_v38 (F := Ideal) x0 x2 x3 = y
  intro hk
  pointwise [val_main_call0_v1, val_main_call0_v2, val_main_call0_v0, val_main_v6, val_main_v5, val_main_v4, val_main_v3, val_main_v2, val_main_v1, val_main_v0, val_main_cst, val_main_cst_0]
  rw [ofBits_bot16, zero]
  simp only [hk]
  exact select_masked _ _ _

theorem v46_at (b : Fin 2) (g : Fin 4) (p : Fin 28672) : val_main_v46 (F := Ideal) x1 x4 (ix3 b g p) = (argsOf x0 x1 x2 x3 x4).resV b g p := by
  pointwise [val_main_v46, val_main_v45, val_main_v44, val_main_v43, val_main_call1_v1, val_main_call1_v2, val_main_call1_v0, val_main_v6, val_main_v5, val_main_v4, val_main_v3, val_main_v2, val_main_v1, val_main_v0, val_main_cst_1, val_main_cst_2]
  rw [ofBits_bot16, zero]
  exact select_masked _ _ _

theorem v52_at (b : Fin 2) (g : Fin 4) (p : Fin 28672) : val_main_v52 (F := Ideal) x0 x1 x2 x3 (ix4 b g 0 p) = (argsOf x0 x1 x2 x3 x4).resK b g p := by
  rw [← v42_at]
  unfold val_main_v52
  generalize val_main_v42 (F := Ideal) x0 x1 x2 x3 = y
  pointwise

theorem v53_at (b : Fin 2) (g : Fin 4) (p : Fin 28672) : val_main_v53 (F := Ideal) x1 x4 (ix4 b g 0 p) = (argsOf x0 x1 x2 x3 x4).resV b g p := by
  rw [← v46_at]
  unfold val_main_v53
  generalize val_main_v46 (F := Ideal) x1 x4 = y
  pointwise

/-! ## The tables -/

/-- The largest over lane `l`'s positions and then over the sequences. -/
theorem table_fold {R : Fin 2 → Fin 4 → Fin 28672 → EReal} {y : S2x4x28672.Idx → EReal} (h : ∀ b h p, y (ix3 b h p) = R b h p) (r : Fin 16) (l : Fin 128) :
    (if hr : r.val < 4 then
      Finset.fold max (Ideal.ofBits FTy.f32 4286578688#32)
        (fun x : Fin 2 => Finset.fold max (Ideal.ofBits FTy.f32 4286578688#32)
          (fun a : Fin 224 => y (ix3 x ⟨r.val, hr⟩ ⟨a.val * 128 + l.val, by omega⟩)) Finset.univ) Finset.univ
      else 0) = tableAt R r l := by
  unfold tableAt
  by_cases hr : r.val < 4
  · rw [dif_pos hr, dif_pos hr, ofBits_bot]
    refine Finset.sup_congr rfl fun b _ => Finset.sup_congr rfl fun a _ => ?_
    rw [h]
    congr 1
    exact Fin.ext (by show a.val * 128 + l.val = 128 * a.val + l.val; omega)
  · rw [dif_neg hr, dif_neg hr]

theorem v58_at (r : Fin 16) (l : Fin 128) : val_main_v58 (F := Ideal) x0 x1 x2 x3 (ix2 r l) = tableAt (argsOf x0 x1 x2 x3 x4).resK r l := by
  have h := v42_at x0 x1 x2 x3 x4
  revert h
  unfold val_main_v58 val_main_v56 val_main_v55 val_main_v54
  generalize val_main_v42 (F := Ideal) x0 x1 x2 x3 = y
  intro h
  pointwise [val_main_cst_5, val_main_cst_6, val_main_v57, val_main_cst_7]
  exact table_fold h r l

theorem v63_at (r : Fin 16) (l : Fin 128) : val_main_v63 (F := Ideal) x1 x4 (ix2 r l) = tableAt (argsOf x0 x1 x2 x3 x4).resV r l := by
  have h := v46_at x0 x1 x2 x3 x4
  revert h
  unfold val_main_v63 val_main_v61 val_main_v60 val_main_v59
  generalize val_main_v46 (F := Ideal) x1 x4 = y
  intro h
  pointwise [val_main_cst_8, val_main_cst_9, val_main_v62, val_main_cst_10]
  exact table_fold h r l

/-! ## The arrays -/

def arrK (A : Args) : S2x4x28672x128.Idx → EReal := fun i => A.aug (i 0) (i 1) (i 2) (i 3)
def arrC (A : Args) : S2x48x28672.Idx → EReal := fun i => A.cosine (i 0) (i 1) (i 2)
def arrS (A : Args) : S2x48x28672.Idx → EReal := fun i => A.sine (i 0) (i 1) (i 2)
def arrR (R : Fin 2 → Fin 4 → Fin 28672 → EReal) : S2x4x1x28672.Idx → EReal := fun i => R (i 0) (i 1) (i 3)
def arrT (R : Fin 2 → Fin 4 → Fin 28672 → EReal) : S16x128.Idx → EReal := fun i => tableAt R (i 0) (i 1)

theorem v51_arr : val_main_v51 (F := Ideal) x0 x2 x3 = arrK (argsOf x0 x1 x2 x3 x4) := by
  funext y
  idx_vars y
  exact v51_at x0 x1 x2 x3 x4 y0 y1 y2 y3

theorem v19_arr : val_main_v19 (F := Ideal) x0 x2 = arrC (argsOf x0 x1 x2 x3 x4) := by
  funext y
  idx_vars y
  exact v19_at x0 x1 x2 x3 x4 y0 y1 y2

theorem v20_arr : val_main_v20 (F := Ideal) x0 x2 = arrS (argsOf x0 x1 x2 x3 x4) := by
  funext y
  idx_vars y
  exact v20_at x0 x1 x2 x3 x4 y0 y1 y2

theorem v52_arr : val_main_v52 (F := Ideal) x0 x1 x2 x3 = arrR (argsOf x0 x1 x2 x3 x4).resK := by
  funext y
  idx_vars y
  obtain rfl : y2 = 0 := Subsingleton.elim _ _
  exact v52_at x0 x1 x2 x3 x4 y0 y1 y3

theorem v53_arr : val_main_v53 (F := Ideal) x1 x4 = arrR (argsOf x0 x1 x2 x3 x4).resV := by
  funext y
  idx_vars y
  obtain rfl : y2 = 0 := Subsingleton.elim _ _
  exact v53_at x0 x1 x2 x3 x4 y0 y1 y3

theorem v58_arr : val_main_v58 (F := Ideal) x0 x1 x2 x3 = arrT (argsOf x0 x1 x2 x3 x4).resK := by
  funext y
  idx_vars y
  exact v58_at x0 x1 x2 x3 x4 y0 y1

theorem v63_arr : val_main_v63 (F := Ideal) x1 x4 = arrT (argsOf x0 x1 x2 x3 x4).resV := by
  funext y
  idx_vars y
  exact v63_at x0 x1 x2 x3 x4 y0 y1

/-- The arguments the launch memory holds. -/
def args (m : (ℓ : Loc nD τ sig) → Buf (Elt Ideal) ℓ) (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The run of the reference: its seven results, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = arrK (args m c)
      ∧ r.2.mem ((c.tc : Thread nD τ).loc main_v19) = arrC (args m c)
      ∧ r.2.mem ((c.tc : Thread nD τ).loc main_v20) = arrS (args m c)
      ∧ r.2.mem ((c.tc : Thread nD τ).loc main_v52) = arrR (args m c).resK
      ∧ r.2.mem ((c.tc : Thread nD τ).loc main_v53) = arrR (args m c).resV
      ∧ r.2.mem ((c.tc : Thread nD τ).loc main_v58) = arrT (args m c).resK
      ∧ r.2.mem ((c.tc : Thread nD τ).loc main_v63) = arrT (args m c).resV
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v51_eq m c).trans (v51_arr _ _ _ _ _)),
      (h c).2.1.trans ((val_main_v19_eq _ _).trans (v19_arr _ _ _ _ _)),
      (h c).2.2.1.trans ((val_main_v20_eq _ _).trans (v20_arr _ _ _ _ _)),
      (h c).2.2.2.1.trans ((val_main_v52_eq m c).trans (v52_arr _ _ _ _ _)),
      (h c).2.2.2.2.1.trans ((val_main_v53_eq _ _).trans (v53_arr _ _ _ _ _)),
      (h c).2.2.2.2.2.1.trans ((val_main_v58_eq m c).trans (v58_arr _ _ _ _ _)),
      (h c).2.2.2.2.2.2.1.trans ((val_main_v63_eq _ _).trans (v63_arr _ _ _ _ _)),
      (h c).2.2.2.2.2.2.2⟩)
    (Cert.PrepReferenceIdeal.Value.run (F := Ideal) m ρ)

end Cert.PrepReferenceIdeal.Hand

end
-- ==== Proof.lean ====
/-
  Hand-written. The proof of `Cert.Claim` about the three calls, in the order attention, preparation, quantization: of each the
  frames of the program, of its idealization and of its reference; the named constants; and the equation of the idealization with the
  reference. The two sides of the attention call are the arrays of one specification (Proof/Spec.lean), the kernel's by
  Proof/IdealArray.lean and Proof/IdealTable.lean, the reference's by Proof/RefArray.lean, on the reals the precondition makes of the
  arguments (Proof/Inputs.lean). Those of the preparation call are the arrays of Proof/PrepSpec.lean, the kernel's by
  Proof/PrepTable.lean, the reference's by Proof/PrepRef.lean; those of the quantization call are the arrays of Proof/QuantSpec.lean,
  by Proof/QuantArray.lean and Proof/QuantRef.lean.
-/
module

public import proofs.«01_k».proof.Defs
public import proofs.«01_k».proof.Proof.KernelFrame
public import proofs.«01_k».proof.Proof.IdealTable
public import proofs.«01_k».proof.Proof.RefArray
public import proofs.«01_k».proof.Proof.Inputs
public import proofs.«01_k».proof.Proof.Gen.Quant.Frame
public import proofs.«01_k».proof.Proof.QuantArray
public import proofs.«01_k».proof.Proof.QuantRef
public import proofs.«01_k».proof.Proof.PrepFrame
public import proofs.«01_k».proof.Proof.PrepTable
public import proofs.«01_k».proof.Proof.PrepRef
public import Idealize.ShloMosaic.Adequacy
public import Idealize.ShloMosaic.Init

@[expose] public section

noncomputable section

namespace Cert.Proof

open Idealize.ShloMosaic Idealize.ShloMosaic.TcCoe Idealize.SL.Sem

/-- The program as printed leaves its arguments as they were and every counter at zero. -/
theorem frame_kernel : Cert.quiescent_Kernel := fun m ρ _ => Cert.Kernel.Hand.quiescent (F := Bits) m ρ

/-- So does its idealization. -/
theorem frame_ideal : Cert.quiescent_KernelIdeal := fun m ρ _ => Cert.KernelIdeal.Hand.quiescent (F := Ideal) m ρ
theorem frame_ideal_pre : Cert.quiescent_KernelIdeal_pre_finite_and_augmented := fun m ρ _ => Cert.KernelIdeal.Hand.quiescent (F := Ideal) m ρ

/-- The reference leaves its arguments as they were; it declares no semaphore. -/
theorem frame_ref : Cert.quiescent_ReferenceIdeal := fun m ρ _ =>
  (θ_run Cert.ReferenceIdeal.defs _ _).mono (fun r h => ⟨fun c => (h c).2.2.2.2.2.2.2, Idealize.ShloMosaic.sem_eq_zero_of_no_sems (by decide) r.2⟩)
    (Cert.ReferenceIdeal.Value.run (F := Ideal) m ρ)
theorem frame_ref_pre : Cert.quiescent_ReferenceIdeal_pre_finite_and_augmented := fun m ρ _ => frame_ref m ρ trivial

/-- The two scales rounded to 32 bits are the constants the program holds. -/
theorem preserves : Cert.preserves_Kernel_KernelIdeal :=
  ⟨IdealRules.named_const.statement Cert.KernelIdeal.κ "exp2_scale" .f32 0x3E16C740#32 _ rfl,
    IdealRules.named_const.statement Cert.KernelIdeal.κ "score_scale" .f32 0x3DD105EC#32 _ rfl⟩

/-- The reals of the kernel's arguments on a device. -/
def argsOf (m : (ℓ : Loc Cert.KernelIdeal.nD Cert.KernelIdeal.τ Cert.KernelIdeal.sig) → Buf (Elt Ideal) ℓ) (c : Dev Cert.KernelIdeal.nD) : Cert.Spec.Args :=
  Cert.Inputs.args (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The idealized kernel and the reference end with the same seven arrays. -/
theorem algebraic : Cert.algebraic_KernelIdeal_ReferenceIdeal_pre_finite_and_augmented := by
  intro m g m' g' hpre hargs
  have hk : ∀ c, Cert.KernelIdeal.Hand.Held m c (argsOf m c) := fun c => by
    obtain ⟨h1, h2, h3, h4, h5, h6⟩ := hpre c
    exact Cert.Inputs.holds h1 h2 h3 h4 h5 h6
  have hr : ∀ c, Cert.ReferenceIdeal.Hand.Held m' c (argsOf m c) := fun c => by
    obtain ⟨e0, e1, e2, e3, e4, e5⟩ := hargs c
    unfold Cert.ReferenceIdeal.Hand.Held
    rw [e0, e1, e2, e3, e4, e5]
    exact hk c
  exact ⟨fun c => Cert.KernelIdeal.Hand.arrO (argsOf m c), fun c => Cert.KernelIdeal.Hand.arrQ (argsOf m c), fun c => Cert.KernelIdeal.Hand.arrS (argsOf m c),
    fun c => Cert.KernelIdeal.Hand.arrR (argsOf m c), fun c => Cert.KernelIdeal.Hand.arrT (argsOf m c).resQ, fun c => Cert.KernelIdeal.Hand.arrT (argsOf m c).resS,
    fun c => Cert.KernelIdeal.Hand.arrT (argsOf m c).resR, Cert.KernelIdeal.Hand.run m g (argsOf m) hk, Cert.ReferenceIdeal.Hand.run m' g' (argsOf m) hr⟩

/-! ## The preparation call -/

theorem frame_prep : Cert.quiescent_Prep := fun m ρ _ => Cert.Prep.Hand.quiescent (F := Bits) m ρ
theorem frame_prep_ideal : Cert.quiescent_PrepIdeal := fun m ρ _ => Cert.PrepIdeal.Hand.quiescent (F := Ideal) m ρ
theorem frame_prep_ref : Cert.quiescent_PrepReferenceIdeal := fun m ρ _ =>
  (θ_run Cert.PrepReferenceIdeal.defs _ _).mono (fun r h => ⟨fun c => (h c).2.2.2.2.2.2.2, Idealize.ShloMosaic.sem_eq_zero_of_no_sems (by decide) r.2⟩)
    (Cert.PrepReferenceIdeal.Value.run (F := Ideal) m ρ)

/-- Nothing of the call is rewritten. -/
theorem preserves_prep : Cert.preserves_Prep_PrepIdeal := trivial

/-- The idealized preparation call and its reference end with the same seven arrays. -/
theorem algebraic_prep : Cert.algebraic_PrepIdeal_PrepReferenceIdeal := by
  intro m g m' g' hpre hargs
  refine ⟨fun c => Cert.PrepIdeal.Hand.arrK m c, fun c => Cert.PrepIdeal.Hand.arrC m c, fun c => Cert.PrepIdeal.Hand.arrS m c,
    fun c => Cert.PrepIdeal.Hand.arrRK m c, fun c => Cert.PrepIdeal.Hand.arrRV m c, fun c => Cert.PrepIdeal.Hand.arrT (Cert.PrepIdeal.Hand.args m c).resK,
    fun c => Cert.PrepIdeal.Hand.arrT (Cert.PrepIdeal.Hand.args m c).resV, Cert.PrepIdeal.Hand.run m g, ?_⟩
  refine (θ_run Cert.PrepReferenceIdeal.defs _ _).mono (fun r h c => ?_) (Cert.PrepReferenceIdeal.Hand.run m' g')
  obtain ⟨e0, e1, e2, e3, e4⟩ := hargs c
  have e : Cert.PrepReferenceIdeal.Hand.args m' c = Cert.PrepIdeal.Hand.args m c := by
    unfold Cert.PrepReferenceIdeal.Hand.args Cert.PrepIdeal.Hand.args
    rw [e0, e1, e2, e3, e4]
  have h' := h c
  rw [e] at h'
  exact h'

/-! ## The quantization call -/

theorem frame_quant : Cert.quiescent_Quant := fun m ρ _ => Cert.Quant.Gen.frame (F := Bits) m ρ
theorem frame_quant_ideal : Cert.quiescent_QuantIdeal := fun m ρ _ => Cert.QuantIdeal.Gen.frame (F := Ideal) m ρ
theorem frame_quant_ref : Cert.quiescent_QuantReferenceIdeal := fun m ρ _ =>
  (θ_run Cert.QuantReferenceIdeal.defs _ _).mono (fun r h => ⟨fun c => (h c).2.2, Idealize.ShloMosaic.sem_eq_zero_of_no_sems (by decide) r.2⟩)
    (Cert.QuantReferenceIdeal.Value.run (F := Ideal) m ρ)

/-- The 448th rounded to 32 bits is the constant the program holds. -/
theorem preserves_quant : Cert.preserves_Quant_QuantIdeal :=
  IdealRules.named_const.statement Cert.QuantIdeal.κ "fp8_step" .f32 0x3B124925#32 _ rfl

/-- The idealized quantization call and its reference end with the same codes and statistics. -/
theorem algebraic_quant : Cert.algebraic_QuantIdeal_QuantReferenceIdeal := by
  intro m g m' g' hpre hargs
  refine ⟨fun c => Cert.QuantIdeal.Hand.arrCodes m c, fun c => Cert.QuantIdeal.Hand.arrStats m c, Cert.QuantIdeal.Hand.run m g, ?_⟩
  refine (θ_run Cert.QuantReferenceIdeal.defs _ _).mono (fun r h c => ?_) (Cert.QuantReferenceIdeal.Hand.run m' g')
  obtain ⟨e0, e1, e2, e3, e4, e5⟩ := hargs c
  obtain ⟨h0, h1, h2⟩ := h c
  rw [e4, e5] at h0
  rw [e0, e1, e2, e3, e4] at h1
  exact ⟨h0, h1, h2⟩

theorem claim : Cert.Claim :=
  ⟨Cert.Kernel.Gen.facts, Cert.KernelIdeal.Gen.facts, Cert.ReferenceIdeal.Gen.facts, Cert.Prep.Gen.facts, Cert.PrepIdeal.Gen.facts,
    Cert.PrepReferenceIdeal.Gen.facts, Cert.Quant.Gen.facts, Cert.QuantIdeal.Gen.facts, Cert.QuantReferenceIdeal.Gen.facts, Cert.Inputs.facts,
    frame_kernel, frame_ideal, frame_ideal_pre, frame_ref, frame_ref_pre, frame_prep, frame_prep_ideal, frame_prep_ref,
    frame_quant, frame_quant_ideal, frame_quant_ref, preserves, algebraic, preserves_prep, algebraic_prep, preserves_quant, algebraic_quant⟩

end Cert.Proof

end
